-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2x32x4x100000 : Shape := ⟨4, ![2, 32, 4, 100000]⟩
abbrev S32x4x5x2 : Shape := ⟨4, ![32, 4, 5, 2]⟩
abbrev S_ : Shape := ⟨0, ![]⟩

class Facts : Prop where
  bcast_S_S2x32x4x100000 : S_.BroadcastsInDim S2x32x4x100000 (![] : Fin 0 → Fin S2x32x4x100000.rank)
  reducesTo_S2x32x4x100000_S_d0_1_2_3 : S2x32x4x100000.ReducesTo [0, 1, 2, 3] S_
  h_S_ : 0 < S_.numel

variable [Facts]

def fn {F : FTy → Type} [FloatOps F] (main_arg0 : FVec F S2x32x4x100000 .f32) (main_arg1 : FVec F S32x4x5x2 .f32) (main_arg2 : IVec S_ 32) : IVec S_ 1 :=
  let main_cst : FVec F S_ .f32 := constant S_ .f32 0xF149F2CA#32
  let main_v0 : FVec F S2x32x4x100000 .f32 := broadcastInDim S2x32x4x100000 ![] bcast_S_S2x32x4x100000 main_cst
  let main_v1 : IVec S2x32x4x100000 1 := cmpf .ogt main_arg0 main_v0
  let main_c : IVec S_ 1 := constantI S_ 1 1#1
  let main_v2 : IVec S_ 1 := (fun x v => Host.reduce IntOp.andi x v reducesTo_S2x32x4x100000_S_d0_1_2_3 h_S_) main_v1 main_c
  main_v2
-- ==== Kernel.lean ====
abbrev S2x32x4x100000 : Shape := ⟨4, ![2, 32, 4, 100000]⟩
abbrev S32x4x5x2 : Shape := ⟨4, ![32, 4, 5, 2]⟩
abbrev S_ : Shape := ⟨0, ![]⟩
abbrev S64x4x100000 : Shape := ⟨3, ![64, 4, 100000]⟩
abbrev S1 : Shape := ⟨1, ![1]⟩
abbrev S2 : Shape := ⟨1, ![2]⟩
abbrev S1x1 : Shape := ⟨2, ![1, 1]⟩
abbrev S128x50 : Shape := ⟨2, ![128, 50]⟩
abbrev S1x128x50 : Shape := ⟨3, ![1, 128, 50]⟩
abbrev S2x128x50 : Shape := ⟨3, ![2, 128, 50]⟩
abbrev S2x128x64 : Shape := ⟨3, ![2, 128, 64]⟩
abbrev S64x4x64 : Shape := ⟨3, ![64, 4, 64]⟩
abbrev S32x4x1x2 : Shape := ⟨4, ![32, 4, 1, 2]⟩
abbrev S32x4x2 : Shape := ⟨3, ![32, 4, 2]⟩
abbrev S2x32x4 : Shape := ⟨3, ![2, 32, 4]⟩
abbrev S64x4x1 : Shape := ⟨3, ![64, 4, 1]⟩
abbrev S4x4x99968 : Shape := ⟨3, ![4, 4, 99968]⟩
abbrev S4x4x128 : Shape := ⟨3, ![4, 4, 128]⟩
abbrev S4x4x64 : Shape := ⟨3, ![4, 4, 64]⟩
abbrev S4x4x1 : Shape := ⟨3, ![4, 4, 1]⟩
abbrev S16x50x782 : Shape := ⟨3, ![16, 50, 782]⟩
abbrev S16x50x128 : Shape := ⟨3, ![16, 50, 128]⟩
abbrev S16x64 : Shape := ⟨2, ![16, 64]⟩
abbrev S16x781x128 : Shape := ⟨3, ![16, 781, 128]⟩
abbrev S16x128 : Shape := ⟨2, ![16, 128]⟩
abbrev S16x781 : Shape := ⟨2, ![16, 781]⟩
abbrev S16 : Shape := ⟨1, ![16]⟩
abbrev S16x1 : Shape := ⟨2, ![16, 1]⟩
abbrev S16x782 : Shape := ⟨2, ![16, 782]⟩
abbrev S16x1x128 : Shape := ⟨3, ![16, 1, 128]⟩
abbrev S16x1x782 : Shape := ⟨3, ![16, 1, 782]⟩
abbrev S16x1x1 : Shape := ⟨3, ![16, 1, 1]⟩
abbrev S1x50x781 : Shape := ⟨3, ![1, 50, 781]⟩
abbrev S50x781 : Shape := ⟨2, ![50, 781]⟩
abbrev S1x781x128 : Shape := ⟨3, ![1, 781, 128]⟩
abbrev S781x128 : Shape := ⟨2, ![781, 128]⟩
abbrev S50x128 : Shape := ⟨2, ![50, 128]⟩
abbrev S1x50x1 : Shape := ⟨3, ![1, 50, 1]⟩
abbrev S50x1 : Shape := ⟨2, ![50, 1]⟩
abbrev S1x128 : Shape := ⟨2, ![1, 128]⟩
abbrev S128 : Shape := ⟨1, ![128]⟩
abbrev S1x50x128 : Shape := ⟨3, ![1, 50, 128]⟩
abbrev S16x50 : Shape := ⟨2, ![16, 50]⟩
abbrev S4 : Shape := ⟨1, ![4]⟩
abbrev S1x4 : Shape := ⟨2, ![1, 4]⟩
abbrev S1x1x1x4 : Shape := ⟨4, ![1, 1, 1, 4]⟩
abbrev S32x1x1x4 : Shape := ⟨4, ![32, 1, 1, 4]⟩
abbrev S32x4 : Shape := ⟨2, ![32, 4]⟩

abbrev nBuf : Space → Nat
  | .hbm => 1054
  | .vmem => 17
  | .smem => 0
  | _ => 0

abbrev hbmTy0_0 (i : Nat) : BufTy := match i % 128 with
  | 0 => ⟨S2x32x4x100000, .f32⟩
  | 1 => ⟨S32x4x5x2, .f32⟩
  | 2 => ⟨S_, .i32⟩
  | 3 => ⟨S64x4x100000, .f32⟩
  | 4 => ⟨S_, .i32⟩
  | 5 => ⟨S_, .i32⟩
  | 6 => ⟨S_, .i32⟩
  | 7 => ⟨S_, .i32⟩
  | 8 => ⟨S1, .i32⟩
  | 9 => ⟨S_, .i32⟩
  | 10 => ⟨S_, .i32⟩
  | 11 => ⟨S_, .i32⟩
  | 12 => ⟨S1, .i32⟩
  | 13 => ⟨S2, .i32⟩
  | 14 => ⟨S_, .i32⟩
  | 15 => ⟨S_, .i32⟩
  | 16 => ⟨S_, .i32⟩
  | 17 => ⟨S1, .i32⟩
  | 18 => ⟨S_, .i32⟩
  | 19 => ⟨S_, .i32⟩
  | 20 => ⟨S1, .i32⟩
  | 21 => ⟨S2, .i32⟩
  | 22 => ⟨S1, .i32⟩
  | 23 => ⟨S_, .i32⟩
  | 24 => ⟨S1, .i32⟩
  | 25 => ⟨S_, .i32⟩
  | 26 => ⟨S1, .i32⟩
  | 27 => ⟨S1, .i32⟩
  | 28 => ⟨S_, .i32⟩
  | 29 => ⟨S_, .i32⟩
  | 30 => ⟨S_, .i32⟩
  | 31 => ⟨S1, .i32⟩
  | 32 => ⟨S1, .i32⟩
  | 33 => ⟨S1, .i32⟩
  | 34 => ⟨S1, .i32⟩
  | 35 => ⟨S1, .i32⟩
  | 36 => ⟨S_, .i32⟩
  | 37 => ⟨S1, .i32⟩
  | 38 => ⟨S1, .i32⟩
  | 39 => ⟨S_, .i32⟩
  | 40 => ⟨S1, .i32⟩
  | 41 => ⟨S1, .i32⟩
  | 42 => ⟨S1, .i32⟩
  | 43 => ⟨S1, .i32⟩
  | 44 => ⟨S1, .i32⟩
  | 45 => ⟨S_, .i32⟩
  | 46 => ⟨S1, .i32⟩
  | 47 => ⟨S1, .i32⟩
  | 48 => ⟨S_, .i32⟩
  | 49 => ⟨S1, .i32⟩
  | 50 => ⟨S1, .i32⟩
  | 51 => ⟨S1, .i32⟩
  | 52 => ⟨S1, .i32⟩
  | 53 => ⟨S1, .i32⟩
  | 54 => ⟨S_, .i32⟩
  | 55 => ⟨S1, .i32⟩
  | 56 => ⟨S1, .i32⟩
  | 57 => ⟨S_, .i32⟩
  | 58 => ⟨S1, .i32⟩
  | 59 => ⟨S1, .i32⟩
  | 60 => ⟨S1, .i32⟩
  | 61 => ⟨S1, .i32⟩
  | 62 => ⟨S1, .i32⟩
  | 63 => ⟨S_, .i32⟩
  | 64 => ⟨S1, .i32⟩
  | 65 => ⟨S1, .i32⟩
  | 66 => ⟨S_, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S1, .i32⟩
  | 74 => ⟨S1, .i32⟩
  | 75 => ⟨S_, .i32⟩
  | 76 => ⟨S1, .i32⟩
  | 77 => ⟨S1, .i32⟩
  | 78 => ⟨S1, .i32⟩
  | 79 => ⟨S_, .i32⟩
  | 80 => ⟨S1, .i32⟩
  | 81 => ⟨S1, .i32⟩
  | 82 => ⟨S_, .i32⟩
  | 83 => ⟨S1, .i32⟩
  | 84 => ⟨S1, .i32⟩
  | 85 => ⟨S1, .i32⟩
  | 86 => ⟨S1, .i32⟩
  | 87 => ⟨S1, .i32⟩
  | 88 => ⟨S_, .i32⟩
  | 89 => ⟨S1, .i32⟩
  | 90 => ⟨S1, .i32⟩
  | 91 => ⟨S_, .i32⟩
  | 92 => ⟨S1, .i32⟩
  | 93 => ⟨S1, .i32⟩
  | 94 => ⟨S1, .i32⟩
  | 95 => ⟨S1, .i32⟩
  | 96 => ⟨S1, .i32⟩
  | 97 => ⟨S_, .i32⟩
  | 98 => ⟨S1, .i32⟩
  | 99 => ⟨S1, .i32⟩
  | 100 => ⟨S_, .i32⟩
  | 101 => ⟨S1, .i32⟩
  | 102 => ⟨S1, .i32⟩
  | 103 => ⟨S1, .i32⟩
  | 104 => ⟨S1, .i32⟩
  | 105 => ⟨S1, .i32⟩
  | 106 => ⟨S_, .i32⟩
  | 107 => ⟨S1, .i32⟩
  | 108 => ⟨S1, .i32⟩
  | 109 => ⟨S_, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S1, .i32⟩
  | 117 => ⟨S1, .i32⟩
  | 118 => ⟨S_, .i32⟩
  | 119 => ⟨S1, .i32⟩
  | 120 => ⟨S1, .i32⟩
  | 121 => ⟨S1, .i32⟩
  | 122 => ⟨S_, .i32⟩
  | 123 => ⟨S1, .i32⟩
  | 124 => ⟨S1, .i32⟩
  | 125 => ⟨S_, .i32⟩
  | 126 => ⟨S1, .i32⟩
  | 127 => ⟨S1, .i32⟩
  | _ => ⟨S2x32x4x100000, .f32⟩

abbrev hbmTy0_1 (i : Nat) : BufTy := match i % 128 with
  | 0 => ⟨S1, .i32⟩
  | 1 => ⟨S1, .i32⟩
  | 2 => ⟨S1, .i32⟩
  | 3 => ⟨S_, .i32⟩
  | 4 => ⟨S1, .i32⟩
  | 5 => ⟨S1, .i32⟩
  | 6 => ⟨S_, .i32⟩
  | 7 => ⟨S1, .i32⟩
  | 8 => ⟨S1, .i32⟩
  | 9 => ⟨S1, .i32⟩
  | 10 => ⟨S1, .i32⟩
  | 11 => ⟨S1, .i32⟩
  | 12 => ⟨S_, .i32⟩
  | 13 => ⟨S1, .i32⟩
  | 14 => ⟨S1, .i32⟩
  | 15 => ⟨S_, .i32⟩
  | 16 => ⟨S1, .i32⟩
  | 17 => ⟨S1, .i32⟩
  | 18 => ⟨S1, .i32⟩
  | 19 => ⟨S1, .i32⟩
  | 20 => ⟨S1, .i32⟩
  | 21 => ⟨S_, .i32⟩
  | 22 => ⟨S1, .i32⟩
  | 23 => ⟨S1, .i32⟩
  | 24 => ⟨S_, .i32⟩
  | 25 => ⟨S1, .i32⟩
  | 26 => ⟨S1, .i32⟩
  | 27 => ⟨S1, .i32⟩
  | 28 => ⟨S1, .i32⟩
  | 29 => ⟨S1, .i32⟩
  | 30 => ⟨S1, .i32⟩
  | 31 => ⟨S1, .i32⟩
  | 32 => ⟨S1, .i32⟩
  | 33 => ⟨S_, .i32⟩
  | 34 => ⟨S1, .i32⟩
  | 35 => ⟨S1, .i32⟩
  | 36 => ⟨S1, .i32⟩
  | 37 => ⟨S_, .i32⟩
  | 38 => ⟨S1, .i32⟩
  | 39 => ⟨S1, .i32⟩
  | 40 => ⟨S_, .i32⟩
  | 41 => ⟨S1, .i32⟩
  | 42 => ⟨S1, .i32⟩
  | 43 => ⟨S1, .i32⟩
  | 44 => ⟨S1, .i32⟩
  | 45 => ⟨S1, .i32⟩
  | 46 => ⟨S_, .i32⟩
  | 47 => ⟨S1, .i32⟩
  | 48 => ⟨S1, .i32⟩
  | 49 => ⟨S_, .i32⟩
  | 50 => ⟨S1, .i32⟩
  | 51 => ⟨S1, .i32⟩
  | 52 => ⟨S1, .i32⟩
  | 53 => ⟨S1, .i32⟩
  | 54 => ⟨S1, .i32⟩
  | 55 => ⟨S_, .i32⟩
  | 56 => ⟨S1, .i32⟩
  | 57 => ⟨S1, .i32⟩
  | 58 => ⟨S_, .i32⟩
  | 59 => ⟨S1, .i32⟩
  | 60 => ⟨S1, .i32⟩
  | 61 => ⟨S1, .i32⟩
  | 62 => ⟨S1, .i32⟩
  | 63 => ⟨S1, .i32⟩
  | 64 => ⟨S_, .i32⟩
  | 65 => ⟨S1, .i32⟩
  | 66 => ⟨S1, .i32⟩
  | 67 => ⟨S_, .i32⟩
  | 68 => ⟨S1, .i32⟩
  | 69 => ⟨S1, .i32⟩
  | 70 => ⟨S1, .i32⟩
  | 71 => ⟨S1, .i32⟩
  | 72 => ⟨S1, .i32⟩
  | 73 => ⟨S1, .i32⟩
  | 74 => ⟨S1, .i32⟩
  | 75 => ⟨S1, .i32⟩
  | 76 => ⟨S_, .i32⟩
  | 77 => ⟨S1, .i32⟩
  | 78 => ⟨S1, .i32⟩
  | 79 => ⟨S1, .i32⟩
  | 80 => ⟨S_, .i32⟩
  | 81 => ⟨S1, .i32⟩
  | 82 => ⟨S1, .i32⟩
  | 83 => ⟨S_, .i32⟩
  | 84 => ⟨S1, .i32⟩
  | 85 => ⟨S1, .i32⟩
  | 86 => ⟨S1, .i32⟩
  | 87 => ⟨S1, .i32⟩
  | 88 => ⟨S1, .i32⟩
  | 89 => ⟨S_, .i32⟩
  | 90 => ⟨S1, .i32⟩
  | 91 => ⟨S1, .i32⟩
  | 92 => ⟨S_, .i32⟩
  | 93 => ⟨S1, .i32⟩
  | 94 => ⟨S1, .i32⟩
  | 95 => ⟨S1, .i32⟩
  | 96 => ⟨S1, .i32⟩
  | 97 => ⟨S1, .i32⟩
  | 98 => ⟨S_, .i32⟩
  | 99 => ⟨S1, .i32⟩
  | 100 => ⟨S1, .i32⟩
  | 101 => ⟨S_, .i32⟩
  | 102 => ⟨S1, .i32⟩
  | 103 => ⟨S1, .i32⟩
  | 104 => ⟨S1, .i32⟩
  | 105 => ⟨S1, .i32⟩
  | 106 => ⟨S1, .i32⟩
  | 107 => ⟨S_, .i32⟩
  | 108 => ⟨S1, .i32⟩
  | 109 => ⟨S1, .i32⟩
  | 110 => ⟨S_, .i32⟩
  | 111 => ⟨S1, .i32⟩
  | 112 => ⟨S1, .i32⟩
  | 113 => ⟨S1, .i32⟩
  | 114 => ⟨S1, .i32⟩
  | 115 => ⟨S1, .i32⟩
  | 116 => ⟨S1, .i32⟩
  | 117 => ⟨S1, .i32⟩
  | 118 => ⟨S1, .i32⟩
  | 119 => ⟨S_, .i32⟩
  | 120 => ⟨S1, .i32⟩
  | 121 => ⟨S1, .i32⟩
  | 122 => ⟨S2, .i32⟩
  | 123 => ⟨S_, .f32⟩
  | 124 => ⟨S_, .f32⟩
  | 125 => ⟨S_, .f32⟩
  | 126 => ⟨S1x1, .f32⟩
  | 127 => ⟨S1x1, .f32⟩
  | _ => ⟨S2x32x4x100000, .f32⟩

abbrev hbmTy0_2 (i : Nat) : BufTy := match i % 128 with
  | 0 => ⟨S1, .i32⟩
  | 1 => ⟨S_, .i32⟩
  | 2 => ⟨S1, .i32⟩
  | 3 => ⟨S_, .i32⟩
  | 4 => ⟨S128x50, .i64⟩
  | 5 => ⟨S128x50, .i64⟩
  | 6 => ⟨S_, .i64⟩
  | 7 => ⟨S128x50, .i64⟩
  | 8 => ⟨S128x50, .i64⟩
  | 9 => ⟨S_, .i64⟩
  | 10 => ⟨S128x50, .i64⟩
  | 11 => ⟨S128x50, .i64⟩
  | 12 => ⟨S128x50, .i64⟩
  | 13 => ⟨S_, .i64⟩
  | 14 => ⟨S128x50, .i64⟩
  | 15 => ⟨S128x50, .i64⟩
  | 16 => ⟨S128x50, .i32⟩
  | 17 => ⟨S128x50, .i32⟩
  | 18 => ⟨S_, .i32⟩
  | 19 => ⟨S_, .i32⟩
  | 20 => ⟨S_, .i32⟩
  | 21 => ⟨S128x50, .i32⟩
  | 22 => ⟨S128x50, .i32⟩
  | 23 => ⟨S128x50, .i32⟩
  | 24 => ⟨S128x50, .i32⟩
  | 25 => ⟨S128x50, .i32⟩
  | 26 => ⟨S_, .i32⟩
  | 27 => ⟨S128x50, .i32⟩
  | 28 => ⟨S128x50, .i32⟩
  | 29 => ⟨S_, .i32⟩
  | 30 => ⟨S128x50, .i32⟩
  | 31 => ⟨S128x50, .i32⟩
  | 32 => ⟨S128x50, .i32⟩
  | 33 => ⟨S128x50, .i32⟩
  | 34 => ⟨S128x50, .i32⟩
  | 35 => ⟨S_, .i32⟩
  | 36 => ⟨S128x50, .i32⟩
  | 37 => ⟨S128x50, .i32⟩
  | 38 => ⟨S_, .i32⟩
  | 39 => ⟨S128x50, .i32⟩
  | 40 => ⟨S128x50, .i32⟩
  | 41 => ⟨S128x50, .i32⟩
  | 42 => ⟨S128x50, .i32⟩
  | 43 => ⟨S128x50, .i32⟩
  | 44 => ⟨S_, .i32⟩
  | 45 => ⟨S128x50, .i32⟩
  | 46 => ⟨S128x50, .i32⟩
  | 47 => ⟨S_, .i32⟩
  | 48 => ⟨S128x50, .i32⟩
  | 49 => ⟨S128x50, .i32⟩
  | 50 => ⟨S128x50, .i32⟩
  | 51 => ⟨S128x50, .i32⟩
  | 52 => ⟨S128x50, .i32⟩
  | 53 => ⟨S_, .i32⟩
  | 54 => ⟨S128x50, .i32⟩
  | 55 => ⟨S128x50, .i32⟩
  | 56 => ⟨S_, .i32⟩
  | 57 => ⟨S128x50, .i32⟩
  | 58 => ⟨S128x50, .i32⟩
  | 59 => ⟨S128x50, .i32⟩
  | 60 => ⟨S128x50, .i32⟩
  | 61 => ⟨S128x50, .i32⟩
  | 62 => ⟨S128x50, .i32⟩
  | 63 => ⟨S128x50, .i32⟩
  | 64 => ⟨S128x50, .i32⟩
  | 65 => ⟨S_, .i32⟩
  | 66 => ⟨S128x50, .i32⟩
  | 67 => ⟨S128x50, .i32⟩
  | 68 => ⟨S128x50, .i32⟩
  | 69 => ⟨S_, .i32⟩
  | 70 => ⟨S128x50, .i32⟩
  | 71 => ⟨S128x50, .i32⟩
  | 72 => ⟨S_, .i32⟩
  | 73 => ⟨S128x50, .i32⟩
  | 74 => ⟨S128x50, .i32⟩
  | 75 => ⟨S128x50, .i32⟩
  | 76 => ⟨S128x50, .i32⟩
  | 77 => ⟨S128x50, .i32⟩
  | 78 => ⟨S_, .i32⟩
  | 79 => ⟨S128x50, .i32⟩
  | 80 => ⟨S128x50, .i32⟩
  | 81 => ⟨S_, .i32⟩
  | 82 => ⟨S128x50, .i32⟩
  | 83 => ⟨S128x50, .i32⟩
  | 84 => ⟨S128x50, .i32⟩
  | 85 => ⟨S128x50, .i32⟩
  | 86 => ⟨S128x50, .i32⟩
  | 87 => ⟨S_, .i32⟩
  | 88 => ⟨S128x50, .i32⟩
  | 89 => ⟨S128x50, .i32⟩
  | 90 => ⟨S_, .i32⟩
  | 91 => ⟨S128x50, .i32⟩
  | 92 => ⟨S128x50, .i32⟩
  | 93 => ⟨S128x50, .i32⟩
  | 94 => ⟨S128x50, .i32⟩
  | 95 => ⟨S128x50, .i32⟩
  | 96 => ⟨S_, .i32⟩
  | 97 => ⟨S128x50, .i32⟩
  | 98 => ⟨S128x50, .i32⟩
  | 99 => ⟨S_, .i32⟩
  | 100 => ⟨S128x50, .i32⟩
  | 101 => ⟨S128x50, .i32⟩
  | 102 => ⟨S128x50, .i32⟩
  | 103 => ⟨S128x50, .i32⟩
  | 104 => ⟨S128x50, .i32⟩
  | 105 => ⟨S128x50, .i32⟩
  | 106 => ⟨S128x50, .i32⟩
  | 107 => ⟨S128x50, .i32⟩
  | 108 => ⟨S_, .i32⟩
  | 109 => ⟨S128x50, .i32⟩
  | 110 => ⟨S128x50, .i32⟩
  | 111 => ⟨S128x50, .i32⟩
  | 112 => ⟨S_, .i32⟩
  | 113 => ⟨S128x50, .i32⟩
  | 114 => ⟨S128x50, .i32⟩
  | 115 => ⟨S_, .i32⟩
  | 116 => ⟨S128x50, .i32⟩
  | 117 => ⟨S128x50, .i32⟩
  | 118 => ⟨S128x50, .i32⟩
  | 119 => ⟨S128x50, .i32⟩
  | 120 => ⟨S128x50, .i32⟩
  | 121 => ⟨S_, .i32⟩
  | 122 => ⟨S128x50, .i32⟩
  | 123 => ⟨S128x50, .i32⟩
  | 124 => ⟨S_, .i32⟩
  | 125 => ⟨S128x50, .i32⟩
  | 126 => ⟨S128x50, .i32⟩
  | 127 => ⟨S128x50, .i32⟩
  | _ => ⟨S2x32x4x100000, .f32⟩

abbrev hbmTy0_3 (i : Nat) : BufTy := match i % 128 with
  | 0 => ⟨S128x50, .i32⟩
  | 1 => ⟨S128x50, .i32⟩
  | 2 => ⟨S_, .i32⟩
  | 3 => ⟨S128x50, .i32⟩
  | 4 => ⟨S128x50, .i32⟩
  | 5 => ⟨S_, .i32⟩
  | 6 => ⟨S128x50, .i32⟩
  | 7 => ⟨S128x50, .i32⟩
  | 8 => ⟨S128x50, .i32⟩
  | 9 => ⟨S128x50, .i32⟩
  | 10 => ⟨S128x50, .i32⟩
  | 11 => ⟨S_, .i32⟩
  | 12 => ⟨S128x50, .i32⟩
  | 13 => ⟨S128x50, .i32⟩
  | 14 => ⟨S_, .i32⟩
  | 15 => ⟨S128x50, .i32⟩
  | 16 => ⟨S128x50, .i32⟩
  | 17 => ⟨S128x50, .i32⟩
  | 18 => ⟨S128x50, .i32⟩
  | 19 => ⟨S128x50, .i32⟩
  | 20 => ⟨S128x50, .i32⟩
  | 21 => ⟨S128x50, .i32⟩
  | 22 => ⟨S128x50, .i32⟩
  | 23 => ⟨S_, .i32⟩
  | 24 => ⟨S128x50, .i32⟩
  | 25 => ⟨S128x50, .i32⟩
  | 26 => ⟨S128x50, .i32⟩
  | 27 => ⟨S_, .i32⟩
  | 28 => ⟨S128x50, .i32⟩
  | 29 => ⟨S128x50, .i32⟩
  | 30 => ⟨S_, .i32⟩
  | 31 => ⟨S128x50, .i32⟩
  | 32 => ⟨S128x50, .i32⟩
  | 33 => ⟨S128x50, .i32⟩
  | 34 => ⟨S128x50, .i32⟩
  | 35 => ⟨S128x50, .i32⟩
  | 36 => ⟨S_, .i32⟩
  | 37 => ⟨S128x50, .i32⟩
  | 38 => ⟨S128x50, .i32⟩
  | 39 => ⟨S_, .i32⟩
  | 40 => ⟨S128x50, .i32⟩
  | 41 => ⟨S128x50, .i32⟩
  | 42 => ⟨S128x50, .i32⟩
  | 43 => ⟨S128x50, .i32⟩
  | 44 => ⟨S128x50, .i32⟩
  | 45 => ⟨S_, .i32⟩
  | 46 => ⟨S128x50, .i32⟩
  | 47 => ⟨S128x50, .i32⟩
  | 48 => ⟨S_, .i32⟩
  | 49 => ⟨S128x50, .i32⟩
  | 50 => ⟨S128x50, .i32⟩
  | 51 => ⟨S128x50, .i32⟩
  | 52 => ⟨S128x50, .i32⟩
  | 53 => ⟨S128x50, .i32⟩
  | 54 => ⟨S_, .i32⟩
  | 55 => ⟨S128x50, .i32⟩
  | 56 => ⟨S128x50, .i32⟩
  | 57 => ⟨S_, .i32⟩
  | 58 => ⟨S128x50, .i32⟩
  | 59 => ⟨S128x50, .i32⟩
  | 60 => ⟨S128x50, .i32⟩
  | 61 => ⟨S128x50, .i32⟩
  | 62 => ⟨S128x50, .i32⟩
  | 63 => ⟨S128x50, .i32⟩
  | 64 => ⟨S128x50, .i32⟩
  | 65 => ⟨S128x50, .i32⟩
  | 66 => ⟨S_, .i32⟩
  | 67 => ⟨S128x50, .i32⟩
  | 68 => ⟨S128x50, .i32⟩
  | 69 => ⟨S128x50, .i32⟩
  | 70 => ⟨S_, .i32⟩
  | 71 => ⟨S128x50, .i32⟩
  | 72 => ⟨S128x50, .i32⟩
  | 73 => ⟨S_, .i32⟩
  | 74 => ⟨S128x50, .i32⟩
  | 75 => ⟨S128x50, .i32⟩
  | 76 => ⟨S128x50, .i32⟩
  | 77 => ⟨S128x50, .i32⟩
  | 78 => ⟨S128x50, .i32⟩
  | 79 => ⟨S_, .i32⟩
  | 80 => ⟨S128x50, .i32⟩
  | 81 => ⟨S128x50, .i32⟩
  | 82 => ⟨S_, .i32⟩
  | 83 => ⟨S128x50, .i32⟩
  | 84 => ⟨S128x50, .i32⟩
  | 85 => ⟨S128x50, .i32⟩
  | 86 => ⟨S128x50, .i32⟩
  | 87 => ⟨S128x50, .i32⟩
  | 88 => ⟨S_, .i32⟩
  | 89 => ⟨S128x50, .i32⟩
  | 90 => ⟨S128x50, .i32⟩
  | 91 => ⟨S_, .i32⟩
  | 92 => ⟨S128x50, .i32⟩
  | 93 => ⟨S128x50, .i32⟩
  | 94 => ⟨S128x50, .i32⟩
  | 95 => ⟨S128x50, .i32⟩
  | 96 => ⟨S128x50, .i32⟩
  | 97 => ⟨S_, .i32⟩
  | 98 => ⟨S128x50, .i32⟩
  | 99 => ⟨S128x50, .i32⟩
  | 100 => ⟨S_, .i32⟩
  | 101 => ⟨S128x50, .i32⟩
  | 102 => ⟨S128x50, .i32⟩
  | 103 => ⟨S128x50, .i32⟩
  | 104 => ⟨S128x50, .i32⟩
  | 105 => ⟨S128x50, .i32⟩
  | 106 => ⟨S128x50, .i32⟩
  | 107 => ⟨S128x50, .i32⟩
  | 108 => ⟨S128x50, .i32⟩
  | 109 => ⟨S_, .i32⟩
  | 110 => ⟨S128x50, .i32⟩
  | 111 => ⟨S128x50, .i32⟩
  | 112 => ⟨S128x50, .i32⟩
  | 113 => ⟨S_, .i32⟩
  | 114 => ⟨S128x50, .i32⟩
  | 115 => ⟨S128x50, .i32⟩
  | 116 => ⟨S_, .i32⟩
  | 117 => ⟨S128x50, .i32⟩
  | 118 => ⟨S128x50, .i32⟩
  | 119 => ⟨S128x50, .f32⟩
  | 120 => ⟨S_, .f32⟩
  | 121 => ⟨S128x50, .f32⟩
  | 122 => ⟨S128x50, .f32⟩
  | 123 => ⟨S1x1, .f32⟩
  | 124 => ⟨S128x50, .f32⟩
  | 125 => ⟨S128x50, .f32⟩
  | 126 => ⟨S128x50, .f32⟩
  | 127 => ⟨S128x50, .f32⟩
  | _ => ⟨S2x32x4x100000, .f32⟩

abbrev hbmTy0_4 (i : Nat) : BufTy := match i % 128 with
  | 0 => ⟨S128x50, .f32⟩
  | 1 => ⟨S128x50, .f32⟩
  | 2 => ⟨S128x50, .f32⟩
  | 3 => ⟨S128x50, .f32⟩
  | 4 => ⟨S128x50, .f32⟩
  | 5 => ⟨S128x50, .f32⟩
  | 6 => ⟨S_, .i32⟩
  | 7 => ⟨S_, .i32⟩
  | 8 => ⟨S_, .i32⟩
  | 9 => ⟨S1, .i32⟩
  | 10 => ⟨S_, .i32⟩
  | 11 => ⟨S_, .i32⟩
  | 12 => ⟨S1, .i32⟩
  | 13 => ⟨S2, .i32⟩
  | 14 => ⟨S1, .i32⟩
  | 15 => ⟨S_, .i32⟩
  | 16 => ⟨S1, .i32⟩
  | 17 => ⟨S_, .i32⟩
  | 18 => ⟨S1, .i32⟩
  | 19 => ⟨S1, .i32⟩
  | 20 => ⟨S_, .i32⟩
  | 21 => ⟨S_, .i32⟩
  | 22 => ⟨S_, .i32⟩
  | 23 => ⟨S1, .i32⟩
  | 24 => ⟨S1, .i32⟩
  | 25 => ⟨S1, .i32⟩
  | 26 => ⟨S1, .i32⟩
  | 27 => ⟨S1, .i32⟩
  | 28 => ⟨S_, .i32⟩
  | 29 => ⟨S1, .i32⟩
  | 30 => ⟨S1, .i32⟩
  | 31 => ⟨S_, .i32⟩
  | 32 => ⟨S1, .i32⟩
  | 33 => ⟨S1, .i32⟩
  | 34 => ⟨S1, .i32⟩
  | 35 => ⟨S1, .i32⟩
  | 36 => ⟨S1, .i32⟩
  | 37 => ⟨S_, .i32⟩
  | 38 => ⟨S1, .i32⟩
  | 39 => ⟨S1, .i32⟩
  | 40 => ⟨S_, .i32⟩
  | 41 => ⟨S1, .i32⟩
  | 42 => ⟨S1, .i32⟩
  | 43 => ⟨S1, .i32⟩
  | 44 => ⟨S1, .i32⟩
  | 45 => ⟨S1, .i32⟩
  | 46 => ⟨S_, .i32⟩
  | 47 => ⟨S1, .i32⟩
  | 48 => ⟨S1, .i32⟩
  | 49 => ⟨S_, .i32⟩
  | 50 => ⟨S1, .i32⟩
  | 51 => ⟨S1, .i32⟩
  | 52 => ⟨S1, .i32⟩
  | 53 => ⟨S1, .i32⟩
  | 54 => ⟨S1, .i32⟩
  | 55 => ⟨S_, .i32⟩
  | 56 => ⟨S1, .i32⟩
  | 57 => ⟨S1, .i32⟩
  | 58 => ⟨S_, .i32⟩
  | 59 => ⟨S1, .i32⟩
  | 60 => ⟨S1, .i32⟩
  | 61 => ⟨S1, .i32⟩
  | 62 => ⟨S1, .i32⟩
  | 63 => ⟨S1, .i32⟩
  | 64 => ⟨S1, .i32⟩
  | 65 => ⟨S1, .i32⟩
  | 66 => ⟨S1, .i32⟩
  | 67 => ⟨S_, .i32⟩
  | 68 => ⟨S1, .i32⟩
  | 69 => ⟨S1, .i32⟩
  | 70 => ⟨S1, .i32⟩
  | 71 => ⟨S_, .i32⟩
  | 72 => ⟨S1, .i32⟩
  | 73 => ⟨S1, .i32⟩
  | 74 => ⟨S_, .i32⟩
  | 75 => ⟨S1, .i32⟩
  | 76 => ⟨S1, .i32⟩
  | 77 => ⟨S1, .i32⟩
  | 78 => ⟨S1, .i32⟩
  | 79 => ⟨S1, .i32⟩
  | 80 => ⟨S_, .i32⟩
  | 81 => ⟨S1, .i32⟩
  | 82 => ⟨S1, .i32⟩
  | 83 => ⟨S_, .i32⟩
  | 84 => ⟨S1, .i32⟩
  | 85 => ⟨S1, .i32⟩
  | 86 => ⟨S1, .i32⟩
  | 87 => ⟨S1, .i32⟩
  | 88 => ⟨S1, .i32⟩
  | 89 => ⟨S_, .i32⟩
  | 90 => ⟨S1, .i32⟩
  | 91 => ⟨S1, .i32⟩
  | 92 => ⟨S_, .i32⟩
  | 93 => ⟨S1, .i32⟩
  | 94 => ⟨S1, .i32⟩
  | 95 => ⟨S1, .i32⟩
  | 96 => ⟨S1, .i32⟩
  | 97 => ⟨S1, .i32⟩
  | 98 => ⟨S_, .i32⟩
  | 99 => ⟨S1, .i32⟩
  | 100 => ⟨S1, .i32⟩
  | 101 => ⟨S_, .i32⟩
  | 102 => ⟨S1, .i32⟩
  | 103 => ⟨S1, .i32⟩
  | 104 => ⟨S1, .i32⟩
  | 105 => ⟨S1, .i32⟩
  | 106 => ⟨S1, .i32⟩
  | 107 => ⟨S1, .i32⟩
  | 108 => ⟨S1, .i32⟩
  | 109 => ⟨S1, .i32⟩
  | 110 => ⟨S_, .i32⟩
  | 111 => ⟨S1, .i32⟩
  | 112 => ⟨S1, .i32⟩
  | 113 => ⟨S1, .i32⟩
  | 114 => ⟨S_, .i32⟩
  | 115 => ⟨S1, .i32⟩
  | 116 => ⟨S1, .i32⟩
  | 117 => ⟨S_, .i32⟩
  | 118 => ⟨S1, .i32⟩
  | 119 => ⟨S1, .i32⟩
  | 120 => ⟨S1, .i32⟩
  | 121 => ⟨S1, .i32⟩
  | 122 => ⟨S1, .i32⟩
  | 123 => ⟨S_, .i32⟩
  | 124 => ⟨S1, .i32⟩
  | 125 => ⟨S1, .i32⟩
  | 126 => ⟨S_, .i32⟩
  | 127 => ⟨S1, .i32⟩
  | _ => ⟨S2x32x4x100000, .f32⟩

abbrev hbmTy0_5 (i : Nat) : BufTy := match i % 128 with
  | 0 => ⟨S1, .i32⟩
  | 1 => ⟨S1, .i32⟩
  | 2 => ⟨S1, .i32⟩
  | 3 => ⟨S1, .i32⟩
  | 4 => ⟨S_, .i32⟩
  | 5 => ⟨S1, .i32⟩
  | 6 => ⟨S1, .i32⟩
  | 7 => ⟨S_, .i32⟩
  | 8 => ⟨S1, .i32⟩
  | 9 => ⟨S1, .i32⟩
  | 10 => ⟨S1, .i32⟩
  | 11 => ⟨S1, .i32⟩
  | 12 => ⟨S1, .i32⟩
  | 13 => ⟨S_, .i32⟩
  | 14 => ⟨S1, .i32⟩
  | 15 => ⟨S1, .i32⟩
  | 16 => ⟨S_, .i32⟩
  | 17 => ⟨S1, .i32⟩
  | 18 => ⟨S1, .i32⟩
  | 19 => ⟨S1, .i32⟩
  | 20 => ⟨S1, .i32⟩
  | 21 => ⟨S1, .i32⟩
  | 22 => ⟨S1, .i32⟩
  | 23 => ⟨S1, .i32⟩
  | 24 => ⟨S1, .i32⟩
  | 25 => ⟨S_, .i32⟩
  | 26 => ⟨S1, .i32⟩
  | 27 => ⟨S1, .i32⟩
  | 28 => ⟨S1, .i32⟩
  | 29 => ⟨S_, .i32⟩
  | 30 => ⟨S1, .i32⟩
  | 31 => ⟨S1, .i32⟩
  | 32 => ⟨S_, .i32⟩
  | 33 => ⟨S1, .i32⟩
  | 34 => ⟨S1, .i32⟩
  | 35 => ⟨S1, .i32⟩
  | 36 => ⟨S1, .i32⟩
  | 37 => ⟨S1, .i32⟩
  | 38 => ⟨S_, .i32⟩
  | 39 => ⟨S1, .i32⟩
  | 40 => ⟨S1, .i32⟩
  | 41 => ⟨S_, .i32⟩
  | 42 => ⟨S1, .i32⟩
  | 43 => ⟨S1, .i32⟩
  | 44 => ⟨S1, .i32⟩
  | 45 => ⟨S1, .i32⟩
  | 46 => ⟨S1, .i32⟩
  | 47 => ⟨S_, .i32⟩
  | 48 => ⟨S1, .i32⟩
  | 49 => ⟨S1, .i32⟩
  | 50 => ⟨S_, .i32⟩
  | 51 => ⟨S1, .i32⟩
  | 52 => ⟨S1, .i32⟩
  | 53 => ⟨S1, .i32⟩
  | 54 => ⟨S1, .i32⟩
  | 55 => ⟨S1, .i32⟩
  | 56 => ⟨S_, .i32⟩
  | 57 => ⟨S1, .i32⟩
  | 58 => ⟨S1, .i32⟩
  | 59 => ⟨S_, .i32⟩
  | 60 => ⟨S1, .i32⟩
  | 61 => ⟨S1, .i32⟩
  | 62 => ⟨S1, .i32⟩
  | 63 => ⟨S1, .i32⟩
  | 64 => ⟨S1, .i32⟩
  | 65 => ⟨S1, .i32⟩
  | 66 => ⟨S1, .i32⟩
  | 67 => ⟨S1, .i32⟩
  | 68 => ⟨S_, .i32⟩
  | 69 => ⟨S1, .i32⟩
  | 70 => ⟨S1, .i32⟩
  | 71 => ⟨S1, .i32⟩
  | 72 => ⟨S_, .i32⟩
  | 73 => ⟨S1, .i32⟩
  | 74 => ⟨S1, .i32⟩
  | 75 => ⟨S_, .i32⟩
  | 76 => ⟨S1, .i32⟩
  | 77 => ⟨S1, .i32⟩
  | 78 => ⟨S1, .i32⟩
  | 79 => ⟨S1, .i32⟩
  | 80 => ⟨S1, .i32⟩
  | 81 => ⟨S_, .i32⟩
  | 82 => ⟨S1, .i32⟩
  | 83 => ⟨S1, .i32⟩
  | 84 => ⟨S_, .i32⟩
  | 85 => ⟨S1, .i32⟩
  | 86 => ⟨S1, .i32⟩
  | 87 => ⟨S1, .i32⟩
  | 88 => ⟨S1, .i32⟩
  | 89 => ⟨S1, .i32⟩
  | 90 => ⟨S_, .i32⟩
  | 91 => ⟨S1, .i32⟩
  | 92 => ⟨S1, .i32⟩
  | 93 => ⟨S_, .i32⟩
  | 94 => ⟨S1, .i32⟩
  | 95 => ⟨S1, .i32⟩
  | 96 => ⟨S1, .i32⟩
  | 97 => ⟨S1, .i32⟩
  | 98 => ⟨S1, .i32⟩
  | 99 => ⟨S_, .i32⟩
  | 100 => ⟨S1, .i32⟩
  | 101 => ⟨S1, .i32⟩
  | 102 => ⟨S_, .i32⟩
  | 103 => ⟨S1, .i32⟩
  | 104 => ⟨S1, .i32⟩
  | 105 => ⟨S1, .i32⟩
  | 106 => ⟨S1, .i32⟩
  | 107 => ⟨S1, .i32⟩
  | 108 => ⟨S1, .i32⟩
  | 109 => ⟨S1, .i32⟩
  | 110 => ⟨S1, .i32⟩
  | 111 => ⟨S_, .i32⟩
  | 112 => ⟨S1, .i32⟩
  | 113 => ⟨S1, .i32⟩
  | 114 => ⟨S2, .i32⟩
  | 115 => ⟨S_, .f32⟩
  | 116 => ⟨S_, .f32⟩
  | 117 => ⟨S_, .f32⟩
  | 118 => ⟨S1x1, .f32⟩
  | 119 => ⟨S1x1, .f32⟩
  | 120 => ⟨S1, .i32⟩
  | 121 => ⟨S_, .i32⟩
  | 122 => ⟨S1, .i32⟩
  | 123 => ⟨S_, .i32⟩
  | 124 => ⟨S128x50, .i64⟩
  | 125 => ⟨S128x50, .i64⟩
  | 126 => ⟨S_, .i64⟩
  | 127 => ⟨S128x50, .i64⟩
  | _ => ⟨S2x32x4x100000, .f32⟩

abbrev hbmTy0_6 (i : Nat) : BufTy := match i % 128 with
  | 0 => ⟨S128x50, .i64⟩
  | 1 => ⟨S_, .i64⟩
  | 2 => ⟨S128x50, .i64⟩
  | 3 => ⟨S128x50, .i64⟩
  | 4 => ⟨S128x50, .i64⟩
  | 5 => ⟨S_, .i64⟩
  | 6 => ⟨S128x50, .i64⟩
  | 7 => ⟨S128x50, .i64⟩
  | 8 => ⟨S128x50, .i32⟩
  | 9 => ⟨S128x50, .i32⟩
  | 10 => ⟨S_, .i32⟩
  | 11 => ⟨S_, .i32⟩
  | 12 => ⟨S_, .i32⟩
  | 13 => ⟨S128x50, .i32⟩
  | 14 => ⟨S128x50, .i32⟩
  | 15 => ⟨S128x50, .i32⟩
  | 16 => ⟨S128x50, .i32⟩
  | 17 => ⟨S128x50, .i32⟩
  | 18 => ⟨S_, .i32⟩
  | 19 => ⟨S128x50, .i32⟩
  | 20 => ⟨S128x50, .i32⟩
  | 21 => ⟨S_, .i32⟩
  | 22 => ⟨S128x50, .i32⟩
  | 23 => ⟨S128x50, .i32⟩
  | 24 => ⟨S128x50, .i32⟩
  | 25 => ⟨S128x50, .i32⟩
  | 26 => ⟨S128x50, .i32⟩
  | 27 => ⟨S_, .i32⟩
  | 28 => ⟨S128x50, .i32⟩
  | 29 => ⟨S128x50, .i32⟩
  | 30 => ⟨S_, .i32⟩
  | 31 => ⟨S128x50, .i32⟩
  | 32 => ⟨S128x50, .i32⟩
  | 33 => ⟨S128x50, .i32⟩
  | 34 => ⟨S128x50, .i32⟩
  | 35 => ⟨S128x50, .i32⟩
  | 36 => ⟨S_, .i32⟩
  | 37 => ⟨S128x50, .i32⟩
  | 38 => ⟨S128x50, .i32⟩
  | 39 => ⟨S_, .i32⟩
  | 40 => ⟨S128x50, .i32⟩
  | 41 => ⟨S128x50, .i32⟩
  | 42 => ⟨S128x50, .i32⟩
  | 43 => ⟨S128x50, .i32⟩
  | 44 => ⟨S128x50, .i32⟩
  | 45 => ⟨S_, .i32⟩
  | 46 => ⟨S128x50, .i32⟩
  | 47 => ⟨S128x50, .i32⟩
  | 48 => ⟨S_, .i32⟩
  | 49 => ⟨S128x50, .i32⟩
  | 50 => ⟨S128x50, .i32⟩
  | 51 => ⟨S128x50, .i32⟩
  | 52 => ⟨S128x50, .i32⟩
  | 53 => ⟨S128x50, .i32⟩
  | 54 => ⟨S128x50, .i32⟩
  | 55 => ⟨S128x50, .i32⟩
  | 56 => ⟨S128x50, .i32⟩
  | 57 => ⟨S_, .i32⟩
  | 58 => ⟨S128x50, .i32⟩
  | 59 => ⟨S128x50, .i32⟩
  | 60 => ⟨S128x50, .i32⟩
  | 61 => ⟨S_, .i32⟩
  | 62 => ⟨S128x50, .i32⟩
  | 63 => ⟨S128x50, .i32⟩
  | 64 => ⟨S_, .i32⟩
  | 65 => ⟨S128x50, .i32⟩
  | 66 => ⟨S128x50, .i32⟩
  | 67 => ⟨S128x50, .i32⟩
  | 68 => ⟨S128x50, .i32⟩
  | 69 => ⟨S128x50, .i32⟩
  | 70 => ⟨S_, .i32⟩
  | 71 => ⟨S128x50, .i32⟩
  | 72 => ⟨S128x50, .i32⟩
  | 73 => ⟨S_, .i32⟩
  | 74 => ⟨S128x50, .i32⟩
  | 75 => ⟨S128x50, .i32⟩
  | 76 => ⟨S128x50, .i32⟩
  | 77 => ⟨S128x50, .i32⟩
  | 78 => ⟨S128x50, .i32⟩
  | 79 => ⟨S_, .i32⟩
  | 80 => ⟨S128x50, .i32⟩
  | 81 => ⟨S128x50, .i32⟩
  | 82 => ⟨S_, .i32⟩
  | 83 => ⟨S128x50, .i32⟩
  | 84 => ⟨S128x50, .i32⟩
  | 85 => ⟨S128x50, .i32⟩
  | 86 => ⟨S128x50, .i32⟩
  | 87 => ⟨S128x50, .i32⟩
  | 88 => ⟨S_, .i32⟩
  | 89 => ⟨S128x50, .i32⟩
  | 90 => ⟨S128x50, .i32⟩
  | 91 => ⟨S_, .i32⟩
  | 92 => ⟨S128x50, .i32⟩
  | 93 => ⟨S128x50, .i32⟩
  | 94 => ⟨S128x50, .i32⟩
  | 95 => ⟨S128x50, .i32⟩
  | 96 => ⟨S128x50, .i32⟩
  | 97 => ⟨S128x50, .i32⟩
  | 98 => ⟨S128x50, .i32⟩
  | 99 => ⟨S128x50, .i32⟩
  | 100 => ⟨S_, .i32⟩
  | 101 => ⟨S128x50, .i32⟩
  | 102 => ⟨S128x50, .i32⟩
  | 103 => ⟨S128x50, .i32⟩
  | 104 => ⟨S_, .i32⟩
  | 105 => ⟨S128x50, .i32⟩
  | 106 => ⟨S128x50, .i32⟩
  | 107 => ⟨S_, .i32⟩
  | 108 => ⟨S128x50, .i32⟩
  | 109 => ⟨S128x50, .i32⟩
  | 110 => ⟨S128x50, .i32⟩
  | 111 => ⟨S128x50, .i32⟩
  | 112 => ⟨S128x50, .i32⟩
  | 113 => ⟨S_, .i32⟩
  | 114 => ⟨S128x50, .i32⟩
  | 115 => ⟨S128x50, .i32⟩
  | 116 => ⟨S_, .i32⟩
  | 117 => ⟨S128x50, .i32⟩
  | 118 => ⟨S128x50, .i32⟩
  | 119 => ⟨S128x50, .i32⟩
  | 120 => ⟨S128x50, .i32⟩
  | 121 => ⟨S128x50, .i32⟩
  | 122 => ⟨S_, .i32⟩
  | 123 => ⟨S128x50, .i32⟩
  | 124 => ⟨S128x50, .i32⟩
  | 125 => ⟨S_, .i32⟩
  | 126 => ⟨S128x50, .i32⟩
  | 127 => ⟨S128x50, .i32⟩
  | _ => ⟨S2x32x4x100000, .f32⟩

abbrev hbmTy0_7 (i : Nat) : BufTy := match i % 128 with
  | 0 => ⟨S128x50, .i32⟩
  | 1 => ⟨S128x50, .i32⟩
  | 2 => ⟨S128x50, .i32⟩
  | 3 => ⟨S_, .i32⟩
  | 4 => ⟨S128x50, .i32⟩
  | 5 => ⟨S128x50, .i32⟩
  | 6 => ⟨S_, .i32⟩
  | 7 => ⟨S128x50, .i32⟩
  | 8 => ⟨S128x50, .i32⟩
  | 9 => ⟨S128x50, .i32⟩
  | 10 => ⟨S128x50, .i32⟩
  | 11 => ⟨S128x50, .i32⟩
  | 12 => ⟨S128x50, .i32⟩
  | 13 => ⟨S128x50, .i32⟩
  | 14 => ⟨S128x50, .i32⟩
  | 15 => ⟨S_, .i32⟩
  | 16 => ⟨S128x50, .i32⟩
  | 17 => ⟨S128x50, .i32⟩
  | 18 => ⟨S128x50, .i32⟩
  | 19 => ⟨S_, .i32⟩
  | 20 => ⟨S128x50, .i32⟩
  | 21 => ⟨S128x50, .i32⟩
  | 22 => ⟨S_, .i32⟩
  | 23 => ⟨S128x50, .i32⟩
  | 24 => ⟨S128x50, .i32⟩
  | 25 => ⟨S128x50, .i32⟩
  | 26 => ⟨S128x50, .i32⟩
  | 27 => ⟨S128x50, .i32⟩
  | 28 => ⟨S_, .i32⟩
  | 29 => ⟨S128x50, .i32⟩
  | 30 => ⟨S128x50, .i32⟩
  | 31 => ⟨S_, .i32⟩
  | 32 => ⟨S128x50, .i32⟩
  | 33 => ⟨S128x50, .i32⟩
  | 34 => ⟨S128x50, .i32⟩
  | 35 => ⟨S128x50, .i32⟩
  | 36 => ⟨S128x50, .i32⟩
  | 37 => ⟨S_, .i32⟩
  | 38 => ⟨S128x50, .i32⟩
  | 39 => ⟨S128x50, .i32⟩
  | 40 => ⟨S_, .i32⟩
  | 41 => ⟨S128x50, .i32⟩
  | 42 => ⟨S128x50, .i32⟩
  | 43 => ⟨S128x50, .i32⟩
  | 44 => ⟨S128x50, .i32⟩
  | 45 => ⟨S128x50, .i32⟩
  | 46 => ⟨S_, .i32⟩
  | 47 => ⟨S128x50, .i32⟩
  | 48 => ⟨S128x50, .i32⟩
  | 49 => ⟨S_, .i32⟩
  | 50 => ⟨S128x50, .i32⟩
  | 51 => ⟨S128x50, .i32⟩
  | 52 => ⟨S128x50, .i32⟩
  | 53 => ⟨S128x50, .i32⟩
  | 54 => ⟨S128x50, .i32⟩
  | 55 => ⟨S128x50, .i32⟩
  | 56 => ⟨S128x50, .i32⟩
  | 57 => ⟨S128x50, .i32⟩
  | 58 => ⟨S_, .i32⟩
  | 59 => ⟨S128x50, .i32⟩
  | 60 => ⟨S128x50, .i32⟩
  | 61 => ⟨S128x50, .i32⟩
  | 62 => ⟨S_, .i32⟩
  | 63 => ⟨S128x50, .i32⟩
  | 64 => ⟨S128x50, .i32⟩
  | 65 => ⟨S_, .i32⟩
  | 66 => ⟨S128x50, .i32⟩
  | 67 => ⟨S128x50, .i32⟩
  | 68 => ⟨S128x50, .i32⟩
  | 69 => ⟨S128x50, .i32⟩
  | 70 => ⟨S128x50, .i32⟩
  | 71 => ⟨S_, .i32⟩
  | 72 => ⟨S128x50, .i32⟩
  | 73 => ⟨S128x50, .i32⟩
  | 74 => ⟨S_, .i32⟩
  | 75 => ⟨S128x50, .i32⟩
  | 76 => ⟨S128x50, .i32⟩
  | 77 => ⟨S128x50, .i32⟩
  | 78 => ⟨S128x50, .i32⟩
  | 79 => ⟨S128x50, .i32⟩
  | 80 => ⟨S_, .i32⟩
  | 81 => ⟨S128x50, .i32⟩
  | 82 => ⟨S128x50, .i32⟩
  | 83 => ⟨S_, .i32⟩
  | 84 => ⟨S128x50, .i32⟩
  | 85 => ⟨S128x50, .i32⟩
  | 86 => ⟨S128x50, .i32⟩
  | 87 => ⟨S128x50, .i32⟩
  | 88 => ⟨S128x50, .i32⟩
  | 89 => ⟨S_, .i32⟩
  | 90 => ⟨S128x50, .i32⟩
  | 91 => ⟨S128x50, .i32⟩
  | 92 => ⟨S_, .i32⟩
  | 93 => ⟨S128x50, .i32⟩
  | 94 => ⟨S128x50, .i32⟩
  | 95 => ⟨S128x50, .i32⟩
  | 96 => ⟨S128x50, .i32⟩
  | 97 => ⟨S128x50, .i32⟩
  | 98 => ⟨S128x50, .i32⟩
  | 99 => ⟨S128x50, .i32⟩
  | 100 => ⟨S128x50, .i32⟩
  | 101 => ⟨S_, .i32⟩
  | 102 => ⟨S128x50, .i32⟩
  | 103 => ⟨S128x50, .i32⟩
  | 104 => ⟨S128x50, .i32⟩
  | 105 => ⟨S_, .i32⟩
  | 106 => ⟨S128x50, .i32⟩
  | 107 => ⟨S128x50, .i32⟩
  | 108 => ⟨S_, .i32⟩
  | 109 => ⟨S128x50, .i32⟩
  | 110 => ⟨S128x50, .i32⟩
  | 111 => ⟨S128x50, .f32⟩
  | 112 => ⟨S_, .f32⟩
  | 113 => ⟨S128x50, .f32⟩
  | 114 => ⟨S128x50, .f32⟩
  | 115 => ⟨S1x1, .f32⟩
  | 116 => ⟨S128x50, .f32⟩
  | 117 => ⟨S128x50, .f32⟩
  | 118 => ⟨S128x50, .f32⟩
  | 119 => ⟨S128x50, .f32⟩
  | 120 => ⟨S128x50, .f32⟩
  | 121 => ⟨S128x50, .f32⟩
  | 122 => ⟨S128x50, .f32⟩
  | 123 => ⟨S128x50, .f32⟩
  | 124 => ⟨S128x50, .f32⟩
  | 125 => ⟨S128x50, .f32⟩
  | 126 => ⟨S1x128x50, .f32⟩
  | 127 => ⟨S1x128x50, .f32⟩
  | _ => ⟨S2x32x4x100000, .f32⟩

abbrev hbmTy0_8 (i : Nat) : BufTy := match i % 128 with
  | 0 => ⟨S2x128x50, .f32⟩
  | 1 => ⟨S_, .i32⟩
  | 2 => ⟨S_, .f32⟩
  | 3 => ⟨S2x128x64, .f32⟩
  | 4 => ⟨S64x4x64, .f32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S32x4x1x2, .f32⟩
  | 16 => ⟨S32x4x2, .f32⟩
  | 17 => ⟨S2x32x4, .f32⟩
  | 18 => ⟨S64x4x1, .f32⟩
  | 19 => ⟨S64x4x1, .f32⟩
  | 20 => ⟨S64x4x1, .i32⟩
  | 21 => ⟨S2x32x4, .f32⟩
  | 22 => ⟨S2x32x4, .i32⟩
  | 23 => ⟨S32x4x2, .f32⟩
  | 24 => ⟨S32x4x2, .i32⟩
  | 25 => ⟨S4, .i32⟩
  | 26 => ⟨S1x4, .i32⟩
  | 27 => ⟨S1x1x1x4, .i32⟩
  | 28 => ⟨S32x1x1x4, .i32⟩
  | 29 => ⟨S32x4, .i32⟩
  | _ => ⟨S2x32x4x100000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S2x32x4x100000, .f32⟩

abbrev bufTy : (tb : Table) → Fin (tcTables nBuf tb) → BufTy
  | .hbm, ⟨i, _⟩ => hbmTy i
  | .local _ .vmem, ⟨0, _⟩ => ⟨S4x4x99968, .f32⟩
  | .local _ .vmem, ⟨1, _⟩ => ⟨S4x4x99968, .f32⟩
  | .local _ .vmem, ⟨2, _⟩ => ⟨S4x4x128, .f32⟩
  | .local _ .vmem, ⟨3, _⟩ => ⟨S4x4x128, .f32⟩
  | .local _ .vmem, ⟨4, _⟩ => ⟨S4x4x64, .f32⟩
  | .local _ .vmem, ⟨5, _⟩ => ⟨S4x4x64, .f32⟩
  | .local _ .vmem, ⟨6, _⟩ => ⟨S4x4x1, .f32⟩
  | .local _ .vmem, ⟨7, _⟩ => ⟨S4x4x1, .f32⟩
  | .local _ .vmem, ⟨8, _⟩ => ⟨S4x4x1, .f32⟩
  | .local _ .vmem, ⟨9, _⟩ => ⟨S4x4x1, .f32⟩
  | .local _ .vmem, ⟨10, _⟩ => ⟨S4x4x1, .i32⟩
  | .local _ .vmem, ⟨11, _⟩ => ⟨S4x4x1, .i32⟩
  | .local _ .vmem, ⟨12, _⟩ => ⟨S16x50x782, .f32⟩
  | .local _ .vmem, ⟨13, _⟩ => ⟨S16x50x128, .f32⟩
  | .local _ .vmem, ⟨14, _⟩ => ⟨S16x50x128, .i32⟩
  | .local _ .vmem, ⟨15, _⟩ => ⟨S16x64, .f32⟩
  | .local _ .vmem, ⟨16, _⟩ => ⟨S16x64, .i32⟩
  | _, _ => ⟨S2x32x4x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_call0_v0 : Ref sig .tc := ⟨.hbm, 28, rfl⟩
abbrev main_call0_call0_c : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_c_0 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_c_1 : Ref sig .tc := ⟨.hbm, 39, rfl⟩
abbrev main_call0_call0_v9 : Ref sig .tc := ⟨.hbm, 40, rfl⟩
abbrev main_call0_call0_v10 : Ref sig .tc := ⟨.hbm, 41, rfl⟩
abbrev main_call0_call0_v11 : Ref sig .tc := ⟨.hbm, 42, rfl⟩
abbrev main_call0_call0_v12 : Ref sig .tc := ⟨.hbm, 43, rfl⟩
abbrev main_call0_call0_v13 : Ref sig .tc := ⟨.hbm, 44, rfl⟩
abbrev main_call0_call0_c_2 : Ref sig .tc := ⟨.hbm, 45, rfl⟩
abbrev main_call0_call0_v14 : Ref sig .tc := ⟨.hbm, 46, rfl⟩
abbrev main_call0_call0_v15 : Ref sig .tc := ⟨.hbm, 47, rfl⟩
abbrev main_call0_call0_c_3 : Ref sig .tc := ⟨.hbm, 48, rfl⟩
abbrev main_call0_call0_v16 : Ref sig .tc := ⟨.hbm, 49, rfl⟩
abbrev main_call0_call0_v17 : Ref sig .tc := ⟨.hbm, 50, rfl⟩
abbrev main_call0_call0_v18 : Ref sig .tc := ⟨.hbm, 51, rfl⟩
abbrev main_call0_call0_v19 : Ref sig .tc := ⟨.hbm, 52, rfl⟩
abbrev main_call0_call0_v20 : Ref sig .tc := ⟨.hbm, 53, rfl⟩
abbrev main_call0_call0_c_4 : Ref sig .tc := ⟨.hbm, 54, rfl⟩
abbrev main_call0_call0_v21 : Ref sig .tc := ⟨.hbm, 55, rfl⟩
abbrev main_call0_call0_v22 : Ref sig .tc := ⟨.hbm, 56, rfl⟩
abbrev main_call0_call0_c_5 : Ref sig .tc := ⟨.hbm, 57, rfl⟩
abbrev main_call0_call0_v23 : Ref sig .tc := ⟨.hbm, 58, rfl⟩
abbrev main_call0_call0_v24 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_v27 : Ref sig .tc := ⟨.hbm, 62, rfl⟩
abbrev main_call0_call0_c_6 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_c_7 : Ref sig .tc := ⟨.hbm, 66, rfl⟩
abbrev main_call0_call0_v30 : Ref sig .tc := ⟨.hbm, 67, rfl⟩
abbrev main_call0_call0_v31 : Ref sig .tc := ⟨.hbm, 68, rfl⟩
abbrev main_call0_call0_v32 : Ref sig .tc := ⟨.hbm, 69, rfl⟩
abbrev main_call0_call0_v33 : Ref sig .tc := ⟨.hbm, 70, rfl⟩
abbrev main_call0_call0_v34 : Ref sig .tc := ⟨.hbm, 71, rfl⟩
abbrev main_call0_call0_v35 : Ref sig .tc := ⟨.hbm, 72, rfl⟩
abbrev main_call0_call0_v36 : Ref sig .tc := ⟨.hbm, 73, rfl⟩
abbrev main_call0_call0_v37 : Ref sig .tc := ⟨.hbm, 74, rfl⟩
abbrev main_call0_call0_c_8 : Ref sig .tc := ⟨.hbm, 75, rfl⟩
abbrev main_call0_call0_v38 : Ref sig .tc := ⟨.hbm, 76, rfl⟩
abbrev main_call0_call0_v39 : Ref sig .tc := ⟨.hbm, 77, rfl⟩
abbrev main_call0_call0_v40 : Ref sig .tc := ⟨.hbm, 78, rfl⟩
abbrev main_call0_call0_c_9 : Ref sig .tc := ⟨.hbm, 79, rfl⟩
abbrev main_call0_call0_v41 : Ref sig .tc := ⟨.hbm, 80, rfl⟩
abbrev main_call0_call0_v42 : Ref sig .tc := ⟨.hbm, 81, rfl⟩
abbrev main_call0_call0_c_10 : Ref sig .tc := ⟨.hbm, 82, rfl⟩
abbrev main_call0_call0_v43 : Ref sig .tc := ⟨.hbm, 83, rfl⟩
abbrev main_call0_call0_v44 : Ref sig .tc := ⟨.hbm, 84, rfl⟩
abbrev main_call0_call0_v45 : Ref sig .tc := ⟨.hbm, 85, rfl⟩
abbrev main_call0_call0_v46 : Ref sig .tc := ⟨.hbm, 86, rfl⟩
abbrev main_call0_call0_v47 : Ref sig .tc := ⟨.hbm, 87, rfl⟩
abbrev main_call0_call0_c_11 : Ref sig .tc := ⟨.hbm, 88, rfl⟩
abbrev main_call0_call0_v48 : Ref sig .tc := ⟨.hbm, 89, rfl⟩
abbrev main_call0_call0_v49 : Ref sig .tc := ⟨.hbm, 90, rfl⟩
abbrev main_call0_call0_c_12 : Ref sig .tc := ⟨.hbm, 91, rfl⟩
abbrev main_call0_call0_v50 : Ref sig .tc := ⟨.hbm, 92, rfl⟩
abbrev main_call0_call0_v51 : Ref sig .tc := ⟨.hbm, 93, rfl⟩
abbrev main_call0_call0_v52 : Ref sig .tc := ⟨.hbm, 94, rfl⟩
abbrev main_call0_call0_v53 : Ref sig .tc := ⟨.hbm, 95, rfl⟩
abbrev main_call0_call0_v54 : Ref sig .tc := ⟨.hbm, 96, rfl⟩
abbrev main_call0_call0_c_13 : Ref sig .tc := ⟨.hbm, 97, rfl⟩
abbrev main_call0_call0_v55 : Ref sig .tc := ⟨.hbm, 98, rfl⟩
abbrev main_call0_call0_v56 : Ref sig .tc := ⟨.hbm, 99, rfl⟩
abbrev main_call0_call0_c_14 : Ref sig .tc := ⟨.hbm, 100, rfl⟩
abbrev main_call0_call0_v57 : Ref sig .tc := ⟨.hbm, 101, rfl⟩
abbrev main_call0_call0_v58 : Ref sig .tc := ⟨.hbm, 102, rfl⟩
abbrev main_call0_call0_v59 : Ref sig .tc := ⟨.hbm, 103, rfl⟩
abbrev main_call0_call0_v60 : Ref sig .tc := ⟨.hbm, 104, rfl⟩
abbrev main_call0_call0_v61 : Ref sig .tc := ⟨.hbm, 105, rfl⟩
abbrev main_call0_call0_c_15 : Ref sig .tc := ⟨.hbm, 106, rfl⟩
abbrev main_call0_call0_v62 : Ref sig .tc := ⟨.hbm, 107, rfl⟩
abbrev main_call0_call0_v63 : Ref sig .tc := ⟨.hbm, 108, rfl⟩
abbrev main_call0_call0_c_16 : Ref sig .tc := ⟨.hbm, 109, rfl⟩
abbrev main_call0_call0_v64 : Ref sig .tc := ⟨.hbm, 110, rfl⟩
abbrev main_call0_call0_v65 : Ref sig .tc := ⟨.hbm, 111, rfl⟩
abbrev main_call0_call0_v66 : Ref sig .tc := ⟨.hbm, 112, rfl⟩
abbrev main_call0_call0_v67 : Ref sig .tc := ⟨.hbm, 113, rfl⟩
abbrev main_call0_call0_v68 : Ref sig .tc := ⟨.hbm, 114, rfl⟩
abbrev main_call0_call0_v69 : Ref sig .tc := ⟨.hbm, 115, rfl⟩
abbrev main_call0_call0_v70 : Ref sig .tc := ⟨.hbm, 116, rfl⟩
abbrev main_call0_call0_v71 : Ref sig .tc := ⟨.hbm, 117, rfl⟩
abbrev main_call0_call0_c_17 : Ref sig .tc := ⟨.hbm, 118, rfl⟩
abbrev main_call0_call0_v72 : Ref sig .tc := ⟨.hbm, 119, rfl⟩
abbrev main_call0_call0_v73 : Ref sig .tc := ⟨.hbm, 120, rfl⟩
abbrev main_call0_call0_v74 : Ref sig .tc := ⟨.hbm, 121, rfl⟩
abbrev main_call0_call0_c_18 : Ref sig .tc := ⟨.hbm, 122, rfl⟩
abbrev main_call0_call0_v75 : Ref sig .tc := ⟨.hbm, 123, rfl⟩
abbrev main_call0_call0_v76 : Ref sig .tc := ⟨.hbm, 124, rfl⟩
abbrev main_call0_call0_c_19 : Ref sig .tc := ⟨.hbm, 125, rfl⟩
abbrev main_call0_call0_v77 : Ref sig .tc := ⟨.hbm, 126, rfl⟩
abbrev main_call0_call0_v78 : Ref sig .tc := ⟨.hbm, 127, rfl⟩
abbrev main_call0_call0_v79 : Ref sig .tc := ⟨.hbm, 128, rfl⟩
abbrev main_call0_call0_v80 : Ref sig .tc := ⟨.hbm, 129, rfl⟩
abbrev main_call0_call0_v81 : Ref sig .tc := ⟨.hbm, 130, rfl⟩
abbrev main_call0_call0_c_20 : Ref sig .tc := ⟨.hbm, 131, rfl⟩
abbrev main_call0_call0_v82 : Ref sig .tc := ⟨.hbm, 132, rfl⟩
abbrev main_call0_call0_v83 : Ref sig .tc := ⟨.hbm, 133, rfl⟩
abbrev main_call0_call0_c_21 : Ref sig .tc := ⟨.hbm, 134, rfl⟩
abbrev main_call0_call0_v84 : Ref sig .tc := ⟨.hbm, 135, rfl⟩
abbrev main_call0_call0_v85 : Ref sig .tc := ⟨.hbm, 136, rfl⟩
abbrev main_call0_call0_v86 : Ref sig .tc := ⟨.hbm, 137, rfl⟩
abbrev main_call0_call0_v87 : Ref sig .tc := ⟨.hbm, 138, rfl⟩
abbrev main_call0_call0_v88 : Ref sig .tc := ⟨.hbm, 139, rfl⟩
abbrev main_call0_call0_c_22 : Ref sig .tc := ⟨.hbm, 140, rfl⟩
abbrev main_call0_call0_v89 : Ref sig .tc := ⟨.hbm, 141, rfl⟩
abbrev main_call0_call0_v90 : Ref sig .tc := ⟨.hbm, 142, rfl⟩
abbrev main_call0_call0_c_23 : Ref sig .tc := ⟨.hbm, 143, rfl⟩
abbrev main_call0_call0_v91 : Ref sig .tc := ⟨.hbm, 144, rfl⟩
abbrev main_call0_call0_v92 : Ref sig .tc := ⟨.hbm, 145, rfl⟩
abbrev main_call0_call0_v93 : Ref sig .tc := ⟨.hbm, 146, rfl⟩
abbrev main_call0_call0_v94 : Ref sig .tc := ⟨.hbm, 147, rfl⟩
abbrev main_call0_call0_v95 : Ref sig .tc := ⟨.hbm, 148, rfl⟩
abbrev main_call0_call0_c_24 : Ref sig .tc := ⟨.hbm, 149, rfl⟩
abbrev main_call0_call0_v96 : Ref sig .tc := ⟨.hbm, 150, rfl⟩
abbrev main_call0_call0_v97 : Ref sig .tc := ⟨.hbm, 151, rfl⟩
abbrev main_call0_call0_c_25 : Ref sig .tc := ⟨.hbm, 152, rfl⟩
abbrev main_call0_call0_v98 : Ref sig .tc := ⟨.hbm, 153, rfl⟩
abbrev main_call0_call0_v99 : Ref sig .tc := ⟨.hbm, 154, rfl⟩
abbrev main_call0_call0_v100 : Ref sig .tc := ⟨.hbm, 155, rfl⟩
abbrev main_call0_call0_v101 : Ref sig .tc := ⟨.hbm, 156, rfl⟩
abbrev main_call0_call0_v102 : Ref sig .tc := ⟨.hbm, 157, rfl⟩
abbrev main_call0_call0_v103 : Ref sig .tc := ⟨.hbm, 158, rfl⟩
abbrev main_call0_call0_v104 : Ref sig .tc := ⟨.hbm, 159, rfl⟩
abbrev main_call0_call0_v105 : Ref sig .tc := ⟨.hbm, 160, rfl⟩
abbrev main_call0_call0_c_26 : Ref sig .tc := ⟨.hbm, 161, rfl⟩
abbrev main_call0_call0_v106 : Ref sig .tc := ⟨.hbm, 162, rfl⟩
abbrev main_call0_call0_v107 : Ref sig .tc := ⟨.hbm, 163, rfl⟩
abbrev main_call0_call0_v108 : Ref sig .tc := ⟨.hbm, 164, rfl⟩
abbrev main_call0_call0_c_27 : Ref sig .tc := ⟨.hbm, 165, rfl⟩
abbrev main_call0_call0_v109 : Ref sig .tc := ⟨.hbm, 166, rfl⟩
abbrev main_call0_call0_v110 : Ref sig .tc := ⟨.hbm, 167, rfl⟩
abbrev main_call0_call0_c_28 : Ref sig .tc := ⟨.hbm, 168, rfl⟩
abbrev main_call0_call0_v111 : Ref sig .tc := ⟨.hbm, 169, rfl⟩
abbrev main_call0_call0_v112 : Ref sig .tc := ⟨.hbm, 170, rfl⟩
abbrev main_call0_call0_v113 : Ref sig .tc := ⟨.hbm, 171, rfl⟩
abbrev main_call0_call0_v114 : Ref sig .tc := ⟨.hbm, 172, rfl⟩
abbrev main_call0_call0_v115 : Ref sig .tc := ⟨.hbm, 173, rfl⟩
abbrev main_call0_call0_c_29 : Ref sig .tc := ⟨.hbm, 174, rfl⟩
abbrev main_call0_call0_v116 : Ref sig .tc := ⟨.hbm, 175, rfl⟩
abbrev main_call0_call0_v117 : Ref sig .tc := ⟨.hbm, 176, rfl⟩
abbrev main_call0_call0_c_30 : Ref sig .tc := ⟨.hbm, 177, rfl⟩
abbrev main_call0_call0_v118 : Ref sig .tc := ⟨.hbm, 178, rfl⟩
abbrev main_call0_call0_v119 : Ref sig .tc := ⟨.hbm, 179, rfl⟩
abbrev main_call0_call0_v120 : Ref sig .tc := ⟨.hbm, 180, rfl⟩
abbrev main_call0_call0_v121 : Ref sig .tc := ⟨.hbm, 181, rfl⟩
abbrev main_call0_call0_v122 : Ref sig .tc := ⟨.hbm, 182, rfl⟩
abbrev main_call0_call0_c_31 : Ref sig .tc := ⟨.hbm, 183, rfl⟩
abbrev main_call0_call0_v123 : Ref sig .tc := ⟨.hbm, 184, rfl⟩
abbrev main_call0_call0_v124 : Ref sig .tc := ⟨.hbm, 185, rfl⟩
abbrev main_call0_call0_c_32 : Ref sig .tc := ⟨.hbm, 186, rfl⟩
abbrev main_call0_call0_v125 : Ref sig .tc := ⟨.hbm, 187, rfl⟩
abbrev main_call0_call0_v126 : Ref sig .tc := ⟨.hbm, 188, rfl⟩
abbrev main_call0_call0_v127 : Ref sig .tc := ⟨.hbm, 189, rfl⟩
abbrev main_call0_call0_v128 : Ref sig .tc := ⟨.hbm, 190, rfl⟩
abbrev main_call0_call0_v129 : Ref sig .tc := ⟨.hbm, 191, rfl⟩
abbrev main_call0_call0_c_33 : Ref sig .tc := ⟨.hbm, 192, rfl⟩
abbrev main_call0_call0_v130 : Ref sig .tc := ⟨.hbm, 193, rfl⟩
abbrev main_call0_call0_v131 : Ref sig .tc := ⟨.hbm, 194, rfl⟩
abbrev main_call0_call0_c_34 : Ref sig .tc := ⟨.hbm, 195, rfl⟩
abbrev main_call0_call0_v132 : Ref sig .tc := ⟨.hbm, 196, rfl⟩
abbrev main_call0_call0_v133 : Ref sig .tc := ⟨.hbm, 197, rfl⟩
abbrev main_call0_call0_v134 : Ref sig .tc := ⟨.hbm, 198, rfl⟩
abbrev main_call0_call0_v135 : Ref sig .tc := ⟨.hbm, 199, rfl⟩
abbrev main_call0_call0_v136 : Ref sig .tc := ⟨.hbm, 200, rfl⟩
abbrev main_call0_call0_v137 : Ref sig .tc := ⟨.hbm, 201, rfl⟩
abbrev main_call0_call0_v138 : Ref sig .tc := ⟨.hbm, 202, rfl⟩
abbrev main_call0_call0_v139 : Ref sig .tc := ⟨.hbm, 203, rfl⟩
abbrev main_call0_call0_c_35 : Ref sig .tc := ⟨.hbm, 204, rfl⟩
abbrev main_call0_call0_v140 : Ref sig .tc := ⟨.hbm, 205, rfl⟩
abbrev main_call0_call0_v141 : Ref sig .tc := ⟨.hbm, 206, rfl⟩
abbrev main_call0_call0_v142 : Ref sig .tc := ⟨.hbm, 207, rfl⟩
abbrev main_call0_call0_c_36 : Ref sig .tc := ⟨.hbm, 208, rfl⟩
abbrev main_call0_call0_v143 : Ref sig .tc := ⟨.hbm, 209, rfl⟩
abbrev main_call0_call0_v144 : Ref sig .tc := ⟨.hbm, 210, rfl⟩
abbrev main_call0_call0_c_37 : Ref sig .tc := ⟨.hbm, 211, rfl⟩
abbrev main_call0_call0_v145 : Ref sig .tc := ⟨.hbm, 212, rfl⟩
abbrev main_call0_call0_v146 : Ref sig .tc := ⟨.hbm, 213, rfl⟩
abbrev main_call0_call0_v147 : Ref sig .tc := ⟨.hbm, 214, rfl⟩
abbrev main_call0_call0_v148 : Ref sig .tc := ⟨.hbm, 215, rfl⟩
abbrev main_call0_call0_v149 : Ref sig .tc := ⟨.hbm, 216, rfl⟩
abbrev main_call0_call0_c_38 : Ref sig .tc := ⟨.hbm, 217, rfl⟩
abbrev main_call0_call0_v150 : Ref sig .tc := ⟨.hbm, 218, rfl⟩
abbrev main_call0_call0_v151 : Ref sig .tc := ⟨.hbm, 219, rfl⟩
abbrev main_call0_call0_c_39 : Ref sig .tc := ⟨.hbm, 220, rfl⟩
abbrev main_call0_call0_v152 : Ref sig .tc := ⟨.hbm, 221, rfl⟩
abbrev main_call0_call0_v153 : Ref sig .tc := ⟨.hbm, 222, rfl⟩
abbrev main_call0_call0_v154 : Ref sig .tc := ⟨.hbm, 223, rfl⟩
abbrev main_call0_call0_v155 : Ref sig .tc := ⟨.hbm, 224, rfl⟩
abbrev main_call0_call0_v156 : Ref sig .tc := ⟨.hbm, 225, rfl⟩
abbrev main_call0_call0_c_40 : Ref sig .tc := ⟨.hbm, 226, rfl⟩
abbrev main_call0_call0_v157 : Ref sig .tc := ⟨.hbm, 227, rfl⟩
abbrev main_call0_call0_v158 : Ref sig .tc := ⟨.hbm, 228, rfl⟩
abbrev main_call0_call0_c_41 : Ref sig .tc := ⟨.hbm, 229, rfl⟩
abbrev main_call0_call0_v159 : Ref sig .tc := ⟨.hbm, 230, rfl⟩
abbrev main_call0_call0_v160 : Ref sig .tc := ⟨.hbm, 231, rfl⟩
abbrev main_call0_call0_v161 : Ref sig .tc := ⟨.hbm, 232, rfl⟩
abbrev main_call0_call0_v162 : Ref sig .tc := ⟨.hbm, 233, rfl⟩
abbrev main_call0_call0_v163 : Ref sig .tc := ⟨.hbm, 234, rfl⟩
abbrev main_call0_call0_c_42 : Ref sig .tc := ⟨.hbm, 235, rfl⟩
abbrev main_call0_call0_v164 : Ref sig .tc := ⟨.hbm, 236, rfl⟩
abbrev main_call0_call0_v165 : Ref sig .tc := ⟨.hbm, 237, rfl⟩
abbrev main_call0_call0_c_43 : Ref sig .tc := ⟨.hbm, 238, rfl⟩
abbrev main_call0_call0_v166 : Ref sig .tc := ⟨.hbm, 239, rfl⟩
abbrev main_call0_call0_v167 : Ref sig .tc := ⟨.hbm, 240, rfl⟩
abbrev main_call0_call0_v168 : Ref sig .tc := ⟨.hbm, 241, rfl⟩
abbrev main_call0_call0_v169 : Ref sig .tc := ⟨.hbm, 242, rfl⟩
abbrev main_call0_call0_v170 : Ref sig .tc := ⟨.hbm, 243, rfl⟩
abbrev main_call0_v11_0 : Ref sig .tc := ⟨.hbm, 244, rfl⟩
abbrev main_call0_call0_v172 : Ref sig .tc := ⟨.hbm, 245, rfl⟩
abbrev main_call0_call0_v173 : Ref sig .tc := ⟨.hbm, 246, rfl⟩
abbrev main_call0_call0_c_44 : Ref sig .tc := ⟨.hbm, 247, rfl⟩
abbrev main_call0_call0_v174 : Ref sig .tc := ⟨.hbm, 248, rfl⟩
abbrev main_call0_v11_1 : Ref sig .tc := ⟨.hbm, 249, rfl⟩
abbrev main_v8 : Ref sig .tc := ⟨.hbm, 250, rfl⟩
abbrev main_call1_cst : Ref sig .tc := ⟨.hbm, 251, rfl⟩
abbrev main_call1_cst_0 : Ref sig .tc := ⟨.hbm, 252, rfl⟩
abbrev main_call1_call0_v0 : Ref sig .tc := ⟨.hbm, 253, rfl⟩
abbrev main_call1_call0_v1 : Ref sig .tc := ⟨.hbm, 254, rfl⟩
abbrev main_call1_call0_v2 : Ref sig .tc := ⟨.hbm, 255, rfl⟩
abbrev main_call1_call0_v3 : Ref sig .tc := ⟨.hbm, 256, rfl⟩
abbrev main_call1_call0_v4 : Ref sig .tc := ⟨.hbm, 257, rfl⟩
abbrev main_call1_call0_v5 : Ref sig .tc := ⟨.hbm, 258, rfl⟩
abbrev main_call1_call0_v6 : Ref sig .tc := ⟨.hbm, 259, rfl⟩
abbrev main_call1_call0_v7 : Ref sig .tc := ⟨.hbm, 260, rfl⟩
abbrev main_call1_call0_v8 : Ref sig .tc := ⟨.hbm, 261, rfl⟩
abbrev main_call1_call0_c : Ref sig .tc := ⟨.hbm, 262, rfl⟩
abbrev main_call1_call0_v9 : Ref sig .tc := ⟨.hbm, 263, rfl⟩
abbrev main_call1_call0_v10 : Ref sig .tc := ⟨.hbm, 264, rfl⟩
abbrev main_call1_call0_c_0 : Ref sig .tc := ⟨.hbm, 265, rfl⟩
abbrev main_call1_call0_v11 : Ref sig .tc := ⟨.hbm, 266, rfl⟩
abbrev main_call1_call0_v12 : Ref sig .tc := ⟨.hbm, 267, rfl⟩
abbrev main_call1_call0_v13 : Ref sig .tc := ⟨.hbm, 268, rfl⟩
abbrev main_call1_call0_c_1 : Ref sig .tc := ⟨.hbm, 269, rfl⟩
abbrev main_call1_call0_v14 : Ref sig .tc := ⟨.hbm, 270, rfl⟩
abbrev main_call1_call0_v15 : Ref sig .tc := ⟨.hbm, 271, rfl⟩
abbrev main_call1_call0_v16 : Ref sig .tc := ⟨.hbm, 272, rfl⟩
abbrev main_call1_call0_v17 : Ref sig .tc := ⟨.hbm, 273, rfl⟩
abbrev main_call1_call0_call0_v0 : Ref sig .tc := ⟨.hbm, 274, rfl⟩
abbrev main_call1_call0_call0_c : Ref sig .tc := ⟨.hbm, 275, rfl⟩
abbrev main_call1_call0_call0_v1 : Ref sig .tc := ⟨.hbm, 276, rfl⟩
abbrev main_call1_call0_call0_v2 : Ref sig .tc := ⟨.hbm, 277, rfl⟩
abbrev main_call1_call0_call0_v3 : Ref sig .tc := ⟨.hbm, 278, rfl⟩
abbrev main_call1_call0_call0_v4 : Ref sig .tc := ⟨.hbm, 279, rfl⟩
abbrev main_call1_call0_call0_v5 : Ref sig .tc := ⟨.hbm, 280, rfl⟩
abbrev main_call1_call0_call0_v6 : Ref sig .tc := ⟨.hbm, 281, rfl⟩
abbrev main_call1_call0_call0_c_0 : Ref sig .tc := ⟨.hbm, 282, rfl⟩
abbrev main_call1_call0_call0_v7 : Ref sig .tc := ⟨.hbm, 283, rfl⟩
abbrev main_call1_call0_call0_v8 : Ref sig .tc := ⟨.hbm, 284, rfl⟩
abbrev main_call1_call0_call0_c_1 : Ref sig .tc := ⟨.hbm, 285, rfl⟩
abbrev main_call1_call0_call0_v9 : Ref sig .tc := ⟨.hbm, 286, rfl⟩
abbrev main_call1_call0_call0_v10 : Ref sig .tc := ⟨.hbm, 287, rfl⟩
abbrev main_call1_call0_call0_v11 : Ref sig .tc := ⟨.hbm, 288, rfl⟩
abbrev main_call1_call0_call0_v12 : Ref sig .tc := ⟨.hbm, 289, rfl⟩
abbrev main_call1_call0_call0_v13 : Ref sig .tc := ⟨.hbm, 290, rfl⟩
abbrev main_call1_call0_call0_c_2 : Ref sig .tc := ⟨.hbm, 291, rfl⟩
abbrev main_call1_call0_call0_v14 : Ref sig .tc := ⟨.hbm, 292, rfl⟩
abbrev main_call1_call0_call0_v15 : Ref sig .tc := ⟨.hbm, 293, rfl⟩
abbrev main_call1_call0_call0_c_3 : Ref sig .tc := ⟨.hbm, 294, rfl⟩
abbrev main_call1_call0_call0_v16 : Ref sig .tc := ⟨.hbm, 295, rfl⟩
abbrev main_call1_call0_call0_v17 : Ref sig .tc := ⟨.hbm, 296, rfl⟩
abbrev main_call1_call0_call0_v18 : Ref sig .tc := ⟨.hbm, 297, rfl⟩
abbrev main_call1_call0_call0_v19 : Ref sig .tc := ⟨.hbm, 298, rfl⟩
abbrev main_call1_call0_call0_v20 : Ref sig .tc := ⟨.hbm, 299, rfl⟩
abbrev main_call1_call0_call0_c_4 : Ref sig .tc := ⟨.hbm, 300, rfl⟩
abbrev main_call1_call0_call0_v21 : Ref sig .tc := ⟨.hbm, 301, rfl⟩
abbrev main_call1_call0_call0_v22 : Ref sig .tc := ⟨.hbm, 302, rfl⟩
abbrev main_call1_call0_call0_c_5 : Ref sig .tc := ⟨.hbm, 303, rfl⟩
abbrev main_call1_call0_call0_v23 : Ref sig .tc := ⟨.hbm, 304, rfl⟩
abbrev main_call1_call0_call0_v24 : Ref sig .tc := ⟨.hbm, 305, rfl⟩
abbrev main_call1_call0_call0_v25 : Ref sig .tc := ⟨.hbm, 306, rfl⟩
abbrev main_call1_call0_call0_v26 : Ref sig .tc := ⟨.hbm, 307, rfl⟩
abbrev main_call1_call0_call0_v27 : Ref sig .tc := ⟨.hbm, 308, rfl⟩
abbrev main_call1_call0_call0_c_6 : Ref sig .tc := ⟨.hbm, 309, rfl⟩
abbrev main_call1_call0_call0_v28 : Ref sig .tc := ⟨.hbm, 310, rfl⟩
abbrev main_call1_call0_call0_v29 : Ref sig .tc := ⟨.hbm, 311, rfl⟩
abbrev main_call1_call0_call0_c_7 : Ref sig .tc := ⟨.hbm, 312, rfl⟩
abbrev main_call1_call0_call0_v30 : Ref sig .tc := ⟨.hbm, 313, rfl⟩
abbrev main_call1_call0_call0_v31 : Ref sig .tc := ⟨.hbm, 314, rfl⟩
abbrev main_call1_call0_call0_v32 : Ref sig .tc := ⟨.hbm, 315, rfl⟩
abbrev main_call1_call0_call0_v33 : Ref sig .tc := ⟨.hbm, 316, rfl⟩
abbrev main_call1_call0_call0_v34 : Ref sig .tc := ⟨.hbm, 317, rfl⟩
abbrev main_call1_call0_call0_v35 : Ref sig .tc := ⟨.hbm, 318, rfl⟩
abbrev main_call1_call0_call0_v36 : Ref sig .tc := ⟨.hbm, 319, rfl⟩
abbrev main_call1_call0_call0_v37 : Ref sig .tc := ⟨.hbm, 320, rfl⟩
abbrev main_call1_call0_call0_c_8 : Ref sig .tc := ⟨.hbm, 321, rfl⟩
abbrev main_call1_call0_call0_v38 : Ref sig .tc := ⟨.hbm, 322, rfl⟩
abbrev main_call1_call0_call0_v39 : Ref sig .tc := ⟨.hbm, 323, rfl⟩
abbrev main_call1_call0_call0_v40 : Ref sig .tc := ⟨.hbm, 324, rfl⟩
abbrev main_call1_call0_call0_c_9 : Ref sig .tc := ⟨.hbm, 325, rfl⟩
abbrev main_call1_call0_call0_v41 : Ref sig .tc := ⟨.hbm, 326, rfl⟩
abbrev main_call1_call0_call0_v42 : Ref sig .tc := ⟨.hbm, 327, rfl⟩
abbrev main_call1_call0_call0_c_10 : Ref sig .tc := ⟨.hbm, 328, rfl⟩
abbrev main_call1_call0_call0_v43 : Ref sig .tc := ⟨.hbm, 329, rfl⟩
abbrev main_call1_call0_call0_v44 : Ref sig .tc := ⟨.hbm, 330, rfl⟩
abbrev main_call1_call0_call0_v45 : Ref sig .tc := ⟨.hbm, 331, rfl⟩
abbrev main_call1_call0_call0_v46 : Ref sig .tc := ⟨.hbm, 332, rfl⟩
abbrev main_call1_call0_call0_v47 : Ref sig .tc := ⟨.hbm, 333, rfl⟩
abbrev main_call1_call0_call0_c_11 : Ref sig .tc := ⟨.hbm, 334, rfl⟩
abbrev main_call1_call0_call0_v48 : Ref sig .tc := ⟨.hbm, 335, rfl⟩
abbrev main_call1_call0_call0_v49 : Ref sig .tc := ⟨.hbm, 336, rfl⟩
abbrev main_call1_call0_call0_c_12 : Ref sig .tc := ⟨.hbm, 337, rfl⟩
abbrev main_call1_call0_call0_v50 : Ref sig .tc := ⟨.hbm, 338, rfl⟩
abbrev main_call1_call0_call0_v51 : Ref sig .tc := ⟨.hbm, 339, rfl⟩
abbrev main_call1_call0_call0_v52 : Ref sig .tc := ⟨.hbm, 340, rfl⟩
abbrev main_call1_call0_call0_v53 : Ref sig .tc := ⟨.hbm, 341, rfl⟩
abbrev main_call1_call0_call0_v54 : Ref sig .tc := ⟨.hbm, 342, rfl⟩
abbrev main_call1_call0_call0_c_13 : Ref sig .tc := ⟨.hbm, 343, rfl⟩
abbrev main_call1_call0_call0_v55 : Ref sig .tc := ⟨.hbm, 344, rfl⟩
abbrev main_call1_call0_call0_v56 : Ref sig .tc := ⟨.hbm, 345, rfl⟩
abbrev main_call1_call0_call0_c_14 : Ref sig .tc := ⟨.hbm, 346, rfl⟩
abbrev main_call1_call0_call0_v57 : Ref sig .tc := ⟨.hbm, 347, rfl⟩
abbrev main_call1_call0_call0_v58 : Ref sig .tc := ⟨.hbm, 348, rfl⟩
abbrev main_call1_call0_call0_v59 : Ref sig .tc := ⟨.hbm, 349, rfl⟩
abbrev main_call1_call0_call0_v60 : Ref sig .tc := ⟨.hbm, 350, rfl⟩
abbrev main_call1_call0_call0_v61 : Ref sig .tc := ⟨.hbm, 351, rfl⟩
abbrev main_call1_call0_call0_c_15 : Ref sig .tc := ⟨.hbm, 352, rfl⟩
abbrev main_call1_call0_call0_v62 : Ref sig .tc := ⟨.hbm, 353, rfl⟩
abbrev main_call1_call0_call0_v63 : Ref sig .tc := ⟨.hbm, 354, rfl⟩
abbrev main_call1_call0_call0_c_16 : Ref sig .tc := ⟨.hbm, 355, rfl⟩
abbrev main_call1_call0_call0_v64 : Ref sig .tc := ⟨.hbm, 356, rfl⟩
abbrev main_call1_call0_call0_v65 : Ref sig .tc := ⟨.hbm, 357, rfl⟩
abbrev main_call1_call0_call0_v66 : Ref sig .tc := ⟨.hbm, 358, rfl⟩
abbrev main_call1_call0_call0_v67 : Ref sig .tc := ⟨.hbm, 359, rfl⟩
abbrev main_call1_call0_call0_v68 : Ref sig .tc := ⟨.hbm, 360, rfl⟩
abbrev main_call1_call0_call0_v69 : Ref sig .tc := ⟨.hbm, 361, rfl⟩
abbrev main_call1_call0_call0_v70 : Ref sig .tc := ⟨.hbm, 362, rfl⟩
abbrev main_call1_call0_call0_v71 : Ref sig .tc := ⟨.hbm, 363, rfl⟩
abbrev main_call1_call0_call0_c_17 : Ref sig .tc := ⟨.hbm, 364, rfl⟩
abbrev main_call1_call0_call0_v72 : Ref sig .tc := ⟨.hbm, 365, rfl⟩
abbrev main_call1_call0_call0_v73 : Ref sig .tc := ⟨.hbm, 366, rfl⟩
abbrev main_call1_call0_call0_v74 : Ref sig .tc := ⟨.hbm, 367, rfl⟩
abbrev main_call1_call0_call0_c_18 : Ref sig .tc := ⟨.hbm, 368, rfl⟩
abbrev main_call1_call0_call0_v75 : Ref sig .tc := ⟨.hbm, 369, rfl⟩
abbrev main_call1_call0_call0_v76 : Ref sig .tc := ⟨.hbm, 370, rfl⟩
abbrev main_call1_call0_call0_c_19 : Ref sig .tc := ⟨.hbm, 371, rfl⟩
abbrev main_call1_call0_call0_v77 : Ref sig .tc := ⟨.hbm, 372, rfl⟩
abbrev main_call1_call0_call0_v78 : Ref sig .tc := ⟨.hbm, 373, rfl⟩
abbrev main_call1_call0_call0_v79 : Ref sig .tc := ⟨.hbm, 374, rfl⟩
abbrev main_call1_call0_call0_v80 : Ref sig .tc := ⟨.hbm, 375, rfl⟩
abbrev main_call1_call0_call0_v81 : Ref sig .tc := ⟨.hbm, 376, rfl⟩
abbrev main_call1_call0_call0_c_20 : Ref sig .tc := ⟨.hbm, 377, rfl⟩
abbrev main_call1_call0_call0_v82 : Ref sig .tc := ⟨.hbm, 378, rfl⟩
abbrev main_call1_call0_call0_v83 : Ref sig .tc := ⟨.hbm, 379, rfl⟩
abbrev main_call1_call0_call0_c_21 : Ref sig .tc := ⟨.hbm, 380, rfl⟩
abbrev main_call1_call0_call0_v84 : Ref sig .tc := ⟨.hbm, 381, rfl⟩
abbrev main_call1_call0_call0_v85 : Ref sig .tc := ⟨.hbm, 382, rfl⟩
abbrev main_call1_call0_call0_v86 : Ref sig .tc := ⟨.hbm, 383, rfl⟩
abbrev main_call1_call0_call0_v87 : Ref sig .tc := ⟨.hbm, 384, rfl⟩
abbrev main_call1_call0_call0_v88 : Ref sig .tc := ⟨.hbm, 385, rfl⟩
abbrev main_call1_call0_call0_c_22 : Ref sig .tc := ⟨.hbm, 386, rfl⟩
abbrev main_call1_call0_call0_v89 : Ref sig .tc := ⟨.hbm, 387, rfl⟩
abbrev main_call1_call0_call0_v90 : Ref sig .tc := ⟨.hbm, 388, rfl⟩
abbrev main_call1_call0_call0_c_23 : Ref sig .tc := ⟨.hbm, 389, rfl⟩
abbrev main_call1_call0_call0_v91 : Ref sig .tc := ⟨.hbm, 390, rfl⟩
abbrev main_call1_call0_call0_v92 : Ref sig .tc := ⟨.hbm, 391, rfl⟩
abbrev main_call1_call0_call0_v93 : Ref sig .tc := ⟨.hbm, 392, rfl⟩
abbrev main_call1_call0_call0_v94 : Ref sig .tc := ⟨.hbm, 393, rfl⟩
abbrev main_call1_call0_call0_v95 : Ref sig .tc := ⟨.hbm, 394, rfl⟩
abbrev main_call1_call0_call0_c_24 : Ref sig .tc := ⟨.hbm, 395, rfl⟩
abbrev main_call1_call0_call0_v96 : Ref sig .tc := ⟨.hbm, 396, rfl⟩
abbrev main_call1_call0_call0_v97 : Ref sig .tc := ⟨.hbm, 397, rfl⟩
abbrev main_call1_call0_call0_c_25 : Ref sig .tc := ⟨.hbm, 398, rfl⟩
abbrev main_call1_call0_call0_v98 : Ref sig .tc := ⟨.hbm, 399, rfl⟩
abbrev main_call1_call0_call0_v99 : Ref sig .tc := ⟨.hbm, 400, rfl⟩
abbrev main_call1_call0_call0_v100 : Ref sig .tc := ⟨.hbm, 401, rfl⟩
abbrev main_call1_call0_call0_v101 : Ref sig .tc := ⟨.hbm, 402, rfl⟩
abbrev main_call1_call0_call0_v102 : Ref sig .tc := ⟨.hbm, 403, rfl⟩
abbrev main_call1_call0_call0_v103 : Ref sig .tc := ⟨.hbm, 404, rfl⟩
abbrev main_call1_call0_call0_v104 : Ref sig .tc := ⟨.hbm, 405, rfl⟩
abbrev main_call1_call0_call0_v105 : Ref sig .tc := ⟨.hbm, 406, rfl⟩
abbrev main_call1_call0_call0_c_26 : Ref sig .tc := ⟨.hbm, 407, rfl⟩
abbrev main_call1_call0_call0_v106 : Ref sig .tc := ⟨.hbm, 408, rfl⟩
abbrev main_call1_call0_call0_v107 : Ref sig .tc := ⟨.hbm, 409, rfl⟩
abbrev main_call1_call0_call0_v108 : Ref sig .tc := ⟨.hbm, 410, rfl⟩
abbrev main_call1_call0_call0_c_27 : Ref sig .tc := ⟨.hbm, 411, rfl⟩
abbrev main_call1_call0_call0_v109 : Ref sig .tc := ⟨.hbm, 412, rfl⟩
abbrev main_call1_call0_call0_v110 : Ref sig .tc := ⟨.hbm, 413, rfl⟩
abbrev main_call1_call0_call0_c_28 : Ref sig .tc := ⟨.hbm, 414, rfl⟩
abbrev main_call1_call0_call0_v111 : Ref sig .tc := ⟨.hbm, 415, rfl⟩
abbrev main_call1_call0_call0_v112 : Ref sig .tc := ⟨.hbm, 416, rfl⟩
abbrev main_call1_call0_call0_v113 : Ref sig .tc := ⟨.hbm, 417, rfl⟩
abbrev main_call1_call0_call0_v114 : Ref sig .tc := ⟨.hbm, 418, rfl⟩
abbrev main_call1_call0_call0_v115 : Ref sig .tc := ⟨.hbm, 419, rfl⟩
abbrev main_call1_call0_call0_c_29 : Ref sig .tc := ⟨.hbm, 420, rfl⟩
abbrev main_call1_call0_call0_v116 : Ref sig .tc := ⟨.hbm, 421, rfl⟩
abbrev main_call1_call0_call0_v117 : Ref sig .tc := ⟨.hbm, 422, rfl⟩
abbrev main_call1_call0_call0_c_30 : Ref sig .tc := ⟨.hbm, 423, rfl⟩
abbrev main_call1_call0_call0_v118 : Ref sig .tc := ⟨.hbm, 424, rfl⟩
abbrev main_call1_call0_call0_v119 : Ref sig .tc := ⟨.hbm, 425, rfl⟩
abbrev main_call1_call0_call0_v120 : Ref sig .tc := ⟨.hbm, 426, rfl⟩
abbrev main_call1_call0_call0_v121 : Ref sig .tc := ⟨.hbm, 427, rfl⟩
abbrev main_call1_call0_call0_v122 : Ref sig .tc := ⟨.hbm, 428, rfl⟩
abbrev main_call1_call0_call0_c_31 : Ref sig .tc := ⟨.hbm, 429, rfl⟩
abbrev main_call1_call0_call0_v123 : Ref sig .tc := ⟨.hbm, 430, rfl⟩
abbrev main_call1_call0_call0_v124 : Ref sig .tc := ⟨.hbm, 431, rfl⟩
abbrev main_call1_call0_call0_c_32 : Ref sig .tc := ⟨.hbm, 432, rfl⟩
abbrev main_call1_call0_call0_v125 : Ref sig .tc := ⟨.hbm, 433, rfl⟩
abbrev main_call1_call0_call0_v126 : Ref sig .tc := ⟨.hbm, 434, rfl⟩
abbrev main_call1_call0_call0_v127 : Ref sig .tc := ⟨.hbm, 435, rfl⟩
abbrev main_call1_call0_call0_v128 : Ref sig .tc := ⟨.hbm, 436, rfl⟩
abbrev main_call1_call0_call0_v129 : Ref sig .tc := ⟨.hbm, 437, rfl⟩
abbrev main_call1_call0_call0_c_33 : Ref sig .tc := ⟨.hbm, 438, rfl⟩
abbrev main_call1_call0_call0_v130 : Ref sig .tc := ⟨.hbm, 439, rfl⟩
abbrev main_call1_call0_call0_v131 : Ref sig .tc := ⟨.hbm, 440, rfl⟩
abbrev main_call1_call0_call0_c_34 : Ref sig .tc := ⟨.hbm, 441, rfl⟩
abbrev main_call1_call0_call0_v132 : Ref sig .tc := ⟨.hbm, 442, rfl⟩
abbrev main_call1_call0_call0_v133 : Ref sig .tc := ⟨.hbm, 443, rfl⟩
abbrev main_call1_call0_call0_v134 : Ref sig .tc := ⟨.hbm, 444, rfl⟩
abbrev main_call1_call0_call0_v135 : Ref sig .tc := ⟨.hbm, 445, rfl⟩
abbrev main_call1_call0_call0_v136 : Ref sig .tc := ⟨.hbm, 446, rfl⟩
abbrev main_call1_call0_call0_v137 : Ref sig .tc := ⟨.hbm, 447, rfl⟩
abbrev main_call1_call0_call0_v138 : Ref sig .tc := ⟨.hbm, 448, rfl⟩
abbrev main_call1_call0_call0_v139 : Ref sig .tc := ⟨.hbm, 449, rfl⟩
abbrev main_call1_call0_call0_c_35 : Ref sig .tc := ⟨.hbm, 450, rfl⟩
abbrev main_call1_call0_call0_v140 : Ref sig .tc := ⟨.hbm, 451, rfl⟩
abbrev main_call1_call0_call0_v141 : Ref sig .tc := ⟨.hbm, 452, rfl⟩
abbrev main_call1_call0_call0_v142 : Ref sig .tc := ⟨.hbm, 453, rfl⟩
abbrev main_call1_call0_call0_c_36 : Ref sig .tc := ⟨.hbm, 454, rfl⟩
abbrev main_call1_call0_call0_v143 : Ref sig .tc := ⟨.hbm, 455, rfl⟩
abbrev main_call1_call0_call0_v144 : Ref sig .tc := ⟨.hbm, 456, rfl⟩
abbrev main_call1_call0_call0_c_37 : Ref sig .tc := ⟨.hbm, 457, rfl⟩
abbrev main_call1_call0_call0_v145 : Ref sig .tc := ⟨.hbm, 458, rfl⟩
abbrev main_call1_call0_call0_v146 : Ref sig .tc := ⟨.hbm, 459, rfl⟩
abbrev main_call1_call0_call0_v147 : Ref sig .tc := ⟨.hbm, 460, rfl⟩
abbrev main_call1_call0_call0_v148 : Ref sig .tc := ⟨.hbm, 461, rfl⟩
abbrev main_call1_call0_call0_v149 : Ref sig .tc := ⟨.hbm, 462, rfl⟩
abbrev main_call1_call0_call0_c_38 : Ref sig .tc := ⟨.hbm, 463, rfl⟩
abbrev main_call1_call0_call0_v150 : Ref sig .tc := ⟨.hbm, 464, rfl⟩
abbrev main_call1_call0_call0_v151 : Ref sig .tc := ⟨.hbm, 465, rfl⟩
abbrev main_call1_call0_call0_c_39 : Ref sig .tc := ⟨.hbm, 466, rfl⟩
abbrev main_call1_call0_call0_v152 : Ref sig .tc := ⟨.hbm, 467, rfl⟩
abbrev main_call1_call0_call0_v153 : Ref sig .tc := ⟨.hbm, 468, rfl⟩
abbrev main_call1_call0_call0_v154 : Ref sig .tc := ⟨.hbm, 469, rfl⟩
abbrev main_call1_call0_call0_v155 : Ref sig .tc := ⟨.hbm, 470, rfl⟩
abbrev main_call1_call0_call0_v156 : Ref sig .tc := ⟨.hbm, 471, rfl⟩
abbrev main_call1_call0_call0_c_40 : Ref sig .tc := ⟨.hbm, 472, rfl⟩
abbrev main_call1_call0_call0_v157 : Ref sig .tc := ⟨.hbm, 473, rfl⟩
abbrev main_call1_call0_call0_v158 : Ref sig .tc := ⟨.hbm, 474, rfl⟩
abbrev main_call1_call0_call0_c_41 : Ref sig .tc := ⟨.hbm, 475, rfl⟩
abbrev main_call1_call0_call0_v159 : Ref sig .tc := ⟨.hbm, 476, rfl⟩
abbrev main_call1_call0_call0_v160 : Ref sig .tc := ⟨.hbm, 477, rfl⟩
abbrev main_call1_call0_call0_v161 : Ref sig .tc := ⟨.hbm, 478, rfl⟩
abbrev main_call1_call0_call0_v162 : Ref sig .tc := ⟨.hbm, 479, rfl⟩
abbrev main_call1_call0_call0_v163 : Ref sig .tc := ⟨.hbm, 480, rfl⟩
abbrev main_call1_call0_call0_c_42 : Ref sig .tc := ⟨.hbm, 481, rfl⟩
abbrev main_call1_call0_call0_v164 : Ref sig .tc := ⟨.hbm, 482, rfl⟩
abbrev main_call1_call0_call0_v165 : Ref sig .tc := ⟨.hbm, 483, rfl⟩
abbrev main_call1_call0_call0_c_43 : Ref sig .tc := ⟨.hbm, 484, rfl⟩
abbrev main_call1_call0_call0_v166 : Ref sig .tc := ⟨.hbm, 485, rfl⟩
abbrev main_call1_call0_call0_v167 : Ref sig .tc := ⟨.hbm, 486, rfl⟩
abbrev main_call1_call0_call0_v168 : Ref sig .tc := ⟨.hbm, 487, rfl⟩
abbrev main_call1_call0_call0_v169 : Ref sig .tc := ⟨.hbm, 488, rfl⟩
abbrev main_call1_call0_call0_v170 : Ref sig .tc := ⟨.hbm, 489, rfl⟩
abbrev main_call1_call0_v18_0 : Ref sig .tc := ⟨.hbm, 490, rfl⟩
abbrev main_call1_call0_call0_v172 : Ref sig .tc := ⟨.hbm, 491, rfl⟩
abbrev main_call1_call0_call0_v173 : Ref sig .tc := ⟨.hbm, 492, rfl⟩
abbrev main_call1_call0_call0_c_44 : Ref sig .tc := ⟨.hbm, 493, rfl⟩
abbrev main_call1_call0_call0_v174 : Ref sig .tc := ⟨.hbm, 494, rfl⟩
abbrev main_call1_call0_v18_1 : Ref sig .tc := ⟨.hbm, 495, rfl⟩
abbrev main_call1_call0_v19 : Ref sig .tc := ⟨.hbm, 496, rfl⟩
abbrev main_call1_call0_c_2 : Ref sig .tc := ⟨.hbm, 497, rfl⟩
abbrev main_call1_call0_v20 : Ref sig .tc := ⟨.hbm, 498, rfl⟩
abbrev main_call1_call0_v21 : Ref sig .tc := ⟨.hbm, 499, rfl⟩
abbrev main_call1_call0_c_3 : Ref sig .tc := ⟨.hbm, 500, rfl⟩
abbrev main_call1_call0_v22 : Ref sig .tc := ⟨.hbm, 501, rfl⟩
abbrev main_call1_call0_v23 : Ref sig .tc := ⟨.hbm, 502, rfl⟩
abbrev main_call1_call0_v24 : Ref sig .tc := ⟨.hbm, 503, rfl⟩
abbrev main_call1_call0_cst : Ref sig .tc := ⟨.hbm, 504, rfl⟩
abbrev main_call1_call0_v25 : Ref sig .tc := ⟨.hbm, 505, rfl⟩
abbrev main_call1_call0_v26 : Ref sig .tc := ⟨.hbm, 506, rfl⟩
abbrev main_call1_call0_v27 : Ref sig .tc := ⟨.hbm, 507, rfl⟩
abbrev main_call1_call0_v28 : Ref sig .tc := ⟨.hbm, 508, rfl⟩
abbrev main_call1_call0_v29 : Ref sig .tc := ⟨.hbm, 509, rfl⟩
abbrev main_call1_call0_v30 : Ref sig .tc := ⟨.hbm, 510, rfl⟩
abbrev main_call1_call0_v31 : Ref sig .tc := ⟨.hbm, 511, rfl⟩
abbrev main_call1_call0_v32 : Ref sig .tc := ⟨.hbm, 512, rfl⟩
abbrev main_call1_v0 : Ref sig .tc := ⟨.hbm, 513, rfl⟩
abbrev main_call1_v1 : Ref sig .tc := ⟨.hbm, 514, rfl⟩
abbrev main_call1_v2 : Ref sig .tc := ⟨.hbm, 515, rfl⟩
abbrev main_call1_v3 : Ref sig .tc := ⟨.hbm, 516, rfl⟩
abbrev main_v9 : Ref sig .tc := ⟨.hbm, 517, rfl⟩
abbrev main_c_3 : Ref sig .tc := ⟨.hbm, 518, rfl⟩
abbrev main_call2_c : Ref sig .tc := ⟨.hbm, 519, rfl⟩
abbrev main_call2_v0 : Ref sig .tc := ⟨.hbm, 520, rfl⟩
abbrev main_call2_v1 : Ref sig .tc := ⟨.hbm, 521, rfl⟩
abbrev main_call2_c_0 : Ref sig .tc := ⟨.hbm, 522, rfl⟩
abbrev main_call2_v2 : Ref sig .tc := ⟨.hbm, 523, rfl⟩
abbrev main_call2_v3 : Ref sig .tc := ⟨.hbm, 524, rfl⟩
abbrev main_call2_v4 : Ref sig .tc := ⟨.hbm, 525, rfl⟩
abbrev main_call2_v5 : Ref sig .tc := ⟨.hbm, 526, rfl⟩
abbrev main_call2_v6 : Ref sig .tc := ⟨.hbm, 527, rfl⟩
abbrev main_call2_v7 : Ref sig .tc := ⟨.hbm, 528, rfl⟩
abbrev main_call2_v8 : Ref sig .tc := ⟨.hbm, 529, rfl⟩
abbrev main_call2_v9 : Ref sig .tc := ⟨.hbm, 530, rfl⟩
abbrev main_call2_v10 : Ref sig .tc := ⟨.hbm, 531, rfl⟩
abbrev main_call2_call0_v0 : Ref sig .tc := ⟨.hbm, 532, rfl⟩
abbrev main_call2_call0_c : Ref sig .tc := ⟨.hbm, 533, rfl⟩
abbrev main_call2_call0_v1 : Ref sig .tc := ⟨.hbm, 534, rfl⟩
abbrev main_call2_call0_v2 : Ref sig .tc := ⟨.hbm, 535, rfl⟩
abbrev main_call2_call0_v3 : Ref sig .tc := ⟨.hbm, 536, rfl⟩
abbrev main_call2_call0_v4 : Ref sig .tc := ⟨.hbm, 537, rfl⟩
abbrev main_call2_call0_v5 : Ref sig .tc := ⟨.hbm, 538, rfl⟩
abbrev main_call2_call0_v6 : Ref sig .tc := ⟨.hbm, 539, rfl⟩
abbrev main_call2_call0_c_0 : Ref sig .tc := ⟨.hbm, 540, rfl⟩
abbrev main_call2_call0_v7 : Ref sig .tc := ⟨.hbm, 541, rfl⟩
abbrev main_call2_call0_v8 : Ref sig .tc := ⟨.hbm, 542, rfl⟩
abbrev main_call2_call0_c_1 : Ref sig .tc := ⟨.hbm, 543, rfl⟩
abbrev main_call2_call0_v9 : Ref sig .tc := ⟨.hbm, 544, rfl⟩
abbrev main_call2_call0_v10 : Ref sig .tc := ⟨.hbm, 545, rfl⟩
abbrev main_call2_call0_v11 : Ref sig .tc := ⟨.hbm, 546, rfl⟩
abbrev main_call2_call0_v12 : Ref sig .tc := ⟨.hbm, 547, rfl⟩
abbrev main_call2_call0_v13 : Ref sig .tc := ⟨.hbm, 548, rfl⟩
abbrev main_call2_call0_c_2 : Ref sig .tc := ⟨.hbm, 549, rfl⟩
abbrev main_call2_call0_v14 : Ref sig .tc := ⟨.hbm, 550, rfl⟩
abbrev main_call2_call0_v15 : Ref sig .tc := ⟨.hbm, 551, rfl⟩
abbrev main_call2_call0_c_3 : Ref sig .tc := ⟨.hbm, 552, rfl⟩
abbrev main_call2_call0_v16 : Ref sig .tc := ⟨.hbm, 553, rfl⟩
abbrev main_call2_call0_v17 : Ref sig .tc := ⟨.hbm, 554, rfl⟩
abbrev main_call2_call0_v18 : Ref sig .tc := ⟨.hbm, 555, rfl⟩
abbrev main_call2_call0_v19 : Ref sig .tc := ⟨.hbm, 556, rfl⟩
abbrev main_call2_call0_v20 : Ref sig .tc := ⟨.hbm, 557, rfl⟩
abbrev main_call2_call0_c_4 : Ref sig .tc := ⟨.hbm, 558, rfl⟩
abbrev main_call2_call0_v21 : Ref sig .tc := ⟨.hbm, 559, rfl⟩
abbrev main_call2_call0_v22 : Ref sig .tc := ⟨.hbm, 560, rfl⟩
abbrev main_call2_call0_c_5 : Ref sig .tc := ⟨.hbm, 561, rfl⟩
abbrev main_call2_call0_v23 : Ref sig .tc := ⟨.hbm, 562, rfl⟩
abbrev main_call2_call0_v24 : Ref sig .tc := ⟨.hbm, 563, rfl⟩
abbrev main_call2_call0_v25 : Ref sig .tc := ⟨.hbm, 564, rfl⟩
abbrev main_call2_call0_v26 : Ref sig .tc := ⟨.hbm, 565, rfl⟩
abbrev main_call2_call0_v27 : Ref sig .tc := ⟨.hbm, 566, rfl⟩
abbrev main_call2_call0_c_6 : Ref sig .tc := ⟨.hbm, 567, rfl⟩
abbrev main_call2_call0_v28 : Ref sig .tc := ⟨.hbm, 568, rfl⟩
abbrev main_call2_call0_v29 : Ref sig .tc := ⟨.hbm, 569, rfl⟩
abbrev main_call2_call0_c_7 : Ref sig .tc := ⟨.hbm, 570, rfl⟩
abbrev main_call2_call0_v30 : Ref sig .tc := ⟨.hbm, 571, rfl⟩
abbrev main_call2_call0_v31 : Ref sig .tc := ⟨.hbm, 572, rfl⟩
abbrev main_call2_call0_v32 : Ref sig .tc := ⟨.hbm, 573, rfl⟩
abbrev main_call2_call0_v33 : Ref sig .tc := ⟨.hbm, 574, rfl⟩
abbrev main_call2_call0_v34 : Ref sig .tc := ⟨.hbm, 575, rfl⟩
abbrev main_call2_call0_v35 : Ref sig .tc := ⟨.hbm, 576, rfl⟩
abbrev main_call2_call0_v36 : Ref sig .tc := ⟨.hbm, 577, rfl⟩
abbrev main_call2_call0_v37 : Ref sig .tc := ⟨.hbm, 578, rfl⟩
abbrev main_call2_call0_c_8 : Ref sig .tc := ⟨.hbm, 579, rfl⟩
abbrev main_call2_call0_v38 : Ref sig .tc := ⟨.hbm, 580, rfl⟩
abbrev main_call2_call0_v39 : Ref sig .tc := ⟨.hbm, 581, rfl⟩
abbrev main_call2_call0_v40 : Ref sig .tc := ⟨.hbm, 582, rfl⟩
abbrev main_call2_call0_c_9 : Ref sig .tc := ⟨.hbm, 583, rfl⟩
abbrev main_call2_call0_v41 : Ref sig .tc := ⟨.hbm, 584, rfl⟩
abbrev main_call2_call0_v42 : Ref sig .tc := ⟨.hbm, 585, rfl⟩
abbrev main_call2_call0_c_10 : Ref sig .tc := ⟨.hbm, 586, rfl⟩
abbrev main_call2_call0_v43 : Ref sig .tc := ⟨.hbm, 587, rfl⟩
abbrev main_call2_call0_v44 : Ref sig .tc := ⟨.hbm, 588, rfl⟩
abbrev main_call2_call0_v45 : Ref sig .tc := ⟨.hbm, 589, rfl⟩
abbrev main_call2_call0_v46 : Ref sig .tc := ⟨.hbm, 590, rfl⟩
abbrev main_call2_call0_v47 : Ref sig .tc := ⟨.hbm, 591, rfl⟩
abbrev main_call2_call0_c_11 : Ref sig .tc := ⟨.hbm, 592, rfl⟩
abbrev main_call2_call0_v48 : Ref sig .tc := ⟨.hbm, 593, rfl⟩
abbrev main_call2_call0_v49 : Ref sig .tc := ⟨.hbm, 594, rfl⟩
abbrev main_call2_call0_c_12 : Ref sig .tc := ⟨.hbm, 595, rfl⟩
abbrev main_call2_call0_v50 : Ref sig .tc := ⟨.hbm, 596, rfl⟩
abbrev main_call2_call0_v51 : Ref sig .tc := ⟨.hbm, 597, rfl⟩
abbrev main_call2_call0_v52 : Ref sig .tc := ⟨.hbm, 598, rfl⟩
abbrev main_call2_call0_v53 : Ref sig .tc := ⟨.hbm, 599, rfl⟩
abbrev main_call2_call0_v54 : Ref sig .tc := ⟨.hbm, 600, rfl⟩
abbrev main_call2_call0_c_13 : Ref sig .tc := ⟨.hbm, 601, rfl⟩
abbrev main_call2_call0_v55 : Ref sig .tc := ⟨.hbm, 602, rfl⟩
abbrev main_call2_call0_v56 : Ref sig .tc := ⟨.hbm, 603, rfl⟩
abbrev main_call2_call0_c_14 : Ref sig .tc := ⟨.hbm, 604, rfl⟩
abbrev main_call2_call0_v57 : Ref sig .tc := ⟨.hbm, 605, rfl⟩
abbrev main_call2_call0_v58 : Ref sig .tc := ⟨.hbm, 606, rfl⟩
abbrev main_call2_call0_v59 : Ref sig .tc := ⟨.hbm, 607, rfl⟩
abbrev main_call2_call0_v60 : Ref sig .tc := ⟨.hbm, 608, rfl⟩
abbrev main_call2_call0_v61 : Ref sig .tc := ⟨.hbm, 609, rfl⟩
abbrev main_call2_call0_c_15 : Ref sig .tc := ⟨.hbm, 610, rfl⟩
abbrev main_call2_call0_v62 : Ref sig .tc := ⟨.hbm, 611, rfl⟩
abbrev main_call2_call0_v63 : Ref sig .tc := ⟨.hbm, 612, rfl⟩
abbrev main_call2_call0_c_16 : Ref sig .tc := ⟨.hbm, 613, rfl⟩
abbrev main_call2_call0_v64 : Ref sig .tc := ⟨.hbm, 614, rfl⟩
abbrev main_call2_call0_v65 : Ref sig .tc := ⟨.hbm, 615, rfl⟩
abbrev main_call2_call0_v66 : Ref sig .tc := ⟨.hbm, 616, rfl⟩
abbrev main_call2_call0_v67 : Ref sig .tc := ⟨.hbm, 617, rfl⟩
abbrev main_call2_call0_v68 : Ref sig .tc := ⟨.hbm, 618, rfl⟩
abbrev main_call2_call0_v69 : Ref sig .tc := ⟨.hbm, 619, rfl⟩
abbrev main_call2_call0_v70 : Ref sig .tc := ⟨.hbm, 620, rfl⟩
abbrev main_call2_call0_v71 : Ref sig .tc := ⟨.hbm, 621, rfl⟩
abbrev main_call2_call0_c_17 : Ref sig .tc := ⟨.hbm, 622, rfl⟩
abbrev main_call2_call0_v72 : Ref sig .tc := ⟨.hbm, 623, rfl⟩
abbrev main_call2_call0_v73 : Ref sig .tc := ⟨.hbm, 624, rfl⟩
abbrev main_call2_call0_v74 : Ref sig .tc := ⟨.hbm, 625, rfl⟩
abbrev main_call2_call0_c_18 : Ref sig .tc := ⟨.hbm, 626, rfl⟩
abbrev main_call2_call0_v75 : Ref sig .tc := ⟨.hbm, 627, rfl⟩
abbrev main_call2_call0_v76 : Ref sig .tc := ⟨.hbm, 628, rfl⟩
abbrev main_call2_call0_c_19 : Ref sig .tc := ⟨.hbm, 629, rfl⟩
abbrev main_call2_call0_v77 : Ref sig .tc := ⟨.hbm, 630, rfl⟩
abbrev main_call2_call0_v78 : Ref sig .tc := ⟨.hbm, 631, rfl⟩
abbrev main_call2_call0_v79 : Ref sig .tc := ⟨.hbm, 632, rfl⟩
abbrev main_call2_call0_v80 : Ref sig .tc := ⟨.hbm, 633, rfl⟩
abbrev main_call2_call0_v81 : Ref sig .tc := ⟨.hbm, 634, rfl⟩
abbrev main_call2_call0_c_20 : Ref sig .tc := ⟨.hbm, 635, rfl⟩
abbrev main_call2_call0_v82 : Ref sig .tc := ⟨.hbm, 636, rfl⟩
abbrev main_call2_call0_v83 : Ref sig .tc := ⟨.hbm, 637, rfl⟩
abbrev main_call2_call0_c_21 : Ref sig .tc := ⟨.hbm, 638, rfl⟩
abbrev main_call2_call0_v84 : Ref sig .tc := ⟨.hbm, 639, rfl⟩
abbrev main_call2_call0_v85 : Ref sig .tc := ⟨.hbm, 640, rfl⟩
abbrev main_call2_call0_v86 : Ref sig .tc := ⟨.hbm, 641, rfl⟩
abbrev main_call2_call0_v87 : Ref sig .tc := ⟨.hbm, 642, rfl⟩
abbrev main_call2_call0_v88 : Ref sig .tc := ⟨.hbm, 643, rfl⟩
abbrev main_call2_call0_c_22 : Ref sig .tc := ⟨.hbm, 644, rfl⟩
abbrev main_call2_call0_v89 : Ref sig .tc := ⟨.hbm, 645, rfl⟩
abbrev main_call2_call0_v90 : Ref sig .tc := ⟨.hbm, 646, rfl⟩
abbrev main_call2_call0_c_23 : Ref sig .tc := ⟨.hbm, 647, rfl⟩
abbrev main_call2_call0_v91 : Ref sig .tc := ⟨.hbm, 648, rfl⟩
abbrev main_call2_call0_v92 : Ref sig .tc := ⟨.hbm, 649, rfl⟩
abbrev main_call2_call0_v93 : Ref sig .tc := ⟨.hbm, 650, rfl⟩
abbrev main_call2_call0_v94 : Ref sig .tc := ⟨.hbm, 651, rfl⟩
abbrev main_call2_call0_v95 : Ref sig .tc := ⟨.hbm, 652, rfl⟩
abbrev main_call2_call0_c_24 : Ref sig .tc := ⟨.hbm, 653, rfl⟩
abbrev main_call2_call0_v96 : Ref sig .tc := ⟨.hbm, 654, rfl⟩
abbrev main_call2_call0_v97 : Ref sig .tc := ⟨.hbm, 655, rfl⟩
abbrev main_call2_call0_c_25 : Ref sig .tc := ⟨.hbm, 656, rfl⟩
abbrev main_call2_call0_v98 : Ref sig .tc := ⟨.hbm, 657, rfl⟩
abbrev main_call2_call0_v99 : Ref sig .tc := ⟨.hbm, 658, rfl⟩
abbrev main_call2_call0_v100 : Ref sig .tc := ⟨.hbm, 659, rfl⟩
abbrev main_call2_call0_v101 : Ref sig .tc := ⟨.hbm, 660, rfl⟩
abbrev main_call2_call0_v102 : Ref sig .tc := ⟨.hbm, 661, rfl⟩
abbrev main_call2_call0_v103 : Ref sig .tc := ⟨.hbm, 662, rfl⟩
abbrev main_call2_call0_v104 : Ref sig .tc := ⟨.hbm, 663, rfl⟩
abbrev main_call2_call0_v105 : Ref sig .tc := ⟨.hbm, 664, rfl⟩
abbrev main_call2_call0_c_26 : Ref sig .tc := ⟨.hbm, 665, rfl⟩
abbrev main_call2_call0_v106 : Ref sig .tc := ⟨.hbm, 666, rfl⟩
abbrev main_call2_call0_v107 : Ref sig .tc := ⟨.hbm, 667, rfl⟩
abbrev main_call2_call0_v108 : Ref sig .tc := ⟨.hbm, 668, rfl⟩
abbrev main_call2_call0_c_27 : Ref sig .tc := ⟨.hbm, 669, rfl⟩
abbrev main_call2_call0_v109 : Ref sig .tc := ⟨.hbm, 670, rfl⟩
abbrev main_call2_call0_v110 : Ref sig .tc := ⟨.hbm, 671, rfl⟩
abbrev main_call2_call0_c_28 : Ref sig .tc := ⟨.hbm, 672, rfl⟩
abbrev main_call2_call0_v111 : Ref sig .tc := ⟨.hbm, 673, rfl⟩
abbrev main_call2_call0_v112 : Ref sig .tc := ⟨.hbm, 674, rfl⟩
abbrev main_call2_call0_v113 : Ref sig .tc := ⟨.hbm, 675, rfl⟩
abbrev main_call2_call0_v114 : Ref sig .tc := ⟨.hbm, 676, rfl⟩
abbrev main_call2_call0_v115 : Ref sig .tc := ⟨.hbm, 677, rfl⟩
abbrev main_call2_call0_c_29 : Ref sig .tc := ⟨.hbm, 678, rfl⟩
abbrev main_call2_call0_v116 : Ref sig .tc := ⟨.hbm, 679, rfl⟩
abbrev main_call2_call0_v117 : Ref sig .tc := ⟨.hbm, 680, rfl⟩
abbrev main_call2_call0_c_30 : Ref sig .tc := ⟨.hbm, 681, rfl⟩
abbrev main_call2_call0_v118 : Ref sig .tc := ⟨.hbm, 682, rfl⟩
abbrev main_call2_call0_v119 : Ref sig .tc := ⟨.hbm, 683, rfl⟩
abbrev main_call2_call0_v120 : Ref sig .tc := ⟨.hbm, 684, rfl⟩
abbrev main_call2_call0_v121 : Ref sig .tc := ⟨.hbm, 685, rfl⟩
abbrev main_call2_call0_v122 : Ref sig .tc := ⟨.hbm, 686, rfl⟩
abbrev main_call2_call0_c_31 : Ref sig .tc := ⟨.hbm, 687, rfl⟩
abbrev main_call2_call0_v123 : Ref sig .tc := ⟨.hbm, 688, rfl⟩
abbrev main_call2_call0_v124 : Ref sig .tc := ⟨.hbm, 689, rfl⟩
abbrev main_call2_call0_c_32 : Ref sig .tc := ⟨.hbm, 690, rfl⟩
abbrev main_call2_call0_v125 : Ref sig .tc := ⟨.hbm, 691, rfl⟩
abbrev main_call2_call0_v126 : Ref sig .tc := ⟨.hbm, 692, rfl⟩
abbrev main_call2_call0_v127 : Ref sig .tc := ⟨.hbm, 693, rfl⟩
abbrev main_call2_call0_v128 : Ref sig .tc := ⟨.hbm, 694, rfl⟩
abbrev main_call2_call0_v129 : Ref sig .tc := ⟨.hbm, 695, rfl⟩
abbrev main_call2_call0_c_33 : Ref sig .tc := ⟨.hbm, 696, rfl⟩
abbrev main_call2_call0_v130 : Ref sig .tc := ⟨.hbm, 697, rfl⟩
abbrev main_call2_call0_v131 : Ref sig .tc := ⟨.hbm, 698, rfl⟩
abbrev main_call2_call0_c_34 : Ref sig .tc := ⟨.hbm, 699, rfl⟩
abbrev main_call2_call0_v132 : Ref sig .tc := ⟨.hbm, 700, rfl⟩
abbrev main_call2_call0_v133 : Ref sig .tc := ⟨.hbm, 701, rfl⟩
abbrev main_call2_call0_v134 : Ref sig .tc := ⟨.hbm, 702, rfl⟩
abbrev main_call2_call0_v135 : Ref sig .tc := ⟨.hbm, 703, rfl⟩
abbrev main_call2_call0_v136 : Ref sig .tc := ⟨.hbm, 704, rfl⟩
abbrev main_call2_call0_v137 : Ref sig .tc := ⟨.hbm, 705, rfl⟩
abbrev main_call2_call0_v138 : Ref sig .tc := ⟨.hbm, 706, rfl⟩
abbrev main_call2_call0_v139 : Ref sig .tc := ⟨.hbm, 707, rfl⟩
abbrev main_call2_call0_c_35 : Ref sig .tc := ⟨.hbm, 708, rfl⟩
abbrev main_call2_call0_v140 : Ref sig .tc := ⟨.hbm, 709, rfl⟩
abbrev main_call2_call0_v141 : Ref sig .tc := ⟨.hbm, 710, rfl⟩
abbrev main_call2_call0_v142 : Ref sig .tc := ⟨.hbm, 711, rfl⟩
abbrev main_call2_call0_c_36 : Ref sig .tc := ⟨.hbm, 712, rfl⟩
abbrev main_call2_call0_v143 : Ref sig .tc := ⟨.hbm, 713, rfl⟩
abbrev main_call2_call0_v144 : Ref sig .tc := ⟨.hbm, 714, rfl⟩
abbrev main_call2_call0_c_37 : Ref sig .tc := ⟨.hbm, 715, rfl⟩
abbrev main_call2_call0_v145 : Ref sig .tc := ⟨.hbm, 716, rfl⟩
abbrev main_call2_call0_v146 : Ref sig .tc := ⟨.hbm, 717, rfl⟩
abbrev main_call2_call0_v147 : Ref sig .tc := ⟨.hbm, 718, rfl⟩
abbrev main_call2_call0_v148 : Ref sig .tc := ⟨.hbm, 719, rfl⟩
abbrev main_call2_call0_v149 : Ref sig .tc := ⟨.hbm, 720, rfl⟩
abbrev main_call2_call0_c_38 : Ref sig .tc := ⟨.hbm, 721, rfl⟩
abbrev main_call2_call0_v150 : Ref sig .tc := ⟨.hbm, 722, rfl⟩
abbrev main_call2_call0_v151 : Ref sig .tc := ⟨.hbm, 723, rfl⟩
abbrev main_call2_call0_c_39 : Ref sig .tc := ⟨.hbm, 724, rfl⟩
abbrev main_call2_call0_v152 : Ref sig .tc := ⟨.hbm, 725, rfl⟩
abbrev main_call2_call0_v153 : Ref sig .tc := ⟨.hbm, 726, rfl⟩
abbrev main_call2_call0_v154 : Ref sig .tc := ⟨.hbm, 727, rfl⟩
abbrev main_call2_call0_v155 : Ref sig .tc := ⟨.hbm, 728, rfl⟩
abbrev main_call2_call0_v156 : Ref sig .tc := ⟨.hbm, 729, rfl⟩
abbrev main_call2_call0_c_40 : Ref sig .tc := ⟨.hbm, 730, rfl⟩
abbrev main_call2_call0_v157 : Ref sig .tc := ⟨.hbm, 731, rfl⟩
abbrev main_call2_call0_v158 : Ref sig .tc := ⟨.hbm, 732, rfl⟩
abbrev main_call2_call0_c_41 : Ref sig .tc := ⟨.hbm, 733, rfl⟩
abbrev main_call2_call0_v159 : Ref sig .tc := ⟨.hbm, 734, rfl⟩
abbrev main_call2_call0_v160 : Ref sig .tc := ⟨.hbm, 735, rfl⟩
abbrev main_call2_call0_v161 : Ref sig .tc := ⟨.hbm, 736, rfl⟩
abbrev main_call2_call0_v162 : Ref sig .tc := ⟨.hbm, 737, rfl⟩
abbrev main_call2_call0_v163 : Ref sig .tc := ⟨.hbm, 738, rfl⟩
abbrev main_call2_call0_c_42 : Ref sig .tc := ⟨.hbm, 739, rfl⟩
abbrev main_call2_call0_v164 : Ref sig .tc := ⟨.hbm, 740, rfl⟩
abbrev main_call2_call0_v165 : Ref sig .tc := ⟨.hbm, 741, rfl⟩
abbrev main_call2_call0_c_43 : Ref sig .tc := ⟨.hbm, 742, rfl⟩
abbrev main_call2_call0_v166 : Ref sig .tc := ⟨.hbm, 743, rfl⟩
abbrev main_call2_call0_v167 : Ref sig .tc := ⟨.hbm, 744, rfl⟩
abbrev main_call2_call0_v168 : Ref sig .tc := ⟨.hbm, 745, rfl⟩
abbrev main_call2_call0_v169 : Ref sig .tc := ⟨.hbm, 746, rfl⟩
abbrev main_call2_call0_v170 : Ref sig .tc := ⟨.hbm, 747, rfl⟩
abbrev main_call2_v11_0 : Ref sig .tc := ⟨.hbm, 748, rfl⟩
abbrev main_call2_call0_v172 : Ref sig .tc := ⟨.hbm, 749, rfl⟩
abbrev main_call2_call0_v173 : Ref sig .tc := ⟨.hbm, 750, rfl⟩
abbrev main_call2_call0_c_44 : Ref sig .tc := ⟨.hbm, 751, rfl⟩
abbrev main_call2_call0_v174 : Ref sig .tc := ⟨.hbm, 752, rfl⟩
abbrev main_call2_v11_1 : Ref sig .tc := ⟨.hbm, 753, rfl⟩
abbrev main_v10 : Ref sig .tc := ⟨.hbm, 754, rfl⟩
abbrev main_call3_cst : Ref sig .tc := ⟨.hbm, 755, rfl⟩
abbrev main_call3_cst_0 : Ref sig .tc := ⟨.hbm, 756, rfl⟩
abbrev main_call3_call0_v0 : Ref sig .tc := ⟨.hbm, 757, rfl⟩
abbrev main_call3_call0_v1 : Ref sig .tc := ⟨.hbm, 758, rfl⟩
abbrev main_call3_call0_v2 : Ref sig .tc := ⟨.hbm, 759, rfl⟩
abbrev main_call3_call0_v3 : Ref sig .tc := ⟨.hbm, 760, rfl⟩
abbrev main_call3_call0_v4 : Ref sig .tc := ⟨.hbm, 761, rfl⟩
abbrev main_call3_call0_v5 : Ref sig .tc := ⟨.hbm, 762, rfl⟩
abbrev main_call3_call0_v6 : Ref sig .tc := ⟨.hbm, 763, rfl⟩
abbrev main_call3_call0_v7 : Ref sig .tc := ⟨.hbm, 764, rfl⟩
abbrev main_call3_call0_v8 : Ref sig .tc := ⟨.hbm, 765, rfl⟩
abbrev main_call3_call0_c : Ref sig .tc := ⟨.hbm, 766, rfl⟩
abbrev main_call3_call0_v9 : Ref sig .tc := ⟨.hbm, 767, rfl⟩
abbrev main_call3_call0_v10 : Ref sig .tc := ⟨.hbm, 768, rfl⟩
abbrev main_call3_call0_c_0 : Ref sig .tc := ⟨.hbm, 769, rfl⟩
abbrev main_call3_call0_v11 : Ref sig .tc := ⟨.hbm, 770, rfl⟩
abbrev main_call3_call0_v12 : Ref sig .tc := ⟨.hbm, 771, rfl⟩
abbrev main_call3_call0_v13 : Ref sig .tc := ⟨.hbm, 772, rfl⟩
abbrev main_call3_call0_c_1 : Ref sig .tc := ⟨.hbm, 773, rfl⟩
abbrev main_call3_call0_v14 : Ref sig .tc := ⟨.hbm, 774, rfl⟩
abbrev main_call3_call0_v15 : Ref sig .tc := ⟨.hbm, 775, rfl⟩
abbrev main_call3_call0_v16 : Ref sig .tc := ⟨.hbm, 776, rfl⟩
abbrev main_call3_call0_v17 : Ref sig .tc := ⟨.hbm, 777, rfl⟩
abbrev main_call3_call0_call0_v0 : Ref sig .tc := ⟨.hbm, 778, rfl⟩
abbrev main_call3_call0_call0_c : Ref sig .tc := ⟨.hbm, 779, rfl⟩
abbrev main_call3_call0_call0_v1 : Ref sig .tc := ⟨.hbm, 780, rfl⟩
abbrev main_call3_call0_call0_v2 : Ref sig .tc := ⟨.hbm, 781, rfl⟩
abbrev main_call3_call0_call0_v3 : Ref sig .tc := ⟨.hbm, 782, rfl⟩
abbrev main_call3_call0_call0_v4 : Ref sig .tc := ⟨.hbm, 783, rfl⟩
abbrev main_call3_call0_call0_v5 : Ref sig .tc := ⟨.hbm, 784, rfl⟩
abbrev main_call3_call0_call0_v6 : Ref sig .tc := ⟨.hbm, 785, rfl⟩
abbrev main_call3_call0_call0_c_0 : Ref sig .tc := ⟨.hbm, 786, rfl⟩
abbrev main_call3_call0_call0_v7 : Ref sig .tc := ⟨.hbm, 787, rfl⟩
abbrev main_call3_call0_call0_v8 : Ref sig .tc := ⟨.hbm, 788, rfl⟩
abbrev main_call3_call0_call0_c_1 : Ref sig .tc := ⟨.hbm, 789, rfl⟩
abbrev main_call3_call0_call0_v9 : Ref sig .tc := ⟨.hbm, 790, rfl⟩
abbrev main_call3_call0_call0_v10 : Ref sig .tc := ⟨.hbm, 791, rfl⟩
abbrev main_call3_call0_call0_v11 : Ref sig .tc := ⟨.hbm, 792, rfl⟩
abbrev main_call3_call0_call0_v12 : Ref sig .tc := ⟨.hbm, 793, rfl⟩
abbrev main_call3_call0_call0_v13 : Ref sig .tc := ⟨.hbm, 794, rfl⟩
abbrev main_call3_call0_call0_c_2 : Ref sig .tc := ⟨.hbm, 795, rfl⟩
abbrev main_call3_call0_call0_v14 : Ref sig .tc := ⟨.hbm, 796, rfl⟩
abbrev main_call3_call0_call0_v15 : Ref sig .tc := ⟨.hbm, 797, rfl⟩
abbrev main_call3_call0_call0_c_3 : Ref sig .tc := ⟨.hbm, 798, rfl⟩
abbrev main_call3_call0_call0_v16 : Ref sig .tc := ⟨.hbm, 799, rfl⟩
abbrev main_call3_call0_call0_v17 : Ref sig .tc := ⟨.hbm, 800, rfl⟩
abbrev main_call3_call0_call0_v18 : Ref sig .tc := ⟨.hbm, 801, rfl⟩
abbrev main_call3_call0_call0_v19 : Ref sig .tc := ⟨.hbm, 802, rfl⟩
abbrev main_call3_call0_call0_v20 : Ref sig .tc := ⟨.hbm, 803, rfl⟩
abbrev main_call3_call0_call0_c_4 : Ref sig .tc := ⟨.hbm, 804, rfl⟩
abbrev main_call3_call0_call0_v21 : Ref sig .tc := ⟨.hbm, 805, rfl⟩
abbrev main_call3_call0_call0_v22 : Ref sig .tc := ⟨.hbm, 806, rfl⟩
abbrev main_call3_call0_call0_c_5 : Ref sig .tc := ⟨.hbm, 807, rfl⟩
abbrev main_call3_call0_call0_v23 : Ref sig .tc := ⟨.hbm, 808, rfl⟩
abbrev main_call3_call0_call0_v24 : Ref sig .tc := ⟨.hbm, 809, rfl⟩
abbrev main_call3_call0_call0_v25 : Ref sig .tc := ⟨.hbm, 810, rfl⟩
abbrev main_call3_call0_call0_v26 : Ref sig .tc := ⟨.hbm, 811, rfl⟩
abbrev main_call3_call0_call0_v27 : Ref sig .tc := ⟨.hbm, 812, rfl⟩
abbrev main_call3_call0_call0_c_6 : Ref sig .tc := ⟨.hbm, 813, rfl⟩
abbrev main_call3_call0_call0_v28 : Ref sig .tc := ⟨.hbm, 814, rfl⟩
abbrev main_call3_call0_call0_v29 : Ref sig .tc := ⟨.hbm, 815, rfl⟩
abbrev main_call3_call0_call0_c_7 : Ref sig .tc := ⟨.hbm, 816, rfl⟩
abbrev main_call3_call0_call0_v30 : Ref sig .tc := ⟨.hbm, 817, rfl⟩
abbrev main_call3_call0_call0_v31 : Ref sig .tc := ⟨.hbm, 818, rfl⟩
abbrev main_call3_call0_call0_v32 : Ref sig .tc := ⟨.hbm, 819, rfl⟩
abbrev main_call3_call0_call0_v33 : Ref sig .tc := ⟨.hbm, 820, rfl⟩
abbrev main_call3_call0_call0_v34 : Ref sig .tc := ⟨.hbm, 821, rfl⟩
abbrev main_call3_call0_call0_v35 : Ref sig .tc := ⟨.hbm, 822, rfl⟩
abbrev main_call3_call0_call0_v36 : Ref sig .tc := ⟨.hbm, 823, rfl⟩
abbrev main_call3_call0_call0_v37 : Ref sig .tc := ⟨.hbm, 824, rfl⟩
abbrev main_call3_call0_call0_c_8 : Ref sig .tc := ⟨.hbm, 825, rfl⟩
abbrev main_call3_call0_call0_v38 : Ref sig .tc := ⟨.hbm, 826, rfl⟩
abbrev main_call3_call0_call0_v39 : Ref sig .tc := ⟨.hbm, 827, rfl⟩
abbrev main_call3_call0_call0_v40 : Ref sig .tc := ⟨.hbm, 828, rfl⟩
abbrev main_call3_call0_call0_c_9 : Ref sig .tc := ⟨.hbm, 829, rfl⟩
abbrev main_call3_call0_call0_v41 : Ref sig .tc := ⟨.hbm, 830, rfl⟩
abbrev main_call3_call0_call0_v42 : Ref sig .tc := ⟨.hbm, 831, rfl⟩
abbrev main_call3_call0_call0_c_10 : Ref sig .tc := ⟨.hbm, 832, rfl⟩
abbrev main_call3_call0_call0_v43 : Ref sig .tc := ⟨.hbm, 833, rfl⟩
abbrev main_call3_call0_call0_v44 : Ref sig .tc := ⟨.hbm, 834, rfl⟩
abbrev main_call3_call0_call0_v45 : Ref sig .tc := ⟨.hbm, 835, rfl⟩
abbrev main_call3_call0_call0_v46 : Ref sig .tc := ⟨.hbm, 836, rfl⟩
abbrev main_call3_call0_call0_v47 : Ref sig .tc := ⟨.hbm, 837, rfl⟩
abbrev main_call3_call0_call0_c_11 : Ref sig .tc := ⟨.hbm, 838, rfl⟩
abbrev main_call3_call0_call0_v48 : Ref sig .tc := ⟨.hbm, 839, rfl⟩
abbrev main_call3_call0_call0_v49 : Ref sig .tc := ⟨.hbm, 840, rfl⟩
abbrev main_call3_call0_call0_c_12 : Ref sig .tc := ⟨.hbm, 841, rfl⟩
abbrev main_call3_call0_call0_v50 : Ref sig .tc := ⟨.hbm, 842, rfl⟩
abbrev main_call3_call0_call0_v51 : Ref sig .tc := ⟨.hbm, 843, rfl⟩
abbrev main_call3_call0_call0_v52 : Ref sig .tc := ⟨.hbm, 844, rfl⟩
abbrev main_call3_call0_call0_v53 : Ref sig .tc := ⟨.hbm, 845, rfl⟩
abbrev main_call3_call0_call0_v54 : Ref sig .tc := ⟨.hbm, 846, rfl⟩
abbrev main_call3_call0_call0_c_13 : Ref sig .tc := ⟨.hbm, 847, rfl⟩
abbrev main_call3_call0_call0_v55 : Ref sig .tc := ⟨.hbm, 848, rfl⟩
abbrev main_call3_call0_call0_v56 : Ref sig .tc := ⟨.hbm, 849, rfl⟩
abbrev main_call3_call0_call0_c_14 : Ref sig .tc := ⟨.hbm, 850, rfl⟩
abbrev main_call3_call0_call0_v57 : Ref sig .tc := ⟨.hbm, 851, rfl⟩
abbrev main_call3_call0_call0_v58 : Ref sig .tc := ⟨.hbm, 852, rfl⟩
abbrev main_call3_call0_call0_v59 : Ref sig .tc := ⟨.hbm, 853, rfl⟩
abbrev main_call3_call0_call0_v60 : Ref sig .tc := ⟨.hbm, 854, rfl⟩
abbrev main_call3_call0_call0_v61 : Ref sig .tc := ⟨.hbm, 855, rfl⟩
abbrev main_call3_call0_call0_c_15 : Ref sig .tc := ⟨.hbm, 856, rfl⟩
abbrev main_call3_call0_call0_v62 : Ref sig .tc := ⟨.hbm, 857, rfl⟩
abbrev main_call3_call0_call0_v63 : Ref sig .tc := ⟨.hbm, 858, rfl⟩
abbrev main_call3_call0_call0_c_16 : Ref sig .tc := ⟨.hbm, 859, rfl⟩
abbrev main_call3_call0_call0_v64 : Ref sig .tc := ⟨.hbm, 860, rfl⟩
abbrev main_call3_call0_call0_v65 : Ref sig .tc := ⟨.hbm, 861, rfl⟩
abbrev main_call3_call0_call0_v66 : Ref sig .tc := ⟨.hbm, 862, rfl⟩
abbrev main_call3_call0_call0_v67 : Ref sig .tc := ⟨.hbm, 863, rfl⟩
abbrev main_call3_call0_call0_v68 : Ref sig .tc := ⟨.hbm, 864, rfl⟩
abbrev main_call3_call0_call0_v69 : Ref sig .tc := ⟨.hbm, 865, rfl⟩
abbrev main_call3_call0_call0_v70 : Ref sig .tc := ⟨.hbm, 866, rfl⟩
abbrev main_call3_call0_call0_v71 : Ref sig .tc := ⟨.hbm, 867, rfl⟩
abbrev main_call3_call0_call0_c_17 : Ref sig .tc := ⟨.hbm, 868, rfl⟩
abbrev main_call3_call0_call0_v72 : Ref sig .tc := ⟨.hbm, 869, rfl⟩
abbrev main_call3_call0_call0_v73 : Ref sig .tc := ⟨.hbm, 870, rfl⟩
abbrev main_call3_call0_call0_v74 : Ref sig .tc := ⟨.hbm, 871, rfl⟩
abbrev main_call3_call0_call0_c_18 : Ref sig .tc := ⟨.hbm, 872, rfl⟩
abbrev main_call3_call0_call0_v75 : Ref sig .tc := ⟨.hbm, 873, rfl⟩
abbrev main_call3_call0_call0_v76 : Ref sig .tc := ⟨.hbm, 874, rfl⟩
abbrev main_call3_call0_call0_c_19 : Ref sig .tc := ⟨.hbm, 875, rfl⟩
abbrev main_call3_call0_call0_v77 : Ref sig .tc := ⟨.hbm, 876, rfl⟩
abbrev main_call3_call0_call0_v78 : Ref sig .tc := ⟨.hbm, 877, rfl⟩
abbrev main_call3_call0_call0_v79 : Ref sig .tc := ⟨.hbm, 878, rfl⟩
abbrev main_call3_call0_call0_v80 : Ref sig .tc := ⟨.hbm, 879, rfl⟩
abbrev main_call3_call0_call0_v81 : Ref sig .tc := ⟨.hbm, 880, rfl⟩
abbrev main_call3_call0_call0_c_20 : Ref sig .tc := ⟨.hbm, 881, rfl⟩
abbrev main_call3_call0_call0_v82 : Ref sig .tc := ⟨.hbm, 882, rfl⟩
abbrev main_call3_call0_call0_v83 : Ref sig .tc := ⟨.hbm, 883, rfl⟩
abbrev main_call3_call0_call0_c_21 : Ref sig .tc := ⟨.hbm, 884, rfl⟩
abbrev main_call3_call0_call0_v84 : Ref sig .tc := ⟨.hbm, 885, rfl⟩
abbrev main_call3_call0_call0_v85 : Ref sig .tc := ⟨.hbm, 886, rfl⟩
abbrev main_call3_call0_call0_v86 : Ref sig .tc := ⟨.hbm, 887, rfl⟩
abbrev main_call3_call0_call0_v87 : Ref sig .tc := ⟨.hbm, 888, rfl⟩
abbrev main_call3_call0_call0_v88 : Ref sig .tc := ⟨.hbm, 889, rfl⟩
abbrev main_call3_call0_call0_c_22 : Ref sig .tc := ⟨.hbm, 890, rfl⟩
abbrev main_call3_call0_call0_v89 : Ref sig .tc := ⟨.hbm, 891, rfl⟩
abbrev main_call3_call0_call0_v90 : Ref sig .tc := ⟨.hbm, 892, rfl⟩
abbrev main_call3_call0_call0_c_23 : Ref sig .tc := ⟨.hbm, 893, rfl⟩
abbrev main_call3_call0_call0_v91 : Ref sig .tc := ⟨.hbm, 894, rfl⟩
abbrev main_call3_call0_call0_v92 : Ref sig .tc := ⟨.hbm, 895, rfl⟩
abbrev main_call3_call0_call0_v93 : Ref sig .tc := ⟨.hbm, 896, rfl⟩
abbrev main_call3_call0_call0_v94 : Ref sig .tc := ⟨.hbm, 897, rfl⟩
abbrev main_call3_call0_call0_v95 : Ref sig .tc := ⟨.hbm, 898, rfl⟩
abbrev main_call3_call0_call0_c_24 : Ref sig .tc := ⟨.hbm, 899, rfl⟩
abbrev main_call3_call0_call0_v96 : Ref sig .tc := ⟨.hbm, 900, rfl⟩
abbrev main_call3_call0_call0_v97 : Ref sig .tc := ⟨.hbm, 901, rfl⟩
abbrev main_call3_call0_call0_c_25 : Ref sig .tc := ⟨.hbm, 902, rfl⟩
abbrev main_call3_call0_call0_v98 : Ref sig .tc := ⟨.hbm, 903, rfl⟩
abbrev main_call3_call0_call0_v99 : Ref sig .tc := ⟨.hbm, 904, rfl⟩
abbrev main_call3_call0_call0_v100 : Ref sig .tc := ⟨.hbm, 905, rfl⟩
abbrev main_call3_call0_call0_v101 : Ref sig .tc := ⟨.hbm, 906, rfl⟩
abbrev main_call3_call0_call0_v102 : Ref sig .tc := ⟨.hbm, 907, rfl⟩
abbrev main_call3_call0_call0_v103 : Ref sig .tc := ⟨.hbm, 908, rfl⟩
abbrev main_call3_call0_call0_v104 : Ref sig .tc := ⟨.hbm, 909, rfl⟩
abbrev main_call3_call0_call0_v105 : Ref sig .tc := ⟨.hbm, 910, rfl⟩
abbrev main_call3_call0_call0_c_26 : Ref sig .tc := ⟨.hbm, 911, rfl⟩
abbrev main_call3_call0_call0_v106 : Ref sig .tc := ⟨.hbm, 912, rfl⟩
abbrev main_call3_call0_call0_v107 : Ref sig .tc := ⟨.hbm, 913, rfl⟩
abbrev main_call3_call0_call0_v108 : Ref sig .tc := ⟨.hbm, 914, rfl⟩
abbrev main_call3_call0_call0_c_27 : Ref sig .tc := ⟨.hbm, 915, rfl⟩
abbrev main_call3_call0_call0_v109 : Ref sig .tc := ⟨.hbm, 916, rfl⟩
abbrev main_call3_call0_call0_v110 : Ref sig .tc := ⟨.hbm, 917, rfl⟩
abbrev main_call3_call0_call0_c_28 : Ref sig .tc := ⟨.hbm, 918, rfl⟩
abbrev main_call3_call0_call0_v111 : Ref sig .tc := ⟨.hbm, 919, rfl⟩
abbrev main_call3_call0_call0_v112 : Ref sig .tc := ⟨.hbm, 920, rfl⟩
abbrev main_call3_call0_call0_v113 : Ref sig .tc := ⟨.hbm, 921, rfl⟩
abbrev main_call3_call0_call0_v114 : Ref sig .tc := ⟨.hbm, 922, rfl⟩
abbrev main_call3_call0_call0_v115 : Ref sig .tc := ⟨.hbm, 923, rfl⟩
abbrev main_call3_call0_call0_c_29 : Ref sig .tc := ⟨.hbm, 924, rfl⟩
abbrev main_call3_call0_call0_v116 : Ref sig .tc := ⟨.hbm, 925, rfl⟩
abbrev main_call3_call0_call0_v117 : Ref sig .tc := ⟨.hbm, 926, rfl⟩
abbrev main_call3_call0_call0_c_30 : Ref sig .tc := ⟨.hbm, 927, rfl⟩
abbrev main_call3_call0_call0_v118 : Ref sig .tc := ⟨.hbm, 928, rfl⟩
abbrev main_call3_call0_call0_v119 : Ref sig .tc := ⟨.hbm, 929, rfl⟩
abbrev main_call3_call0_call0_v120 : Ref sig .tc := ⟨.hbm, 930, rfl⟩
abbrev main_call3_call0_call0_v121 : Ref sig .tc := ⟨.hbm, 931, rfl⟩
abbrev main_call3_call0_call0_v122 : Ref sig .tc := ⟨.hbm, 932, rfl⟩
abbrev main_call3_call0_call0_c_31 : Ref sig .tc := ⟨.hbm, 933, rfl⟩
abbrev main_call3_call0_call0_v123 : Ref sig .tc := ⟨.hbm, 934, rfl⟩
abbrev main_call3_call0_call0_v124 : Ref sig .tc := ⟨.hbm, 935, rfl⟩
abbrev main_call3_call0_call0_c_32 : Ref sig .tc := ⟨.hbm, 936, rfl⟩
abbrev main_call3_call0_call0_v125 : Ref sig .tc := ⟨.hbm, 937, rfl⟩
abbrev main_call3_call0_call0_v126 : Ref sig .tc := ⟨.hbm, 938, rfl⟩
abbrev main_call3_call0_call0_v127 : Ref sig .tc := ⟨.hbm, 939, rfl⟩
abbrev main_call3_call0_call0_v128 : Ref sig .tc := ⟨.hbm, 940, rfl⟩
abbrev main_call3_call0_call0_v129 : Ref sig .tc := ⟨.hbm, 941, rfl⟩
abbrev main_call3_call0_call0_c_33 : Ref sig .tc := ⟨.hbm, 942, rfl⟩
abbrev main_call3_call0_call0_v130 : Ref sig .tc := ⟨.hbm, 943, rfl⟩
abbrev main_call3_call0_call0_v131 : Ref sig .tc := ⟨.hbm, 944, rfl⟩
abbrev main_call3_call0_call0_c_34 : Ref sig .tc := ⟨.hbm, 945, rfl⟩
abbrev main_call3_call0_call0_v132 : Ref sig .tc := ⟨.hbm, 946, rfl⟩
abbrev main_call3_call0_call0_v133 : Ref sig .tc := ⟨.hbm, 947, rfl⟩
abbrev main_call3_call0_call0_v134 : Ref sig .tc := ⟨.hbm, 948, rfl⟩
abbrev main_call3_call0_call0_v135 : Ref sig .tc := ⟨.hbm, 949, rfl⟩
abbrev main_call3_call0_call0_v136 : Ref sig .tc := ⟨.hbm, 950, rfl⟩
abbrev main_call3_call0_call0_v137 : Ref sig .tc := ⟨.hbm, 951, rfl⟩
abbrev main_call3_call0_call0_v138 : Ref sig .tc := ⟨.hbm, 952, rfl⟩
abbrev main_call3_call0_call0_v139 : Ref sig .tc := ⟨.hbm, 953, rfl⟩
abbrev main_call3_call0_call0_c_35 : Ref sig .tc := ⟨.hbm, 954, rfl⟩
abbrev main_call3_call0_call0_v140 : Ref sig .tc := ⟨.hbm, 955, rfl⟩
abbrev main_call3_call0_call0_v141 : Ref sig .tc := ⟨.hbm, 956, rfl⟩
abbrev main_call3_call0_call0_v142 : Ref sig .tc := ⟨.hbm, 957, rfl⟩
abbrev main_call3_call0_call0_c_36 : Ref sig .tc := ⟨.hbm, 958, rfl⟩
abbrev main_call3_call0_call0_v143 : Ref sig .tc := ⟨.hbm, 959, rfl⟩
abbrev main_call3_call0_call0_v144 : Ref sig .tc := ⟨.hbm, 960, rfl⟩
abbrev main_call3_call0_call0_c_37 : Ref sig .tc := ⟨.hbm, 961, rfl⟩
abbrev main_call3_call0_call0_v145 : Ref sig .tc := ⟨.hbm, 962, rfl⟩
abbrev main_call3_call0_call0_v146 : Ref sig .tc := ⟨.hbm, 963, rfl⟩
abbrev main_call3_call0_call0_v147 : Ref sig .tc := ⟨.hbm, 964, rfl⟩
abbrev main_call3_call0_call0_v148 : Ref sig .tc := ⟨.hbm, 965, rfl⟩
abbrev main_call3_call0_call0_v149 : Ref sig .tc := ⟨.hbm, 966, rfl⟩
abbrev main_call3_call0_call0_c_38 : Ref sig .tc := ⟨.hbm, 967, rfl⟩
abbrev main_call3_call0_call0_v150 : Ref sig .tc := ⟨.hbm, 968, rfl⟩
abbrev main_call3_call0_call0_v151 : Ref sig .tc := ⟨.hbm, 969, rfl⟩
abbrev main_call3_call0_call0_c_39 : Ref sig .tc := ⟨.hbm, 970, rfl⟩
abbrev main_call3_call0_call0_v152 : Ref sig .tc := ⟨.hbm, 971, rfl⟩
abbrev main_call3_call0_call0_v153 : Ref sig .tc := ⟨.hbm, 972, rfl⟩
abbrev main_call3_call0_call0_v154 : Ref sig .tc := ⟨.hbm, 973, rfl⟩
abbrev main_call3_call0_call0_v155 : Ref sig .tc := ⟨.hbm, 974, rfl⟩
abbrev main_call3_call0_call0_v156 : Ref sig .tc := ⟨.hbm, 975, rfl⟩
abbrev main_call3_call0_call0_c_40 : Ref sig .tc := ⟨.hbm, 976, rfl⟩
abbrev main_call3_call0_call0_v157 : Ref sig .tc := ⟨.hbm, 977, rfl⟩
abbrev main_call3_call0_call0_v158 : Ref sig .tc := ⟨.hbm, 978, rfl⟩
abbrev main_call3_call0_call0_c_41 : Ref sig .tc := ⟨.hbm, 979, rfl⟩
abbrev main_call3_call0_call0_v159 : Ref sig .tc := ⟨.hbm, 980, rfl⟩
abbrev main_call3_call0_call0_v160 : Ref sig .tc := ⟨.hbm, 981, rfl⟩
abbrev main_call3_call0_call0_v161 : Ref sig .tc := ⟨.hbm, 982, rfl⟩
abbrev main_call3_call0_call0_v162 : Ref sig .tc := ⟨.hbm, 983, rfl⟩
abbrev main_call3_call0_call0_v163 : Ref sig .tc := ⟨.hbm, 984, rfl⟩
abbrev main_call3_call0_call0_c_42 : Ref sig .tc := ⟨.hbm, 985, rfl⟩
abbrev main_call3_call0_call0_v164 : Ref sig .tc := ⟨.hbm, 986, rfl⟩
abbrev main_call3_call0_call0_v165 : Ref sig .tc := ⟨.hbm, 987, rfl⟩
abbrev main_call3_call0_call0_c_43 : Ref sig .tc := ⟨.hbm, 988, rfl⟩
abbrev main_call3_call0_call0_v166 : Ref sig .tc := ⟨.hbm, 989, rfl⟩
abbrev main_call3_call0_call0_v167 : Ref sig .tc := ⟨.hbm, 990, rfl⟩
abbrev main_call3_call0_call0_v168 : Ref sig .tc := ⟨.hbm, 991, rfl⟩
abbrev main_call3_call0_call0_v169 : Ref sig .tc := ⟨.hbm, 992, rfl⟩
abbrev main_call3_call0_call0_v170 : Ref sig .tc := ⟨.hbm, 993, rfl⟩
abbrev main_call3_call0_v18_0 : Ref sig .tc := ⟨.hbm, 994, rfl⟩
abbrev main_call3_call0_call0_v172 : Ref sig .tc := ⟨.hbm, 995, rfl⟩
abbrev main_call3_call0_call0_v173 : Ref sig .tc := ⟨.hbm, 996, rfl⟩
abbrev main_call3_call0_call0_c_44 : Ref sig .tc := ⟨.hbm, 997, rfl⟩
abbrev main_call3_call0_call0_v174 : Ref sig .tc := ⟨.hbm, 998, rfl⟩
abbrev main_call3_call0_v18_1 : Ref sig .tc := ⟨.hbm, 999, rfl⟩
abbrev main_call3_call0_v19 : Ref sig .tc := ⟨.hbm, 1000, rfl⟩
abbrev main_call3_call0_c_2 : Ref sig .tc := ⟨.hbm, 1001, rfl⟩
abbrev main_call3_call0_v20 : Ref sig .tc := ⟨.hbm, 1002, rfl⟩
abbrev main_call3_call0_v21 : Ref sig .tc := ⟨.hbm, 1003, rfl⟩
abbrev main_call3_call0_c_3 : Ref sig .tc := ⟨.hbm, 1004, rfl⟩
abbrev main_call3_call0_v22 : Ref sig .tc := ⟨.hbm, 1005, rfl⟩
abbrev main_call3_call0_v23 : Ref sig .tc := ⟨.hbm, 1006, rfl⟩
abbrev main_call3_call0_v24 : Ref sig .tc := ⟨.hbm, 1007, rfl⟩
abbrev main_call3_call0_cst : Ref sig .tc := ⟨.hbm, 1008, rfl⟩
abbrev main_call3_call0_v25 : Ref sig .tc := ⟨.hbm, 1009, rfl⟩
abbrev main_call3_call0_v26 : Ref sig .tc := ⟨.hbm, 1010, rfl⟩
abbrev main_call3_call0_v27 : Ref sig .tc := ⟨.hbm, 1011, rfl⟩
abbrev main_call3_call0_v28 : Ref sig .tc := ⟨.hbm, 1012, rfl⟩
abbrev main_call3_call0_v29 : Ref sig .tc := ⟨.hbm, 1013, rfl⟩
abbrev main_call3_call0_v30 : Ref sig .tc := ⟨.hbm, 1014, rfl⟩
abbrev main_call3_call0_v31 : Ref sig .tc := ⟨.hbm, 1015, rfl⟩
abbrev main_call3_call0_v32 : Ref sig .tc := ⟨.hbm, 1016, rfl⟩
abbrev main_call3_v0 : Ref sig .tc := ⟨.hbm, 1017, rfl⟩
abbrev main_call3_v1 : Ref sig .tc := ⟨.hbm, 1018, rfl⟩
abbrev main_call3_v2 : Ref sig .tc := ⟨.hbm, 1019, rfl⟩
abbrev main_call3_v3 : Ref sig .tc := ⟨.hbm, 1020, rfl⟩
abbrev main_v11 : Ref sig .tc := ⟨.hbm, 1021, rfl⟩
abbrev main_v12 : Ref sig .tc := ⟨.hbm, 1022, rfl⟩
abbrev main_v13 : Ref sig .tc := ⟨.hbm, 1023, rfl⟩
abbrev main_v14 : Ref sig .tc := ⟨.hbm, 1024, rfl⟩
abbrev main_c_4 : Ref sig .tc := ⟨.hbm, 1025, rfl⟩
abbrev main_call4_v0 : Ref sig .tc := ⟨.hbm, 1026, rfl⟩
abbrev main_v15 : Ref sig .tc := ⟨.hbm, 1027, rfl⟩
abbrev main_v16 : Ref sig .tc := ⟨.hbm, 1028, rfl⟩
abbrev main_c_5 : Ref sig .tc := ⟨.hbm, 1029, rfl⟩
abbrev main_v17 : Ref sig .tc := ⟨.hbm, 1030, rfl⟩
abbrev main_c_6 : Ref sig .tc := ⟨.hbm, 1031, rfl⟩
abbrev main_v18 : Ref sig .tc := ⟨.hbm, 1032, rfl⟩
abbrev main_c_7 : Ref sig .tc := ⟨.hbm, 1033, rfl⟩
abbrev main_v19 : Ref sig .tc := ⟨.hbm, 1034, rfl⟩
abbrev main_v20 : Ref sig .tc := ⟨.hbm, 1035, rfl⟩
abbrev main_c_8 : Ref sig .tc := ⟨.hbm, 1036, rfl⟩
abbrev main_c_9 : Ref sig .tc := ⟨.hbm, 1037, rfl⟩
abbrev main_c_10 : Ref sig .tc := ⟨.hbm, 1038, rfl⟩
abbrev main_v21 : Ref sig .tc := ⟨.hbm, 1039, rfl⟩
abbrev main_v22 : Ref sig .tc := ⟨.hbm, 1040, rfl⟩
abbrev main_v23 : Ref sig .tc := ⟨.hbm, 1041, rfl⟩
abbrev main_v24 : Ref sig .tc := ⟨.hbm, 1042, rfl⟩
abbrev main_v25_0 : Ref sig .tc := ⟨.hbm, 1043, rfl⟩
abbrev main_v25_1 : Ref sig .tc := ⟨.hbm, 1044, rfl⟩
abbrev main_v26 : Ref sig .tc := ⟨.hbm, 1045, rfl⟩
abbrev main_v27 : Ref sig .tc := ⟨.hbm, 1046, rfl⟩
abbrev main_v28 : Ref sig .tc := ⟨.hbm, 1047, rfl⟩
abbrev main_v29 : Ref sig .tc := ⟨.hbm, 1048, rfl⟩
abbrev main_v30 : Ref sig .tc := ⟨.hbm, 1049, rfl⟩
abbrev main_v31 : Ref sig .tc := ⟨.hbm, 1050, rfl⟩
abbrev main_v32 : Ref sig .tc := ⟨.hbm, 1051, rfl⟩
abbrev main_v33 : Ref sig .tc := ⟨.hbm, 1052, rfl⟩
abbrev main_v34 : Ref sig .tc := ⟨.hbm, 1053, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c781_i32 : BitVec 32 := 781#32
  let c0_i32_0 : BitVec 32 := 0#32
  ![arg0.toNat, c0_i32.toNat, c781_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x4x99968 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x4x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x4x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x4x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x4x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2x32x4x100000 : Shape := ⟨4, ![2, 32, 4, 100000]⟩
abbrev S32x4x5x2 : Shape := ⟨4, ![32, 4, 5, 2]⟩
abbrev S_ : Shape := ⟨0, ![]⟩
abbrev S1 : Shape := ⟨1, ![1]⟩
abbrev S2 : Shape := ⟨1, ![2]⟩
abbrev S4 : Shape := ⟨1, ![4]⟩
abbrev S1x4 : Shape := ⟨2, ![1, 4]⟩
abbrev S1x1x1x4 : Shape := ⟨4, ![1, 1, 1, 4]⟩
abbrev S32x1x1x4 : Shape := ⟨4, ![32, 1, 1, 4]⟩
abbrev S32x4 : Shape := ⟨2, ![32, 4]⟩
abbrev S1x32x4x100000 : Shape := ⟨4, ![1, 32, 4, 100000]⟩
abbrev S32x4x100000 : Shape := ⟨3, ![32, 4, 100000]⟩
abbrev S32x4x50 : Shape := ⟨3, ![32, 4, 50]⟩
abbrev S128x50 : Shape := ⟨2, ![128, 50]⟩
abbrev S1x1 : Shape := ⟨2, ![1, 1]⟩
abbrev S128 : Shape := ⟨1, ![128]⟩
abbrev S32x4x1 : Shape := ⟨3, ![32, 4, 1]⟩
abbrev S32x4x1x1 : Shape := ⟨4, ![32, 4, 1, 1]⟩
abbrev S1x1x1x1 : Shape := ⟨4, ![1, 1, 1, 1]⟩
abbrev S1x1x1 : Shape := ⟨3, ![1, 1, 1]⟩
abbrev S32x4x2 : Shape := ⟨3, ![32, 4, 2]⟩

abbrev nBuf : Space → Nat
  | .hbm => 1268
  | .vmem => 0
  | .smem => 0
  | _ => 0

abbrev hbmTy0_0 (i : Nat) : BufTy := match i % 128 with
  | 0 => ⟨S2x32x4x100000, .f32⟩
  | 1 => ⟨S32x4x5x2, .f32⟩
  | 2 => ⟨S_, .i32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S4, .i32⟩
  | 14 => ⟨S1x4, .i32⟩
  | 15 => ⟨S1x1x1x4, .i32⟩
  | 16 => ⟨S32x1x1x4, .i32⟩
  | 17 => ⟨S32x4, .i32⟩
  | 18 => ⟨S1x32x4x100000, .f32⟩
  | 19 => ⟨S32x4x100000, .f32⟩
  | 20 => ⟨S32x4x50, .f32⟩
  | 21 => ⟨S32x4x50, .i32⟩
  | 22 => ⟨S32x4x50, .f32⟩
  | 23 => ⟨S_, .i32⟩
  | 24 => ⟨S_, .i32⟩
  | 25 => ⟨S_, .i32⟩
  | 26 => ⟨S1, .i32⟩
  | 27 => ⟨S_, .i32⟩
  | 28 => ⟨S_, .i32⟩
  | 29 => ⟨S1, .i32⟩
  | 30 => ⟨S2, .i32⟩
  | 31 => ⟨S1, .i32⟩
  | 32 => ⟨S_, .i32⟩
  | 33 => ⟨S1, .i32⟩
  | 34 => ⟨S_, .i32⟩
  | 35 => ⟨S1, .i32⟩
  | 36 => ⟨S1, .i32⟩
  | 37 => ⟨S_, .i32⟩
  | 38 => ⟨S_, .i32⟩
  | 39 => ⟨S_, .i32⟩
  | 40 => ⟨S1, .i32⟩
  | 41 => ⟨S1, .i32⟩
  | 42 => ⟨S1, .i32⟩
  | 43 => ⟨S1, .i32⟩
  | 44 => ⟨S1, .i32⟩
  | 45 => ⟨S_, .i32⟩
  | 46 => ⟨S1, .i32⟩
  | 47 => ⟨S1, .i32⟩
  | 48 => ⟨S_, .i32⟩
  | 49 => ⟨S1, .i32⟩
  | 50 => ⟨S1, .i32⟩
  | 51 => ⟨S1, .i32⟩
  | 52 => ⟨S1, .i32⟩
  | 53 => ⟨S1, .i32⟩
  | 54 => ⟨S_, .i32⟩
  | 55 => ⟨S1, .i32⟩
  | 56 => ⟨S1, .i32⟩
  | 57 => ⟨S_, .i32⟩
  | 58 => ⟨S1, .i32⟩
  | 59 => ⟨S1, .i32⟩
  | 60 => ⟨S1, .i32⟩
  | 61 => ⟨S1, .i32⟩
  | 62 => ⟨S1, .i32⟩
  | 63 => ⟨S_, .i32⟩
  | 64 => ⟨S1, .i32⟩
  | 65 => ⟨S1, .i32⟩
  | 66 => ⟨S_, .i32⟩
  | 67 => ⟨S1, .i32⟩
  | 68 => ⟨S1, .i32⟩
  | 69 => ⟨S1, .i32⟩
  | 70 => ⟨S1, .i32⟩
  | 71 => ⟨S1, .i32⟩
  | 72 => ⟨S_, .i32⟩
  | 73 => ⟨S1, .i32⟩
  | 74 => ⟨S1, .i32⟩
  | 75 => ⟨S_, .i32⟩
  | 76 => ⟨S1, .i32⟩
  | 77 => ⟨S1, .i32⟩
  | 78 => ⟨S1, .i32⟩
  | 79 => ⟨S1, .i32⟩
  | 80 => ⟨S1, .i32⟩
  | 81 => ⟨S1, .i32⟩
  | 82 => ⟨S1, .i32⟩
  | 83 => ⟨S1, .i32⟩
  | 84 => ⟨S_, .i32⟩
  | 85 => ⟨S1, .i32⟩
  | 86 => ⟨S1, .i32⟩
  | 87 => ⟨S1, .i32⟩
  | 88 => ⟨S_, .i32⟩
  | 89 => ⟨S1, .i32⟩
  | 90 => ⟨S1, .i32⟩
  | 91 => ⟨S_, .i32⟩
  | 92 => ⟨S1, .i32⟩
  | 93 => ⟨S1, .i32⟩
  | 94 => ⟨S1, .i32⟩
  | 95 => ⟨S1, .i32⟩
  | 96 => ⟨S1, .i32⟩
  | 97 => ⟨S_, .i32⟩
  | 98 => ⟨S1, .i32⟩
  | 99 => ⟨S1, .i32⟩
  | 100 => ⟨S_, .i32⟩
  | 101 => ⟨S1, .i32⟩
  | 102 => ⟨S1, .i32⟩
  | 103 => ⟨S1, .i32⟩
  | 104 => ⟨S1, .i32⟩
  | 105 => ⟨S1, .i32⟩
  | 106 => ⟨S_, .i32⟩
  | 107 => ⟨S1, .i32⟩
  | 108 => ⟨S1, .i32⟩
  | 109 => ⟨S_, .i32⟩
  | 110 => ⟨S1, .i32⟩
  | 111 => ⟨S1, .i32⟩
  | 112 => ⟨S1, .i32⟩
  | 113 => ⟨S1, .i32⟩
  | 114 => ⟨S1, .i32⟩
  | 115 => ⟨S_, .i32⟩
  | 116 => ⟨S1, .i32⟩
  | 117 => ⟨S1, .i32⟩
  | 118 => ⟨S_, .i32⟩
  | 119 => ⟨S1, .i32⟩
  | 120 => ⟨S1, .i32⟩
  | 121 => ⟨S1, .i32⟩
  | 122 => ⟨S1, .i32⟩
  | 123 => ⟨S1, .i32⟩
  | 124 => ⟨S1, .i32⟩
  | 125 => ⟨S1, .i32⟩
  | 126 => ⟨S1, .i32⟩
  | 127 => ⟨S_, .i32⟩
  | _ => ⟨S2x32x4x100000, .f32⟩

abbrev hbmTy0_1 (i : Nat) : BufTy := match i % 128 with
  | 0 => ⟨S1, .i32⟩
  | 1 => ⟨S1, .i32⟩
  | 2 => ⟨S1, .i32⟩
  | 3 => ⟨S_, .i32⟩
  | 4 => ⟨S1, .i32⟩
  | 5 => ⟨S1, .i32⟩
  | 6 => ⟨S_, .i32⟩
  | 7 => ⟨S1, .i32⟩
  | 8 => ⟨S1, .i32⟩
  | 9 => ⟨S1, .i32⟩
  | 10 => ⟨S1, .i32⟩
  | 11 => ⟨S1, .i32⟩
  | 12 => ⟨S_, .i32⟩
  | 13 => ⟨S1, .i32⟩
  | 14 => ⟨S1, .i32⟩
  | 15 => ⟨S_, .i32⟩
  | 16 => ⟨S1, .i32⟩
  | 17 => ⟨S1, .i32⟩
  | 18 => ⟨S1, .i32⟩
  | 19 => ⟨S1, .i32⟩
  | 20 => ⟨S1, .i32⟩
  | 21 => ⟨S_, .i32⟩
  | 22 => ⟨S1, .i32⟩
  | 23 => ⟨S1, .i32⟩
  | 24 => ⟨S_, .i32⟩
  | 25 => ⟨S1, .i32⟩
  | 26 => ⟨S1, .i32⟩
  | 27 => ⟨S1, .i32⟩
  | 28 => ⟨S1, .i32⟩
  | 29 => ⟨S1, .i32⟩
  | 30 => ⟨S_, .i32⟩
  | 31 => ⟨S1, .i32⟩
  | 32 => ⟨S1, .i32⟩
  | 33 => ⟨S_, .i32⟩
  | 34 => ⟨S1, .i32⟩
  | 35 => ⟨S1, .i32⟩
  | 36 => ⟨S1, .i32⟩
  | 37 => ⟨S1, .i32⟩
  | 38 => ⟨S1, .i32⟩
  | 39 => ⟨S1, .i32⟩
  | 40 => ⟨S1, .i32⟩
  | 41 => ⟨S1, .i32⟩
  | 42 => ⟨S_, .i32⟩
  | 43 => ⟨S1, .i32⟩
  | 44 => ⟨S1, .i32⟩
  | 45 => ⟨S1, .i32⟩
  | 46 => ⟨S_, .i32⟩
  | 47 => ⟨S1, .i32⟩
  | 48 => ⟨S1, .i32⟩
  | 49 => ⟨S_, .i32⟩
  | 50 => ⟨S1, .i32⟩
  | 51 => ⟨S1, .i32⟩
  | 52 => ⟨S1, .i32⟩
  | 53 => ⟨S1, .i32⟩
  | 54 => ⟨S1, .i32⟩
  | 55 => ⟨S_, .i32⟩
  | 56 => ⟨S1, .i32⟩
  | 57 => ⟨S1, .i32⟩
  | 58 => ⟨S_, .i32⟩
  | 59 => ⟨S1, .i32⟩
  | 60 => ⟨S1, .i32⟩
  | 61 => ⟨S1, .i32⟩
  | 62 => ⟨S1, .i32⟩
  | 63 => ⟨S1, .i32⟩
  | 64 => ⟨S_, .i32⟩
  | 65 => ⟨S1, .i32⟩
  | 66 => ⟨S1, .i32⟩
  | 67 => ⟨S_, .i32⟩
  | 68 => ⟨S1, .i32⟩
  | 69 => ⟨S1, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S_, .i32⟩
  | 77 => ⟨S1, .i32⟩
  | 78 => ⟨S1, .i32⟩
  | 79 => ⟨S1, .i32⟩
  | 80 => ⟨S1, .i32⟩
  | 81 => ⟨S1, .i32⟩
  | 82 => ⟨S1, .i32⟩
  | 83 => ⟨S1, .i32⟩
  | 84 => ⟨S1, .i32⟩
  | 85 => ⟨S_, .i32⟩
  | 86 => ⟨S1, .i32⟩
  | 87 => ⟨S1, .i32⟩
  | 88 => ⟨S1, .i32⟩
  | 89 => ⟨S_, .i32⟩
  | 90 => ⟨S1, .i32⟩
  | 91 => ⟨S1, .i32⟩
  | 92 => ⟨S_, .i32⟩
  | 93 => ⟨S1, .i32⟩
  | 94 => ⟨S1, .i32⟩
  | 95 => ⟨S1, .i32⟩
  | 96 => ⟨S1, .i32⟩
  | 97 => ⟨S1, .i32⟩
  | 98 => ⟨S_, .i32⟩
  | 99 => ⟨S1, .i32⟩
  | 100 => ⟨S1, .i32⟩
  | 101 => ⟨S_, .i32⟩
  | 102 => ⟨S1, .i32⟩
  | 103 => ⟨S1, .i32⟩
  | 104 => ⟨S1, .i32⟩
  | 105 => ⟨S1, .i32⟩
  | 106 => ⟨S1, .i32⟩
  | 107 => ⟨S_, .i32⟩
  | 108 => ⟨S1, .i32⟩
  | 109 => ⟨S1, .i32⟩
  | 110 => ⟨S_, .i32⟩
  | 111 => ⟨S1, .i32⟩
  | 112 => ⟨S1, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S_, .i32⟩
  | 120 => ⟨S1, .i32⟩
  | 121 => ⟨S1, .i32⟩
  | 122 => ⟨S1, .i32⟩
  | 123 => ⟨S1, .i32⟩
  | 124 => ⟨S1, .i32⟩
  | 125 => ⟨S1, .i32⟩
  | 126 => ⟨S1, .i32⟩
  | 127 => ⟨S1, .i32⟩
  | _ => ⟨S2x32x4x100000, .f32⟩

abbrev hbmTy0_2 (i : Nat) : BufTy := match i % 128 with
  | 0 => ⟨S_, .i32⟩
  | 1 => ⟨S1, .i32⟩
  | 2 => ⟨S1, .i32⟩
  | 3 => ⟨S2, .i32⟩
  | 4 => ⟨S128x50, .f32⟩
  | 5 => ⟨S_, .f32⟩
  | 6 => ⟨S_, .f32⟩
  | 7 => ⟨S_, .f32⟩
  | 8 => ⟨S1x1, .f32⟩
  | 9 => ⟨S1x1, .f32⟩
  | 10 => ⟨S1, .i32⟩
  | 11 => ⟨S_, .i32⟩
  | 12 => ⟨S1, .i32⟩
  | 13 => ⟨S_, .i32⟩
  | 14 => ⟨S128x50, .i64⟩
  | 15 => ⟨S128x50, .i64⟩
  | 16 => ⟨S_, .i64⟩
  | 17 => ⟨S128x50, .i64⟩
  | 18 => ⟨S128x50, .i64⟩
  | 19 => ⟨S_, .i64⟩
  | 20 => ⟨S128x50, .i64⟩
  | 21 => ⟨S128x50, .i64⟩
  | 22 => ⟨S128x50, .i64⟩
  | 23 => ⟨S_, .i64⟩
  | 24 => ⟨S128x50, .i64⟩
  | 25 => ⟨S128x50, .i64⟩
  | 26 => ⟨S128x50, .i32⟩
  | 27 => ⟨S128x50, .i32⟩
  | 28 => ⟨S_, .i32⟩
  | 29 => ⟨S_, .i32⟩
  | 30 => ⟨S_, .i32⟩
  | 31 => ⟨S128x50, .i32⟩
  | 32 => ⟨S128x50, .i32⟩
  | 33 => ⟨S128x50, .i32⟩
  | 34 => ⟨S128x50, .i32⟩
  | 35 => ⟨S128x50, .i32⟩
  | 36 => ⟨S_, .i32⟩
  | 37 => ⟨S128x50, .i32⟩
  | 38 => ⟨S128x50, .i32⟩
  | 39 => ⟨S_, .i32⟩
  | 40 => ⟨S128x50, .i32⟩
  | 41 => ⟨S128x50, .i32⟩
  | 42 => ⟨S128x50, .i32⟩
  | 43 => ⟨S128x50, .i32⟩
  | 44 => ⟨S128x50, .i32⟩
  | 45 => ⟨S_, .i32⟩
  | 46 => ⟨S128x50, .i32⟩
  | 47 => ⟨S128x50, .i32⟩
  | 48 => ⟨S_, .i32⟩
  | 49 => ⟨S128x50, .i32⟩
  | 50 => ⟨S128x50, .i32⟩
  | 51 => ⟨S128x50, .i32⟩
  | 52 => ⟨S128x50, .i32⟩
  | 53 => ⟨S128x50, .i32⟩
  | 54 => ⟨S_, .i32⟩
  | 55 => ⟨S128x50, .i32⟩
  | 56 => ⟨S128x50, .i32⟩
  | 57 => ⟨S_, .i32⟩
  | 58 => ⟨S128x50, .i32⟩
  | 59 => ⟨S128x50, .i32⟩
  | 60 => ⟨S128x50, .i32⟩
  | 61 => ⟨S128x50, .i32⟩
  | 62 => ⟨S128x50, .i32⟩
  | 63 => ⟨S_, .i32⟩
  | 64 => ⟨S128x50, .i32⟩
  | 65 => ⟨S128x50, .i32⟩
  | 66 => ⟨S_, .i32⟩
  | 67 => ⟨S128x50, .i32⟩
  | 68 => ⟨S128x50, .i32⟩
  | 69 => ⟨S128x50, .i32⟩
  | 70 => ⟨S128x50, .i32⟩
  | 71 => ⟨S128x50, .i32⟩
  | 72 => ⟨S128x50, .i32⟩
  | 73 => ⟨S128x50, .i32⟩
  | 74 => ⟨S128x50, .i32⟩
  | 75 => ⟨S_, .i32⟩
  | 76 => ⟨S128x50, .i32⟩
  | 77 => ⟨S128x50, .i32⟩
  | 78 => ⟨S128x50, .i32⟩
  | 79 => ⟨S_, .i32⟩
  | 80 => ⟨S128x50, .i32⟩
  | 81 => ⟨S128x50, .i32⟩
  | 82 => ⟨S_, .i32⟩
  | 83 => ⟨S128x50, .i32⟩
  | 84 => ⟨S128x50, .i32⟩
  | 85 => ⟨S128x50, .i32⟩
  | 86 => ⟨S128x50, .i32⟩
  | 87 => ⟨S128x50, .i32⟩
  | 88 => ⟨S_, .i32⟩
  | 89 => ⟨S128x50, .i32⟩
  | 90 => ⟨S128x50, .i32⟩
  | 91 => ⟨S_, .i32⟩
  | 92 => ⟨S128x50, .i32⟩
  | 93 => ⟨S128x50, .i32⟩
  | 94 => ⟨S128x50, .i32⟩
  | 95 => ⟨S128x50, .i32⟩
  | 96 => ⟨S128x50, .i32⟩
  | 97 => ⟨S_, .i32⟩
  | 98 => ⟨S128x50, .i32⟩
  | 99 => ⟨S128x50, .i32⟩
  | 100 => ⟨S_, .i32⟩
  | 101 => ⟨S128x50, .i32⟩
  | 102 => ⟨S128x50, .i32⟩
  | 103 => ⟨S128x50, .i32⟩
  | 104 => ⟨S128x50, .i32⟩
  | 105 => ⟨S128x50, .i32⟩
  | 106 => ⟨S_, .i32⟩
  | 107 => ⟨S128x50, .i32⟩
  | 108 => ⟨S128x50, .i32⟩
  | 109 => ⟨S_, .i32⟩
  | 110 => ⟨S128x50, .i32⟩
  | 111 => ⟨S128x50, .i32⟩
  | 112 => ⟨S128x50, .i32⟩
  | 113 => ⟨S128x50, .i32⟩
  | 114 => ⟨S128x50, .i32⟩
  | 115 => ⟨S128x50, .i32⟩
  | 116 => ⟨S128x50, .i32⟩
  | 117 => ⟨S128x50, .i32⟩
  | 118 => ⟨S_, .i32⟩
  | 119 => ⟨S128x50, .i32⟩
  | 120 => ⟨S128x50, .i32⟩
  | 121 => ⟨S128x50, .i32⟩
  | 122 => ⟨S_, .i32⟩
  | 123 => ⟨S128x50, .i32⟩
  | 124 => ⟨S128x50, .i32⟩
  | 125 => ⟨S_, .i32⟩
  | 126 => ⟨S128x50, .i32⟩
  | 127 => ⟨S128x50, .i32⟩
  | _ => ⟨S2x32x4x100000, .f32⟩

abbrev hbmTy0_3 (i : Nat) : BufTy := match i % 128 with
  | 0 => ⟨S128x50, .i32⟩
  | 1 => ⟨S128x50, .i32⟩
  | 2 => ⟨S128x50, .i32⟩
  | 3 => ⟨S_, .i32⟩
  | 4 => ⟨S128x50, .i32⟩
  | 5 => ⟨S128x50, .i32⟩
  | 6 => ⟨S_, .i32⟩
  | 7 => ⟨S128x50, .i32⟩
  | 8 => ⟨S128x50, .i32⟩
  | 9 => ⟨S128x50, .i32⟩
  | 10 => ⟨S128x50, .i32⟩
  | 11 => ⟨S128x50, .i32⟩
  | 12 => ⟨S_, .i32⟩
  | 13 => ⟨S128x50, .i32⟩
  | 14 => ⟨S128x50, .i32⟩
  | 15 => ⟨S_, .i32⟩
  | 16 => ⟨S128x50, .i32⟩
  | 17 => ⟨S128x50, .i32⟩
  | 18 => ⟨S128x50, .i32⟩
  | 19 => ⟨S128x50, .i32⟩
  | 20 => ⟨S128x50, .i32⟩
  | 21 => ⟨S_, .i32⟩
  | 22 => ⟨S128x50, .i32⟩
  | 23 => ⟨S128x50, .i32⟩
  | 24 => ⟨S_, .i32⟩
  | 25 => ⟨S128x50, .i32⟩
  | 26 => ⟨S128x50, .i32⟩
  | 27 => ⟨S128x50, .i32⟩
  | 28 => ⟨S128x50, .i32⟩
  | 29 => ⟨S128x50, .i32⟩
  | 30 => ⟨S128x50, .i32⟩
  | 31 => ⟨S128x50, .i32⟩
  | 32 => ⟨S128x50, .i32⟩
  | 33 => ⟨S_, .i32⟩
  | 34 => ⟨S128x50, .i32⟩
  | 35 => ⟨S128x50, .i32⟩
  | 36 => ⟨S128x50, .i32⟩
  | 37 => ⟨S_, .i32⟩
  | 38 => ⟨S128x50, .i32⟩
  | 39 => ⟨S128x50, .i32⟩
  | 40 => ⟨S_, .i32⟩
  | 41 => ⟨S128x50, .i32⟩
  | 42 => ⟨S128x50, .i32⟩
  | 43 => ⟨S128x50, .i32⟩
  | 44 => ⟨S128x50, .i32⟩
  | 45 => ⟨S128x50, .i32⟩
  | 46 => ⟨S_, .i32⟩
  | 47 => ⟨S128x50, .i32⟩
  | 48 => ⟨S128x50, .i32⟩
  | 49 => ⟨S_, .i32⟩
  | 50 => ⟨S128x50, .i32⟩
  | 51 => ⟨S128x50, .i32⟩
  | 52 => ⟨S128x50, .i32⟩
  | 53 => ⟨S128x50, .i32⟩
  | 54 => ⟨S128x50, .i32⟩
  | 55 => ⟨S_, .i32⟩
  | 56 => ⟨S128x50, .i32⟩
  | 57 => ⟨S128x50, .i32⟩
  | 58 => ⟨S_, .i32⟩
  | 59 => ⟨S128x50, .i32⟩
  | 60 => ⟨S128x50, .i32⟩
  | 61 => ⟨S128x50, .i32⟩
  | 62 => ⟨S128x50, .i32⟩
  | 63 => ⟨S128x50, .i32⟩
  | 64 => ⟨S_, .i32⟩
  | 65 => ⟨S128x50, .i32⟩
  | 66 => ⟨S128x50, .i32⟩
  | 67 => ⟨S_, .i32⟩
  | 68 => ⟨S128x50, .i32⟩
  | 69 => ⟨S128x50, .i32⟩
  | 70 => ⟨S128x50, .i32⟩
  | 71 => ⟨S128x50, .i32⟩
  | 72 => ⟨S128x50, .i32⟩
  | 73 => ⟨S128x50, .i32⟩
  | 74 => ⟨S128x50, .i32⟩
  | 75 => ⟨S128x50, .i32⟩
  | 76 => ⟨S_, .i32⟩
  | 77 => ⟨S128x50, .i32⟩
  | 78 => ⟨S128x50, .i32⟩
  | 79 => ⟨S128x50, .i32⟩
  | 80 => ⟨S_, .i32⟩
  | 81 => ⟨S128x50, .i32⟩
  | 82 => ⟨S128x50, .i32⟩
  | 83 => ⟨S_, .i32⟩
  | 84 => ⟨S128x50, .i32⟩
  | 85 => ⟨S128x50, .i32⟩
  | 86 => ⟨S128x50, .i32⟩
  | 87 => ⟨S128x50, .i32⟩
  | 88 => ⟨S128x50, .i32⟩
  | 89 => ⟨S_, .i32⟩
  | 90 => ⟨S128x50, .i32⟩
  | 91 => ⟨S128x50, .i32⟩
  | 92 => ⟨S_, .i32⟩
  | 93 => ⟨S128x50, .i32⟩
  | 94 => ⟨S128x50, .i32⟩
  | 95 => ⟨S128x50, .i32⟩
  | 96 => ⟨S128x50, .i32⟩
  | 97 => ⟨S128x50, .i32⟩
  | 98 => ⟨S_, .i32⟩
  | 99 => ⟨S128x50, .i32⟩
  | 100 => ⟨S128x50, .i32⟩
  | 101 => ⟨S_, .i32⟩
  | 102 => ⟨S128x50, .i32⟩
  | 103 => ⟨S128x50, .i32⟩
  | 104 => ⟨S128x50, .i32⟩
  | 105 => ⟨S128x50, .i32⟩
  | 106 => ⟨S128x50, .i32⟩
  | 107 => ⟨S_, .i32⟩
  | 108 => ⟨S128x50, .i32⟩
  | 109 => ⟨S128x50, .i32⟩
  | 110 => ⟨S_, .i32⟩
  | 111 => ⟨S128x50, .i32⟩
  | 112 => ⟨S128x50, .i32⟩
  | 113 => ⟨S128x50, .i32⟩
  | 114 => ⟨S128x50, .i32⟩
  | 115 => ⟨S128x50, .i32⟩
  | 116 => ⟨S128x50, .i32⟩
  | 117 => ⟨S128x50, .i32⟩
  | 118 => ⟨S128x50, .i32⟩
  | 119 => ⟨S_, .i32⟩
  | 120 => ⟨S128x50, .i32⟩
  | 121 => ⟨S128x50, .i32⟩
  | 122 => ⟨S128x50, .i32⟩
  | 123 => ⟨S_, .i32⟩
  | 124 => ⟨S128x50, .i32⟩
  | 125 => ⟨S128x50, .i32⟩
  | 126 => ⟨S_, .i32⟩
  | 127 => ⟨S128x50, .i32⟩
  | _ => ⟨S2x32x4x100000, .f32⟩

abbrev hbmTy0_4 (i : Nat) : BufTy := match i % 128 with
  | 0 => ⟨S128x50, .i32⟩
  | 1 => ⟨S128x50, .f32⟩
  | 2 => ⟨S_, .f32⟩
  | 3 => ⟨S128x50, .f32⟩
  | 4 => ⟨S128x50, .f32⟩
  | 5 => ⟨S1x1, .f32⟩
  | 6 => ⟨S128x50, .f32⟩
  | 7 => ⟨S128x50, .f32⟩
  | 8 => ⟨S128x50, .f32⟩
  | 9 => ⟨S128x50, .f32⟩
  | 10 => ⟨S128x50, .f32⟩
  | 11 => ⟨S128x50, .f32⟩
  | 12 => ⟨S128x50, .f32⟩
  | 13 => ⟨S128x50, .f32⟩
  | 14 => ⟨S128x50, .f32⟩
  | 15 => ⟨S128x50, .f32⟩
  | 16 => ⟨S128x50, .f32⟩
  | 17 => ⟨S128x50, .i32⟩
  | 18 => ⟨S_, .f32⟩
  | 19 => ⟨S_, .i32⟩
  | 20 => ⟨S128, .f32⟩
  | 21 => ⟨S128, .i32⟩
  | 22 => ⟨S32x4, .i32⟩
  | 23 => ⟨S32x4x1, .i32⟩
  | 24 => ⟨S_, .i32⟩
  | 25 => ⟨S32x4x1, .i32⟩
  | 26 => ⟨S32x4x1, .i1⟩
  | 27 => ⟨S_, .i32⟩
  | 28 => ⟨S32x4x1, .i32⟩
  | 29 => ⟨S32x4x1, .i32⟩
  | 30 => ⟨S32x4x1, .i32⟩
  | 31 => ⟨S32x4x1x1, .i32⟩
  | 32 => ⟨S1, .i32⟩
  | 33 => ⟨S_, .i32⟩
  | 34 => ⟨S32x4x1x1, .i32⟩
  | 35 => ⟨S32x4x1x1, .i1⟩
  | 36 => ⟨S1x1x1x1, .i32⟩
  | 37 => ⟨S32x4x1x1, .i32⟩
  | 38 => ⟨S32x4x1x1, .i1⟩
  | 39 => ⟨S32x4x1x1, .i1⟩
  | 40 => ⟨S_, .i1⟩
  | 41 => ⟨S32x4x1, .i1⟩
  | 42 => ⟨S32x4x1, .f32⟩
  | 43 => ⟨S_, .f32⟩
  | 44 => ⟨S32x4x1, .f32⟩
  | 45 => ⟨S32x4x1, .f32⟩
  | 46 => ⟨S32x4x1, .f32⟩
  | 47 => ⟨S32x4, .f32⟩
  | 48 => ⟨S32x4x1, .i32⟩
  | 49 => ⟨S_, .i32⟩
  | 50 => ⟨S32x4x1, .i32⟩
  | 51 => ⟨S32x4x1, .i1⟩
  | 52 => ⟨S_, .i32⟩
  | 53 => ⟨S32x4x1, .i32⟩
  | 54 => ⟨S32x4x1, .i32⟩
  | 55 => ⟨S32x4x1, .i32⟩
  | 56 => ⟨S32x4x1x1, .i32⟩
  | 57 => ⟨S1, .i32⟩
  | 58 => ⟨S_, .i32⟩
  | 59 => ⟨S32x4x1x1, .i32⟩
  | 60 => ⟨S32x4x1x1, .i1⟩
  | 61 => ⟨S1x1x1x1, .i32⟩
  | 62 => ⟨S32x4x1x1, .i32⟩
  | 63 => ⟨S32x4x1x1, .i1⟩
  | 64 => ⟨S32x4x1x1, .i1⟩
  | 65 => ⟨S_, .i1⟩
  | 66 => ⟨S32x4x1, .i1⟩
  | 67 => ⟨S32x4x1, .i32⟩
  | 68 => ⟨S_, .i32⟩
  | 69 => ⟨S32x4x1, .i32⟩
  | 70 => ⟨S32x4x1, .i32⟩
  | 71 => ⟨S32x4, .i32⟩
  | 72 => ⟨S_, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S32x4x1x1, .f32⟩
  | 104 => ⟨S32x4, .f32⟩
  | 105 => ⟨S_, .i32⟩
  | 106 => ⟨S32x4, .i32⟩
  | 107 => ⟨S32x4, .i1⟩
  | 108 => ⟨S_, .i32⟩
  | 109 => ⟨S32x4, .i32⟩
  | 110 => ⟨S32x4, .i32⟩
  | 111 => ⟨S32x4, .i32⟩
  | 112 => ⟨S32x4x1, .i32⟩
  | 113 => ⟨S1, .i32⟩
  | 114 => ⟨S_, .i32⟩
  | 115 => ⟨S32x4x1, .i32⟩
  | 116 => ⟨S32x4x1, .i1⟩
  | 117 => ⟨S1x1x1, .i32⟩
  | 118 => ⟨S32x4x1, .i32⟩
  | 119 => ⟨S32x4x1, .i1⟩
  | 120 => ⟨S32x4x1, .i1⟩
  | 121 => ⟨S_, .i1⟩
  | 122 => ⟨S32x4, .i1⟩
  | 123 => ⟨S32x4, .f32⟩
  | 124 => ⟨S_, .f32⟩
  | 125 => ⟨S32x4, .f32⟩
  | 126 => ⟨S32x4, .f32⟩
  | 127 => ⟨S32x4, .f32⟩
  | _ => ⟨S2x32x4x100000, .f32⟩

abbrev hbmTy0_5 (i : Nat) : BufTy := match i % 128 with
  | 0 => ⟨S1x32x4x100000, .f32⟩
  | 1 => ⟨S32x4x100000, .f32⟩
  | 2 => ⟨S32x4x50, .f32⟩
  | 3 => ⟨S32x4x50, .i32⟩
  | 4 => ⟨S32x4x50, .f32⟩
  | 5 => ⟨S_, .i32⟩
  | 6 => ⟨S_, .i32⟩
  | 7 => ⟨S_, .i32⟩
  | 8 => ⟨S1, .i32⟩
  | 9 => ⟨S_, .i32⟩
  | 10 => ⟨S_, .i32⟩
  | 11 => ⟨S1, .i32⟩
  | 12 => ⟨S2, .i32⟩
  | 13 => ⟨S1, .i32⟩
  | 14 => ⟨S_, .i32⟩
  | 15 => ⟨S1, .i32⟩
  | 16 => ⟨S_, .i32⟩
  | 17 => ⟨S1, .i32⟩
  | 18 => ⟨S1, .i32⟩
  | 19 => ⟨S_, .i32⟩
  | 20 => ⟨S_, .i32⟩
  | 21 => ⟨S_, .i32⟩
  | 22 => ⟨S1, .i32⟩
  | 23 => ⟨S1, .i32⟩
  | 24 => ⟨S1, .i32⟩
  | 25 => ⟨S1, .i32⟩
  | 26 => ⟨S1, .i32⟩
  | 27 => ⟨S_, .i32⟩
  | 28 => ⟨S1, .i32⟩
  | 29 => ⟨S1, .i32⟩
  | 30 => ⟨S_, .i32⟩
  | 31 => ⟨S1, .i32⟩
  | 32 => ⟨S1, .i32⟩
  | 33 => ⟨S1, .i32⟩
  | 34 => ⟨S1, .i32⟩
  | 35 => ⟨S1, .i32⟩
  | 36 => ⟨S_, .i32⟩
  | 37 => ⟨S1, .i32⟩
  | 38 => ⟨S1, .i32⟩
  | 39 => ⟨S_, .i32⟩
  | 40 => ⟨S1, .i32⟩
  | 41 => ⟨S1, .i32⟩
  | 42 => ⟨S1, .i32⟩
  | 43 => ⟨S1, .i32⟩
  | 44 => ⟨S1, .i32⟩
  | 45 => ⟨S_, .i32⟩
  | 46 => ⟨S1, .i32⟩
  | 47 => ⟨S1, .i32⟩
  | 48 => ⟨S_, .i32⟩
  | 49 => ⟨S1, .i32⟩
  | 50 => ⟨S1, .i32⟩
  | 51 => ⟨S1, .i32⟩
  | 52 => ⟨S1, .i32⟩
  | 53 => ⟨S1, .i32⟩
  | 54 => ⟨S_, .i32⟩
  | 55 => ⟨S1, .i32⟩
  | 56 => ⟨S1, .i32⟩
  | 57 => ⟨S_, .i32⟩
  | 58 => ⟨S1, .i32⟩
  | 59 => ⟨S1, .i32⟩
  | 60 => ⟨S1, .i32⟩
  | 61 => ⟨S1, .i32⟩
  | 62 => ⟨S1, .i32⟩
  | 63 => ⟨S1, .i32⟩
  | 64 => ⟨S1, .i32⟩
  | 65 => ⟨S1, .i32⟩
  | 66 => ⟨S_, .i32⟩
  | 67 => ⟨S1, .i32⟩
  | 68 => ⟨S1, .i32⟩
  | 69 => ⟨S1, .i32⟩
  | 70 => ⟨S_, .i32⟩
  | 71 => ⟨S1, .i32⟩
  | 72 => ⟨S1, .i32⟩
  | 73 => ⟨S_, .i32⟩
  | 74 => ⟨S1, .i32⟩
  | 75 => ⟨S1, .i32⟩
  | 76 => ⟨S1, .i32⟩
  | 77 => ⟨S1, .i32⟩
  | 78 => ⟨S1, .i32⟩
  | 79 => ⟨S_, .i32⟩
  | 80 => ⟨S1, .i32⟩
  | 81 => ⟨S1, .i32⟩
  | 82 => ⟨S_, .i32⟩
  | 83 => ⟨S1, .i32⟩
  | 84 => ⟨S1, .i32⟩
  | 85 => ⟨S1, .i32⟩
  | 86 => ⟨S1, .i32⟩
  | 87 => ⟨S1, .i32⟩
  | 88 => ⟨S_, .i32⟩
  | 89 => ⟨S1, .i32⟩
  | 90 => ⟨S1, .i32⟩
  | 91 => ⟨S_, .i32⟩
  | 92 => ⟨S1, .i32⟩
  | 93 => ⟨S1, .i32⟩
  | 94 => ⟨S1, .i32⟩
  | 95 => ⟨S1, .i32⟩
  | 96 => ⟨S1, .i32⟩
  | 97 => ⟨S_, .i32⟩
  | 98 => ⟨S1, .i32⟩
  | 99 => ⟨S1, .i32⟩
  | 100 => ⟨S_, .i32⟩
  | 101 => ⟨S1, .i32⟩
  | 102 => ⟨S1, .i32⟩
  | 103 => ⟨S1, .i32⟩
  | 104 => ⟨S1, .i32⟩
  | 105 => ⟨S1, .i32⟩
  | 106 => ⟨S1, .i32⟩
  | 107 => ⟨S1, .i32⟩
  | 108 => ⟨S1, .i32⟩
  | 109 => ⟨S_, .i32⟩
  | 110 => ⟨S1, .i32⟩
  | 111 => ⟨S1, .i32⟩
  | 112 => ⟨S1, .i32⟩
  | 113 => ⟨S_, .i32⟩
  | 114 => ⟨S1, .i32⟩
  | 115 => ⟨S1, .i32⟩
  | 116 => ⟨S_, .i32⟩
  | 117 => ⟨S1, .i32⟩
  | 118 => ⟨S1, .i32⟩
  | 119 => ⟨S1, .i32⟩
  | 120 => ⟨S1, .i32⟩
  | 121 => ⟨S1, .i32⟩
  | 122 => ⟨S_, .i32⟩
  | 123 => ⟨S1, .i32⟩
  | 124 => ⟨S1, .i32⟩
  | 125 => ⟨S_, .i32⟩
  | 126 => ⟨S1, .i32⟩
  | 127 => ⟨S1, .i32⟩
  | _ => ⟨S2x32x4x100000, .f32⟩

abbrev hbmTy0_6 (i : Nat) : BufTy := match i % 128 with
  | 0 => ⟨S1, .i32⟩
  | 1 => ⟨S1, .i32⟩
  | 2 => ⟨S1, .i32⟩
  | 3 => ⟨S_, .i32⟩
  | 4 => ⟨S1, .i32⟩
  | 5 => ⟨S1, .i32⟩
  | 6 => ⟨S_, .i32⟩
  | 7 => ⟨S1, .i32⟩
  | 8 => ⟨S1, .i32⟩
  | 9 => ⟨S1, .i32⟩
  | 10 => ⟨S1, .i32⟩
  | 11 => ⟨S1, .i32⟩
  | 12 => ⟨S_, .i32⟩
  | 13 => ⟨S1, .i32⟩
  | 14 => ⟨S1, .i32⟩
  | 15 => ⟨S_, .i32⟩
  | 16 => ⟨S1, .i32⟩
  | 17 => ⟨S1, .i32⟩
  | 18 => ⟨S1, .i32⟩
  | 19 => ⟨S1, .i32⟩
  | 20 => ⟨S1, .i32⟩
  | 21 => ⟨S1, .i32⟩
  | 22 => ⟨S1, .i32⟩
  | 23 => ⟨S1, .i32⟩
  | 24 => ⟨S_, .i32⟩
  | 25 => ⟨S1, .i32⟩
  | 26 => ⟨S1, .i32⟩
  | 27 => ⟨S1, .i32⟩
  | 28 => ⟨S_, .i32⟩
  | 29 => ⟨S1, .i32⟩
  | 30 => ⟨S1, .i32⟩
  | 31 => ⟨S_, .i32⟩
  | 32 => ⟨S1, .i32⟩
  | 33 => ⟨S1, .i32⟩
  | 34 => ⟨S1, .i32⟩
  | 35 => ⟨S1, .i32⟩
  | 36 => ⟨S1, .i32⟩
  | 37 => ⟨S_, .i32⟩
  | 38 => ⟨S1, .i32⟩
  | 39 => ⟨S1, .i32⟩
  | 40 => ⟨S_, .i32⟩
  | 41 => ⟨S1, .i32⟩
  | 42 => ⟨S1, .i32⟩
  | 43 => ⟨S1, .i32⟩
  | 44 => ⟨S1, .i32⟩
  | 45 => ⟨S1, .i32⟩
  | 46 => ⟨S_, .i32⟩
  | 47 => ⟨S1, .i32⟩
  | 48 => ⟨S1, .i32⟩
  | 49 => ⟨S_, .i32⟩
  | 50 => ⟨S1, .i32⟩
  | 51 => ⟨S1, .i32⟩
  | 52 => ⟨S1, .i32⟩
  | 53 => ⟨S1, .i32⟩
  | 54 => ⟨S1, .i32⟩
  | 55 => ⟨S_, .i32⟩
  | 56 => ⟨S1, .i32⟩
  | 57 => ⟨S1, .i32⟩
  | 58 => ⟨S_, .i32⟩
  | 59 => ⟨S1, .i32⟩
  | 60 => ⟨S1, .i32⟩
  | 61 => ⟨S1, .i32⟩
  | 62 => ⟨S1, .i32⟩
  | 63 => ⟨S1, .i32⟩
  | 64 => ⟨S1, .i32⟩
  | 65 => ⟨S1, .i32⟩
  | 66 => ⟨S1, .i32⟩
  | 67 => ⟨S_, .i32⟩
  | 68 => ⟨S1, .i32⟩
  | 69 => ⟨S1, .i32⟩
  | 70 => ⟨S1, .i32⟩
  | 71 => ⟨S_, .i32⟩
  | 72 => ⟨S1, .i32⟩
  | 73 => ⟨S1, .i32⟩
  | 74 => ⟨S_, .i32⟩
  | 75 => ⟨S1, .i32⟩
  | 76 => ⟨S1, .i32⟩
  | 77 => ⟨S1, .i32⟩
  | 78 => ⟨S1, .i32⟩
  | 79 => ⟨S1, .i32⟩
  | 80 => ⟨S_, .i32⟩
  | 81 => ⟨S1, .i32⟩
  | 82 => ⟨S1, .i32⟩
  | 83 => ⟨S_, .i32⟩
  | 84 => ⟨S1, .i32⟩
  | 85 => ⟨S1, .i32⟩
  | 86 => ⟨S1, .i32⟩
  | 87 => ⟨S1, .i32⟩
  | 88 => ⟨S1, .i32⟩
  | 89 => ⟨S_, .i32⟩
  | 90 => ⟨S1, .i32⟩
  | 91 => ⟨S1, .i32⟩
  | 92 => ⟨S_, .i32⟩
  | 93 => ⟨S1, .i32⟩
  | 94 => ⟨S1, .i32⟩
  | 95 => ⟨S1, .i32⟩
  | 96 => ⟨S1, .i32⟩
  | 97 => ⟨S1, .i32⟩
  | 98 => ⟨S_, .i32⟩
  | 99 => ⟨S1, .i32⟩
  | 100 => ⟨S1, .i32⟩
  | 101 => ⟨S_, .i32⟩
  | 102 => ⟨S1, .i32⟩
  | 103 => ⟨S1, .i32⟩
  | 104 => ⟨S1, .i32⟩
  | 105 => ⟨S1, .i32⟩
  | 106 => ⟨S1, .i32⟩
  | 107 => ⟨S1, .i32⟩
  | 108 => ⟨S1, .i32⟩
  | 109 => ⟨S1, .i32⟩
  | 110 => ⟨S_, .i32⟩
  | 111 => ⟨S1, .i32⟩
  | 112 => ⟨S1, .i32⟩
  | 113 => ⟨S2, .i32⟩
  | 114 => ⟨S128x50, .f32⟩
  | 115 => ⟨S_, .f32⟩
  | 116 => ⟨S_, .f32⟩
  | 117 => ⟨S_, .f32⟩
  | 118 => ⟨S1x1, .f32⟩
  | 119 => ⟨S1x1, .f32⟩
  | 120 => ⟨S1, .i32⟩
  | 121 => ⟨S_, .i32⟩
  | 122 => ⟨S1, .i32⟩
  | 123 => ⟨S_, .i32⟩
  | 124 => ⟨S128x50, .i64⟩
  | 125 => ⟨S128x50, .i64⟩
  | 126 => ⟨S_, .i64⟩
  | 127 => ⟨S128x50, .i64⟩
  | _ => ⟨S2x32x4x100000, .f32⟩

abbrev hbmTy0_7 (i : Nat) : BufTy := match i % 128 with
  | 0 => ⟨S128x50, .i64⟩
  | 1 => ⟨S_, .i64⟩
  | 2 => ⟨S128x50, .i64⟩
  | 3 => ⟨S128x50, .i64⟩
  | 4 => ⟨S128x50, .i64⟩
  | 5 => ⟨S_, .i64⟩
  | 6 => ⟨S128x50, .i64⟩
  | 7 => ⟨S128x50, .i64⟩
  | 8 => ⟨S128x50, .i32⟩
  | 9 => ⟨S128x50, .i32⟩
  | 10 => ⟨S_, .i32⟩
  | 11 => ⟨S_, .i32⟩
  | 12 => ⟨S_, .i32⟩
  | 13 => ⟨S128x50, .i32⟩
  | 14 => ⟨S128x50, .i32⟩
  | 15 => ⟨S128x50, .i32⟩
  | 16 => ⟨S128x50, .i32⟩
  | 17 => ⟨S128x50, .i32⟩
  | 18 => ⟨S_, .i32⟩
  | 19 => ⟨S128x50, .i32⟩
  | 20 => ⟨S128x50, .i32⟩
  | 21 => ⟨S_, .i32⟩
  | 22 => ⟨S128x50, .i32⟩
  | 23 => ⟨S128x50, .i32⟩
  | 24 => ⟨S128x50, .i32⟩
  | 25 => ⟨S128x50, .i32⟩
  | 26 => ⟨S128x50, .i32⟩
  | 27 => ⟨S_, .i32⟩
  | 28 => ⟨S128x50, .i32⟩
  | 29 => ⟨S128x50, .i32⟩
  | 30 => ⟨S_, .i32⟩
  | 31 => ⟨S128x50, .i32⟩
  | 32 => ⟨S128x50, .i32⟩
  | 33 => ⟨S128x50, .i32⟩
  | 34 => ⟨S128x50, .i32⟩
  | 35 => ⟨S128x50, .i32⟩
  | 36 => ⟨S_, .i32⟩
  | 37 => ⟨S128x50, .i32⟩
  | 38 => ⟨S128x50, .i32⟩
  | 39 => ⟨S_, .i32⟩
  | 40 => ⟨S128x50, .i32⟩
  | 41 => ⟨S128x50, .i32⟩
  | 42 => ⟨S128x50, .i32⟩
  | 43 => ⟨S128x50, .i32⟩
  | 44 => ⟨S128x50, .i32⟩
  | 45 => ⟨S_, .i32⟩
  | 46 => ⟨S128x50, .i32⟩
  | 47 => ⟨S128x50, .i32⟩
  | 48 => ⟨S_, .i32⟩
  | 49 => ⟨S128x50, .i32⟩
  | 50 => ⟨S128x50, .i32⟩
  | 51 => ⟨S128x50, .i32⟩
  | 52 => ⟨S128x50, .i32⟩
  | 53 => ⟨S128x50, .i32⟩
  | 54 => ⟨S128x50, .i32⟩
  | 55 => ⟨S128x50, .i32⟩
  | 56 => ⟨S128x50, .i32⟩
  | 57 => ⟨S_, .i32⟩
  | 58 => ⟨S128x50, .i32⟩
  | 59 => ⟨S128x50, .i32⟩
  | 60 => ⟨S128x50, .i32⟩
  | 61 => ⟨S_, .i32⟩
  | 62 => ⟨S128x50, .i32⟩
  | 63 => ⟨S128x50, .i32⟩
  | 64 => ⟨S_, .i32⟩
  | 65 => ⟨S128x50, .i32⟩
  | 66 => ⟨S128x50, .i32⟩
  | 67 => ⟨S128x50, .i32⟩
  | 68 => ⟨S128x50, .i32⟩
  | 69 => ⟨S128x50, .i32⟩
  | 70 => ⟨S_, .i32⟩
  | 71 => ⟨S128x50, .i32⟩
  | 72 => ⟨S128x50, .i32⟩
  | 73 => ⟨S_, .i32⟩
  | 74 => ⟨S128x50, .i32⟩
  | 75 => ⟨S128x50, .i32⟩
  | 76 => ⟨S128x50, .i32⟩
  | 77 => ⟨S128x50, .i32⟩
  | 78 => ⟨S128x50, .i32⟩
  | 79 => ⟨S_, .i32⟩
  | 80 => ⟨S128x50, .i32⟩
  | 81 => ⟨S128x50, .i32⟩
  | 82 => ⟨S_, .i32⟩
  | 83 => ⟨S128x50, .i32⟩
  | 84 => ⟨S128x50, .i32⟩
  | 85 => ⟨S128x50, .i32⟩
  | 86 => ⟨S128x50, .i32⟩
  | 87 => ⟨S128x50, .i32⟩
  | 88 => ⟨S_, .i32⟩
  | 89 => ⟨S128x50, .i32⟩
  | 90 => ⟨S128x50, .i32⟩
  | 91 => ⟨S_, .i32⟩
  | 92 => ⟨S128x50, .i32⟩
  | 93 => ⟨S128x50, .i32⟩
  | 94 => ⟨S128x50, .i32⟩
  | 95 => ⟨S128x50, .i32⟩
  | 96 => ⟨S128x50, .i32⟩
  | 97 => ⟨S128x50, .i32⟩
  | 98 => ⟨S128x50, .i32⟩
  | 99 => ⟨S128x50, .i32⟩
  | 100 => ⟨S_, .i32⟩
  | 101 => ⟨S128x50, .i32⟩
  | 102 => ⟨S128x50, .i32⟩
  | 103 => ⟨S128x50, .i32⟩
  | 104 => ⟨S_, .i32⟩
  | 105 => ⟨S128x50, .i32⟩
  | 106 => ⟨S128x50, .i32⟩
  | 107 => ⟨S_, .i32⟩
  | 108 => ⟨S128x50, .i32⟩
  | 109 => ⟨S128x50, .i32⟩
  | 110 => ⟨S128x50, .i32⟩
  | 111 => ⟨S128x50, .i32⟩
  | 112 => ⟨S128x50, .i32⟩
  | 113 => ⟨S_, .i32⟩
  | 114 => ⟨S128x50, .i32⟩
  | 115 => ⟨S128x50, .i32⟩
  | 116 => ⟨S_, .i32⟩
  | 117 => ⟨S128x50, .i32⟩
  | 118 => ⟨S128x50, .i32⟩
  | 119 => ⟨S128x50, .i32⟩
  | 120 => ⟨S128x50, .i32⟩
  | 121 => ⟨S128x50, .i32⟩
  | 122 => ⟨S_, .i32⟩
  | 123 => ⟨S128x50, .i32⟩
  | 124 => ⟨S128x50, .i32⟩
  | 125 => ⟨S_, .i32⟩
  | 126 => ⟨S128x50, .i32⟩
  | 127 => ⟨S128x50, .i32⟩
  | _ => ⟨S2x32x4x100000, .f32⟩

abbrev hbmTy0_8 (i : Nat) : BufTy := match i % 128 with
  | 0 => ⟨S128x50, .i32⟩
  | 1 => ⟨S128x50, .i32⟩
  | 2 => ⟨S128x50, .i32⟩
  | 3 => ⟨S_, .i32⟩
  | 4 => ⟨S128x50, .i32⟩
  | 5 => ⟨S128x50, .i32⟩
  | 6 => ⟨S_, .i32⟩
  | 7 => ⟨S128x50, .i32⟩
  | 8 => ⟨S128x50, .i32⟩
  | 9 => ⟨S128x50, .i32⟩
  | 10 => ⟨S128x50, .i32⟩
  | 11 => ⟨S128x50, .i32⟩
  | 12 => ⟨S128x50, .i32⟩
  | 13 => ⟨S128x50, .i32⟩
  | 14 => ⟨S128x50, .i32⟩
  | 15 => ⟨S_, .i32⟩
  | 16 => ⟨S128x50, .i32⟩
  | 17 => ⟨S128x50, .i32⟩
  | 18 => ⟨S128x50, .i32⟩
  | 19 => ⟨S_, .i32⟩
  | 20 => ⟨S128x50, .i32⟩
  | 21 => ⟨S128x50, .i32⟩
  | 22 => ⟨S_, .i32⟩
  | 23 => ⟨S128x50, .i32⟩
  | 24 => ⟨S128x50, .i32⟩
  | 25 => ⟨S128x50, .i32⟩
  | 26 => ⟨S128x50, .i32⟩
  | 27 => ⟨S128x50, .i32⟩
  | 28 => ⟨S_, .i32⟩
  | 29 => ⟨S128x50, .i32⟩
  | 30 => ⟨S128x50, .i32⟩
  | 31 => ⟨S_, .i32⟩
  | 32 => ⟨S128x50, .i32⟩
  | 33 => ⟨S128x50, .i32⟩
  | 34 => ⟨S128x50, .i32⟩
  | 35 => ⟨S128x50, .i32⟩
  | 36 => ⟨S128x50, .i32⟩
  | 37 => ⟨S_, .i32⟩
  | 38 => ⟨S128x50, .i32⟩
  | 39 => ⟨S128x50, .i32⟩
  | 40 => ⟨S_, .i32⟩
  | 41 => ⟨S128x50, .i32⟩
  | 42 => ⟨S128x50, .i32⟩
  | 43 => ⟨S128x50, .i32⟩
  | 44 => ⟨S128x50, .i32⟩
  | 45 => ⟨S128x50, .i32⟩
  | 46 => ⟨S_, .i32⟩
  | 47 => ⟨S128x50, .i32⟩
  | 48 => ⟨S128x50, .i32⟩
  | 49 => ⟨S_, .i32⟩
  | 50 => ⟨S128x50, .i32⟩
  | 51 => ⟨S128x50, .i32⟩
  | 52 => ⟨S128x50, .i32⟩
  | 53 => ⟨S128x50, .i32⟩
  | 54 => ⟨S128x50, .i32⟩
  | 55 => ⟨S128x50, .i32⟩
  | 56 => ⟨S128x50, .i32⟩
  | 57 => ⟨S128x50, .i32⟩
  | 58 => ⟨S_, .i32⟩
  | 59 => ⟨S128x50, .i32⟩
  | 60 => ⟨S128x50, .i32⟩
  | 61 => ⟨S128x50, .i32⟩
  | 62 => ⟨S_, .i32⟩
  | 63 => ⟨S128x50, .i32⟩
  | 64 => ⟨S128x50, .i32⟩
  | 65 => ⟨S_, .i32⟩
  | 66 => ⟨S128x50, .i32⟩
  | 67 => ⟨S128x50, .i32⟩
  | 68 => ⟨S128x50, .i32⟩
  | 69 => ⟨S128x50, .i32⟩
  | 70 => ⟨S128x50, .i32⟩
  | 71 => ⟨S_, .i32⟩
  | 72 => ⟨S128x50, .i32⟩
  | 73 => ⟨S128x50, .i32⟩
  | 74 => ⟨S_, .i32⟩
  | 75 => ⟨S128x50, .i32⟩
  | 76 => ⟨S128x50, .i32⟩
  | 77 => ⟨S128x50, .i32⟩
  | 78 => ⟨S128x50, .i32⟩
  | 79 => ⟨S128x50, .i32⟩
  | 80 => ⟨S_, .i32⟩
  | 81 => ⟨S128x50, .i32⟩
  | 82 => ⟨S128x50, .i32⟩
  | 83 => ⟨S_, .i32⟩
  | 84 => ⟨S128x50, .i32⟩
  | 85 => ⟨S128x50, .i32⟩
  | 86 => ⟨S128x50, .i32⟩
  | 87 => ⟨S128x50, .i32⟩
  | 88 => ⟨S128x50, .i32⟩
  | 89 => ⟨S_, .i32⟩
  | 90 => ⟨S128x50, .i32⟩
  | 91 => ⟨S128x50, .i32⟩
  | 92 => ⟨S_, .i32⟩
  | 93 => ⟨S128x50, .i32⟩
  | 94 => ⟨S128x50, .i32⟩
  | 95 => ⟨S128x50, .i32⟩
  | 96 => ⟨S128x50, .i32⟩
  | 97 => ⟨S128x50, .i32⟩
  | 98 => ⟨S128x50, .i32⟩
  | 99 => ⟨S128x50, .i32⟩
  | 100 => ⟨S128x50, .i32⟩
  | 101 => ⟨S_, .i32⟩
  | 102 => ⟨S128x50, .i32⟩
  | 103 => ⟨S128x50, .i32⟩
  | 104 => ⟨S128x50, .i32⟩
  | 105 => ⟨S_, .i32⟩
  | 106 => ⟨S128x50, .i32⟩
  | 107 => ⟨S128x50, .i32⟩
  | 108 => ⟨S_, .i32⟩
  | 109 => ⟨S128x50, .i32⟩
  | 110 => ⟨S128x50, .i32⟩
  | 111 => ⟨S128x50, .f32⟩
  | 112 => ⟨S_, .f32⟩
  | 113 => ⟨S128x50, .f32⟩
  | 114 => ⟨S128x50, .f32⟩
  | 115 => ⟨S1x1, .f32⟩
  | 116 => ⟨S128x50, .f32⟩
  | 117 => ⟨S128x50, .f32⟩
  | 118 => ⟨S128x50, .f32⟩
  | 119 => ⟨S128x50, .f32⟩
  | 120 => ⟨S128x50, .f32⟩
  | 121 => ⟨S128x50, .f32⟩
  | 122 => ⟨S128x50, .f32⟩
  | 123 => ⟨S128x50, .f32⟩
  | 124 => ⟨S128x50, .f32⟩
  | 125 => ⟨S128x50, .f32⟩
  | 126 => ⟨S128x50, .f32⟩
  | 127 => ⟨S128x50, .i32⟩
  | _ => ⟨S2x32x4x100000, .f32⟩

abbrev hbmTy0_9 (i : Nat) : BufTy := match i % 128 with
  | 0 => ⟨S_, .f32⟩
  | 1 => ⟨S_, .i32⟩
  | 2 => ⟨S128, .f32⟩
  | 3 => ⟨S128, .i32⟩
  | 4 => ⟨S32x4, .i32⟩
  | 5 => ⟨S32x4x1, .i32⟩
  | 6 => ⟨S_, .i32⟩
  | 7 => ⟨S32x4x1, .i32⟩
  | 8 => ⟨S32x4x1, .i1⟩
  | 9 => ⟨S_, .i32⟩
  | 10 => ⟨S32x4x1, .i32⟩
  | 11 => ⟨S32x4x1, .i32⟩
  | 12 => ⟨S32x4x1, .i32⟩
  | 13 => ⟨S32x4x1x1, .i32⟩
  | 14 => ⟨S1, .i32⟩
  | 15 => ⟨S_, .i32⟩
  | 16 => ⟨S32x4x1x1, .i32⟩
  | 17 => ⟨S32x4x1x1, .i1⟩
  | 18 => ⟨S1x1x1x1, .i32⟩
  | 19 => ⟨S32x4x1x1, .i32⟩
  | 20 => ⟨S32x4x1x1, .i1⟩
  | 21 => ⟨S32x4x1x1, .i1⟩
  | 22 => ⟨S_, .i1⟩
  | 23 => ⟨S32x4x1, .i1⟩
  | 24 => ⟨S32x4x1, .f32⟩
  | 25 => ⟨S_, .f32⟩
  | 26 => ⟨S32x4x1, .f32⟩
  | 27 => ⟨S32x4x1, .f32⟩
  | 28 => ⟨S32x4x1, .f32⟩
  | 29 => ⟨S32x4, .f32⟩
  | 30 => ⟨S32x4x1, .i32⟩
  | 31 => ⟨S_, .i32⟩
  | 32 => ⟨S32x4x1, .i32⟩
  | 33 => ⟨S32x4x1, .i1⟩
  | 34 => ⟨S_, .i32⟩
  | 35 => ⟨S32x4x1, .i32⟩
  | 36 => ⟨S32x4x1, .i32⟩
  | 37 => ⟨S32x4x1, .i32⟩
  | 38 => ⟨S32x4x1x1, .i32⟩
  | 39 => ⟨S1, .i32⟩
  | 40 => ⟨S_, .i32⟩
  | 41 => ⟨S32x4x1x1, .i32⟩
  | 42 => ⟨S32x4x1x1, .i1⟩
  | 43 => ⟨S1x1x1x1, .i32⟩
  | 44 => ⟨S32x4x1x1, .i32⟩
  | 45 => ⟨S32x4x1x1, .i1⟩
  | 46 => ⟨S32x4x1x1, .i1⟩
  | 47 => ⟨S_, .i1⟩
  | 48 => ⟨S32x4x1, .i1⟩
  | 49 => ⟨S32x4x1, .i32⟩
  | 50 => ⟨S_, .i32⟩
  | 51 => ⟨S32x4x1, .i32⟩
  | 52 => ⟨S32x4x1, .i32⟩
  | 53 => ⟨S32x4, .i32⟩
  | 54 => ⟨S_, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S32x4x1x1, .f32⟩
  | 86 => ⟨S32x4, .f32⟩
  | 87 => ⟨S_, .i32⟩
  | 88 => ⟨S32x4, .i32⟩
  | 89 => ⟨S32x4, .i1⟩
  | 90 => ⟨S_, .i32⟩
  | 91 => ⟨S32x4, .i32⟩
  | 92 => ⟨S32x4, .i32⟩
  | 93 => ⟨S32x4, .i32⟩
  | 94 => ⟨S32x4x1, .i32⟩
  | 95 => ⟨S1, .i32⟩
  | 96 => ⟨S_, .i32⟩
  | 97 => ⟨S32x4x1, .i32⟩
  | 98 => ⟨S32x4x1, .i1⟩
  | 99 => ⟨S1x1x1, .i32⟩
  | 100 => ⟨S32x4x1, .i32⟩
  | 101 => ⟨S32x4x1, .i1⟩
  | 102 => ⟨S32x4x1, .i1⟩
  | 103 => ⟨S_, .i1⟩
  | 104 => ⟨S32x4, .i1⟩
  | 105 => ⟨S32x4, .f32⟩
  | 106 => ⟨S_, .f32⟩
  | 107 => ⟨S32x4, .f32⟩
  | 108 => ⟨S32x4, .f32⟩
  | 109 => ⟨S32x4, .f32⟩
  | 110 => ⟨S32x4x1, .f32⟩
  | 111 => ⟨S32x4x1, .f32⟩
  | 112 => ⟨S32x4x2, .f32⟩
  | 113 => ⟨S32x4x1, .i32⟩
  | 114 => ⟨S32x4x1, .i32⟩
  | 115 => ⟨S32x4x2, .i32⟩
  | _ => ⟨S2x32x4x100000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S2x32x4x100000, .f32⟩

abbrev bufTy : (tb : Table) → Fin (tcTables nBuf tb) → BufTy
  | .hbm, ⟨i, _⟩ => hbmTy i
  | _, _ => ⟨S2x32x4x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_values : Ref sig .tc := ⟨.hbm, 20, rfl⟩
abbrev main_indices : Ref sig .tc := ⟨.hbm, 21, rfl⟩
abbrev main_v14 : Ref sig .tc := ⟨.hbm, 22, rfl⟩
abbrev main_c_2 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_call0_v0 : Ref sig .tc := ⟨.hbm, 37, rfl⟩
abbrev main_call0_call0_c : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_c_0 : Ref sig .tc := ⟨.hbm, 45, rfl⟩
abbrev main_call0_call0_v7 : Ref sig .tc := ⟨.hbm, 46, rfl⟩
abbrev main_call0_call0_v8 : Ref sig .tc := ⟨.hbm, 47, rfl⟩
abbrev main_call0_call0_c_1 : Ref sig .tc := ⟨.hbm, 48, rfl⟩
abbrev main_call0_call0_v9 : Ref sig .tc := ⟨.hbm, 49, rfl⟩
abbrev main_call0_call0_v10 : Ref sig .tc := ⟨.hbm, 50, rfl⟩
abbrev main_call0_call0_v11 : Ref sig .tc := ⟨.hbm, 51, rfl⟩
abbrev main_call0_call0_v12 : Ref sig .tc := ⟨.hbm, 52, rfl⟩
abbrev main_call0_call0_v13 : Ref sig .tc := ⟨.hbm, 53, rfl⟩
abbrev main_call0_call0_c_2 : Ref sig .tc := ⟨.hbm, 54, rfl⟩
abbrev main_call0_call0_v14 : Ref sig .tc := ⟨.hbm, 55, rfl⟩
abbrev main_call0_call0_v15 : Ref sig .tc := ⟨.hbm, 56, rfl⟩
abbrev main_call0_call0_c_3 : Ref sig .tc := ⟨.hbm, 57, rfl⟩
abbrev main_call0_call0_v16 : Ref sig .tc := ⟨.hbm, 58, rfl⟩
abbrev main_call0_call0_v17 : Ref sig .tc := ⟨.hbm, 59, rfl⟩
abbrev main_call0_call0_v18 : Ref sig .tc := ⟨.hbm, 60, rfl⟩
abbrev main_call0_call0_v19 : Ref sig .tc := ⟨.hbm, 61, rfl⟩
abbrev main_call0_call0_v20 : Ref sig .tc := ⟨.hbm, 62, rfl⟩
abbrev main_call0_call0_c_4 : Ref sig .tc := ⟨.hbm, 63, rfl⟩
abbrev main_call0_call0_v21 : Ref sig .tc := ⟨.hbm, 64, rfl⟩
abbrev main_call0_call0_v22 : Ref sig .tc := ⟨.hbm, 65, rfl⟩
abbrev main_call0_call0_c_5 : Ref sig .tc := ⟨.hbm, 66, rfl⟩
abbrev main_call0_call0_v23 : Ref sig .tc := ⟨.hbm, 67, rfl⟩
abbrev main_call0_call0_v24 : Ref sig .tc := ⟨.hbm, 68, rfl⟩
abbrev main_call0_call0_v25 : Ref sig .tc := ⟨.hbm, 69, rfl⟩
abbrev main_call0_call0_v26 : Ref sig .tc := ⟨.hbm, 70, rfl⟩
abbrev main_call0_call0_v27 : Ref sig .tc := ⟨.hbm, 71, rfl⟩
abbrev main_call0_call0_c_6 : Ref sig .tc := ⟨.hbm, 72, rfl⟩
abbrev main_call0_call0_v28 : Ref sig .tc := ⟨.hbm, 73, rfl⟩
abbrev main_call0_call0_v29 : Ref sig .tc := ⟨.hbm, 74, rfl⟩
abbrev main_call0_call0_c_7 : Ref sig .tc := ⟨.hbm, 75, rfl⟩
abbrev main_call0_call0_v30 : Ref sig .tc := ⟨.hbm, 76, rfl⟩
abbrev main_call0_call0_v31 : Ref sig .tc := ⟨.hbm, 77, rfl⟩
abbrev main_call0_call0_v32 : Ref sig .tc := ⟨.hbm, 78, rfl⟩
abbrev main_call0_call0_v33 : Ref sig .tc := ⟨.hbm, 79, rfl⟩
abbrev main_call0_call0_v34 : Ref sig .tc := ⟨.hbm, 80, rfl⟩
abbrev main_call0_call0_v35 : Ref sig .tc := ⟨.hbm, 81, rfl⟩
abbrev main_call0_call0_v36 : Ref sig .tc := ⟨.hbm, 82, rfl⟩
abbrev main_call0_call0_v37 : Ref sig .tc := ⟨.hbm, 83, rfl⟩
abbrev main_call0_call0_c_8 : Ref sig .tc := ⟨.hbm, 84, rfl⟩
abbrev main_call0_call0_v38 : Ref sig .tc := ⟨.hbm, 85, rfl⟩
abbrev main_call0_call0_v39 : Ref sig .tc := ⟨.hbm, 86, rfl⟩
abbrev main_call0_call0_v40 : Ref sig .tc := ⟨.hbm, 87, rfl⟩
abbrev main_call0_call0_c_9 : Ref sig .tc := ⟨.hbm, 88, rfl⟩
abbrev main_call0_call0_v41 : Ref sig .tc := ⟨.hbm, 89, rfl⟩
abbrev main_call0_call0_v42 : Ref sig .tc := ⟨.hbm, 90, rfl⟩
abbrev main_call0_call0_c_10 : Ref sig .tc := ⟨.hbm, 91, rfl⟩
abbrev main_call0_call0_v43 : Ref sig .tc := ⟨.hbm, 92, rfl⟩
abbrev main_call0_call0_v44 : Ref sig .tc := ⟨.hbm, 93, rfl⟩
abbrev main_call0_call0_v45 : Ref sig .tc := ⟨.hbm, 94, rfl⟩
abbrev main_call0_call0_v46 : Ref sig .tc := ⟨.hbm, 95, rfl⟩
abbrev main_call0_call0_v47 : Ref sig .tc := ⟨.hbm, 96, rfl⟩
abbrev main_call0_call0_c_11 : Ref sig .tc := ⟨.hbm, 97, rfl⟩
abbrev main_call0_call0_v48 : Ref sig .tc := ⟨.hbm, 98, rfl⟩
abbrev main_call0_call0_v49 : Ref sig .tc := ⟨.hbm, 99, rfl⟩
abbrev main_call0_call0_c_12 : Ref sig .tc := ⟨.hbm, 100, rfl⟩
abbrev main_call0_call0_v50 : Ref sig .tc := ⟨.hbm, 101, rfl⟩
abbrev main_call0_call0_v51 : Ref sig .tc := ⟨.hbm, 102, rfl⟩
abbrev main_call0_call0_v52 : Ref sig .tc := ⟨.hbm, 103, rfl⟩
abbrev main_call0_call0_v53 : Ref sig .tc := ⟨.hbm, 104, rfl⟩
abbrev main_call0_call0_v54 : Ref sig .tc := ⟨.hbm, 105, rfl⟩
abbrev main_call0_call0_c_13 : Ref sig .tc := ⟨.hbm, 106, rfl⟩
abbrev main_call0_call0_v55 : Ref sig .tc := ⟨.hbm, 107, rfl⟩
abbrev main_call0_call0_v56 : Ref sig .tc := ⟨.hbm, 108, rfl⟩
abbrev main_call0_call0_c_14 : Ref sig .tc := ⟨.hbm, 109, rfl⟩
abbrev main_call0_call0_v57 : Ref sig .tc := ⟨.hbm, 110, rfl⟩
abbrev main_call0_call0_v58 : Ref sig .tc := ⟨.hbm, 111, rfl⟩
abbrev main_call0_call0_v59 : Ref sig .tc := ⟨.hbm, 112, rfl⟩
abbrev main_call0_call0_v60 : Ref sig .tc := ⟨.hbm, 113, rfl⟩
abbrev main_call0_call0_v61 : Ref sig .tc := ⟨.hbm, 114, rfl⟩
abbrev main_call0_call0_c_15 : Ref sig .tc := ⟨.hbm, 115, rfl⟩
abbrev main_call0_call0_v62 : Ref sig .tc := ⟨.hbm, 116, rfl⟩
abbrev main_call0_call0_v63 : Ref sig .tc := ⟨.hbm, 117, rfl⟩
abbrev main_call0_call0_c_16 : Ref sig .tc := ⟨.hbm, 118, rfl⟩
abbrev main_call0_call0_v64 : Ref sig .tc := ⟨.hbm, 119, rfl⟩
abbrev main_call0_call0_v65 : Ref sig .tc := ⟨.hbm, 120, rfl⟩
abbrev main_call0_call0_v66 : Ref sig .tc := ⟨.hbm, 121, rfl⟩
abbrev main_call0_call0_v67 : Ref sig .tc := ⟨.hbm, 122, rfl⟩
abbrev main_call0_call0_v68 : Ref sig .tc := ⟨.hbm, 123, rfl⟩
abbrev main_call0_call0_v69 : Ref sig .tc := ⟨.hbm, 124, rfl⟩
abbrev main_call0_call0_v70 : Ref sig .tc := ⟨.hbm, 125, rfl⟩
abbrev main_call0_call0_v71 : Ref sig .tc := ⟨.hbm, 126, rfl⟩
abbrev main_call0_call0_c_17 : Ref sig .tc := ⟨.hbm, 127, rfl⟩
abbrev main_call0_call0_v72 : Ref sig .tc := ⟨.hbm, 128, rfl⟩
abbrev main_call0_call0_v73 : Ref sig .tc := ⟨.hbm, 129, rfl⟩
abbrev main_call0_call0_v74 : Ref sig .tc := ⟨.hbm, 130, rfl⟩
abbrev main_call0_call0_c_18 : Ref sig .tc := ⟨.hbm, 131, rfl⟩
abbrev main_call0_call0_v75 : Ref sig .tc := ⟨.hbm, 132, rfl⟩
abbrev main_call0_call0_v76 : Ref sig .tc := ⟨.hbm, 133, rfl⟩
abbrev main_call0_call0_c_19 : Ref sig .tc := ⟨.hbm, 134, rfl⟩
abbrev main_call0_call0_v77 : Ref sig .tc := ⟨.hbm, 135, rfl⟩
abbrev main_call0_call0_v78 : Ref sig .tc := ⟨.hbm, 136, rfl⟩
abbrev main_call0_call0_v79 : Ref sig .tc := ⟨.hbm, 137, rfl⟩
abbrev main_call0_call0_v80 : Ref sig .tc := ⟨.hbm, 138, rfl⟩
abbrev main_call0_call0_v81 : Ref sig .tc := ⟨.hbm, 139, rfl⟩
abbrev main_call0_call0_c_20 : Ref sig .tc := ⟨.hbm, 140, rfl⟩
abbrev main_call0_call0_v82 : Ref sig .tc := ⟨.hbm, 141, rfl⟩
abbrev main_call0_call0_v83 : Ref sig .tc := ⟨.hbm, 142, rfl⟩
abbrev main_call0_call0_c_21 : Ref sig .tc := ⟨.hbm, 143, rfl⟩
abbrev main_call0_call0_v84 : Ref sig .tc := ⟨.hbm, 144, rfl⟩
abbrev main_call0_call0_v85 : Ref sig .tc := ⟨.hbm, 145, rfl⟩
abbrev main_call0_call0_v86 : Ref sig .tc := ⟨.hbm, 146, rfl⟩
abbrev main_call0_call0_v87 : Ref sig .tc := ⟨.hbm, 147, rfl⟩
abbrev main_call0_call0_v88 : Ref sig .tc := ⟨.hbm, 148, rfl⟩
abbrev main_call0_call0_c_22 : Ref sig .tc := ⟨.hbm, 149, rfl⟩
abbrev main_call0_call0_v89 : Ref sig .tc := ⟨.hbm, 150, rfl⟩
abbrev main_call0_call0_v90 : Ref sig .tc := ⟨.hbm, 151, rfl⟩
abbrev main_call0_call0_c_23 : Ref sig .tc := ⟨.hbm, 152, rfl⟩
abbrev main_call0_call0_v91 : Ref sig .tc := ⟨.hbm, 153, rfl⟩
abbrev main_call0_call0_v92 : Ref sig .tc := ⟨.hbm, 154, rfl⟩
abbrev main_call0_call0_v93 : Ref sig .tc := ⟨.hbm, 155, rfl⟩
abbrev main_call0_call0_v94 : Ref sig .tc := ⟨.hbm, 156, rfl⟩
abbrev main_call0_call0_v95 : Ref sig .tc := ⟨.hbm, 157, rfl⟩
abbrev main_call0_call0_c_24 : Ref sig .tc := ⟨.hbm, 158, rfl⟩
abbrev main_call0_call0_v96 : Ref sig .tc := ⟨.hbm, 159, rfl⟩
abbrev main_call0_call0_v97 : Ref sig .tc := ⟨.hbm, 160, rfl⟩
abbrev main_call0_call0_c_25 : Ref sig .tc := ⟨.hbm, 161, rfl⟩
abbrev main_call0_call0_v98 : Ref sig .tc := ⟨.hbm, 162, rfl⟩
abbrev main_call0_call0_v99 : Ref sig .tc := ⟨.hbm, 163, rfl⟩
abbrev main_call0_call0_v100 : Ref sig .tc := ⟨.hbm, 164, rfl⟩
abbrev main_call0_call0_v101 : Ref sig .tc := ⟨.hbm, 165, rfl⟩
abbrev main_call0_call0_v102 : Ref sig .tc := ⟨.hbm, 166, rfl⟩
abbrev main_call0_call0_v103 : Ref sig .tc := ⟨.hbm, 167, rfl⟩
abbrev main_call0_call0_v104 : Ref sig .tc := ⟨.hbm, 168, rfl⟩
abbrev main_call0_call0_v105 : Ref sig .tc := ⟨.hbm, 169, rfl⟩
abbrev main_call0_call0_c_26 : Ref sig .tc := ⟨.hbm, 170, rfl⟩
abbrev main_call0_call0_v106 : Ref sig .tc := ⟨.hbm, 171, rfl⟩
abbrev main_call0_call0_v107 : Ref sig .tc := ⟨.hbm, 172, rfl⟩
abbrev main_call0_call0_v108 : Ref sig .tc := ⟨.hbm, 173, rfl⟩
abbrev main_call0_call0_c_27 : Ref sig .tc := ⟨.hbm, 174, rfl⟩
abbrev main_call0_call0_v109 : Ref sig .tc := ⟨.hbm, 175, rfl⟩
abbrev main_call0_call0_v110 : Ref sig .tc := ⟨.hbm, 176, rfl⟩
abbrev main_call0_call0_c_28 : Ref sig .tc := ⟨.hbm, 177, rfl⟩
abbrev main_call0_call0_v111 : Ref sig .tc := ⟨.hbm, 178, rfl⟩
abbrev main_call0_call0_v112 : Ref sig .tc := ⟨.hbm, 179, rfl⟩
abbrev main_call0_call0_v113 : Ref sig .tc := ⟨.hbm, 180, rfl⟩
abbrev main_call0_call0_v114 : Ref sig .tc := ⟨.hbm, 181, rfl⟩
abbrev main_call0_call0_v115 : Ref sig .tc := ⟨.hbm, 182, rfl⟩
abbrev main_call0_call0_c_29 : Ref sig .tc := ⟨.hbm, 183, rfl⟩
abbrev main_call0_call0_v116 : Ref sig .tc := ⟨.hbm, 184, rfl⟩
abbrev main_call0_call0_v117 : Ref sig .tc := ⟨.hbm, 185, rfl⟩
abbrev main_call0_call0_c_30 : Ref sig .tc := ⟨.hbm, 186, rfl⟩
abbrev main_call0_call0_v118 : Ref sig .tc := ⟨.hbm, 187, rfl⟩
abbrev main_call0_call0_v119 : Ref sig .tc := ⟨.hbm, 188, rfl⟩
abbrev main_call0_call0_v120 : Ref sig .tc := ⟨.hbm, 189, rfl⟩
abbrev main_call0_call0_v121 : Ref sig .tc := ⟨.hbm, 190, rfl⟩
abbrev main_call0_call0_v122 : Ref sig .tc := ⟨.hbm, 191, rfl⟩
abbrev main_call0_call0_c_31 : Ref sig .tc := ⟨.hbm, 192, rfl⟩
abbrev main_call0_call0_v123 : Ref sig .tc := ⟨.hbm, 193, rfl⟩
abbrev main_call0_call0_v124 : Ref sig .tc := ⟨.hbm, 194, rfl⟩
abbrev main_call0_call0_c_32 : Ref sig .tc := ⟨.hbm, 195, rfl⟩
abbrev main_call0_call0_v125 : Ref sig .tc := ⟨.hbm, 196, rfl⟩
abbrev main_call0_call0_v126 : Ref sig .tc := ⟨.hbm, 197, rfl⟩
abbrev main_call0_call0_v127 : Ref sig .tc := ⟨.hbm, 198, rfl⟩
abbrev main_call0_call0_v128 : Ref sig .tc := ⟨.hbm, 199, rfl⟩
abbrev main_call0_call0_v129 : Ref sig .tc := ⟨.hbm, 200, rfl⟩
abbrev main_call0_call0_c_33 : Ref sig .tc := ⟨.hbm, 201, rfl⟩
abbrev main_call0_call0_v130 : Ref sig .tc := ⟨.hbm, 202, rfl⟩
abbrev main_call0_call0_v131 : Ref sig .tc := ⟨.hbm, 203, rfl⟩
abbrev main_call0_call0_c_34 : Ref sig .tc := ⟨.hbm, 204, rfl⟩
abbrev main_call0_call0_v132 : Ref sig .tc := ⟨.hbm, 205, rfl⟩
abbrev main_call0_call0_v133 : Ref sig .tc := ⟨.hbm, 206, rfl⟩
abbrev main_call0_call0_v134 : Ref sig .tc := ⟨.hbm, 207, rfl⟩
abbrev main_call0_call0_v135 : Ref sig .tc := ⟨.hbm, 208, rfl⟩
abbrev main_call0_call0_v136 : Ref sig .tc := ⟨.hbm, 209, rfl⟩
abbrev main_call0_call0_v137 : Ref sig .tc := ⟨.hbm, 210, rfl⟩
abbrev main_call0_call0_v138 : Ref sig .tc := ⟨.hbm, 211, rfl⟩
abbrev main_call0_call0_v139 : Ref sig .tc := ⟨.hbm, 212, rfl⟩
abbrev main_call0_call0_c_35 : Ref sig .tc := ⟨.hbm, 213, rfl⟩
abbrev main_call0_call0_v140 : Ref sig .tc := ⟨.hbm, 214, rfl⟩
abbrev main_call0_call0_v141 : Ref sig .tc := ⟨.hbm, 215, rfl⟩
abbrev main_call0_call0_v142 : Ref sig .tc := ⟨.hbm, 216, rfl⟩
abbrev main_call0_call0_c_36 : Ref sig .tc := ⟨.hbm, 217, rfl⟩
abbrev main_call0_call0_v143 : Ref sig .tc := ⟨.hbm, 218, rfl⟩
abbrev main_call0_call0_v144 : Ref sig .tc := ⟨.hbm, 219, rfl⟩
abbrev main_call0_call0_c_37 : Ref sig .tc := ⟨.hbm, 220, rfl⟩
abbrev main_call0_call0_v145 : Ref sig .tc := ⟨.hbm, 221, rfl⟩
abbrev main_call0_call0_v146 : Ref sig .tc := ⟨.hbm, 222, rfl⟩
abbrev main_call0_call0_v147 : Ref sig .tc := ⟨.hbm, 223, rfl⟩
abbrev main_call0_call0_v148 : Ref sig .tc := ⟨.hbm, 224, rfl⟩
abbrev main_call0_call0_v149 : Ref sig .tc := ⟨.hbm, 225, rfl⟩
abbrev main_call0_call0_c_38 : Ref sig .tc := ⟨.hbm, 226, rfl⟩
abbrev main_call0_call0_v150 : Ref sig .tc := ⟨.hbm, 227, rfl⟩
abbrev main_call0_call0_v151 : Ref sig .tc := ⟨.hbm, 228, rfl⟩
abbrev main_call0_call0_c_39 : Ref sig .tc := ⟨.hbm, 229, rfl⟩
abbrev main_call0_call0_v152 : Ref sig .tc := ⟨.hbm, 230, rfl⟩
abbrev main_call0_call0_v153 : Ref sig .tc := ⟨.hbm, 231, rfl⟩
abbrev main_call0_call0_v154 : Ref sig .tc := ⟨.hbm, 232, rfl⟩
abbrev main_call0_call0_v155 : Ref sig .tc := ⟨.hbm, 233, rfl⟩
abbrev main_call0_call0_v156 : Ref sig .tc := ⟨.hbm, 234, rfl⟩
abbrev main_call0_call0_c_40 : Ref sig .tc := ⟨.hbm, 235, rfl⟩
abbrev main_call0_call0_v157 : Ref sig .tc := ⟨.hbm, 236, rfl⟩
abbrev main_call0_call0_v158 : Ref sig .tc := ⟨.hbm, 237, rfl⟩
abbrev main_call0_call0_c_41 : Ref sig .tc := ⟨.hbm, 238, rfl⟩
abbrev main_call0_call0_v159 : Ref sig .tc := ⟨.hbm, 239, rfl⟩
abbrev main_call0_call0_v160 : Ref sig .tc := ⟨.hbm, 240, rfl⟩
abbrev main_call0_call0_v161 : Ref sig .tc := ⟨.hbm, 241, rfl⟩
abbrev main_call0_call0_v162 : Ref sig .tc := ⟨.hbm, 242, rfl⟩
abbrev main_call0_call0_v163 : Ref sig .tc := ⟨.hbm, 243, rfl⟩
abbrev main_call0_call0_c_42 : Ref sig .tc := ⟨.hbm, 244, rfl⟩
abbrev main_call0_call0_v164 : Ref sig .tc := ⟨.hbm, 245, rfl⟩
abbrev main_call0_call0_v165 : Ref sig .tc := ⟨.hbm, 246, rfl⟩
abbrev main_call0_call0_c_43 : Ref sig .tc := ⟨.hbm, 247, rfl⟩
abbrev main_call0_call0_v166 : Ref sig .tc := ⟨.hbm, 248, rfl⟩
abbrev main_call0_call0_v167 : Ref sig .tc := ⟨.hbm, 249, rfl⟩
abbrev main_call0_call0_v168 : Ref sig .tc := ⟨.hbm, 250, rfl⟩
abbrev main_call0_call0_v169 : Ref sig .tc := ⟨.hbm, 251, rfl⟩
abbrev main_call0_call0_v170 : Ref sig .tc := ⟨.hbm, 252, rfl⟩
abbrev main_call0_v11_0 : Ref sig .tc := ⟨.hbm, 253, rfl⟩
abbrev main_call0_call0_v172 : Ref sig .tc := ⟨.hbm, 254, rfl⟩
abbrev main_call0_call0_v173 : Ref sig .tc := ⟨.hbm, 255, rfl⟩
abbrev main_call0_call0_c_44 : Ref sig .tc := ⟨.hbm, 256, rfl⟩
abbrev main_call0_call0_v174 : Ref sig .tc := ⟨.hbm, 257, rfl⟩
abbrev main_call0_v11_1 : Ref sig .tc := ⟨.hbm, 258, rfl⟩
abbrev main_v15 : Ref sig .tc := ⟨.hbm, 259, rfl⟩
abbrev main_v16 : Ref sig .tc := ⟨.hbm, 260, rfl⟩
abbrev main_call1_cst : Ref sig .tc := ⟨.hbm, 261, rfl⟩
abbrev main_call1_cst_0 : Ref sig .tc := ⟨.hbm, 262, rfl⟩
abbrev main_call1_call0_v0 : Ref sig .tc := ⟨.hbm, 263, rfl⟩
abbrev main_call1_call0_v1 : Ref sig .tc := ⟨.hbm, 264, rfl⟩
abbrev main_call1_call0_v2 : Ref sig .tc := ⟨.hbm, 265, rfl⟩
abbrev main_call1_call0_v3 : Ref sig .tc := ⟨.hbm, 266, rfl⟩
abbrev main_call1_call0_v4 : Ref sig .tc := ⟨.hbm, 267, rfl⟩
abbrev main_call1_call0_v5 : Ref sig .tc := ⟨.hbm, 268, rfl⟩
abbrev main_call1_call0_v6 : Ref sig .tc := ⟨.hbm, 269, rfl⟩
abbrev main_call1_call0_v7 : Ref sig .tc := ⟨.hbm, 270, rfl⟩
abbrev main_call1_call0_v8 : Ref sig .tc := ⟨.hbm, 271, rfl⟩
abbrev main_call1_call0_c : Ref sig .tc := ⟨.hbm, 272, rfl⟩
abbrev main_call1_call0_v9 : Ref sig .tc := ⟨.hbm, 273, rfl⟩
abbrev main_call1_call0_v10 : Ref sig .tc := ⟨.hbm, 274, rfl⟩
abbrev main_call1_call0_c_0 : Ref sig .tc := ⟨.hbm, 275, rfl⟩
abbrev main_call1_call0_v11 : Ref sig .tc := ⟨.hbm, 276, rfl⟩
abbrev main_call1_call0_v12 : Ref sig .tc := ⟨.hbm, 277, rfl⟩
abbrev main_call1_call0_v13 : Ref sig .tc := ⟨.hbm, 278, rfl⟩
abbrev main_call1_call0_c_1 : Ref sig .tc := ⟨.hbm, 279, rfl⟩
abbrev main_call1_call0_v14 : Ref sig .tc := ⟨.hbm, 280, rfl⟩
abbrev main_call1_call0_v15 : Ref sig .tc := ⟨.hbm, 281, rfl⟩
abbrev main_call1_call0_v16 : Ref sig .tc := ⟨.hbm, 282, rfl⟩
abbrev main_call1_call0_v17 : Ref sig .tc := ⟨.hbm, 283, rfl⟩
abbrev main_call1_call0_call0_v0 : Ref sig .tc := ⟨.hbm, 284, rfl⟩
abbrev main_call1_call0_call0_c : Ref sig .tc := ⟨.hbm, 285, rfl⟩
abbrev main_call1_call0_call0_v1 : Ref sig .tc := ⟨.hbm, 286, rfl⟩
abbrev main_call1_call0_call0_v2 : Ref sig .tc := ⟨.hbm, 287, rfl⟩
abbrev main_call1_call0_call0_v3 : Ref sig .tc := ⟨.hbm, 288, rfl⟩
abbrev main_call1_call0_call0_v4 : Ref sig .tc := ⟨.hbm, 289, rfl⟩
abbrev main_call1_call0_call0_v5 : Ref sig .tc := ⟨.hbm, 290, rfl⟩
abbrev main_call1_call0_call0_v6 : Ref sig .tc := ⟨.hbm, 291, rfl⟩
abbrev main_call1_call0_call0_c_0 : Ref sig .tc := ⟨.hbm, 292, rfl⟩
abbrev main_call1_call0_call0_v7 : Ref sig .tc := ⟨.hbm, 293, rfl⟩
abbrev main_call1_call0_call0_v8 : Ref sig .tc := ⟨.hbm, 294, rfl⟩
abbrev main_call1_call0_call0_c_1 : Ref sig .tc := ⟨.hbm, 295, rfl⟩
abbrev main_call1_call0_call0_v9 : Ref sig .tc := ⟨.hbm, 296, rfl⟩
abbrev main_call1_call0_call0_v10 : Ref sig .tc := ⟨.hbm, 297, rfl⟩
abbrev main_call1_call0_call0_v11 : Ref sig .tc := ⟨.hbm, 298, rfl⟩
abbrev main_call1_call0_call0_v12 : Ref sig .tc := ⟨.hbm, 299, rfl⟩
abbrev main_call1_call0_call0_v13 : Ref sig .tc := ⟨.hbm, 300, rfl⟩
abbrev main_call1_call0_call0_c_2 : Ref sig .tc := ⟨.hbm, 301, rfl⟩
abbrev main_call1_call0_call0_v14 : Ref sig .tc := ⟨.hbm, 302, rfl⟩
abbrev main_call1_call0_call0_v15 : Ref sig .tc := ⟨.hbm, 303, rfl⟩
abbrev main_call1_call0_call0_c_3 : Ref sig .tc := ⟨.hbm, 304, rfl⟩
abbrev main_call1_call0_call0_v16 : Ref sig .tc := ⟨.hbm, 305, rfl⟩
abbrev main_call1_call0_call0_v17 : Ref sig .tc := ⟨.hbm, 306, rfl⟩
abbrev main_call1_call0_call0_v18 : Ref sig .tc := ⟨.hbm, 307, rfl⟩
abbrev main_call1_call0_call0_v19 : Ref sig .tc := ⟨.hbm, 308, rfl⟩
abbrev main_call1_call0_call0_v20 : Ref sig .tc := ⟨.hbm, 309, rfl⟩
abbrev main_call1_call0_call0_c_4 : Ref sig .tc := ⟨.hbm, 310, rfl⟩
abbrev main_call1_call0_call0_v21 : Ref sig .tc := ⟨.hbm, 311, rfl⟩
abbrev main_call1_call0_call0_v22 : Ref sig .tc := ⟨.hbm, 312, rfl⟩
abbrev main_call1_call0_call0_c_5 : Ref sig .tc := ⟨.hbm, 313, rfl⟩
abbrev main_call1_call0_call0_v23 : Ref sig .tc := ⟨.hbm, 314, rfl⟩
abbrev main_call1_call0_call0_v24 : Ref sig .tc := ⟨.hbm, 315, rfl⟩
abbrev main_call1_call0_call0_v25 : Ref sig .tc := ⟨.hbm, 316, rfl⟩
abbrev main_call1_call0_call0_v26 : Ref sig .tc := ⟨.hbm, 317, rfl⟩
abbrev main_call1_call0_call0_v27 : Ref sig .tc := ⟨.hbm, 318, rfl⟩
abbrev main_call1_call0_call0_c_6 : Ref sig .tc := ⟨.hbm, 319, rfl⟩
abbrev main_call1_call0_call0_v28 : Ref sig .tc := ⟨.hbm, 320, rfl⟩
abbrev main_call1_call0_call0_v29 : Ref sig .tc := ⟨.hbm, 321, rfl⟩
abbrev main_call1_call0_call0_c_7 : Ref sig .tc := ⟨.hbm, 322, rfl⟩
abbrev main_call1_call0_call0_v30 : Ref sig .tc := ⟨.hbm, 323, rfl⟩
abbrev main_call1_call0_call0_v31 : Ref sig .tc := ⟨.hbm, 324, rfl⟩
abbrev main_call1_call0_call0_v32 : Ref sig .tc := ⟨.hbm, 325, rfl⟩
abbrev main_call1_call0_call0_v33 : Ref sig .tc := ⟨.hbm, 326, rfl⟩
abbrev main_call1_call0_call0_v34 : Ref sig .tc := ⟨.hbm, 327, rfl⟩
abbrev main_call1_call0_call0_v35 : Ref sig .tc := ⟨.hbm, 328, rfl⟩
abbrev main_call1_call0_call0_v36 : Ref sig .tc := ⟨.hbm, 329, rfl⟩
abbrev main_call1_call0_call0_v37 : Ref sig .tc := ⟨.hbm, 330, rfl⟩
abbrev main_call1_call0_call0_c_8 : Ref sig .tc := ⟨.hbm, 331, rfl⟩
abbrev main_call1_call0_call0_v38 : Ref sig .tc := ⟨.hbm, 332, rfl⟩
abbrev main_call1_call0_call0_v39 : Ref sig .tc := ⟨.hbm, 333, rfl⟩
abbrev main_call1_call0_call0_v40 : Ref sig .tc := ⟨.hbm, 334, rfl⟩
abbrev main_call1_call0_call0_c_9 : Ref sig .tc := ⟨.hbm, 335, rfl⟩
abbrev main_call1_call0_call0_v41 : Ref sig .tc := ⟨.hbm, 336, rfl⟩
abbrev main_call1_call0_call0_v42 : Ref sig .tc := ⟨.hbm, 337, rfl⟩
abbrev main_call1_call0_call0_c_10 : Ref sig .tc := ⟨.hbm, 338, rfl⟩
abbrev main_call1_call0_call0_v43 : Ref sig .tc := ⟨.hbm, 339, rfl⟩
abbrev main_call1_call0_call0_v44 : Ref sig .tc := ⟨.hbm, 340, rfl⟩
abbrev main_call1_call0_call0_v45 : Ref sig .tc := ⟨.hbm, 341, rfl⟩
abbrev main_call1_call0_call0_v46 : Ref sig .tc := ⟨.hbm, 342, rfl⟩
abbrev main_call1_call0_call0_v47 : Ref sig .tc := ⟨.hbm, 343, rfl⟩
abbrev main_call1_call0_call0_c_11 : Ref sig .tc := ⟨.hbm, 344, rfl⟩
abbrev main_call1_call0_call0_v48 : Ref sig .tc := ⟨.hbm, 345, rfl⟩
abbrev main_call1_call0_call0_v49 : Ref sig .tc := ⟨.hbm, 346, rfl⟩
abbrev main_call1_call0_call0_c_12 : Ref sig .tc := ⟨.hbm, 347, rfl⟩
abbrev main_call1_call0_call0_v50 : Ref sig .tc := ⟨.hbm, 348, rfl⟩
abbrev main_call1_call0_call0_v51 : Ref sig .tc := ⟨.hbm, 349, rfl⟩
abbrev main_call1_call0_call0_v52 : Ref sig .tc := ⟨.hbm, 350, rfl⟩
abbrev main_call1_call0_call0_v53 : Ref sig .tc := ⟨.hbm, 351, rfl⟩
abbrev main_call1_call0_call0_v54 : Ref sig .tc := ⟨.hbm, 352, rfl⟩
abbrev main_call1_call0_call0_c_13 : Ref sig .tc := ⟨.hbm, 353, rfl⟩
abbrev main_call1_call0_call0_v55 : Ref sig .tc := ⟨.hbm, 354, rfl⟩
abbrev main_call1_call0_call0_v56 : Ref sig .tc := ⟨.hbm, 355, rfl⟩
abbrev main_call1_call0_call0_c_14 : Ref sig .tc := ⟨.hbm, 356, rfl⟩
abbrev main_call1_call0_call0_v57 : Ref sig .tc := ⟨.hbm, 357, rfl⟩
abbrev main_call1_call0_call0_v58 : Ref sig .tc := ⟨.hbm, 358, rfl⟩
abbrev main_call1_call0_call0_v59 : Ref sig .tc := ⟨.hbm, 359, rfl⟩
abbrev main_call1_call0_call0_v60 : Ref sig .tc := ⟨.hbm, 360, rfl⟩
abbrev main_call1_call0_call0_v61 : Ref sig .tc := ⟨.hbm, 361, rfl⟩
abbrev main_call1_call0_call0_c_15 : Ref sig .tc := ⟨.hbm, 362, rfl⟩
abbrev main_call1_call0_call0_v62 : Ref sig .tc := ⟨.hbm, 363, rfl⟩
abbrev main_call1_call0_call0_v63 : Ref sig .tc := ⟨.hbm, 364, rfl⟩
abbrev main_call1_call0_call0_c_16 : Ref sig .tc := ⟨.hbm, 365, rfl⟩
abbrev main_call1_call0_call0_v64 : Ref sig .tc := ⟨.hbm, 366, rfl⟩
abbrev main_call1_call0_call0_v65 : Ref sig .tc := ⟨.hbm, 367, rfl⟩
abbrev main_call1_call0_call0_v66 : Ref sig .tc := ⟨.hbm, 368, rfl⟩
abbrev main_call1_call0_call0_v67 : Ref sig .tc := ⟨.hbm, 369, rfl⟩
abbrev main_call1_call0_call0_v68 : Ref sig .tc := ⟨.hbm, 370, rfl⟩
abbrev main_call1_call0_call0_v69 : Ref sig .tc := ⟨.hbm, 371, rfl⟩
abbrev main_call1_call0_call0_v70 : Ref sig .tc := ⟨.hbm, 372, rfl⟩
abbrev main_call1_call0_call0_v71 : Ref sig .tc := ⟨.hbm, 373, rfl⟩
abbrev main_call1_call0_call0_c_17 : Ref sig .tc := ⟨.hbm, 374, rfl⟩
abbrev main_call1_call0_call0_v72 : Ref sig .tc := ⟨.hbm, 375, rfl⟩
abbrev main_call1_call0_call0_v73 : Ref sig .tc := ⟨.hbm, 376, rfl⟩
abbrev main_call1_call0_call0_v74 : Ref sig .tc := ⟨.hbm, 377, rfl⟩
abbrev main_call1_call0_call0_c_18 : Ref sig .tc := ⟨.hbm, 378, rfl⟩
abbrev main_call1_call0_call0_v75 : Ref sig .tc := ⟨.hbm, 379, rfl⟩
abbrev main_call1_call0_call0_v76 : Ref sig .tc := ⟨.hbm, 380, rfl⟩
abbrev main_call1_call0_call0_c_19 : Ref sig .tc := ⟨.hbm, 381, rfl⟩
abbrev main_call1_call0_call0_v77 : Ref sig .tc := ⟨.hbm, 382, rfl⟩
abbrev main_call1_call0_call0_v78 : Ref sig .tc := ⟨.hbm, 383, rfl⟩
abbrev main_call1_call0_call0_v79 : Ref sig .tc := ⟨.hbm, 384, rfl⟩
abbrev main_call1_call0_call0_v80 : Ref sig .tc := ⟨.hbm, 385, rfl⟩
abbrev main_call1_call0_call0_v81 : Ref sig .tc := ⟨.hbm, 386, rfl⟩
abbrev main_call1_call0_call0_c_20 : Ref sig .tc := ⟨.hbm, 387, rfl⟩
abbrev main_call1_call0_call0_v82 : Ref sig .tc := ⟨.hbm, 388, rfl⟩
abbrev main_call1_call0_call0_v83 : Ref sig .tc := ⟨.hbm, 389, rfl⟩
abbrev main_call1_call0_call0_c_21 : Ref sig .tc := ⟨.hbm, 390, rfl⟩
abbrev main_call1_call0_call0_v84 : Ref sig .tc := ⟨.hbm, 391, rfl⟩
abbrev main_call1_call0_call0_v85 : Ref sig .tc := ⟨.hbm, 392, rfl⟩
abbrev main_call1_call0_call0_v86 : Ref sig .tc := ⟨.hbm, 393, rfl⟩
abbrev main_call1_call0_call0_v87 : Ref sig .tc := ⟨.hbm, 394, rfl⟩
abbrev main_call1_call0_call0_v88 : Ref sig .tc := ⟨.hbm, 395, rfl⟩
abbrev main_call1_call0_call0_c_22 : Ref sig .tc := ⟨.hbm, 396, rfl⟩
abbrev main_call1_call0_call0_v89 : Ref sig .tc := ⟨.hbm, 397, rfl⟩
abbrev main_call1_call0_call0_v90 : Ref sig .tc := ⟨.hbm, 398, rfl⟩
abbrev main_call1_call0_call0_c_23 : Ref sig .tc := ⟨.hbm, 399, rfl⟩
abbrev main_call1_call0_call0_v91 : Ref sig .tc := ⟨.hbm, 400, rfl⟩
abbrev main_call1_call0_call0_v92 : Ref sig .tc := ⟨.hbm, 401, rfl⟩
abbrev main_call1_call0_call0_v93 : Ref sig .tc := ⟨.hbm, 402, rfl⟩
abbrev main_call1_call0_call0_v94 : Ref sig .tc := ⟨.hbm, 403, rfl⟩
abbrev main_call1_call0_call0_v95 : Ref sig .tc := ⟨.hbm, 404, rfl⟩
abbrev main_call1_call0_call0_c_24 : Ref sig .tc := ⟨.hbm, 405, rfl⟩
abbrev main_call1_call0_call0_v96 : Ref sig .tc := ⟨.hbm, 406, rfl⟩
abbrev main_call1_call0_call0_v97 : Ref sig .tc := ⟨.hbm, 407, rfl⟩
abbrev main_call1_call0_call0_c_25 : Ref sig .tc := ⟨.hbm, 408, rfl⟩
abbrev main_call1_call0_call0_v98 : Ref sig .tc := ⟨.hbm, 409, rfl⟩
abbrev main_call1_call0_call0_v99 : Ref sig .tc := ⟨.hbm, 410, rfl⟩
abbrev main_call1_call0_call0_v100 : Ref sig .tc := ⟨.hbm, 411, rfl⟩
abbrev main_call1_call0_call0_v101 : Ref sig .tc := ⟨.hbm, 412, rfl⟩
abbrev main_call1_call0_call0_v102 : Ref sig .tc := ⟨.hbm, 413, rfl⟩
abbrev main_call1_call0_call0_v103 : Ref sig .tc := ⟨.hbm, 414, rfl⟩
abbrev main_call1_call0_call0_v104 : Ref sig .tc := ⟨.hbm, 415, rfl⟩
abbrev main_call1_call0_call0_v105 : Ref sig .tc := ⟨.hbm, 416, rfl⟩
abbrev main_call1_call0_call0_c_26 : Ref sig .tc := ⟨.hbm, 417, rfl⟩
abbrev main_call1_call0_call0_v106 : Ref sig .tc := ⟨.hbm, 418, rfl⟩
abbrev main_call1_call0_call0_v107 : Ref sig .tc := ⟨.hbm, 419, rfl⟩
abbrev main_call1_call0_call0_v108 : Ref sig .tc := ⟨.hbm, 420, rfl⟩
abbrev main_call1_call0_call0_c_27 : Ref sig .tc := ⟨.hbm, 421, rfl⟩
abbrev main_call1_call0_call0_v109 : Ref sig .tc := ⟨.hbm, 422, rfl⟩
abbrev main_call1_call0_call0_v110 : Ref sig .tc := ⟨.hbm, 423, rfl⟩
abbrev main_call1_call0_call0_c_28 : Ref sig .tc := ⟨.hbm, 424, rfl⟩
abbrev main_call1_call0_call0_v111 : Ref sig .tc := ⟨.hbm, 425, rfl⟩
abbrev main_call1_call0_call0_v112 : Ref sig .tc := ⟨.hbm, 426, rfl⟩
abbrev main_call1_call0_call0_v113 : Ref sig .tc := ⟨.hbm, 427, rfl⟩
abbrev main_call1_call0_call0_v114 : Ref sig .tc := ⟨.hbm, 428, rfl⟩
abbrev main_call1_call0_call0_v115 : Ref sig .tc := ⟨.hbm, 429, rfl⟩
abbrev main_call1_call0_call0_c_29 : Ref sig .tc := ⟨.hbm, 430, rfl⟩
abbrev main_call1_call0_call0_v116 : Ref sig .tc := ⟨.hbm, 431, rfl⟩
abbrev main_call1_call0_call0_v117 : Ref sig .tc := ⟨.hbm, 432, rfl⟩
abbrev main_call1_call0_call0_c_30 : Ref sig .tc := ⟨.hbm, 433, rfl⟩
abbrev main_call1_call0_call0_v118 : Ref sig .tc := ⟨.hbm, 434, rfl⟩
abbrev main_call1_call0_call0_v119 : Ref sig .tc := ⟨.hbm, 435, rfl⟩
abbrev main_call1_call0_call0_v120 : Ref sig .tc := ⟨.hbm, 436, rfl⟩
abbrev main_call1_call0_call0_v121 : Ref sig .tc := ⟨.hbm, 437, rfl⟩
abbrev main_call1_call0_call0_v122 : Ref sig .tc := ⟨.hbm, 438, rfl⟩
abbrev main_call1_call0_call0_c_31 : Ref sig .tc := ⟨.hbm, 439, rfl⟩
abbrev main_call1_call0_call0_v123 : Ref sig .tc := ⟨.hbm, 440, rfl⟩
abbrev main_call1_call0_call0_v124 : Ref sig .tc := ⟨.hbm, 441, rfl⟩
abbrev main_call1_call0_call0_c_32 : Ref sig .tc := ⟨.hbm, 442, rfl⟩
abbrev main_call1_call0_call0_v125 : Ref sig .tc := ⟨.hbm, 443, rfl⟩
abbrev main_call1_call0_call0_v126 : Ref sig .tc := ⟨.hbm, 444, rfl⟩
abbrev main_call1_call0_call0_v127 : Ref sig .tc := ⟨.hbm, 445, rfl⟩
abbrev main_call1_call0_call0_v128 : Ref sig .tc := ⟨.hbm, 446, rfl⟩
abbrev main_call1_call0_call0_v129 : Ref sig .tc := ⟨.hbm, 447, rfl⟩
abbrev main_call1_call0_call0_c_33 : Ref sig .tc := ⟨.hbm, 448, rfl⟩
abbrev main_call1_call0_call0_v130 : Ref sig .tc := ⟨.hbm, 449, rfl⟩
abbrev main_call1_call0_call0_v131 : Ref sig .tc := ⟨.hbm, 450, rfl⟩
abbrev main_call1_call0_call0_c_34 : Ref sig .tc := ⟨.hbm, 451, rfl⟩
abbrev main_call1_call0_call0_v132 : Ref sig .tc := ⟨.hbm, 452, rfl⟩
abbrev main_call1_call0_call0_v133 : Ref sig .tc := ⟨.hbm, 453, rfl⟩
abbrev main_call1_call0_call0_v134 : Ref sig .tc := ⟨.hbm, 454, rfl⟩
abbrev main_call1_call0_call0_v135 : Ref sig .tc := ⟨.hbm, 455, rfl⟩
abbrev main_call1_call0_call0_v136 : Ref sig .tc := ⟨.hbm, 456, rfl⟩
abbrev main_call1_call0_call0_v137 : Ref sig .tc := ⟨.hbm, 457, rfl⟩
abbrev main_call1_call0_call0_v138 : Ref sig .tc := ⟨.hbm, 458, rfl⟩
abbrev main_call1_call0_call0_v139 : Ref sig .tc := ⟨.hbm, 459, rfl⟩
abbrev main_call1_call0_call0_c_35 : Ref sig .tc := ⟨.hbm, 460, rfl⟩
abbrev main_call1_call0_call0_v140 : Ref sig .tc := ⟨.hbm, 461, rfl⟩
abbrev main_call1_call0_call0_v141 : Ref sig .tc := ⟨.hbm, 462, rfl⟩
abbrev main_call1_call0_call0_v142 : Ref sig .tc := ⟨.hbm, 463, rfl⟩
abbrev main_call1_call0_call0_c_36 : Ref sig .tc := ⟨.hbm, 464, rfl⟩
abbrev main_call1_call0_call0_v143 : Ref sig .tc := ⟨.hbm, 465, rfl⟩
abbrev main_call1_call0_call0_v144 : Ref sig .tc := ⟨.hbm, 466, rfl⟩
abbrev main_call1_call0_call0_c_37 : Ref sig .tc := ⟨.hbm, 467, rfl⟩
abbrev main_call1_call0_call0_v145 : Ref sig .tc := ⟨.hbm, 468, rfl⟩
abbrev main_call1_call0_call0_v146 : Ref sig .tc := ⟨.hbm, 469, rfl⟩
abbrev main_call1_call0_call0_v147 : Ref sig .tc := ⟨.hbm, 470, rfl⟩
abbrev main_call1_call0_call0_v148 : Ref sig .tc := ⟨.hbm, 471, rfl⟩
abbrev main_call1_call0_call0_v149 : Ref sig .tc := ⟨.hbm, 472, rfl⟩
abbrev main_call1_call0_call0_c_38 : Ref sig .tc := ⟨.hbm, 473, rfl⟩
abbrev main_call1_call0_call0_v150 : Ref sig .tc := ⟨.hbm, 474, rfl⟩
abbrev main_call1_call0_call0_v151 : Ref sig .tc := ⟨.hbm, 475, rfl⟩
abbrev main_call1_call0_call0_c_39 : Ref sig .tc := ⟨.hbm, 476, rfl⟩
abbrev main_call1_call0_call0_v152 : Ref sig .tc := ⟨.hbm, 477, rfl⟩
abbrev main_call1_call0_call0_v153 : Ref sig .tc := ⟨.hbm, 478, rfl⟩
abbrev main_call1_call0_call0_v154 : Ref sig .tc := ⟨.hbm, 479, rfl⟩
abbrev main_call1_call0_call0_v155 : Ref sig .tc := ⟨.hbm, 480, rfl⟩
abbrev main_call1_call0_call0_v156 : Ref sig .tc := ⟨.hbm, 481, rfl⟩
abbrev main_call1_call0_call0_c_40 : Ref sig .tc := ⟨.hbm, 482, rfl⟩
abbrev main_call1_call0_call0_v157 : Ref sig .tc := ⟨.hbm, 483, rfl⟩
abbrev main_call1_call0_call0_v158 : Ref sig .tc := ⟨.hbm, 484, rfl⟩
abbrev main_call1_call0_call0_c_41 : Ref sig .tc := ⟨.hbm, 485, rfl⟩
abbrev main_call1_call0_call0_v159 : Ref sig .tc := ⟨.hbm, 486, rfl⟩
abbrev main_call1_call0_call0_v160 : Ref sig .tc := ⟨.hbm, 487, rfl⟩
abbrev main_call1_call0_call0_v161 : Ref sig .tc := ⟨.hbm, 488, rfl⟩
abbrev main_call1_call0_call0_v162 : Ref sig .tc := ⟨.hbm, 489, rfl⟩
abbrev main_call1_call0_call0_v163 : Ref sig .tc := ⟨.hbm, 490, rfl⟩
abbrev main_call1_call0_call0_c_42 : Ref sig .tc := ⟨.hbm, 491, rfl⟩
abbrev main_call1_call0_call0_v164 : Ref sig .tc := ⟨.hbm, 492, rfl⟩
abbrev main_call1_call0_call0_v165 : Ref sig .tc := ⟨.hbm, 493, rfl⟩
abbrev main_call1_call0_call0_c_43 : Ref sig .tc := ⟨.hbm, 494, rfl⟩
abbrev main_call1_call0_call0_v166 : Ref sig .tc := ⟨.hbm, 495, rfl⟩
abbrev main_call1_call0_call0_v167 : Ref sig .tc := ⟨.hbm, 496, rfl⟩
abbrev main_call1_call0_call0_v168 : Ref sig .tc := ⟨.hbm, 497, rfl⟩
abbrev main_call1_call0_call0_v169 : Ref sig .tc := ⟨.hbm, 498, rfl⟩
abbrev main_call1_call0_call0_v170 : Ref sig .tc := ⟨.hbm, 499, rfl⟩
abbrev main_call1_call0_v18_0 : Ref sig .tc := ⟨.hbm, 500, rfl⟩
abbrev main_call1_call0_call0_v172 : Ref sig .tc := ⟨.hbm, 501, rfl⟩
abbrev main_call1_call0_call0_v173 : Ref sig .tc := ⟨.hbm, 502, rfl⟩
abbrev main_call1_call0_call0_c_44 : Ref sig .tc := ⟨.hbm, 503, rfl⟩
abbrev main_call1_call0_call0_v174 : Ref sig .tc := ⟨.hbm, 504, rfl⟩
abbrev main_call1_call0_v18_1 : Ref sig .tc := ⟨.hbm, 505, rfl⟩
abbrev main_call1_call0_v19 : Ref sig .tc := ⟨.hbm, 506, rfl⟩
abbrev main_call1_call0_c_2 : Ref sig .tc := ⟨.hbm, 507, rfl⟩
abbrev main_call1_call0_v20 : Ref sig .tc := ⟨.hbm, 508, rfl⟩
abbrev main_call1_call0_v21 : Ref sig .tc := ⟨.hbm, 509, rfl⟩
abbrev main_call1_call0_c_3 : Ref sig .tc := ⟨.hbm, 510, rfl⟩
abbrev main_call1_call0_v22 : Ref sig .tc := ⟨.hbm, 511, rfl⟩
abbrev main_call1_call0_v23 : Ref sig .tc := ⟨.hbm, 512, rfl⟩
abbrev main_call1_call0_v24 : Ref sig .tc := ⟨.hbm, 513, rfl⟩
abbrev main_call1_call0_cst : Ref sig .tc := ⟨.hbm, 514, rfl⟩
abbrev main_call1_call0_v25 : Ref sig .tc := ⟨.hbm, 515, rfl⟩
abbrev main_call1_call0_v26 : Ref sig .tc := ⟨.hbm, 516, rfl⟩
abbrev main_call1_call0_v27 : Ref sig .tc := ⟨.hbm, 517, rfl⟩
abbrev main_call1_call0_v28 : Ref sig .tc := ⟨.hbm, 518, rfl⟩
abbrev main_call1_call0_v29 : Ref sig .tc := ⟨.hbm, 519, rfl⟩
abbrev main_call1_call0_v30 : Ref sig .tc := ⟨.hbm, 520, rfl⟩
abbrev main_call1_call0_v31 : Ref sig .tc := ⟨.hbm, 521, rfl⟩
abbrev main_call1_call0_v32 : Ref sig .tc := ⟨.hbm, 522, rfl⟩
abbrev main_call1_v0 : Ref sig .tc := ⟨.hbm, 523, rfl⟩
abbrev main_call1_v1 : Ref sig .tc := ⟨.hbm, 524, rfl⟩
abbrev main_call1_v2 : Ref sig .tc := ⟨.hbm, 525, rfl⟩
abbrev main_call1_v3 : Ref sig .tc := ⟨.hbm, 526, rfl⟩
abbrev main_v17 : Ref sig .tc := ⟨.hbm, 527, rfl⟩
abbrev main_v18 : Ref sig .tc := ⟨.hbm, 528, rfl⟩
abbrev main_call2_v0 : Ref sig .tc := ⟨.hbm, 529, rfl⟩
abbrev main_call2_cst : Ref sig .tc := ⟨.hbm, 530, rfl⟩
abbrev main_call2_c : Ref sig .tc := ⟨.hbm, 531, rfl⟩
abbrev main_call2_v1_0 : Ref sig .tc := ⟨.hbm, 532, rfl⟩
abbrev main_v19 : Ref sig .tc := ⟨.hbm, 533, rfl⟩
abbrev main_v20 : Ref sig .tc := ⟨.hbm, 534, rfl⟩
abbrev main_v21 : Ref sig .tc := ⟨.hbm, 535, rfl⟩
abbrev main_call3_c : Ref sig .tc := ⟨.hbm, 536, rfl⟩
abbrev main_call3_v0 : Ref sig .tc := ⟨.hbm, 537, rfl⟩
abbrev main_call3_v1 : Ref sig .tc := ⟨.hbm, 538, rfl⟩
abbrev main_call3_c_0 : Ref sig .tc := ⟨.hbm, 539, rfl⟩
abbrev main_call3_v2 : Ref sig .tc := ⟨.hbm, 540, rfl⟩
abbrev main_call3_v3 : Ref sig .tc := ⟨.hbm, 541, rfl⟩
abbrev main_call3_v4 : Ref sig .tc := ⟨.hbm, 542, rfl⟩
abbrev main_call3_v5 : Ref sig .tc := ⟨.hbm, 543, rfl⟩
abbrev main_call3_c_1 : Ref sig .tc := ⟨.hbm, 544, rfl⟩
abbrev main_call3_c_2 : Ref sig .tc := ⟨.hbm, 545, rfl⟩
abbrev main_call3_v6 : Ref sig .tc := ⟨.hbm, 546, rfl⟩
abbrev main_call3_v7 : Ref sig .tc := ⟨.hbm, 547, rfl⟩
abbrev main_call3_v8 : Ref sig .tc := ⟨.hbm, 548, rfl⟩
abbrev main_call3_v9 : Ref sig .tc := ⟨.hbm, 549, rfl⟩
abbrev main_call3_v10 : Ref sig .tc := ⟨.hbm, 550, rfl⟩
abbrev main_call3_v11 : Ref sig .tc := ⟨.hbm, 551, rfl⟩
abbrev main_call3_c_3 : Ref sig .tc := ⟨.hbm, 552, rfl⟩
abbrev main_call3_v12 : Ref sig .tc := ⟨.hbm, 553, rfl⟩
abbrev main_call3_v13 : Ref sig .tc := ⟨.hbm, 554, rfl⟩
abbrev main_call3_cst : Ref sig .tc := ⟨.hbm, 555, rfl⟩
abbrev main_call3_v14 : Ref sig .tc := ⟨.hbm, 556, rfl⟩
abbrev main_v22 : Ref sig .tc := ⟨.hbm, 557, rfl⟩
abbrev main_v23 : Ref sig .tc := ⟨.hbm, 558, rfl⟩
abbrev main_v24 : Ref sig .tc := ⟨.hbm, 559, rfl⟩
abbrev main_v25 : Ref sig .tc := ⟨.hbm, 560, rfl⟩
abbrev main_call4_c : Ref sig .tc := ⟨.hbm, 561, rfl⟩
abbrev main_call4_v0 : Ref sig .tc := ⟨.hbm, 562, rfl⟩
abbrev main_call4_v1 : Ref sig .tc := ⟨.hbm, 563, rfl⟩
abbrev main_call4_c_0 : Ref sig .tc := ⟨.hbm, 564, rfl⟩
abbrev main_call4_v2 : Ref sig .tc := ⟨.hbm, 565, rfl⟩
abbrev main_call4_v3 : Ref sig .tc := ⟨.hbm, 566, rfl⟩
abbrev main_call4_v4 : Ref sig .tc := ⟨.hbm, 567, rfl⟩
abbrev main_call4_v5 : Ref sig .tc := ⟨.hbm, 568, rfl⟩
abbrev main_call4_c_1 : Ref sig .tc := ⟨.hbm, 569, rfl⟩
abbrev main_call4_c_2 : Ref sig .tc := ⟨.hbm, 570, rfl⟩
abbrev main_call4_v6 : Ref sig .tc := ⟨.hbm, 571, rfl⟩
abbrev main_call4_v7 : Ref sig .tc := ⟨.hbm, 572, rfl⟩
abbrev main_call4_v8 : Ref sig .tc := ⟨.hbm, 573, rfl⟩
abbrev main_call4_v9 : Ref sig .tc := ⟨.hbm, 574, rfl⟩
abbrev main_call4_v10 : Ref sig .tc := ⟨.hbm, 575, rfl⟩
abbrev main_call4_v11 : Ref sig .tc := ⟨.hbm, 576, rfl⟩
abbrev main_call4_c_3 : Ref sig .tc := ⟨.hbm, 577, rfl⟩
abbrev main_call4_v12 : Ref sig .tc := ⟨.hbm, 578, rfl⟩
abbrev main_call4_v13 : Ref sig .tc := ⟨.hbm, 579, rfl⟩
abbrev main_call4_c_4 : Ref sig .tc := ⟨.hbm, 580, rfl⟩
abbrev main_call4_v14 : Ref sig .tc := ⟨.hbm, 581, rfl⟩
abbrev main_v26 : Ref sig .tc := ⟨.hbm, 582, rfl⟩
abbrev main_v27 : Ref sig .tc := ⟨.hbm, 583, rfl⟩
abbrev main_c_3 : Ref sig .tc := ⟨.hbm, 584, rfl⟩
abbrev main_v28 : Ref sig .tc := ⟨.hbm, 585, rfl⟩
abbrev main_c_4 : Ref sig .tc := ⟨.hbm, 586, rfl⟩
abbrev main_c_5 : Ref sig .tc := ⟨.hbm, 587, rfl⟩
abbrev main_v29 : Ref sig .tc := ⟨.hbm, 588, rfl⟩
abbrev main_c_6 : Ref sig .tc := ⟨.hbm, 589, rfl⟩
abbrev main_c_7 : Ref sig .tc := ⟨.hbm, 590, rfl⟩
abbrev main_v30 : Ref sig .tc := ⟨.hbm, 591, rfl⟩
abbrev main_c_8 : Ref sig .tc := ⟨.hbm, 592, rfl⟩
abbrev main_v31 : Ref sig .tc := ⟨.hbm, 593, rfl⟩
abbrev main_c_9 : Ref sig .tc := ⟨.hbm, 594, rfl⟩
abbrev main_c_10 : Ref sig .tc := ⟨.hbm, 595, rfl⟩
abbrev main_v32 : Ref sig .tc := ⟨.hbm, 596, rfl⟩
abbrev main_c_11 : Ref sig .tc := ⟨.hbm, 597, rfl⟩
abbrev main_c_12 : Ref sig .tc := ⟨.hbm, 598, rfl⟩
abbrev main_v33 : Ref sig .tc := ⟨.hbm, 599, rfl⟩
abbrev main_c_13 : Ref sig .tc := ⟨.hbm, 600, rfl⟩
abbrev main_v34 : Ref sig .tc := ⟨.hbm, 601, rfl⟩
abbrev main_c_14 : Ref sig .tc := ⟨.hbm, 602, rfl⟩
abbrev main_v35 : Ref sig .tc := ⟨.hbm, 603, rfl⟩
abbrev main_c_15 : Ref sig .tc := ⟨.hbm, 604, rfl⟩
abbrev main_v36 : Ref sig .tc := ⟨.hbm, 605, rfl⟩
abbrev main_v37 : Ref sig .tc := ⟨.hbm, 606, rfl⟩
abbrev main_c_16 : Ref sig .tc := ⟨.hbm, 607, rfl⟩
abbrev main_c_17 : Ref sig .tc := ⟨.hbm, 608, rfl⟩
abbrev main_v38 : Ref sig .tc := ⟨.hbm, 609, rfl⟩
abbrev main_c_18 : Ref sig .tc := ⟨.hbm, 610, rfl⟩
abbrev main_c_19 : Ref sig .tc := ⟨.hbm, 611, rfl⟩
abbrev main_v39 : Ref sig .tc := ⟨.hbm, 612, rfl⟩
abbrev main_c_20 : Ref sig .tc := ⟨.hbm, 613, rfl⟩
abbrev main_v40 : Ref sig .tc := ⟨.hbm, 614, rfl⟩
abbrev main_v41 : Ref sig .tc := ⟨.hbm, 615, rfl⟩
abbrev main_v42 : Ref sig .tc := ⟨.hbm, 616, rfl⟩
abbrev main_call5_c : Ref sig .tc := ⟨.hbm, 617, rfl⟩
abbrev main_call5_v0 : Ref sig .tc := ⟨.hbm, 618, rfl⟩
abbrev main_call5_v1 : Ref sig .tc := ⟨.hbm, 619, rfl⟩
abbrev main_call5_c_0 : Ref sig .tc := ⟨.hbm, 620, rfl⟩
abbrev main_call5_v2 : Ref sig .tc := ⟨.hbm, 621, rfl⟩
abbrev main_call5_v3 : Ref sig .tc := ⟨.hbm, 622, rfl⟩
abbrev main_call5_v4 : Ref sig .tc := ⟨.hbm, 623, rfl⟩
abbrev main_call5_v5 : Ref sig .tc := ⟨.hbm, 624, rfl⟩
abbrev main_call5_c_1 : Ref sig .tc := ⟨.hbm, 625, rfl⟩
abbrev main_call5_c_2 : Ref sig .tc := ⟨.hbm, 626, rfl⟩
abbrev main_call5_v6 : Ref sig .tc := ⟨.hbm, 627, rfl⟩
abbrev main_call5_v7 : Ref sig .tc := ⟨.hbm, 628, rfl⟩
abbrev main_call5_v8 : Ref sig .tc := ⟨.hbm, 629, rfl⟩
abbrev main_call5_v9 : Ref sig .tc := ⟨.hbm, 630, rfl⟩
abbrev main_call5_v10 : Ref sig .tc := ⟨.hbm, 631, rfl⟩
abbrev main_call5_v11 : Ref sig .tc := ⟨.hbm, 632, rfl⟩
abbrev main_call5_c_3 : Ref sig .tc := ⟨.hbm, 633, rfl⟩
abbrev main_call5_v12 : Ref sig .tc := ⟨.hbm, 634, rfl⟩
abbrev main_call5_v13 : Ref sig .tc := ⟨.hbm, 635, rfl⟩
abbrev main_call5_cst : Ref sig .tc := ⟨.hbm, 636, rfl⟩
abbrev main_call5_v14 : Ref sig .tc := ⟨.hbm, 637, rfl⟩
abbrev main_v43 : Ref sig .tc := ⟨.hbm, 638, rfl⟩
abbrev main_v44 : Ref sig .tc := ⟨.hbm, 639, rfl⟩
abbrev main_v45 : Ref sig .tc := ⟨.hbm, 640, rfl⟩
abbrev main_v46 : Ref sig .tc := ⟨.hbm, 641, rfl⟩
abbrev main_values_21 : Ref sig .tc := ⟨.hbm, 642, rfl⟩
abbrev main_indices_22 : Ref sig .tc := ⟨.hbm, 643, rfl⟩
abbrev main_v47 : Ref sig .tc := ⟨.hbm, 644, rfl⟩
abbrev main_c_23 : Ref sig .tc := ⟨.hbm, 645, rfl⟩
abbrev main_call6_c : Ref sig .tc := ⟨.hbm, 646, rfl⟩
abbrev main_call6_v0 : Ref sig .tc := ⟨.hbm, 647, rfl⟩
abbrev main_call6_v1 : Ref sig .tc := ⟨.hbm, 648, rfl⟩
abbrev main_call6_c_0 : Ref sig .tc := ⟨.hbm, 649, rfl⟩
abbrev main_call6_v2 : Ref sig .tc := ⟨.hbm, 650, rfl⟩
abbrev main_call6_v3 : Ref sig .tc := ⟨.hbm, 651, rfl⟩
abbrev main_call6_v4 : Ref sig .tc := ⟨.hbm, 652, rfl⟩
abbrev main_call6_v5 : Ref sig .tc := ⟨.hbm, 653, rfl⟩
abbrev main_call6_v6 : Ref sig .tc := ⟨.hbm, 654, rfl⟩
abbrev main_call6_v7 : Ref sig .tc := ⟨.hbm, 655, rfl⟩
abbrev main_call6_v8 : Ref sig .tc := ⟨.hbm, 656, rfl⟩
abbrev main_call6_v9 : Ref sig .tc := ⟨.hbm, 657, rfl⟩
abbrev main_call6_v10 : Ref sig .tc := ⟨.hbm, 658, rfl⟩
abbrev main_call6_call0_v0 : Ref sig .tc := ⟨.hbm, 659, rfl⟩
abbrev main_call6_call0_c : Ref sig .tc := ⟨.hbm, 660, rfl⟩
abbrev main_call6_call0_v1 : Ref sig .tc := ⟨.hbm, 661, rfl⟩
abbrev main_call6_call0_v2 : Ref sig .tc := ⟨.hbm, 662, rfl⟩
abbrev main_call6_call0_v3 : Ref sig .tc := ⟨.hbm, 663, rfl⟩
abbrev main_call6_call0_v4 : Ref sig .tc := ⟨.hbm, 664, rfl⟩
abbrev main_call6_call0_v5 : Ref sig .tc := ⟨.hbm, 665, rfl⟩
abbrev main_call6_call0_v6 : Ref sig .tc := ⟨.hbm, 666, rfl⟩
abbrev main_call6_call0_c_0 : Ref sig .tc := ⟨.hbm, 667, rfl⟩
abbrev main_call6_call0_v7 : Ref sig .tc := ⟨.hbm, 668, rfl⟩
abbrev main_call6_call0_v8 : Ref sig .tc := ⟨.hbm, 669, rfl⟩
abbrev main_call6_call0_c_1 : Ref sig .tc := ⟨.hbm, 670, rfl⟩
abbrev main_call6_call0_v9 : Ref sig .tc := ⟨.hbm, 671, rfl⟩
abbrev main_call6_call0_v10 : Ref sig .tc := ⟨.hbm, 672, rfl⟩
abbrev main_call6_call0_v11 : Ref sig .tc := ⟨.hbm, 673, rfl⟩
abbrev main_call6_call0_v12 : Ref sig .tc := ⟨.hbm, 674, rfl⟩
abbrev main_call6_call0_v13 : Ref sig .tc := ⟨.hbm, 675, rfl⟩
abbrev main_call6_call0_c_2 : Ref sig .tc := ⟨.hbm, 676, rfl⟩
abbrev main_call6_call0_v14 : Ref sig .tc := ⟨.hbm, 677, rfl⟩
abbrev main_call6_call0_v15 : Ref sig .tc := ⟨.hbm, 678, rfl⟩
abbrev main_call6_call0_c_3 : Ref sig .tc := ⟨.hbm, 679, rfl⟩
abbrev main_call6_call0_v16 : Ref sig .tc := ⟨.hbm, 680, rfl⟩
abbrev main_call6_call0_v17 : Ref sig .tc := ⟨.hbm, 681, rfl⟩
abbrev main_call6_call0_v18 : Ref sig .tc := ⟨.hbm, 682, rfl⟩
abbrev main_call6_call0_v19 : Ref sig .tc := ⟨.hbm, 683, rfl⟩
abbrev main_call6_call0_v20 : Ref sig .tc := ⟨.hbm, 684, rfl⟩
abbrev main_call6_call0_c_4 : Ref sig .tc := ⟨.hbm, 685, rfl⟩
abbrev main_call6_call0_v21 : Ref sig .tc := ⟨.hbm, 686, rfl⟩
abbrev main_call6_call0_v22 : Ref sig .tc := ⟨.hbm, 687, rfl⟩
abbrev main_call6_call0_c_5 : Ref sig .tc := ⟨.hbm, 688, rfl⟩
abbrev main_call6_call0_v23 : Ref sig .tc := ⟨.hbm, 689, rfl⟩
abbrev main_call6_call0_v24 : Ref sig .tc := ⟨.hbm, 690, rfl⟩
abbrev main_call6_call0_v25 : Ref sig .tc := ⟨.hbm, 691, rfl⟩
abbrev main_call6_call0_v26 : Ref sig .tc := ⟨.hbm, 692, rfl⟩
abbrev main_call6_call0_v27 : Ref sig .tc := ⟨.hbm, 693, rfl⟩
abbrev main_call6_call0_c_6 : Ref sig .tc := ⟨.hbm, 694, rfl⟩
abbrev main_call6_call0_v28 : Ref sig .tc := ⟨.hbm, 695, rfl⟩
abbrev main_call6_call0_v29 : Ref sig .tc := ⟨.hbm, 696, rfl⟩
abbrev main_call6_call0_c_7 : Ref sig .tc := ⟨.hbm, 697, rfl⟩
abbrev main_call6_call0_v30 : Ref sig .tc := ⟨.hbm, 698, rfl⟩
abbrev main_call6_call0_v31 : Ref sig .tc := ⟨.hbm, 699, rfl⟩
abbrev main_call6_call0_v32 : Ref sig .tc := ⟨.hbm, 700, rfl⟩
abbrev main_call6_call0_v33 : Ref sig .tc := ⟨.hbm, 701, rfl⟩
abbrev main_call6_call0_v34 : Ref sig .tc := ⟨.hbm, 702, rfl⟩
abbrev main_call6_call0_v35 : Ref sig .tc := ⟨.hbm, 703, rfl⟩
abbrev main_call6_call0_v36 : Ref sig .tc := ⟨.hbm, 704, rfl⟩
abbrev main_call6_call0_v37 : Ref sig .tc := ⟨.hbm, 705, rfl⟩
abbrev main_call6_call0_c_8 : Ref sig .tc := ⟨.hbm, 706, rfl⟩
abbrev main_call6_call0_v38 : Ref sig .tc := ⟨.hbm, 707, rfl⟩
abbrev main_call6_call0_v39 : Ref sig .tc := ⟨.hbm, 708, rfl⟩
abbrev main_call6_call0_v40 : Ref sig .tc := ⟨.hbm, 709, rfl⟩
abbrev main_call6_call0_c_9 : Ref sig .tc := ⟨.hbm, 710, rfl⟩
abbrev main_call6_call0_v41 : Ref sig .tc := ⟨.hbm, 711, rfl⟩
abbrev main_call6_call0_v42 : Ref sig .tc := ⟨.hbm, 712, rfl⟩
abbrev main_call6_call0_c_10 : Ref sig .tc := ⟨.hbm, 713, rfl⟩
abbrev main_call6_call0_v43 : Ref sig .tc := ⟨.hbm, 714, rfl⟩
abbrev main_call6_call0_v44 : Ref sig .tc := ⟨.hbm, 715, rfl⟩
abbrev main_call6_call0_v45 : Ref sig .tc := ⟨.hbm, 716, rfl⟩
abbrev main_call6_call0_v46 : Ref sig .tc := ⟨.hbm, 717, rfl⟩
abbrev main_call6_call0_v47 : Ref sig .tc := ⟨.hbm, 718, rfl⟩
abbrev main_call6_call0_c_11 : Ref sig .tc := ⟨.hbm, 719, rfl⟩
abbrev main_call6_call0_v48 : Ref sig .tc := ⟨.hbm, 720, rfl⟩
abbrev main_call6_call0_v49 : Ref sig .tc := ⟨.hbm, 721, rfl⟩
abbrev main_call6_call0_c_12 : Ref sig .tc := ⟨.hbm, 722, rfl⟩
abbrev main_call6_call0_v50 : Ref sig .tc := ⟨.hbm, 723, rfl⟩
abbrev main_call6_call0_v51 : Ref sig .tc := ⟨.hbm, 724, rfl⟩
abbrev main_call6_call0_v52 : Ref sig .tc := ⟨.hbm, 725, rfl⟩
abbrev main_call6_call0_v53 : Ref sig .tc := ⟨.hbm, 726, rfl⟩
abbrev main_call6_call0_v54 : Ref sig .tc := ⟨.hbm, 727, rfl⟩
abbrev main_call6_call0_c_13 : Ref sig .tc := ⟨.hbm, 728, rfl⟩
abbrev main_call6_call0_v55 : Ref sig .tc := ⟨.hbm, 729, rfl⟩
abbrev main_call6_call0_v56 : Ref sig .tc := ⟨.hbm, 730, rfl⟩
abbrev main_call6_call0_c_14 : Ref sig .tc := ⟨.hbm, 731, rfl⟩
abbrev main_call6_call0_v57 : Ref sig .tc := ⟨.hbm, 732, rfl⟩
abbrev main_call6_call0_v58 : Ref sig .tc := ⟨.hbm, 733, rfl⟩
abbrev main_call6_call0_v59 : Ref sig .tc := ⟨.hbm, 734, rfl⟩
abbrev main_call6_call0_v60 : Ref sig .tc := ⟨.hbm, 735, rfl⟩
abbrev main_call6_call0_v61 : Ref sig .tc := ⟨.hbm, 736, rfl⟩
abbrev main_call6_call0_c_15 : Ref sig .tc := ⟨.hbm, 737, rfl⟩
abbrev main_call6_call0_v62 : Ref sig .tc := ⟨.hbm, 738, rfl⟩
abbrev main_call6_call0_v63 : Ref sig .tc := ⟨.hbm, 739, rfl⟩
abbrev main_call6_call0_c_16 : Ref sig .tc := ⟨.hbm, 740, rfl⟩
abbrev main_call6_call0_v64 : Ref sig .tc := ⟨.hbm, 741, rfl⟩
abbrev main_call6_call0_v65 : Ref sig .tc := ⟨.hbm, 742, rfl⟩
abbrev main_call6_call0_v66 : Ref sig .tc := ⟨.hbm, 743, rfl⟩
abbrev main_call6_call0_v67 : Ref sig .tc := ⟨.hbm, 744, rfl⟩
abbrev main_call6_call0_v68 : Ref sig .tc := ⟨.hbm, 745, rfl⟩
abbrev main_call6_call0_v69 : Ref sig .tc := ⟨.hbm, 746, rfl⟩
abbrev main_call6_call0_v70 : Ref sig .tc := ⟨.hbm, 747, rfl⟩
abbrev main_call6_call0_v71 : Ref sig .tc := ⟨.hbm, 748, rfl⟩
abbrev main_call6_call0_c_17 : Ref sig .tc := ⟨.hbm, 749, rfl⟩
abbrev main_call6_call0_v72 : Ref sig .tc := ⟨.hbm, 750, rfl⟩
abbrev main_call6_call0_v73 : Ref sig .tc := ⟨.hbm, 751, rfl⟩
abbrev main_call6_call0_v74 : Ref sig .tc := ⟨.hbm, 752, rfl⟩
abbrev main_call6_call0_c_18 : Ref sig .tc := ⟨.hbm, 753, rfl⟩
abbrev main_call6_call0_v75 : Ref sig .tc := ⟨.hbm, 754, rfl⟩
abbrev main_call6_call0_v76 : Ref sig .tc := ⟨.hbm, 755, rfl⟩
abbrev main_call6_call0_c_19 : Ref sig .tc := ⟨.hbm, 756, rfl⟩
abbrev main_call6_call0_v77 : Ref sig .tc := ⟨.hbm, 757, rfl⟩
abbrev main_call6_call0_v78 : Ref sig .tc := ⟨.hbm, 758, rfl⟩
abbrev main_call6_call0_v79 : Ref sig .tc := ⟨.hbm, 759, rfl⟩
abbrev main_call6_call0_v80 : Ref sig .tc := ⟨.hbm, 760, rfl⟩
abbrev main_call6_call0_v81 : Ref sig .tc := ⟨.hbm, 761, rfl⟩
abbrev main_call6_call0_c_20 : Ref sig .tc := ⟨.hbm, 762, rfl⟩
abbrev main_call6_call0_v82 : Ref sig .tc := ⟨.hbm, 763, rfl⟩
abbrev main_call6_call0_v83 : Ref sig .tc := ⟨.hbm, 764, rfl⟩
abbrev main_call6_call0_c_21 : Ref sig .tc := ⟨.hbm, 765, rfl⟩
abbrev main_call6_call0_v84 : Ref sig .tc := ⟨.hbm, 766, rfl⟩
abbrev main_call6_call0_v85 : Ref sig .tc := ⟨.hbm, 767, rfl⟩
abbrev main_call6_call0_v86 : Ref sig .tc := ⟨.hbm, 768, rfl⟩
abbrev main_call6_call0_v87 : Ref sig .tc := ⟨.hbm, 769, rfl⟩
abbrev main_call6_call0_v88 : Ref sig .tc := ⟨.hbm, 770, rfl⟩
abbrev main_call6_call0_c_22 : Ref sig .tc := ⟨.hbm, 771, rfl⟩
abbrev main_call6_call0_v89 : Ref sig .tc := ⟨.hbm, 772, rfl⟩
abbrev main_call6_call0_v90 : Ref sig .tc := ⟨.hbm, 773, rfl⟩
abbrev main_call6_call0_c_23 : Ref sig .tc := ⟨.hbm, 774, rfl⟩
abbrev main_call6_call0_v91 : Ref sig .tc := ⟨.hbm, 775, rfl⟩
abbrev main_call6_call0_v92 : Ref sig .tc := ⟨.hbm, 776, rfl⟩
abbrev main_call6_call0_v93 : Ref sig .tc := ⟨.hbm, 777, rfl⟩
abbrev main_call6_call0_v94 : Ref sig .tc := ⟨.hbm, 778, rfl⟩
abbrev main_call6_call0_v95 : Ref sig .tc := ⟨.hbm, 779, rfl⟩
abbrev main_call6_call0_c_24 : Ref sig .tc := ⟨.hbm, 780, rfl⟩
abbrev main_call6_call0_v96 : Ref sig .tc := ⟨.hbm, 781, rfl⟩
abbrev main_call6_call0_v97 : Ref sig .tc := ⟨.hbm, 782, rfl⟩
abbrev main_call6_call0_c_25 : Ref sig .tc := ⟨.hbm, 783, rfl⟩
abbrev main_call6_call0_v98 : Ref sig .tc := ⟨.hbm, 784, rfl⟩
abbrev main_call6_call0_v99 : Ref sig .tc := ⟨.hbm, 785, rfl⟩
abbrev main_call6_call0_v100 : Ref sig .tc := ⟨.hbm, 786, rfl⟩
abbrev main_call6_call0_v101 : Ref sig .tc := ⟨.hbm, 787, rfl⟩
abbrev main_call6_call0_v102 : Ref sig .tc := ⟨.hbm, 788, rfl⟩
abbrev main_call6_call0_v103 : Ref sig .tc := ⟨.hbm, 789, rfl⟩
abbrev main_call6_call0_v104 : Ref sig .tc := ⟨.hbm, 790, rfl⟩
abbrev main_call6_call0_v105 : Ref sig .tc := ⟨.hbm, 791, rfl⟩
abbrev main_call6_call0_c_26 : Ref sig .tc := ⟨.hbm, 792, rfl⟩
abbrev main_call6_call0_v106 : Ref sig .tc := ⟨.hbm, 793, rfl⟩
abbrev main_call6_call0_v107 : Ref sig .tc := ⟨.hbm, 794, rfl⟩
abbrev main_call6_call0_v108 : Ref sig .tc := ⟨.hbm, 795, rfl⟩
abbrev main_call6_call0_c_27 : Ref sig .tc := ⟨.hbm, 796, rfl⟩
abbrev main_call6_call0_v109 : Ref sig .tc := ⟨.hbm, 797, rfl⟩
abbrev main_call6_call0_v110 : Ref sig .tc := ⟨.hbm, 798, rfl⟩
abbrev main_call6_call0_c_28 : Ref sig .tc := ⟨.hbm, 799, rfl⟩
abbrev main_call6_call0_v111 : Ref sig .tc := ⟨.hbm, 800, rfl⟩
abbrev main_call6_call0_v112 : Ref sig .tc := ⟨.hbm, 801, rfl⟩
abbrev main_call6_call0_v113 : Ref sig .tc := ⟨.hbm, 802, rfl⟩
abbrev main_call6_call0_v114 : Ref sig .tc := ⟨.hbm, 803, rfl⟩
abbrev main_call6_call0_v115 : Ref sig .tc := ⟨.hbm, 804, rfl⟩
abbrev main_call6_call0_c_29 : Ref sig .tc := ⟨.hbm, 805, rfl⟩
abbrev main_call6_call0_v116 : Ref sig .tc := ⟨.hbm, 806, rfl⟩
abbrev main_call6_call0_v117 : Ref sig .tc := ⟨.hbm, 807, rfl⟩
abbrev main_call6_call0_c_30 : Ref sig .tc := ⟨.hbm, 808, rfl⟩
abbrev main_call6_call0_v118 : Ref sig .tc := ⟨.hbm, 809, rfl⟩
abbrev main_call6_call0_v119 : Ref sig .tc := ⟨.hbm, 810, rfl⟩
abbrev main_call6_call0_v120 : Ref sig .tc := ⟨.hbm, 811, rfl⟩
abbrev main_call6_call0_v121 : Ref sig .tc := ⟨.hbm, 812, rfl⟩
abbrev main_call6_call0_v122 : Ref sig .tc := ⟨.hbm, 813, rfl⟩
abbrev main_call6_call0_c_31 : Ref sig .tc := ⟨.hbm, 814, rfl⟩
abbrev main_call6_call0_v123 : Ref sig .tc := ⟨.hbm, 815, rfl⟩
abbrev main_call6_call0_v124 : Ref sig .tc := ⟨.hbm, 816, rfl⟩
abbrev main_call6_call0_c_32 : Ref sig .tc := ⟨.hbm, 817, rfl⟩
abbrev main_call6_call0_v125 : Ref sig .tc := ⟨.hbm, 818, rfl⟩
abbrev main_call6_call0_v126 : Ref sig .tc := ⟨.hbm, 819, rfl⟩
abbrev main_call6_call0_v127 : Ref sig .tc := ⟨.hbm, 820, rfl⟩
abbrev main_call6_call0_v128 : Ref sig .tc := ⟨.hbm, 821, rfl⟩
abbrev main_call6_call0_v129 : Ref sig .tc := ⟨.hbm, 822, rfl⟩
abbrev main_call6_call0_c_33 : Ref sig .tc := ⟨.hbm, 823, rfl⟩
abbrev main_call6_call0_v130 : Ref sig .tc := ⟨.hbm, 824, rfl⟩
abbrev main_call6_call0_v131 : Ref sig .tc := ⟨.hbm, 825, rfl⟩
abbrev main_call6_call0_c_34 : Ref sig .tc := ⟨.hbm, 826, rfl⟩
abbrev main_call6_call0_v132 : Ref sig .tc := ⟨.hbm, 827, rfl⟩
abbrev main_call6_call0_v133 : Ref sig .tc := ⟨.hbm, 828, rfl⟩
abbrev main_call6_call0_v134 : Ref sig .tc := ⟨.hbm, 829, rfl⟩
abbrev main_call6_call0_v135 : Ref sig .tc := ⟨.hbm, 830, rfl⟩
abbrev main_call6_call0_v136 : Ref sig .tc := ⟨.hbm, 831, rfl⟩
abbrev main_call6_call0_v137 : Ref sig .tc := ⟨.hbm, 832, rfl⟩
abbrev main_call6_call0_v138 : Ref sig .tc := ⟨.hbm, 833, rfl⟩
abbrev main_call6_call0_v139 : Ref sig .tc := ⟨.hbm, 834, rfl⟩
abbrev main_call6_call0_c_35 : Ref sig .tc := ⟨.hbm, 835, rfl⟩
abbrev main_call6_call0_v140 : Ref sig .tc := ⟨.hbm, 836, rfl⟩
abbrev main_call6_call0_v141 : Ref sig .tc := ⟨.hbm, 837, rfl⟩
abbrev main_call6_call0_v142 : Ref sig .tc := ⟨.hbm, 838, rfl⟩
abbrev main_call6_call0_c_36 : Ref sig .tc := ⟨.hbm, 839, rfl⟩
abbrev main_call6_call0_v143 : Ref sig .tc := ⟨.hbm, 840, rfl⟩
abbrev main_call6_call0_v144 : Ref sig .tc := ⟨.hbm, 841, rfl⟩
abbrev main_call6_call0_c_37 : Ref sig .tc := ⟨.hbm, 842, rfl⟩
abbrev main_call6_call0_v145 : Ref sig .tc := ⟨.hbm, 843, rfl⟩
abbrev main_call6_call0_v146 : Ref sig .tc := ⟨.hbm, 844, rfl⟩
abbrev main_call6_call0_v147 : Ref sig .tc := ⟨.hbm, 845, rfl⟩
abbrev main_call6_call0_v148 : Ref sig .tc := ⟨.hbm, 846, rfl⟩
abbrev main_call6_call0_v149 : Ref sig .tc := ⟨.hbm, 847, rfl⟩
abbrev main_call6_call0_c_38 : Ref sig .tc := ⟨.hbm, 848, rfl⟩
abbrev main_call6_call0_v150 : Ref sig .tc := ⟨.hbm, 849, rfl⟩
abbrev main_call6_call0_v151 : Ref sig .tc := ⟨.hbm, 850, rfl⟩
abbrev main_call6_call0_c_39 : Ref sig .tc := ⟨.hbm, 851, rfl⟩
abbrev main_call6_call0_v152 : Ref sig .tc := ⟨.hbm, 852, rfl⟩
abbrev main_call6_call0_v153 : Ref sig .tc := ⟨.hbm, 853, rfl⟩
abbrev main_call6_call0_v154 : Ref sig .tc := ⟨.hbm, 854, rfl⟩
abbrev main_call6_call0_v155 : Ref sig .tc := ⟨.hbm, 855, rfl⟩
abbrev main_call6_call0_v156 : Ref sig .tc := ⟨.hbm, 856, rfl⟩
abbrev main_call6_call0_c_40 : Ref sig .tc := ⟨.hbm, 857, rfl⟩
abbrev main_call6_call0_v157 : Ref sig .tc := ⟨.hbm, 858, rfl⟩
abbrev main_call6_call0_v158 : Ref sig .tc := ⟨.hbm, 859, rfl⟩
abbrev main_call6_call0_c_41 : Ref sig .tc := ⟨.hbm, 860, rfl⟩
abbrev main_call6_call0_v159 : Ref sig .tc := ⟨.hbm, 861, rfl⟩
abbrev main_call6_call0_v160 : Ref sig .tc := ⟨.hbm, 862, rfl⟩
abbrev main_call6_call0_v161 : Ref sig .tc := ⟨.hbm, 863, rfl⟩
abbrev main_call6_call0_v162 : Ref sig .tc := ⟨.hbm, 864, rfl⟩
abbrev main_call6_call0_v163 : Ref sig .tc := ⟨.hbm, 865, rfl⟩
abbrev main_call6_call0_c_42 : Ref sig .tc := ⟨.hbm, 866, rfl⟩
abbrev main_call6_call0_v164 : Ref sig .tc := ⟨.hbm, 867, rfl⟩
abbrev main_call6_call0_v165 : Ref sig .tc := ⟨.hbm, 868, rfl⟩
abbrev main_call6_call0_c_43 : Ref sig .tc := ⟨.hbm, 869, rfl⟩
abbrev main_call6_call0_v166 : Ref sig .tc := ⟨.hbm, 870, rfl⟩
abbrev main_call6_call0_v167 : Ref sig .tc := ⟨.hbm, 871, rfl⟩
abbrev main_call6_call0_v168 : Ref sig .tc := ⟨.hbm, 872, rfl⟩
abbrev main_call6_call0_v169 : Ref sig .tc := ⟨.hbm, 873, rfl⟩
abbrev main_call6_call0_v170 : Ref sig .tc := ⟨.hbm, 874, rfl⟩
abbrev main_call6_v11_0 : Ref sig .tc := ⟨.hbm, 875, rfl⟩
abbrev main_call6_call0_v172 : Ref sig .tc := ⟨.hbm, 876, rfl⟩
abbrev main_call6_call0_v173 : Ref sig .tc := ⟨.hbm, 877, rfl⟩
abbrev main_call6_call0_c_44 : Ref sig .tc := ⟨.hbm, 878, rfl⟩
abbrev main_call6_call0_v174 : Ref sig .tc := ⟨.hbm, 879, rfl⟩
abbrev main_call6_v11_1 : Ref sig .tc := ⟨.hbm, 880, rfl⟩
abbrev main_v48 : Ref sig .tc := ⟨.hbm, 881, rfl⟩
abbrev main_v49 : Ref sig .tc := ⟨.hbm, 882, rfl⟩
abbrev main_call7_cst : Ref sig .tc := ⟨.hbm, 883, rfl⟩
abbrev main_call7_cst_0 : Ref sig .tc := ⟨.hbm, 884, rfl⟩
abbrev main_call7_call0_v0 : Ref sig .tc := ⟨.hbm, 885, rfl⟩
abbrev main_call7_call0_v1 : Ref sig .tc := ⟨.hbm, 886, rfl⟩
abbrev main_call7_call0_v2 : Ref sig .tc := ⟨.hbm, 887, rfl⟩
abbrev main_call7_call0_v3 : Ref sig .tc := ⟨.hbm, 888, rfl⟩
abbrev main_call7_call0_v4 : Ref sig .tc := ⟨.hbm, 889, rfl⟩
abbrev main_call7_call0_v5 : Ref sig .tc := ⟨.hbm, 890, rfl⟩
abbrev main_call7_call0_v6 : Ref sig .tc := ⟨.hbm, 891, rfl⟩
abbrev main_call7_call0_v7 : Ref sig .tc := ⟨.hbm, 892, rfl⟩
abbrev main_call7_call0_v8 : Ref sig .tc := ⟨.hbm, 893, rfl⟩
abbrev main_call7_call0_c : Ref sig .tc := ⟨.hbm, 894, rfl⟩
abbrev main_call7_call0_v9 : Ref sig .tc := ⟨.hbm, 895, rfl⟩
abbrev main_call7_call0_v10 : Ref sig .tc := ⟨.hbm, 896, rfl⟩
abbrev main_call7_call0_c_0 : Ref sig .tc := ⟨.hbm, 897, rfl⟩
abbrev main_call7_call0_v11 : Ref sig .tc := ⟨.hbm, 898, rfl⟩
abbrev main_call7_call0_v12 : Ref sig .tc := ⟨.hbm, 899, rfl⟩
abbrev main_call7_call0_v13 : Ref sig .tc := ⟨.hbm, 900, rfl⟩
abbrev main_call7_call0_c_1 : Ref sig .tc := ⟨.hbm, 901, rfl⟩
abbrev main_call7_call0_v14 : Ref sig .tc := ⟨.hbm, 902, rfl⟩
abbrev main_call7_call0_v15 : Ref sig .tc := ⟨.hbm, 903, rfl⟩
abbrev main_call7_call0_v16 : Ref sig .tc := ⟨.hbm, 904, rfl⟩
abbrev main_call7_call0_v17 : Ref sig .tc := ⟨.hbm, 905, rfl⟩
abbrev main_call7_call0_call0_v0 : Ref sig .tc := ⟨.hbm, 906, rfl⟩
abbrev main_call7_call0_call0_c : Ref sig .tc := ⟨.hbm, 907, rfl⟩
abbrev main_call7_call0_call0_v1 : Ref sig .tc := ⟨.hbm, 908, rfl⟩
abbrev main_call7_call0_call0_v2 : Ref sig .tc := ⟨.hbm, 909, rfl⟩
abbrev main_call7_call0_call0_v3 : Ref sig .tc := ⟨.hbm, 910, rfl⟩
abbrev main_call7_call0_call0_v4 : Ref sig .tc := ⟨.hbm, 911, rfl⟩
abbrev main_call7_call0_call0_v5 : Ref sig .tc := ⟨.hbm, 912, rfl⟩
abbrev main_call7_call0_call0_v6 : Ref sig .tc := ⟨.hbm, 913, rfl⟩
abbrev main_call7_call0_call0_c_0 : Ref sig .tc := ⟨.hbm, 914, rfl⟩
abbrev main_call7_call0_call0_v7 : Ref sig .tc := ⟨.hbm, 915, rfl⟩
abbrev main_call7_call0_call0_v8 : Ref sig .tc := ⟨.hbm, 916, rfl⟩
abbrev main_call7_call0_call0_c_1 : Ref sig .tc := ⟨.hbm, 917, rfl⟩
abbrev main_call7_call0_call0_v9 : Ref sig .tc := ⟨.hbm, 918, rfl⟩
abbrev main_call7_call0_call0_v10 : Ref sig .tc := ⟨.hbm, 919, rfl⟩
abbrev main_call7_call0_call0_v11 : Ref sig .tc := ⟨.hbm, 920, rfl⟩
abbrev main_call7_call0_call0_v12 : Ref sig .tc := ⟨.hbm, 921, rfl⟩
abbrev main_call7_call0_call0_v13 : Ref sig .tc := ⟨.hbm, 922, rfl⟩
abbrev main_call7_call0_call0_c_2 : Ref sig .tc := ⟨.hbm, 923, rfl⟩
abbrev main_call7_call0_call0_v14 : Ref sig .tc := ⟨.hbm, 924, rfl⟩
abbrev main_call7_call0_call0_v15 : Ref sig .tc := ⟨.hbm, 925, rfl⟩
abbrev main_call7_call0_call0_c_3 : Ref sig .tc := ⟨.hbm, 926, rfl⟩
abbrev main_call7_call0_call0_v16 : Ref sig .tc := ⟨.hbm, 927, rfl⟩
abbrev main_call7_call0_call0_v17 : Ref sig .tc := ⟨.hbm, 928, rfl⟩
abbrev main_call7_call0_call0_v18 : Ref sig .tc := ⟨.hbm, 929, rfl⟩
abbrev main_call7_call0_call0_v19 : Ref sig .tc := ⟨.hbm, 930, rfl⟩
abbrev main_call7_call0_call0_v20 : Ref sig .tc := ⟨.hbm, 931, rfl⟩
abbrev main_call7_call0_call0_c_4 : Ref sig .tc := ⟨.hbm, 932, rfl⟩
abbrev main_call7_call0_call0_v21 : Ref sig .tc := ⟨.hbm, 933, rfl⟩
abbrev main_call7_call0_call0_v22 : Ref sig .tc := ⟨.hbm, 934, rfl⟩
abbrev main_call7_call0_call0_c_5 : Ref sig .tc := ⟨.hbm, 935, rfl⟩
abbrev main_call7_call0_call0_v23 : Ref sig .tc := ⟨.hbm, 936, rfl⟩
abbrev main_call7_call0_call0_v24 : Ref sig .tc := ⟨.hbm, 937, rfl⟩
abbrev main_call7_call0_call0_v25 : Ref sig .tc := ⟨.hbm, 938, rfl⟩
abbrev main_call7_call0_call0_v26 : Ref sig .tc := ⟨.hbm, 939, rfl⟩
abbrev main_call7_call0_call0_v27 : Ref sig .tc := ⟨.hbm, 940, rfl⟩
abbrev main_call7_call0_call0_c_6 : Ref sig .tc := ⟨.hbm, 941, rfl⟩
abbrev main_call7_call0_call0_v28 : Ref sig .tc := ⟨.hbm, 942, rfl⟩
abbrev main_call7_call0_call0_v29 : Ref sig .tc := ⟨.hbm, 943, rfl⟩
abbrev main_call7_call0_call0_c_7 : Ref sig .tc := ⟨.hbm, 944, rfl⟩
abbrev main_call7_call0_call0_v30 : Ref sig .tc := ⟨.hbm, 945, rfl⟩
abbrev main_call7_call0_call0_v31 : Ref sig .tc := ⟨.hbm, 946, rfl⟩
abbrev main_call7_call0_call0_v32 : Ref sig .tc := ⟨.hbm, 947, rfl⟩
abbrev main_call7_call0_call0_v33 : Ref sig .tc := ⟨.hbm, 948, rfl⟩
abbrev main_call7_call0_call0_v34 : Ref sig .tc := ⟨.hbm, 949, rfl⟩
abbrev main_call7_call0_call0_v35 : Ref sig .tc := ⟨.hbm, 950, rfl⟩
abbrev main_call7_call0_call0_v36 : Ref sig .tc := ⟨.hbm, 951, rfl⟩
abbrev main_call7_call0_call0_v37 : Ref sig .tc := ⟨.hbm, 952, rfl⟩
abbrev main_call7_call0_call0_c_8 : Ref sig .tc := ⟨.hbm, 953, rfl⟩
abbrev main_call7_call0_call0_v38 : Ref sig .tc := ⟨.hbm, 954, rfl⟩
abbrev main_call7_call0_call0_v39 : Ref sig .tc := ⟨.hbm, 955, rfl⟩
abbrev main_call7_call0_call0_v40 : Ref sig .tc := ⟨.hbm, 956, rfl⟩
abbrev main_call7_call0_call0_c_9 : Ref sig .tc := ⟨.hbm, 957, rfl⟩
abbrev main_call7_call0_call0_v41 : Ref sig .tc := ⟨.hbm, 958, rfl⟩
abbrev main_call7_call0_call0_v42 : Ref sig .tc := ⟨.hbm, 959, rfl⟩
abbrev main_call7_call0_call0_c_10 : Ref sig .tc := ⟨.hbm, 960, rfl⟩
abbrev main_call7_call0_call0_v43 : Ref sig .tc := ⟨.hbm, 961, rfl⟩
abbrev main_call7_call0_call0_v44 : Ref sig .tc := ⟨.hbm, 962, rfl⟩
abbrev main_call7_call0_call0_v45 : Ref sig .tc := ⟨.hbm, 963, rfl⟩
abbrev main_call7_call0_call0_v46 : Ref sig .tc := ⟨.hbm, 964, rfl⟩
abbrev main_call7_call0_call0_v47 : Ref sig .tc := ⟨.hbm, 965, rfl⟩
abbrev main_call7_call0_call0_c_11 : Ref sig .tc := ⟨.hbm, 966, rfl⟩
abbrev main_call7_call0_call0_v48 : Ref sig .tc := ⟨.hbm, 967, rfl⟩
abbrev main_call7_call0_call0_v49 : Ref sig .tc := ⟨.hbm, 968, rfl⟩
abbrev main_call7_call0_call0_c_12 : Ref sig .tc := ⟨.hbm, 969, rfl⟩
abbrev main_call7_call0_call0_v50 : Ref sig .tc := ⟨.hbm, 970, rfl⟩
abbrev main_call7_call0_call0_v51 : Ref sig .tc := ⟨.hbm, 971, rfl⟩
abbrev main_call7_call0_call0_v52 : Ref sig .tc := ⟨.hbm, 972, rfl⟩
abbrev main_call7_call0_call0_v53 : Ref sig .tc := ⟨.hbm, 973, rfl⟩
abbrev main_call7_call0_call0_v54 : Ref sig .tc := ⟨.hbm, 974, rfl⟩
abbrev main_call7_call0_call0_c_13 : Ref sig .tc := ⟨.hbm, 975, rfl⟩
abbrev main_call7_call0_call0_v55 : Ref sig .tc := ⟨.hbm, 976, rfl⟩
abbrev main_call7_call0_call0_v56 : Ref sig .tc := ⟨.hbm, 977, rfl⟩
abbrev main_call7_call0_call0_c_14 : Ref sig .tc := ⟨.hbm, 978, rfl⟩
abbrev main_call7_call0_call0_v57 : Ref sig .tc := ⟨.hbm, 979, rfl⟩
abbrev main_call7_call0_call0_v58 : Ref sig .tc := ⟨.hbm, 980, rfl⟩
abbrev main_call7_call0_call0_v59 : Ref sig .tc := ⟨.hbm, 981, rfl⟩
abbrev main_call7_call0_call0_v60 : Ref sig .tc := ⟨.hbm, 982, rfl⟩
abbrev main_call7_call0_call0_v61 : Ref sig .tc := ⟨.hbm, 983, rfl⟩
abbrev main_call7_call0_call0_c_15 : Ref sig .tc := ⟨.hbm, 984, rfl⟩
abbrev main_call7_call0_call0_v62 : Ref sig .tc := ⟨.hbm, 985, rfl⟩
abbrev main_call7_call0_call0_v63 : Ref sig .tc := ⟨.hbm, 986, rfl⟩
abbrev main_call7_call0_call0_c_16 : Ref sig .tc := ⟨.hbm, 987, rfl⟩
abbrev main_call7_call0_call0_v64 : Ref sig .tc := ⟨.hbm, 988, rfl⟩
abbrev main_call7_call0_call0_v65 : Ref sig .tc := ⟨.hbm, 989, rfl⟩
abbrev main_call7_call0_call0_v66 : Ref sig .tc := ⟨.hbm, 990, rfl⟩
abbrev main_call7_call0_call0_v67 : Ref sig .tc := ⟨.hbm, 991, rfl⟩
abbrev main_call7_call0_call0_v68 : Ref sig .tc := ⟨.hbm, 992, rfl⟩
abbrev main_call7_call0_call0_v69 : Ref sig .tc := ⟨.hbm, 993, rfl⟩
abbrev main_call7_call0_call0_v70 : Ref sig .tc := ⟨.hbm, 994, rfl⟩
abbrev main_call7_call0_call0_v71 : Ref sig .tc := ⟨.hbm, 995, rfl⟩
abbrev main_call7_call0_call0_c_17 : Ref sig .tc := ⟨.hbm, 996, rfl⟩
abbrev main_call7_call0_call0_v72 : Ref sig .tc := ⟨.hbm, 997, rfl⟩
abbrev main_call7_call0_call0_v73 : Ref sig .tc := ⟨.hbm, 998, rfl⟩
abbrev main_call7_call0_call0_v74 : Ref sig .tc := ⟨.hbm, 999, rfl⟩
abbrev main_call7_call0_call0_c_18 : Ref sig .tc := ⟨.hbm, 1000, rfl⟩
abbrev main_call7_call0_call0_v75 : Ref sig .tc := ⟨.hbm, 1001, rfl⟩
abbrev main_call7_call0_call0_v76 : Ref sig .tc := ⟨.hbm, 1002, rfl⟩
abbrev main_call7_call0_call0_c_19 : Ref sig .tc := ⟨.hbm, 1003, rfl⟩
abbrev main_call7_call0_call0_v77 : Ref sig .tc := ⟨.hbm, 1004, rfl⟩
abbrev main_call7_call0_call0_v78 : Ref sig .tc := ⟨.hbm, 1005, rfl⟩
abbrev main_call7_call0_call0_v79 : Ref sig .tc := ⟨.hbm, 1006, rfl⟩
abbrev main_call7_call0_call0_v80 : Ref sig .tc := ⟨.hbm, 1007, rfl⟩
abbrev main_call7_call0_call0_v81 : Ref sig .tc := ⟨.hbm, 1008, rfl⟩
abbrev main_call7_call0_call0_c_20 : Ref sig .tc := ⟨.hbm, 1009, rfl⟩
abbrev main_call7_call0_call0_v82 : Ref sig .tc := ⟨.hbm, 1010, rfl⟩
abbrev main_call7_call0_call0_v83 : Ref sig .tc := ⟨.hbm, 1011, rfl⟩
abbrev main_call7_call0_call0_c_21 : Ref sig .tc := ⟨.hbm, 1012, rfl⟩
abbrev main_call7_call0_call0_v84 : Ref sig .tc := ⟨.hbm, 1013, rfl⟩
abbrev main_call7_call0_call0_v85 : Ref sig .tc := ⟨.hbm, 1014, rfl⟩
abbrev main_call7_call0_call0_v86 : Ref sig .tc := ⟨.hbm, 1015, rfl⟩
abbrev main_call7_call0_call0_v87 : Ref sig .tc := ⟨.hbm, 1016, rfl⟩
abbrev main_call7_call0_call0_v88 : Ref sig .tc := ⟨.hbm, 1017, rfl⟩
abbrev main_call7_call0_call0_c_22 : Ref sig .tc := ⟨.hbm, 1018, rfl⟩
abbrev main_call7_call0_call0_v89 : Ref sig .tc := ⟨.hbm, 1019, rfl⟩
abbrev main_call7_call0_call0_v90 : Ref sig .tc := ⟨.hbm, 1020, rfl⟩
abbrev main_call7_call0_call0_c_23 : Ref sig .tc := ⟨.hbm, 1021, rfl⟩
abbrev main_call7_call0_call0_v91 : Ref sig .tc := ⟨.hbm, 1022, rfl⟩
abbrev main_call7_call0_call0_v92 : Ref sig .tc := ⟨.hbm, 1023, rfl⟩
abbrev main_call7_call0_call0_v93 : Ref sig .tc := ⟨.hbm, 1024, rfl⟩
abbrev main_call7_call0_call0_v94 : Ref sig .tc := ⟨.hbm, 1025, rfl⟩
abbrev main_call7_call0_call0_v95 : Ref sig .tc := ⟨.hbm, 1026, rfl⟩
abbrev main_call7_call0_call0_c_24 : Ref sig .tc := ⟨.hbm, 1027, rfl⟩
abbrev main_call7_call0_call0_v96 : Ref sig .tc := ⟨.hbm, 1028, rfl⟩
abbrev main_call7_call0_call0_v97 : Ref sig .tc := ⟨.hbm, 1029, rfl⟩
abbrev main_call7_call0_call0_c_25 : Ref sig .tc := ⟨.hbm, 1030, rfl⟩
abbrev main_call7_call0_call0_v98 : Ref sig .tc := ⟨.hbm, 1031, rfl⟩
abbrev main_call7_call0_call0_v99 : Ref sig .tc := ⟨.hbm, 1032, rfl⟩
abbrev main_call7_call0_call0_v100 : Ref sig .tc := ⟨.hbm, 1033, rfl⟩
abbrev main_call7_call0_call0_v101 : Ref sig .tc := ⟨.hbm, 1034, rfl⟩
abbrev main_call7_call0_call0_v102 : Ref sig .tc := ⟨.hbm, 1035, rfl⟩
abbrev main_call7_call0_call0_v103 : Ref sig .tc := ⟨.hbm, 1036, rfl⟩
abbrev main_call7_call0_call0_v104 : Ref sig .tc := ⟨.hbm, 1037, rfl⟩
abbrev main_call7_call0_call0_v105 : Ref sig .tc := ⟨.hbm, 1038, rfl⟩
abbrev main_call7_call0_call0_c_26 : Ref sig .tc := ⟨.hbm, 1039, rfl⟩
abbrev main_call7_call0_call0_v106 : Ref sig .tc := ⟨.hbm, 1040, rfl⟩
abbrev main_call7_call0_call0_v107 : Ref sig .tc := ⟨.hbm, 1041, rfl⟩
abbrev main_call7_call0_call0_v108 : Ref sig .tc := ⟨.hbm, 1042, rfl⟩
abbrev main_call7_call0_call0_c_27 : Ref sig .tc := ⟨.hbm, 1043, rfl⟩
abbrev main_call7_call0_call0_v109 : Ref sig .tc := ⟨.hbm, 1044, rfl⟩
abbrev main_call7_call0_call0_v110 : Ref sig .tc := ⟨.hbm, 1045, rfl⟩
abbrev main_call7_call0_call0_c_28 : Ref sig .tc := ⟨.hbm, 1046, rfl⟩
abbrev main_call7_call0_call0_v111 : Ref sig .tc := ⟨.hbm, 1047, rfl⟩
abbrev main_call7_call0_call0_v112 : Ref sig .tc := ⟨.hbm, 1048, rfl⟩
abbrev main_call7_call0_call0_v113 : Ref sig .tc := ⟨.hbm, 1049, rfl⟩
abbrev main_call7_call0_call0_v114 : Ref sig .tc := ⟨.hbm, 1050, rfl⟩
abbrev main_call7_call0_call0_v115 : Ref sig .tc := ⟨.hbm, 1051, rfl⟩
abbrev main_call7_call0_call0_c_29 : Ref sig .tc := ⟨.hbm, 1052, rfl⟩
abbrev main_call7_call0_call0_v116 : Ref sig .tc := ⟨.hbm, 1053, rfl⟩
abbrev main_call7_call0_call0_v117 : Ref sig .tc := ⟨.hbm, 1054, rfl⟩
abbrev main_call7_call0_call0_c_30 : Ref sig .tc := ⟨.hbm, 1055, rfl⟩
abbrev main_call7_call0_call0_v118 : Ref sig .tc := ⟨.hbm, 1056, rfl⟩
abbrev main_call7_call0_call0_v119 : Ref sig .tc := ⟨.hbm, 1057, rfl⟩
abbrev main_call7_call0_call0_v120 : Ref sig .tc := ⟨.hbm, 1058, rfl⟩
abbrev main_call7_call0_call0_v121 : Ref sig .tc := ⟨.hbm, 1059, rfl⟩
abbrev main_call7_call0_call0_v122 : Ref sig .tc := ⟨.hbm, 1060, rfl⟩
abbrev main_call7_call0_call0_c_31 : Ref sig .tc := ⟨.hbm, 1061, rfl⟩
abbrev main_call7_call0_call0_v123 : Ref sig .tc := ⟨.hbm, 1062, rfl⟩
abbrev main_call7_call0_call0_v124 : Ref sig .tc := ⟨.hbm, 1063, rfl⟩
abbrev main_call7_call0_call0_c_32 : Ref sig .tc := ⟨.hbm, 1064, rfl⟩
abbrev main_call7_call0_call0_v125 : Ref sig .tc := ⟨.hbm, 1065, rfl⟩
abbrev main_call7_call0_call0_v126 : Ref sig .tc := ⟨.hbm, 1066, rfl⟩
abbrev main_call7_call0_call0_v127 : Ref sig .tc := ⟨.hbm, 1067, rfl⟩
abbrev main_call7_call0_call0_v128 : Ref sig .tc := ⟨.hbm, 1068, rfl⟩
abbrev main_call7_call0_call0_v129 : Ref sig .tc := ⟨.hbm, 1069, rfl⟩
abbrev main_call7_call0_call0_c_33 : Ref sig .tc := ⟨.hbm, 1070, rfl⟩
abbrev main_call7_call0_call0_v130 : Ref sig .tc := ⟨.hbm, 1071, rfl⟩
abbrev main_call7_call0_call0_v131 : Ref sig .tc := ⟨.hbm, 1072, rfl⟩
abbrev main_call7_call0_call0_c_34 : Ref sig .tc := ⟨.hbm, 1073, rfl⟩
abbrev main_call7_call0_call0_v132 : Ref sig .tc := ⟨.hbm, 1074, rfl⟩
abbrev main_call7_call0_call0_v133 : Ref sig .tc := ⟨.hbm, 1075, rfl⟩
abbrev main_call7_call0_call0_v134 : Ref sig .tc := ⟨.hbm, 1076, rfl⟩
abbrev main_call7_call0_call0_v135 : Ref sig .tc := ⟨.hbm, 1077, rfl⟩
abbrev main_call7_call0_call0_v136 : Ref sig .tc := ⟨.hbm, 1078, rfl⟩
abbrev main_call7_call0_call0_v137 : Ref sig .tc := ⟨.hbm, 1079, rfl⟩
abbrev main_call7_call0_call0_v138 : Ref sig .tc := ⟨.hbm, 1080, rfl⟩
abbrev main_call7_call0_call0_v139 : Ref sig .tc := ⟨.hbm, 1081, rfl⟩
abbrev main_call7_call0_call0_c_35 : Ref sig .tc := ⟨.hbm, 1082, rfl⟩
abbrev main_call7_call0_call0_v140 : Ref sig .tc := ⟨.hbm, 1083, rfl⟩
abbrev main_call7_call0_call0_v141 : Ref sig .tc := ⟨.hbm, 1084, rfl⟩
abbrev main_call7_call0_call0_v142 : Ref sig .tc := ⟨.hbm, 1085, rfl⟩
abbrev main_call7_call0_call0_c_36 : Ref sig .tc := ⟨.hbm, 1086, rfl⟩
abbrev main_call7_call0_call0_v143 : Ref sig .tc := ⟨.hbm, 1087, rfl⟩
abbrev main_call7_call0_call0_v144 : Ref sig .tc := ⟨.hbm, 1088, rfl⟩
abbrev main_call7_call0_call0_c_37 : Ref sig .tc := ⟨.hbm, 1089, rfl⟩
abbrev main_call7_call0_call0_v145 : Ref sig .tc := ⟨.hbm, 1090, rfl⟩
abbrev main_call7_call0_call0_v146 : Ref sig .tc := ⟨.hbm, 1091, rfl⟩
abbrev main_call7_call0_call0_v147 : Ref sig .tc := ⟨.hbm, 1092, rfl⟩
abbrev main_call7_call0_call0_v148 : Ref sig .tc := ⟨.hbm, 1093, rfl⟩
abbrev main_call7_call0_call0_v149 : Ref sig .tc := ⟨.hbm, 1094, rfl⟩
abbrev main_call7_call0_call0_c_38 : Ref sig .tc := ⟨.hbm, 1095, rfl⟩
abbrev main_call7_call0_call0_v150 : Ref sig .tc := ⟨.hbm, 1096, rfl⟩
abbrev main_call7_call0_call0_v151 : Ref sig .tc := ⟨.hbm, 1097, rfl⟩
abbrev main_call7_call0_call0_c_39 : Ref sig .tc := ⟨.hbm, 1098, rfl⟩
abbrev main_call7_call0_call0_v152 : Ref sig .tc := ⟨.hbm, 1099, rfl⟩
abbrev main_call7_call0_call0_v153 : Ref sig .tc := ⟨.hbm, 1100, rfl⟩
abbrev main_call7_call0_call0_v154 : Ref sig .tc := ⟨.hbm, 1101, rfl⟩
abbrev main_call7_call0_call0_v155 : Ref sig .tc := ⟨.hbm, 1102, rfl⟩
abbrev main_call7_call0_call0_v156 : Ref sig .tc := ⟨.hbm, 1103, rfl⟩
abbrev main_call7_call0_call0_c_40 : Ref sig .tc := ⟨.hbm, 1104, rfl⟩
abbrev main_call7_call0_call0_v157 : Ref sig .tc := ⟨.hbm, 1105, rfl⟩
abbrev main_call7_call0_call0_v158 : Ref sig .tc := ⟨.hbm, 1106, rfl⟩
abbrev main_call7_call0_call0_c_41 : Ref sig .tc := ⟨.hbm, 1107, rfl⟩
abbrev main_call7_call0_call0_v159 : Ref sig .tc := ⟨.hbm, 1108, rfl⟩
abbrev main_call7_call0_call0_v160 : Ref sig .tc := ⟨.hbm, 1109, rfl⟩
abbrev main_call7_call0_call0_v161 : Ref sig .tc := ⟨.hbm, 1110, rfl⟩
abbrev main_call7_call0_call0_v162 : Ref sig .tc := ⟨.hbm, 1111, rfl⟩
abbrev main_call7_call0_call0_v163 : Ref sig .tc := ⟨.hbm, 1112, rfl⟩
abbrev main_call7_call0_call0_c_42 : Ref sig .tc := ⟨.hbm, 1113, rfl⟩
abbrev main_call7_call0_call0_v164 : Ref sig .tc := ⟨.hbm, 1114, rfl⟩
abbrev main_call7_call0_call0_v165 : Ref sig .tc := ⟨.hbm, 1115, rfl⟩
abbrev main_call7_call0_call0_c_43 : Ref sig .tc := ⟨.hbm, 1116, rfl⟩
abbrev main_call7_call0_call0_v166 : Ref sig .tc := ⟨.hbm, 1117, rfl⟩
abbrev main_call7_call0_call0_v167 : Ref sig .tc := ⟨.hbm, 1118, rfl⟩
abbrev main_call7_call0_call0_v168 : Ref sig .tc := ⟨.hbm, 1119, rfl⟩
abbrev main_call7_call0_call0_v169 : Ref sig .tc := ⟨.hbm, 1120, rfl⟩
abbrev main_call7_call0_call0_v170 : Ref sig .tc := ⟨.hbm, 1121, rfl⟩
abbrev main_call7_call0_v18_0 : Ref sig .tc := ⟨.hbm, 1122, rfl⟩
abbrev main_call7_call0_call0_v172 : Ref sig .tc := ⟨.hbm, 1123, rfl⟩
abbrev main_call7_call0_call0_v173 : Ref sig .tc := ⟨.hbm, 1124, rfl⟩
abbrev main_call7_call0_call0_c_44 : Ref sig .tc := ⟨.hbm, 1125, rfl⟩
abbrev main_call7_call0_call0_v174 : Ref sig .tc := ⟨.hbm, 1126, rfl⟩
abbrev main_call7_call0_v18_1 : Ref sig .tc := ⟨.hbm, 1127, rfl⟩
abbrev main_call7_call0_v19 : Ref sig .tc := ⟨.hbm, 1128, rfl⟩
abbrev main_call7_call0_c_2 : Ref sig .tc := ⟨.hbm, 1129, rfl⟩
abbrev main_call7_call0_v20 : Ref sig .tc := ⟨.hbm, 1130, rfl⟩
abbrev main_call7_call0_v21 : Ref sig .tc := ⟨.hbm, 1131, rfl⟩
abbrev main_call7_call0_c_3 : Ref sig .tc := ⟨.hbm, 1132, rfl⟩
abbrev main_call7_call0_v22 : Ref sig .tc := ⟨.hbm, 1133, rfl⟩
abbrev main_call7_call0_v23 : Ref sig .tc := ⟨.hbm, 1134, rfl⟩
abbrev main_call7_call0_v24 : Ref sig .tc := ⟨.hbm, 1135, rfl⟩
abbrev main_call7_call0_cst : Ref sig .tc := ⟨.hbm, 1136, rfl⟩
abbrev main_call7_call0_v25 : Ref sig .tc := ⟨.hbm, 1137, rfl⟩
abbrev main_call7_call0_v26 : Ref sig .tc := ⟨.hbm, 1138, rfl⟩
abbrev main_call7_call0_v27 : Ref sig .tc := ⟨.hbm, 1139, rfl⟩
abbrev main_call7_call0_v28 : Ref sig .tc := ⟨.hbm, 1140, rfl⟩
abbrev main_call7_call0_v29 : Ref sig .tc := ⟨.hbm, 1141, rfl⟩
abbrev main_call7_call0_v30 : Ref sig .tc := ⟨.hbm, 1142, rfl⟩
abbrev main_call7_call0_v31 : Ref sig .tc := ⟨.hbm, 1143, rfl⟩
abbrev main_call7_call0_v32 : Ref sig .tc := ⟨.hbm, 1144, rfl⟩
abbrev main_call7_v0 : Ref sig .tc := ⟨.hbm, 1145, rfl⟩
abbrev main_call7_v1 : Ref sig .tc := ⟨.hbm, 1146, rfl⟩
abbrev main_call7_v2 : Ref sig .tc := ⟨.hbm, 1147, rfl⟩
abbrev main_call7_v3 : Ref sig .tc := ⟨.hbm, 1148, rfl⟩
abbrev main_v50 : Ref sig .tc := ⟨.hbm, 1149, rfl⟩
abbrev main_v51 : Ref sig .tc := ⟨.hbm, 1150, rfl⟩
abbrev main_call8_v0 : Ref sig .tc := ⟨.hbm, 1151, rfl⟩
abbrev main_call8_cst : Ref sig .tc := ⟨.hbm, 1152, rfl⟩
abbrev main_call8_c : Ref sig .tc := ⟨.hbm, 1153, rfl⟩
abbrev main_call8_v1_0 : Ref sig .tc := ⟨.hbm, 1154, rfl⟩
abbrev main_v52 : Ref sig .tc := ⟨.hbm, 1155, rfl⟩
abbrev main_v53 : Ref sig .tc := ⟨.hbm, 1156, rfl⟩
abbrev main_v54 : Ref sig .tc := ⟨.hbm, 1157, rfl⟩
abbrev main_call9_c : Ref sig .tc := ⟨.hbm, 1158, rfl⟩
abbrev main_call9_v0 : Ref sig .tc := ⟨.hbm, 1159, rfl⟩
abbrev main_call9_v1 : Ref sig .tc := ⟨.hbm, 1160, rfl⟩
abbrev main_call9_c_0 : Ref sig .tc := ⟨.hbm, 1161, rfl⟩
abbrev main_call9_v2 : Ref sig .tc := ⟨.hbm, 1162, rfl⟩
abbrev main_call9_v3 : Ref sig .tc := ⟨.hbm, 1163, rfl⟩
abbrev main_call9_v4 : Ref sig .tc := ⟨.hbm, 1164, rfl⟩
abbrev main_call9_v5 : Ref sig .tc := ⟨.hbm, 1165, rfl⟩
abbrev main_call9_c_1 : Ref sig .tc := ⟨.hbm, 1166, rfl⟩
abbrev main_call9_c_2 : Ref sig .tc := ⟨.hbm, 1167, rfl⟩
abbrev main_call9_v6 : Ref sig .tc := ⟨.hbm, 1168, rfl⟩
abbrev main_call9_v7 : Ref sig .tc := ⟨.hbm, 1169, rfl⟩
abbrev main_call9_v8 : Ref sig .tc := ⟨.hbm, 1170, rfl⟩
abbrev main_call9_v9 : Ref sig .tc := ⟨.hbm, 1171, rfl⟩
abbrev main_call9_v10 : Ref sig .tc := ⟨.hbm, 1172, rfl⟩
abbrev main_call9_v11 : Ref sig .tc := ⟨.hbm, 1173, rfl⟩
abbrev main_call9_c_3 : Ref sig .tc := ⟨.hbm, 1174, rfl⟩
abbrev main_call9_v12 : Ref sig .tc := ⟨.hbm, 1175, rfl⟩
abbrev main_call9_v13 : Ref sig .tc := ⟨.hbm, 1176, rfl⟩
abbrev main_call9_cst : Ref sig .tc := ⟨.hbm, 1177, rfl⟩
abbrev main_call9_v14 : Ref sig .tc := ⟨.hbm, 1178, rfl⟩
abbrev main_v55 : Ref sig .tc := ⟨.hbm, 1179, rfl⟩
abbrev main_v56 : Ref sig .tc := ⟨.hbm, 1180, rfl⟩
abbrev main_v57 : Ref sig .tc := ⟨.hbm, 1181, rfl⟩
abbrev main_v58 : Ref sig .tc := ⟨.hbm, 1182, rfl⟩
abbrev main_call10_c : Ref sig .tc := ⟨.hbm, 1183, rfl⟩
abbrev main_call10_v0 : Ref sig .tc := ⟨.hbm, 1184, rfl⟩
abbrev main_call10_v1 : Ref sig .tc := ⟨.hbm, 1185, rfl⟩
abbrev main_call10_c_0 : Ref sig .tc := ⟨.hbm, 1186, rfl⟩
abbrev main_call10_v2 : Ref sig .tc := ⟨.hbm, 1187, rfl⟩
abbrev main_call10_v3 : Ref sig .tc := ⟨.hbm, 1188, rfl⟩
abbrev main_call10_v4 : Ref sig .tc := ⟨.hbm, 1189, rfl⟩
abbrev main_call10_v5 : Ref sig .tc := ⟨.hbm, 1190, rfl⟩
abbrev main_call10_c_1 : Ref sig .tc := ⟨.hbm, 1191, rfl⟩
abbrev main_call10_c_2 : Ref sig .tc := ⟨.hbm, 1192, rfl⟩
abbrev main_call10_v6 : Ref sig .tc := ⟨.hbm, 1193, rfl⟩
abbrev main_call10_v7 : Ref sig .tc := ⟨.hbm, 1194, rfl⟩
abbrev main_call10_v8 : Ref sig .tc := ⟨.hbm, 1195, rfl⟩
abbrev main_call10_v9 : Ref sig .tc := ⟨.hbm, 1196, rfl⟩
abbrev main_call10_v10 : Ref sig .tc := ⟨.hbm, 1197, rfl⟩
abbrev main_call10_v11 : Ref sig .tc := ⟨.hbm, 1198, rfl⟩
abbrev main_call10_c_3 : Ref sig .tc := ⟨.hbm, 1199, rfl⟩
abbrev main_call10_v12 : Ref sig .tc := ⟨.hbm, 1200, rfl⟩
abbrev main_call10_v13 : Ref sig .tc := ⟨.hbm, 1201, rfl⟩
abbrev main_call10_c_4 : Ref sig .tc := ⟨.hbm, 1202, rfl⟩
abbrev main_call10_v14 : Ref sig .tc := ⟨.hbm, 1203, rfl⟩
abbrev main_v59 : Ref sig .tc := ⟨.hbm, 1204, rfl⟩
abbrev main_v60 : Ref sig .tc := ⟨.hbm, 1205, rfl⟩
abbrev main_c_24 : Ref sig .tc := ⟨.hbm, 1206, rfl⟩
abbrev main_v61 : Ref sig .tc := ⟨.hbm, 1207, rfl⟩
abbrev main_c_25 : Ref sig .tc := ⟨.hbm, 1208, rfl⟩
abbrev main_c_26 : Ref sig .tc := ⟨.hbm, 1209, rfl⟩
abbrev main_v62 : Ref sig .tc := ⟨.hbm, 1210, rfl⟩
abbrev main_c_27 : Ref sig .tc := ⟨.hbm, 1211, rfl⟩
abbrev main_c_28 : Ref sig .tc := ⟨.hbm, 1212, rfl⟩
abbrev main_v63 : Ref sig .tc := ⟨.hbm, 1213, rfl⟩
abbrev main_c_29 : Ref sig .tc := ⟨.hbm, 1214, rfl⟩
abbrev main_v64 : Ref sig .tc := ⟨.hbm, 1215, rfl⟩
abbrev main_c_30 : Ref sig .tc := ⟨.hbm, 1216, rfl⟩
abbrev main_c_31 : Ref sig .tc := ⟨.hbm, 1217, rfl⟩
abbrev main_v65 : Ref sig .tc := ⟨.hbm, 1218, rfl⟩
abbrev main_c_32 : Ref sig .tc := ⟨.hbm, 1219, rfl⟩
abbrev main_c_33 : Ref sig .tc := ⟨.hbm, 1220, rfl⟩
abbrev main_v66 : Ref sig .tc := ⟨.hbm, 1221, rfl⟩
abbrev main_c_34 : Ref sig .tc := ⟨.hbm, 1222, rfl⟩
abbrev main_v67 : Ref sig .tc := ⟨.hbm, 1223, rfl⟩
abbrev main_c_35 : Ref sig .tc := ⟨.hbm, 1224, rfl⟩
abbrev main_v68 : Ref sig .tc := ⟨.hbm, 1225, rfl⟩
abbrev main_c_36 : Ref sig .tc := ⟨.hbm, 1226, rfl⟩
abbrev main_v69 : Ref sig .tc := ⟨.hbm, 1227, rfl⟩
abbrev main_v70 : Ref sig .tc := ⟨.hbm, 1228, rfl⟩
abbrev main_c_37 : Ref sig .tc := ⟨.hbm, 1229, rfl⟩
abbrev main_c_38 : Ref sig .tc := ⟨.hbm, 1230, rfl⟩
abbrev main_v71 : Ref sig .tc := ⟨.hbm, 1231, rfl⟩
abbrev main_c_39 : Ref sig .tc := ⟨.hbm, 1232, rfl⟩
abbrev main_c_40 : Ref sig .tc := ⟨.hbm, 1233, rfl⟩
abbrev main_v72 : Ref sig .tc := ⟨.hbm, 1234, rfl⟩
abbrev main_c_41 : Ref sig .tc := ⟨.hbm, 1235, rfl⟩
abbrev main_v73 : Ref sig .tc := ⟨.hbm, 1236, rfl⟩
abbrev main_v74 : Ref sig .tc := ⟨.hbm, 1237, rfl⟩
abbrev main_v75 : Ref sig .tc := ⟨.hbm, 1238, rfl⟩
abbrev main_call11_c : Ref sig .tc := ⟨.hbm, 1239, rfl⟩
abbrev main_call11_v0 : Ref sig .tc := ⟨.hbm, 1240, rfl⟩
abbrev main_call11_v1 : Ref sig .tc := ⟨.hbm, 1241, rfl⟩
abbrev main_call11_c_0 : Ref sig .tc := ⟨.hbm, 1242, rfl⟩
abbrev main_call11_v2 : Ref sig .tc := ⟨.hbm, 1243, rfl⟩
abbrev main_call11_v3 : Ref sig .tc := ⟨.hbm, 1244, rfl⟩
abbrev main_call11_v4 : Ref sig .tc := ⟨.hbm, 1245, rfl⟩
abbrev main_call11_v5 : Ref sig .tc := ⟨.hbm, 1246, rfl⟩
abbrev main_call11_c_1 : Ref sig .tc := ⟨.hbm, 1247, rfl⟩
abbrev main_call11_c_2 : Ref sig .tc := ⟨.hbm, 1248, rfl⟩
abbrev main_call11_v6 : Ref sig .tc := ⟨.hbm, 1249, rfl⟩
abbrev main_call11_v7 : Ref sig .tc := ⟨.hbm, 1250, rfl⟩
abbrev main_call11_v8 : Ref sig .tc := ⟨.hbm, 1251, rfl⟩
abbrev main_call11_v9 : Ref sig .tc := ⟨.hbm, 1252, rfl⟩
abbrev main_call11_v10 : Ref sig .tc := ⟨.hbm, 1253, rfl⟩
abbrev main_call11_v11 : Ref sig .tc := ⟨.hbm, 1254, rfl⟩
abbrev main_call11_c_3 : Ref sig .tc := ⟨.hbm, 1255, rfl⟩
abbrev main_call11_v12 : Ref sig .tc := ⟨.hbm, 1256, rfl⟩
abbrev main_call11_v13 : Ref sig .tc := ⟨.hbm, 1257, rfl⟩
abbrev main_call11_cst : Ref sig .tc := ⟨.hbm, 1258, rfl⟩
abbrev main_call11_v14 : Ref sig .tc := ⟨.hbm, 1259, rfl⟩
abbrev main_v76 : Ref sig .tc := ⟨.hbm, 1260, rfl⟩
abbrev main_v77 : Ref sig .tc := ⟨.hbm, 1261, rfl⟩
abbrev main_v78 : Ref sig .tc := ⟨.hbm, 1262, rfl⟩
abbrev main_v79 : Ref sig .tc := ⟨.hbm, 1263, rfl⟩
abbrev main_v80 : Ref sig .tc := ⟨.hbm, 1264, rfl⟩
abbrev main_v81 : Ref sig .tc := ⟨.hbm, 1265, rfl⟩
abbrev main_v82 : Ref sig .tc := ⟨.hbm, 1266, rfl⟩
abbrev main_v83 : Ref sig .tc := ⟨.hbm, 1267, rfl⟩

abbrev nD : Nat := 1
abbrev τ : Topo := Topo.v7x

variable {F : FTy → Type} [FloatOps F]
-- ==== Proof.KRun.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic

/-! The run of the kernel body on whole staging memrefs: what each output and each scratch buffer is left with, as a list of
written pieces, found by the run itself. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The pieces the body writes into its two outputs and its five scratch buffers, with the proof that from the four inputs at
    `x0 … x3` and everything else at any contents the body reaches its continuation, the inputs unchanged and each other
    buffer with its pieces written over some contents. -/
noncomputable def bodyRun (c : Dev nD) (i : grid0.Coords) (arg1 : Memref sig .tc .vmem S4x4x99968 .f32) (harg1 : arg1.IsWhole) (arg2 : Memref sig .tc .vmem S4x4x128 .f32) (harg2 : arg2.IsWhole) (arg3 : Memref sig .tc .vmem S4x4x64 .f32) (harg3 : arg3.IsWhole) (arg4 : Memref sig .tc .vmem S4x4x1 .f32) (harg4 : arg4.IsWhole) (arg5 : Memref sig .tc .vmem S4x4x1 .f32) (harg5 : arg5.IsWhole) (arg6 : Memref sig .tc .vmem S4x4x1 .i32) (harg6 : arg6.IsWhole) (arg7 : Memref sig .tc .vmem S16x50x782 .f32) (harg7 : arg7.IsWhole) (arg8 : Memref sig .tc .vmem S16x50x128 .f32) (harg8 : arg8.IsWhole) (arg9 : Memref sig .tc .vmem S16x50x128 .i32) (harg9 : arg9.IsWhole) (arg10 : Memref sig .tc .vmem S16x64 .f32) (harg10 : arg10.IsWhole) (arg11 : Memref sig .tc .vmem S16x64 .i32) (harg11 : arg11.IsWhole)
    (x0 : Vec F S4x4x99968 .f32) (x1 : Vec F S4x4x128 .f32) (x2 : Vec F S4x4x64 .f32) (x3 : Vec F S4x4x1 .f32) :
    Σ' (L4 : List (View.Piece (Elt F) S4x4x1 .f32)), Σ' (L5 : List (View.Piece (Elt F) S4x4x1 .i32)), Σ' (LT0 : List (View.Piece (Elt F) S16x50x782 .f32)), Σ' (LT1 : List (View.Piece (Elt F) S16x50x128 .f32)), Σ' (LT2 : List (View.Piece (Elt F) S16x50x128 .i32)), Σ' (LT3 : List (View.Piece (Elt F) S16x64 .f32)), { LT4 : List (View.Piece (Elt F) S16x64 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LT0) ∗ (∃ f, arg8.view.loc (c : Thread nD τ) ↦[arg8.view.set]{fullShare} arg8.view.writes (Elt F) f LT1) ∗ (∃ f, arg9.view.loc (c : Thread nD τ) ↦[arg9.view.set]{fullShare} arg9.view.writes (Elt F) f LT2) ∗ (∃ f, arg10.view.loc (c : Thread nD τ) ↦[arg10.view.set]{fullShare} arg10.view.writes (Elt F) f LT3) ∗ (∃ f, arg11.view.loc (c : Thread nD τ) ↦[arg11.view.set]{fullShare} arg11.view.writes (Elt F) f LT4)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11) K } := by
  refine ⟨?_, ?_, ?_, ?_, ?_, ?_, ?_, fun E K => ?run⟩
  case run =>
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3
    sl_exec_parts
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    iexists _; iexact H10

end Cert.KernelIdeal.Hand

end
-- ==== Proof.KFrame.lean ====
module

public import proofs.«01_k».proof.Proof.Gen.KernelIdeal.Frame
public import proofs.«01_k».proof.Proof.KRun
public import Idealize.ShloMosaic.Lib.Claim

/-! The launch of the kernel with its two outputs left unnamed: from any memory the program ends with its arguments as they
were and every semaphore counter at zero. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers of the body, whole. -/
abbrev sc0 : Memref sig .tc .vmem S16x50x782 .f32 := Memref.whole cc0_scratch0
abbrev sc1 : Memref sig .tc .vmem S16x50x128 .f32 := Memref.whole cc0_scratch1
abbrev sc2 : Memref sig .tc .vmem S16x50x128 .i32 := Memref.whole cc0_scratch2
abbrev sc3 : Memref sig .tc .vmem S16x64 .f32 := Memref.whole cc0_scratch3
abbrev sc4 : Memref sig .tc .vmem S16x64 .i32 := Memref.whole cc0_scratch4

/-- The invariant between points: each scratch buffer at some contents, and the generator register. -/
theorem phi_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-- A staging buffer of the tail window holding anything, filled with the block a fetch brings. -/
def tailFill (c : Dev nD) (t : Fin cfg0.N) (d : (cfg0.win 1).block.Idx → Elt F (cfg0.win 1).elt) :
    (cfg0.win 1).block.Idx → Elt F (cfg0.win 1).elt :=
  (cfg0.win 1).fill (cfg0.grid.coords t) d (iblk m c 1 t)

/-- Contents nothing reads. -/
def anyTail : (cfg0.win 1).block.Idx → Elt F (cfg0.win 1).elt := fun _ => Classical.choice inferInstance
def anyF : (cfg0.win 4).block.Idx → Elt F (cfg0.win 4).elt := fun _ => Classical.choice inferInstance
def anyI : (cfg0.win 5).block.Idx → Elt F (cfg0.win 5).elt := fun _ => Classical.choice inferInstance

/-- The two outputs are left unnamed. -/
def fgt : Fin cfg0.W → Bool := fun | 0 => false | 1 => false | 2 => false | 3 => false | 4 => true | 5 => true | ⟨_ + 6, h⟩ => absurd h (Nat.not_lt.2 (Nat.le_add_left _ _))

/-- The proof data of the launch: the arrays as the region finds them, each input's buffer left at its block. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => tailFill m c t anyTail
    | ⟨2, _⟩ => iblk m c 2 t
    | ⟨3, _⟩ => iblk m c 3 t
    | ⟨4, _⟩ => anyF
    | ⟨5, _⟩ => anyI
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = X0_0 m c t := by dsimp only [dats]
theorem after_1 (c : Dev nD) (t : Fin cfg0.N) : (dats m 0 c).after 1 t = tailFill m c t anyTail := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = tailFill m c t d := by
  rw [Pipeline.Dat.before_fetched _ 1 t (fetch0_1 t)]
  unfold Dat.fetched tailFill Dat.blockOf iblk; rw [A_eq]
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What a window whose fetch may be cut is left with, over whatever its buffer held. -/
theorem left_0 (c : Dev nD) (t : Fin cfg0.N) (d) :
    (cfg0.win 0).fill (cfg0.grid.coords t) d ((cfg0.win 0).cut (cfg0.grid.coords t) (X0_0 m c t)) = X0_0 m c t := by
  unfold X0_0; rw [Pipeline.Window.cut_fill, fill0_0 t d dflt0_0]
theorem left_1 (c : Dev nD) (t : Fin cfg0.N) (d) :
    (cfg0.win 1).fill (cfg0.grid.coords t) d ((cfg0.win 1).cut (cfg0.grid.coords t) (tailFill m c t anyTail)) = tailFill m c t d := by
  unfold tailFill; rw [Pipeline.Window.cut_fill]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d)
    ∗ (∃ d, owns (c : Thread nD τ) (st0_5 t) fullShare d))

/-- and what it returns. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d)
    ∗ (∃ d, owns (c : Thread nD τ) (st0_5 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3]
  rw [show (dats m 0 c).Φ t.castSucc = Pipeline.ΦA spec0 c from rfl, phi_eq]
  iintro ⟨⟨⟨HS0, HS1, HS2, HS3, HS4⟩, Hg⟩, Ho, ⟨%d0, H0⟩, ⟨%d1, H1⟩, ⟨%d2, H2⟩, ⟨%d3, H3⟩, H4, H5⟩
  iapply ((bodyRun c (grid0.coords t) _ _ _ _ _ _ _ _ _ _ _ _ _ _ _ _ _ _ _ _ _ _ (X0_0 m c t) (tailFill m c t d1) (iblk m c 2 t) (iblk m c 3 t)).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  iintro ⟨H0, H1, H2, H3, ⟨%e4, H4⟩, ⟨%e5, H5⟩, ⟨%fT0, HS0⟩, ⟨%fT1, HS1⟩, ⟨%fT2, HS2⟩, ⟨%fT3, HS3⟩, ⟨%fT4, HS4⟩⟩
  isplitl [HS0 HS1 HS2 HS3 HS4 Hg]
  · isplitl [HS0 HS1 HS2 HS3 HS4]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      iexists _; unfold owns; iexists _; isplitr
      swap; · iexact HS4
      ipureintro; rfl
    iexact Hg
  isplitl [Ho]; · iexact Ho
  isplitl [H0]; · iexists d0; rw [left_0]; iexact H0
  isplitl [H1]; · iexists d1; rw [left_1]; iexact H1
  isplitl [H2]; · iexact H2
  isplitl [H3]; · iexact H3
  isplitl [H4]
  · iexists _; unfold owns; iexists _; isplitr
    swap; · iexact H4
    ipureintro; rfl
  iexists _; unfold owns; iexists _; isplitr
  swap; · iexact H5
  ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

/-- The buffers the lines after the launch write. -/
def tailOuts : Finset (Ref sig .tc) := {main_v26, main_v27, main_v28, main_v29, main_v30, main_v31, main_v32, main_v33, main_v34}

theorem tail_writes : ∀ ops ∈ ([hostOps1] : List (List (HloOp τ sig (Elt F)))), ∀ op ∈ ops, ∀ b : Ref sig .tc,
    Proc.devRef .tc b ∈ op.writes → b ∈ tailOuts := by
  intro ops hops op hop b hb
  simp only [List.mem_cons, List.mem_nil_iff, or_false] at hops
  rcases hops with rfl
  simp only [hostOps1, List.mem_cons, List.mem_nil_iff, or_false] at hop
  rcases hop with rfl | rfl | rfl | rfl | rfl | rfl | rfl | rfl | rfl
  all_goals
    simp only [StableHlo.nullary_writes, StableHlo.unary_writes, StableHlo.binary_writes, StableHlo.reshape_writes, StableHlo.ternary_writes, Finset.mem_singleton] at hb
    obtain rfl := Proc.devRef_injective (τ := τ) _ hb
    decide

set_option backward.isDefEq.respectTransparency.types false in
set_option maxHeartbeats 800000 in
theorem run_main : θ_run defs (onTc (τ := τ) (main (F := F))) (s₀ m ρ) (fun r =>
    RDat.FramePostR cfg0 (fun c => (dats m 0 c).toRForget fgt) tailOuts (fun c b => V0 m c (Proc.devRef .tc b)) r ∧ r.2.sem = fun _ => 0) :=
  Pipeline.θ_run_frame_around_T_forget_shared cfgs (dats m) (0 : Fin 1) launch₀0 defs₀ Variants.none fgt tailOuts m ρ main
    (hbody := body_obligation m) (hq := fun _ _ _ => rfl) (howed := fun _ _ => rfl) (V₀ := V0 m) (opss := [hostOps1])
    (hsub := sfx_sub) (hfresh := sfx_fresh) (hkeep := sfx_keeps) (hT := tail_writes)
    (hmain := hmain m Variants.none) (hA := A_eq m) (hΦ := fun _ _ => rfl) (Q' := _) (hQ' := fun _ h => h)

/-- From any memory with every counter at zero the program ends, its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((h.1 c).2 main_arg0 (Finset.mem_sdiff.2 ⟨Pipeline.mem_restRefs_of main_arg0 (by decide) (by decide), by decide⟩)).trans (V_main_arg0 m c),
     ((h.1 c).2 main_arg1 (Finset.mem_sdiff.2 ⟨Pipeline.mem_restRefs_of main_arg1 (by decide) (by decide), by decide⟩)).trans (V_main_arg1 m c),
     ((h.1 c).2 main_arg2 (Finset.mem_sdiff.2 ⟨Pipeline.mem_restRefs_of main_arg2 (by decide) (by decide), by decide⟩)).trans (V_main_arg2 m c)⟩,
    h.2⟩) (run_main m ρ)

end Cert.KernelIdeal.Hand

end
-- ==== Proof.Line.lean ====
module

public import Idealize.ShloMosaic.Lib.StableHlo.Run
public import Idealize.ShloMosaic.Lib.Pipeline.FrameTail

/-! Straight lines of host operations in which every value is written once, before it is read: what such a line leaves satisfies
each operation's own equation. Two lines with the same operations leave equal values from equal values. -/

@[expose] public section

noncomputable section

namespace Cert.Line

open Idealize.ShloMosaic Idealize.ShloMosaic.StableHlo Idealize.SL.Sem

variable {nD : Nat} {τ : Topo} {sig : RefSig} {Val : EltTy → Type} {Λ : Labels}

/-- The operation writes `y` alone, from the contents of `xs`. -/
structure Op1 (op : HloOp τ sig Val) (y : Ref sig .tc) (xs : List (Ref sig .tc)) : Prop where
  writes : op.writes = {Proc.devRef .tc y}
  reads : ∀ F G : Valuation τ sig Val, (∀ x ∈ xs, F (Proc.devRef .tc x) = G (Proc.devRef .tc x)) →
    op.result F (Proc.devRef .tc y) = op.result G (Proc.devRef .tc y)
  fresh : op.fresh = ∅
  sub : op.bufs ⊆ tcRefs τ sig

theorem Op1.nullary (y : Ref sig .tc) (v : y.ty.Contents Val) (hy) : Op1 (τ := τ) (StableHlo.nullary y v hy) y [] :=
  ⟨rfl, fun F G _ => by rw [nullary_result, nullary_result], rfl, nullary_bufs_sub ..⟩
theorem Op1.unary (x y : Ref sig .tc) (f : x.ty.Contents Val → y.ty.Contents Val) (hx hy) :
    Op1 (τ := τ) (StableHlo.unary x y f hx hy) y [x] :=
  ⟨rfl, fun F G h => by rw [unary_result, unary_result, h x (by simp)], rfl, unary_bufs_sub ..⟩
theorem Op1.binary (a b y : Ref sig .tc) (f : a.ty.Contents Val → b.ty.Contents Val → y.ty.Contents Val) (ha hb hy) :
    Op1 (τ := τ) (StableHlo.binary a b y f ha hb hy) y [a, b] :=
  ⟨rfl, fun F G h => by rw [binary_result, binary_result, h a (by simp), h b (by simp)], rfl, binary_bufs_sub ..⟩
theorem Op1.ternary (c a b y : Ref sig .tc)
    (f : c.ty.Contents Val → a.ty.Contents Val → b.ty.Contents Val → y.ty.Contents Val) (hc ha hb hy) :
    Op1 (τ := τ) (StableHlo.ternary c a b y f hc ha hb hy) y [c, a, b] :=
  ⟨rfl, fun F G h => by rw [ternary_result, ternary_result, h c (by simp), h a (by simp), h b (by simp)], rfl, ternary_bufs_sub ..⟩
theorem Op1.quaternary (a b c e y : Ref sig .tc)
    (f : a.ty.Contents Val → b.ty.Contents Val → c.ty.Contents Val → e.ty.Contents Val → y.ty.Contents Val) (ha hb hc he hy) :
    Op1 (τ := τ) (StableHlo.quaternary a b c e y f ha hb hc he hy) y [a, b, c, e] :=
  ⟨rfl, fun F G h => by rw [quaternary_result, quaternary_result, h a (by simp), h b (by simp), h c (by simp), h e (by simp)],
    rfl, quaternary_bufs_sub ..⟩
theorem Op1.reshape (x y : Ref sig .tc) (he hn hx hy) : Op1 (τ := τ) (StableHlo.reshape (Val := Val) x y he hn hx hy) y [x] :=
  ⟨rfl, fun F G h => by rw [reshape_result, reshape_result, h x (by simp)], rfl, reshape_bufs_sub ..⟩
theorem Op1.unaryIndexed (a : Ref sig .tc) {n : Nat} (ix : Fin n → Ref sig .tc) (T : BufTy) (y : Ref sig .tc)
    (f : a.ty.Contents Val → (Fin n → T.Contents Val) → y.ty.Contents Val) (hT ha hix hy) :
    Op1 (τ := τ) (StableHlo.unaryIndexed a ix T y f hT ha hix hy) y (a :: List.ofFn ix) :=
  ⟨rfl, fun F G h => by
    rw [unaryIndexed_result, unaryIndexed_result, h a (by simp)]
    congr 1
    funext k
    rw [h (ix k) (List.mem_cons_of_mem _ (List.mem_ofFn.mpr ⟨k, rfl⟩))], rfl, unaryIndexed_bufs_sub ..⟩

/-- The operations and, for each, what it writes and reads. -/
abbrev Ok (ops : List (HloOp τ sig Val)) (io : List (Ref sig .tc × List (Ref sig .tc))) : Prop :=
  List.Forall₂ (fun op p => Op1 op p.1 p.2) ops io

/-- Numbered in order: each result's number is at least `b`, above the numbers of what it is read from and of the results before. -/
def ordered : Nat → List (Nat × List Nat) → Bool
  | _, [] => true
  | b, (y, xs) :: l => b.ble y && xs.all (fun x => x.blt y) && ordered (y + 1) l

abbrev keys (io : List (Ref sig .tc × List (Ref sig .tc))) : List (Nat × List Nat) :=
  io.map fun p => (p.1.idx.val, p.2.map fun x => x.idx.val)

/-- Every operation's equation holds of `W`. -/
def Eqs (ops : List (HloOp τ sig Val)) (W : Valuation τ sig Val) : Prop :=
  ∀ op ∈ ops, ∀ b ∈ op.writes, W b = op.result W b

theorem Eqs.nil (W : Valuation τ sig Val) : Eqs [] W := fun _ h => absurd h (by simp)
theorem Eqs.cons {op : HloOp τ sig Val} {ops : List (HloOp τ sig Val)} {W : Valuation τ sig Val} (h : Eqs (op :: ops) W) :
    (∀ b ∈ op.writes, W b = op.result W b) ∧ Eqs ops W :=
  ⟨h op (by simp), fun o ho => h o (by simp [ho])⟩
theorem Eqs.append {l l' : List (HloOp τ sig Val)} {W : Valuation τ sig Val} (h : Eqs (l ++ l') W) : Eqs l W ∧ Eqs l' W :=
  ⟨fun o ho => h o (by simp [ho]), fun o ho => h o (by simp [ho])⟩

theorem after_kept {ops : List (HloOp τ sig Val)} {io : List (Ref sig .tc × List (Ref sig .tc))} (h : Ok ops io) (b : Nat)
    (hb : ordered b (keys io) = true) (x : Ref sig .tc) (hx : x.idx.val < b) (V : Valuation τ sig Val) :
    after ops V (Proc.devRef .tc x) = V (Proc.devRef .tc x) := by
  induction h generalizing b V with
  | nil => rfl
  | @cons op p ops io h1 h2 ih =>
    simp only [keys, List.map_cons, ordered, Bool.and_eq_true, Nat.ble_eq] at hb
    rw [after_cons, ih (p.1.idx.val + 1) hb.2 (by omega)]
    refine op.result_of_not_mem V ?_
    rw [h1.writes, Finset.mem_singleton]
    refine devRef_ne_of_ne fun e => ?_
    subst e
    omega

/-- A line numbered in order leaves its own equations true. -/
theorem eqs_after {ops : List (HloOp τ sig Val)} {io : List (Ref sig .tc × List (Ref sig .tc))} (h : Ok ops io) (b : Nat)
    (hb : ordered b (keys io) = true) (V : Valuation τ sig Val) : Eqs ops (after ops V) := by
  induction h generalizing b V with
  | nil => exact Eqs.nil _
  | @cons op p ops io h1 h2 ih =>
    simp only [keys, List.map_cons, ordered, Bool.and_eq_true, Nat.ble_eq, List.all_eq_true, List.mem_map] at hb
    intro o ho
    rcases List.mem_cons.mp ho with rfl | ho'
    · intro r hr
      rw [h1.writes, Finset.mem_singleton] at hr
      subst hr
      rw [after_cons, after_kept h2 (p.1.idx.val + 1) hb.2 p.1 (by omega)]
      refine h1.reads _ _ fun x hx => ?_
      have hlt : x.idx.val < p.1.idx.val := by
        have := hb.1.2 x.idx.val ⟨x, hx, rfl⟩
        simpa [Nat.blt_eq] using this
      rw [after_kept h2 (p.1.idx.val + 1) hb.2 x (by omega)]
      refine (o.result_of_not_mem V ?_).symm
      rw [h1.writes, Finset.mem_singleton]
      refine devRef_ne_of_ne fun e => ?_
      subst e
      omega
    · rw [after_cons]
      exact ih _ hb.2 _ o ho'

/-- A program that is a straight line of operations. -/
structure Lines (prog : Prog (TpuEff nD τ sig Val Λ .tc) PUnit) where
  ops : List (HloOp τ sig Val)
  io : List (Ref sig .tc × List (Ref sig .tc))
  eq : prog = seq ops
  ok : Ok ops io

namespace Lines

def nil : Lines (pure ⟨⟩ : Prog (TpuEff nD τ sig Val Λ .tc) PUnit) := ⟨[], [], rfl, .nil⟩

def cons {op : HloOp τ sig Val} {y : Ref sig .tc} {xs : List (Ref sig .tc)} (h : Op1 op y xs)
    {q : Prog (TpuEff nD τ sig Val Λ .tc) PUnit} (L : Lines q) :
    Lines ((hlo rfl op fun _ => .ret (⟨⟩ : PUnit)) >>= fun _ => q : Prog (TpuEff nD τ sig Val Λ .tc) PUnit) :=
  ⟨op :: L.ops, (y, xs) :: L.io, congrArg (fun r => (hlo rfl op fun _ => .ret (⟨⟩ : PUnit)) >>= fun _ => r) L.eq, .cons h L.ok⟩

def call {p q : Prog (TpuEff nD τ sig Val Λ .tc) PUnit} (L : Lines p) (M : Lines q) : Lines (p >>= fun _ => q) :=
  ⟨L.ops ++ M.ops, L.io ++ M.io, (congrArg₂ (fun a b => a >>= fun _ => b) L.eq M.eq).trans (seq_append _ _).symm, List.rel_append L.ok M.ok⟩

def one {op : HloOp τ sig Val} {y : Ref sig .tc} {xs : List (Ref sig .tc)} (h : Op1 op y xs) :
    Lines (hlo rfl op fun _ => .ret (⟨⟩ : PUnit) : Prog (TpuEff nD τ sig Val Λ .tc) PUnit) :=
  ⟨[op], [(y, xs)], (bind_pure (hlo rfl op fun _ => .ret (⟨⟩ : PUnit) : Prog (TpuEff nD τ sig Val Λ .tc) PUnit)).symm, .cons h .nil⟩

@[simp] theorem one_ops {op : HloOp τ sig Val} {y : Ref sig .tc} {xs : List (Ref sig .tc)} (h : Op1 op y xs) :
    (one h : Lines (hlo rfl op fun _ => .ret (⟨⟩ : PUnit) : Prog (TpuEff nD τ sig Val Λ .tc) PUnit)).ops = [op] := rfl
@[simp] theorem nil_ops : (nil : Lines (pure ⟨⟩ : Prog (TpuEff nD τ sig Val Λ .tc) PUnit)).ops = [] := rfl
@[simp] theorem cons_ops {op : HloOp τ sig Val} {y : Ref sig .tc} {xs : List (Ref sig .tc)} (h : Op1 op y xs)
    {q : Prog (TpuEff nD τ sig Val Λ .tc) PUnit} (L : Lines q) : (cons h L).ops = op :: L.ops := rfl
@[simp] theorem call_ops {p q : Prog (TpuEff nD τ sig Val Λ .tc) PUnit} (L : Lines p) (M : Lines q) :
    (call L M).ops = L.ops ++ M.ops := rfl

end Lines

/-! ## Two lines -/

variable {τ' : Topo} {sig' : RefSig}

/-- The value a typed reference holds. -/
abbrev val (W : Valuation τ sig Val) {T : BufTy} (x : TRef sig T) : T.Contents Val := x.ofBuf (W (Proc.devRef .tc x.ref))

/-- One value in each of two programs, of one type. -/
abbrev Pair (sig sig' : RefSig) := Σ T : BufTy, TRef sig T × TRef sig' T

variable (W : Valuation τ sig Val) (W' : Valuation τ' sig' Val)

/-- The pairs' values are equal. -/
def Agree (P : List (Pair sig sig')) : Prop := ∀ p ∈ P, val W p.2.1 = val W' p.2.2

/-- If the lines' equations hold and the values `P` agree, so do the values `Q`. -/
def Same (l : List (HloOp τ sig Val)) (l' : List (HloOp τ' sig' Val)) (P Q : List (Pair sig sig')) : Prop :=
  Eqs l W → Eqs l' W' → Agree W W' P → Agree W W' Q

variable {W W'} {l : List (HloOp τ sig Val)} {l' : List (HloOp τ' sig' Val)} {P Q : List (Pair sig sig')}

theorem Agree.cons {T : BufTy} {x : TRef sig T} {x' : TRef sig' T} (h : val W x = val W' x') (hP : Agree W W' P) :
    Agree W W' (⟨T, x, x'⟩ :: P) := fun p hp => by
  rcases List.mem_cons.mp hp with rfl | hp
  · exact h
  · exact hP p hp

theorem val_nullary {T : BufTy} {y : TRef sig T} {v : T.Contents Val}
    (h : ∀ b ∈ (TRef.nullary (τ := τ) y v).writes, W b = (TRef.nullary (τ := τ) y v).result W b) : val W y = v := by
  have := h _ (Finset.mem_singleton_self _)
  rw [val, this, nullary_result]; simp [TRef.ofBuf, TRef.toBuf]
theorem val_unary {T U : BufTy} {x : TRef sig T} {y : TRef sig U} {f : T.Contents Val → U.Contents Val}
    (h : ∀ b ∈ (TRef.unary (τ := τ) x y f).writes, W b = (TRef.unary (τ := τ) x y f).result W b) : val W y = f (val W x) := by
  have := h _ (Finset.mem_singleton_self _)
  rw [val, this, unary_result]; simp [TRef.ofBuf, TRef.toBuf]
theorem val_binary {T T' U : BufTy} {x : TRef sig T} {x' : TRef sig T'} {y : TRef sig U}
    {f : T.Contents Val → T'.Contents Val → U.Contents Val}
    (h : ∀ b ∈ (TRef.binary (τ := τ) x x' y f).writes, W b = (TRef.binary (τ := τ) x x' y f).result W b) :
    val W y = f (val W x) (val W x') := by
  have := h _ (Finset.mem_singleton_self _)
  rw [val, this, binary_result]; simp [TRef.ofBuf, TRef.toBuf]
theorem val_ternary {T T' T'' U : BufTy} {c : TRef sig T} {x : TRef sig T'} {x' : TRef sig T''} {y : TRef sig U}
    {f : T.Contents Val → T'.Contents Val → T''.Contents Val → U.Contents Val}
    (h : ∀ b ∈ (TRef.ternary (τ := τ) c x x' y f).writes, W b = (TRef.ternary (τ := τ) c x x' y f).result W b) :
    val W y = f (val W c) (val W x) (val W x') := by
  have := h _ (Finset.mem_singleton_self _)
  rw [val, this, ternary_result]; simp [TRef.ofBuf, TRef.toBuf]
theorem val_quaternary {T₁ T₂ T₃ T₄ U : BufTy} {a : TRef sig T₁} {b : TRef sig T₂} {c : TRef sig T₃} {e : TRef sig T₄}
    {y : TRef sig U} {f : T₁.Contents Val → T₂.Contents Val → T₃.Contents Val → T₄.Contents Val → U.Contents Val}
    (h : ∀ r ∈ (TRef.quaternary (τ := τ) a b c e y f).writes, W r = (TRef.quaternary (τ := τ) a b c e y f).result W r) :
    val W y = f (val W a) (val W b) (val W c) (val W e) := by
  have := h _ (Finset.mem_singleton_self _)
  rw [val, this, quaternary_result]; simp [TRef.ofBuf, TRef.toBuf]
theorem val_reshape {T U : BufTy} {x : TRef sig T} {y : TRef sig U} {he : T.elt = U.elt} {hn : T.shape.ShapeCasts U.shape}
    (h : ∀ b ∈ (TRef.reshape (τ := τ) (Val := Val) x y he hn).writes, W b = (TRef.reshape (τ := τ) (Val := Val) x y he hn).result W b) :
    val W y = fun i => he ▸ shapeCast U.shape (val W x) hn i := by
  obtain ⟨x, rfl, _, _⟩ := x
  obtain ⟨y, rfl, _, _⟩ := y
  have := h _ (Finset.mem_singleton_self _)
  exact this.trans (reshape_result ..)

namespace Same

theorem nil (h : ∀ q ∈ Q, q ∈ P) : Same W W' [] [] P Q := fun _ _ hP q hq => hP q (h q hq)

theorem call {m : List (HloOp τ sig Val)} {m' : List (HloOp τ' sig' Val)} {P₁ Q₁ : List (Pair sig sig')}
    (h₁ : Same W W' m m' P₁ Q₁) (hP : ∀ p ∈ P₁, p ∈ P) (h : Same W W' l l' (Q₁ ++ P) Q) : Same W W' (m ++ l) (m' ++ l') P Q :=
  fun e e' a => h e.append.2 e'.append.2 fun p hp => by
    rcases List.mem_append.mp hp with hp | hp
    · exact h₁ e.append.1 e'.append.1 (fun p hp => a p (hP p hp)) p hp
    · exact a p hp

theorem nullary {T : BufTy} {y : TRef sig T} {y' : TRef sig' T} {v : T.Contents Val}
    (h : Same W W' l l' (⟨T, y, y'⟩ :: P) Q) : Same W W' (TRef.nullary y v :: l) (TRef.nullary y' v :: l') P Q :=
  fun e e' a => h e.cons.2 e'.cons.2 (a.cons (by rw [val_nullary e.cons.1, val_nullary e'.cons.1]))

theorem unary {T U : BufTy} {x : TRef sig T} {x' : TRef sig' T} {y : TRef sig U} {y' : TRef sig' U}
    {f : T.Contents Val → U.Contents Val} (hx : ⟨T, x, x'⟩ ∈ P) (h : Same W W' l l' (⟨U, y, y'⟩ :: P) Q) :
    Same W W' (TRef.unary x y f :: l) (TRef.unary x' y' f :: l') P Q :=
  fun e e' a => h e.cons.2 e'.cons.2 (a.cons (by rw [val_unary e.cons.1, val_unary e'.cons.1, a _ hx]))

theorem binary {T T₁ U : BufTy} {x : TRef sig T} {x' : TRef sig' T} {z : TRef sig T₁} {z' : TRef sig' T₁} {y : TRef sig U}
    {y' : TRef sig' U} {f : T.Contents Val → T₁.Contents Val → U.Contents Val} (hx : ⟨T, x, x'⟩ ∈ P) (hz : ⟨T₁, z, z'⟩ ∈ P)
    (h : Same W W' l l' (⟨U, y, y'⟩ :: P) Q) : Same W W' (TRef.binary x z y f :: l) (TRef.binary x' z' y' f :: l') P Q :=
  fun e e' a => h e.cons.2 e'.cons.2 (a.cons (by rw [val_binary e.cons.1, val_binary e'.cons.1, a _ hx, a _ hz]))

theorem ternary {T T₁ T₂ U : BufTy} {w : TRef sig T₂} {w' : TRef sig' T₂} {x : TRef sig T} {x' : TRef sig' T} {z : TRef sig T₁}
    {z' : TRef sig' T₁} {y : TRef sig U} {y' : TRef sig' U} {f : T₂.Contents Val → T.Contents Val → T₁.Contents Val → U.Contents Val}
    (hw : ⟨T₂, w, w'⟩ ∈ P) (hx : ⟨T, x, x'⟩ ∈ P) (hz : ⟨T₁, z, z'⟩ ∈ P) (h : Same W W' l l' (⟨U, y, y'⟩ :: P) Q) :
    Same W W' (TRef.ternary w x z y f :: l) (TRef.ternary w' x' z' y' f :: l') P Q :=
  fun e e' a => h e.cons.2 e'.cons.2 (a.cons (by rw [val_ternary e.cons.1, val_ternary e'.cons.1, a _ hw, a _ hx, a _ hz]))

theorem reshape {T U : BufTy} {x : TRef sig T} {x' : TRef sig' T} {y : TRef sig U} {y' : TRef sig' U} {he : T.elt = U.elt}
    {hn : T.shape.ShapeCasts U.shape} (hx : ⟨T, x, x'⟩ ∈ P) (h : Same W W' l l' (⟨U, y, y'⟩ :: P) Q) :
    Same W W' (TRef.reshape x y he hn :: l) (TRef.reshape x' y' he hn :: l') P Q :=
  fun e e' a => h e.cons.2 e'.cons.2 (a.cons (by rw [val_reshape e.cons.1, val_reshape e'.cons.1, a _ hx]))

end Same

end Cert.Line

end
-- ==== Proof.RLine.lean ====
module

public import proofs.«01_k».proof.Proof.Line
public import proofs.«01_k».proof.Proof.Gen.ReferenceIdeal

/-! ReferenceIdeal's host functions as straight lines. -/

@[expose] public section

set_option maxHeartbeats 4000000
set_option maxRecDepth 8192

noncomputable section

namespace Cert.ReferenceIdeal.Hand

open Idealize.ShloMosaic Idealize.ShloMosaic.StableHlo Idealize.SL.Sem Cert.Line

variable {F : FTy → Type} [FloatOps F]

def fn_threefry2x32_line_part0 (arg0 : TRef sig ⟨S_, .i32⟩) (arg1 : TRef sig ⟨S_, .i32⟩) (arg2 : TRef sig ⟨S1, .i32⟩) (arg3 : TRef sig ⟨S1, .i32⟩) (φ : fn_threefry2x32.Bufs) : Lines (fn_threefry2x32.body_part0 (F := F) arg0 arg1 arg2 arg3 φ) := by
  delta fn_threefry2x32.body_part0
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)

def fn_threefry2x32_line_part1 (arg0 : TRef sig ⟨S_, .i32⟩) (arg1 : TRef sig ⟨S_, .i32⟩) (arg2 : TRef sig ⟨S1, .i32⟩) (arg3 : TRef sig ⟨S1, .i32⟩) (φ : fn_threefry2x32.Bufs) : Lines (fn_threefry2x32.body_part1 (F := F) arg0 arg1 arg2 arg3 φ) := by
  delta fn_threefry2x32.body_part1
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)

def fn_threefry2x32_line_part2 (arg0 : TRef sig ⟨S_, .i32⟩) (arg1 : TRef sig ⟨S_, .i32⟩) (arg2 : TRef sig ⟨S1, .i32⟩) (arg3 : TRef sig ⟨S1, .i32⟩) (φ : fn_threefry2x32.Bufs) : Lines (fn_threefry2x32.body_part2 (F := F) arg0 arg1 arg2 arg3 φ) := by
  delta fn_threefry2x32.body_part2
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)

def fn_threefry2x32_line_part3 (arg0 : TRef sig ⟨S_, .i32⟩) (arg1 : TRef sig ⟨S_, .i32⟩) (arg2 : TRef sig ⟨S1, .i32⟩) (arg3 : TRef sig ⟨S1, .i32⟩) (φ : fn_threefry2x32.Bufs) : Lines (fn_threefry2x32.body_part3 (F := F) arg0 arg1 arg2 arg3 φ) := by
  delta fn_threefry2x32.body_part3
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)

def fn_threefry2x32_line (arg0 : TRef sig ⟨S_, .i32⟩) (arg1 : TRef sig ⟨S_, .i32⟩) (arg2 : TRef sig ⟨S1, .i32⟩) (arg3 : TRef sig ⟨S1, .i32⟩) (φ : fn_threefry2x32.Bufs) : Lines (fn_threefry2x32.body (F := F) arg0 arg1 arg2 arg3 φ) := by
  delta fn_threefry2x32.body
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)
    | exact fn_threefry2x32_line_part0 ..
    | refine Lines.call (fn_threefry2x32_line_part0 ..) ?_
    | exact fn_threefry2x32_line_part1 ..
    | refine Lines.call (fn_threefry2x32_line_part1 ..) ?_
    | exact fn_threefry2x32_line_part2 ..
    | refine Lines.call (fn_threefry2x32_line_part2 ..) ?_
    | exact fn_threefry2x32_line_part3 ..
    | refine Lines.call (fn_threefry2x32_line_part3 ..) ?_

def fn_threefry_fold_in_line (arg0 : TRef sig ⟨S2, .i32⟩) (arg1 : TRef sig ⟨S_, .i32⟩) (φ : fn_threefry_fold_in.Bufs) : Lines (fn_threefry_fold_in.body (F := F) arg0 arg1 φ) := by
  delta fn_threefry_fold_in.body
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)
    | exact fn_threefry2x32_line ..
    | refine Lines.call (fn_threefry2x32_line ..) ?_

def fn_threefry2x32_0_line_part0 (arg0 : TRef sig ⟨S_, .i32⟩) (arg1 : TRef sig ⟨S_, .i32⟩) (arg2 : TRef sig ⟨S128x50, .i32⟩) (arg3 : TRef sig ⟨S128x50, .i32⟩) (φ : fn_threefry2x32_0.Bufs) : Lines (fn_threefry2x32_0.body_part0 (F := F) arg0 arg1 arg2 arg3 φ) := by
  delta fn_threefry2x32_0.body_part0
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)

def fn_threefry2x32_0_line_part1 (arg0 : TRef sig ⟨S_, .i32⟩) (arg1 : TRef sig ⟨S_, .i32⟩) (arg2 : TRef sig ⟨S128x50, .i32⟩) (arg3 : TRef sig ⟨S128x50, .i32⟩) (φ : fn_threefry2x32_0.Bufs) : Lines (fn_threefry2x32_0.body_part1 (F := F) arg0 arg1 arg2 arg3 φ) := by
  delta fn_threefry2x32_0.body_part1
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)

def fn_threefry2x32_0_line_part2 (arg0 : TRef sig ⟨S_, .i32⟩) (arg1 : TRef sig ⟨S_, .i32⟩) (arg2 : TRef sig ⟨S128x50, .i32⟩) (arg3 : TRef sig ⟨S128x50, .i32⟩) (φ : fn_threefry2x32_0.Bufs) : Lines (fn_threefry2x32_0.body_part2 (F := F) arg0 arg1 arg2 arg3 φ) := by
  delta fn_threefry2x32_0.body_part2
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)

def fn_threefry2x32_0_line_part3 (arg0 : TRef sig ⟨S_, .i32⟩) (arg1 : TRef sig ⟨S_, .i32⟩) (arg2 : TRef sig ⟨S128x50, .i32⟩) (arg3 : TRef sig ⟨S128x50, .i32⟩) (φ : fn_threefry2x32_0.Bufs) : Lines (fn_threefry2x32_0.body_part3 (F := F) arg0 arg1 arg2 arg3 φ) := by
  delta fn_threefry2x32_0.body_part3
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)

def fn_threefry2x32_0_line (arg0 : TRef sig ⟨S_, .i32⟩) (arg1 : TRef sig ⟨S_, .i32⟩) (arg2 : TRef sig ⟨S128x50, .i32⟩) (arg3 : TRef sig ⟨S128x50, .i32⟩) (φ : fn_threefry2x32_0.Bufs) : Lines (fn_threefry2x32_0.body (F := F) arg0 arg1 arg2 arg3 φ) := by
  delta fn_threefry2x32_0.body
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)
    | exact fn_threefry2x32_0_line_part0 ..
    | refine Lines.call (fn_threefry2x32_0_line_part0 ..) ?_
    | exact fn_threefry2x32_0_line_part1 ..
    | refine Lines.call (fn_threefry2x32_0_line_part1 ..) ?_
    | exact fn_threefry2x32_0_line_part2 ..
    | refine Lines.call (fn_threefry2x32_0_line_part2 ..) ?_
    | exact fn_threefry2x32_0_line_part3 ..
    | refine Lines.call (fn_threefry2x32_0_line_part3 ..) ?_

def fn_uniform_line (arg0 : TRef sig ⟨S2, .i32⟩) (arg1 : TRef sig ⟨S_, .f32⟩) (arg2 : TRef sig ⟨S_, .f32⟩) (φ : fn_uniform.Bufs) : Lines (fn_uniform.body (F := F) arg0 arg1 arg2 φ) := by
  delta fn_uniform.body
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)
    | exact fn_threefry2x32_0_line ..
    | refine Lines.call (fn_threefry2x32_0_line ..) ?_

def fn_gumbel_line (arg0 : TRef sig ⟨S2, .i32⟩) (φ : fn_gumbel.Bufs) : Lines (fn_gumbel.body (F := F) arg0 φ) := by
  delta fn_gumbel.body
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)
    | exact fn_uniform_line ..
    | refine Lines.call (fn_uniform_line ..) ?_

def fn_argmax_line (arg0 : TRef sig ⟨S128x50, .f32⟩) (φ : fn_argmax.Bufs) : Lines (fn_argmax.body (F := F) arg0 φ) := by
  delta fn_argmax.body
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)

def fn_take_along_axis_line (arg0 : TRef sig ⟨S32x4x50, .f32⟩) (arg1 : TRef sig ⟨S32x4x1, .i32⟩) (φ : fn_take_along_axis.Bufs) : Lines (fn_take_along_axis.body (F := F) arg0 arg1 φ) := by
  delta fn_take_along_axis.body
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)

def fn_take_along_axis_1_line (arg0 : TRef sig ⟨S32x4x50, .i32⟩) (arg1 : TRef sig ⟨S32x4x1, .i32⟩) (φ : fn_take_along_axis_1.Bufs) : Lines (fn_take_along_axis_1.body (F := F) arg0 arg1 φ) := by
  delta fn_take_along_axis_1.body
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)

def fn_take_along_axis_2_line (arg0 : TRef sig ⟨S32x4, .f32⟩) (arg1 : TRef sig ⟨S32x4, .i32⟩) (φ : fn_take_along_axis_2.Bufs) : Lines (fn_take_along_axis_2.body (F := F) arg0 arg1 φ) := by
  delta fn_take_along_axis_2.body
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)

def main_part0_line (d : Dev nD) : Lines (main_part0 (F := F) d) := by
  delta main_part0
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)
    | exact fn_argmax_line ..
    | refine Lines.call (fn_argmax_line ..) ?_
    | exact fn_gumbel_line ..
    | refine Lines.call (fn_gumbel_line ..) ?_
    | exact fn_take_along_axis_line ..
    | refine Lines.call (fn_take_along_axis_line ..) ?_
    | exact fn_take_along_axis_1_line ..
    | refine Lines.call (fn_take_along_axis_1_line ..) ?_
    | exact fn_threefry_fold_in_line ..
    | refine Lines.call (fn_threefry_fold_in_line ..) ?_

def main_part1_line (d : Dev nD) : Lines (main_part1 (F := F) d) := by
  delta main_part1
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)
    | exact fn_argmax_line ..
    | refine Lines.call (fn_argmax_line ..) ?_
    | exact fn_gumbel_line ..
    | refine Lines.call (fn_gumbel_line ..) ?_
    | exact fn_take_along_axis_line ..
    | refine Lines.call (fn_take_along_axis_line ..) ?_
    | exact fn_take_along_axis_1_line ..
    | refine Lines.call (fn_take_along_axis_1_line ..) ?_
    | exact fn_take_along_axis_2_line ..
    | refine Lines.call (fn_take_along_axis_2_line ..) ?_
    | exact fn_threefry_fold_in_line ..
    | refine Lines.call (fn_threefry_fold_in_line ..) ?_

def main_part2_line (d : Dev nD) : Lines (main_part2 (F := F) d) := by
  delta main_part2
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)
    | exact fn_take_along_axis_2_line ..
    | refine Lines.call (fn_take_along_axis_2_line ..) ?_

def main_line (d : Dev nD) : Lines (main (F := F) d) := by
  delta main
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)
    | exact main_part0_line ..
    | refine Lines.call (main_part0_line ..) ?_
    | exact main_part1_line ..
    | refine Lines.call (main_part1_line ..) ?_
    | exact main_part2_line ..
    | refine Lines.call (main_part2_line ..) ?_

end Cert.ReferenceIdeal.Hand

end
-- ==== Proof.RFrame.lean ====
module

public import proofs.«01_k».proof.Proof.RLine
public import Idealize.ShloMosaic.Lib.Claim
public import Idealize.ShloMosaic.Lib.Quiescent
public import Idealize.ShloMosaic.Lib.Tactic

/-! The reference's run: its lines in order, the buffers after them satisfying every line's equation. -/

@[expose] public section

set_option maxHeartbeats 4000000
set_option maxRecDepth 8192

noncomputable section

namespace Cert.ReferenceIdeal.Hand

open Idealize.ShloMosaic Idealize.ShloMosaic.StableHlo Idealize.SL.Sem Cert.Line Idealize.ShloMosaic.TcCoe

variable {F : FTy → Type} [FloatOps F]

theorem main_ordered (d : Dev nD) : ordered 3 (keys (main_line (F := F) d).io) = true := by sl_kernel_rfl

theorem line_sub {ops : List (HloOp τ sig (Elt F))} {io : List (Ref sig .tc × List (Ref sig .tc))} (h : Ok ops io) :
    ops.Forall fun op => op.bufs ⊆ tcRefs τ sig := by
  induction h with
  | nil => trivial
  | cons h _ ih => exact (List.forall_cons ..).2 ⟨h.sub, ih⟩
theorem line_fresh {ops : List (HloOp τ sig (Elt F))} {io : List (Ref sig .tc × List (Ref sig .tc))} (h : Ok ops io) :
    ∀ op ∈ ops, op.fresh = ∅ := by
  induction h with
  | nil => intro _ h; cases h
  | cons h _ ih =>
    intro op hop
    rcases List.mem_cons.1 hop with rfl | hop
    · exact h.fresh
    · exact ih op hop

variable (m : (ℓ : Loc nD τ sig) → Buf (Elt F) ℓ) (ρ : Dev nD → PrngReg)

/-- What the reference's buffers hold at the end. -/
def fin (c : Dev nD) : Valuation τ sig (Elt F) := after (main_line (F := F) c).ops (launchContents m c)

theorem run_main : θ_run defs (onTc (τ := τ) (main (F := F))) ⟨m, fun _ => 0, ρ⟩ (fun r =>
    ∀ (c : Dev nD) (b : Ref sig .tc), r.2.mem ((c.tc : Thread nD τ).loc b) = fin m c (Proc.devRef .tc b)) :=
  run_seq (by decide) (by decide) defs main (fun d => (main_line (F := F) d).ops) (fun d => (main_line d).eq)
    (fun d => line_sub (main_line d).ok) m ρ (fun d => line_fresh (main_line d).ok)

theorem fin_arg (c : Dev nD) (b : Ref sig .tc) (hb : b.idx.val < 3) : fin m c (Proc.devRef .tc b) = m ((c.tc : Thread nD τ).loc b) :=
  after_kept (main_line (F := F) c).ok 3 (main_ordered c) b hb (launchContents m c)

theorem fin_eqs (c : Dev nD) : Eqs (main_line (F := F) c).ops (fin m c) :=
  eqs_after (main_line (F := F) c).ok 3 (main_ordered c) (launchContents m c)

/-- From any memory with every counter at zero the reference ends, its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h c main_arg0).trans (fin_arg m c main_arg0 (by decide)),
    (h c main_arg1).trans (fin_arg m c main_arg1 (by decide)), (h c main_arg2).trans (fin_arg m c main_arg2 (by decide))⟩,
    sem_eq_zero_of_no_sems rfl r.2⟩) (run_main m ρ)

end Cert.ReferenceIdeal.Hand

end
-- ==== Proof.KStep.lean ====
module

public import proofs.«01_k».proof.Proof.KRun

/-! The body's two loops as iterated steps: what each trip computes from the values the trip before leaves, and the pieces the
run found as the pieces of these trips. -/

@[expose] public section

set_option maxRecDepth 65536

noncomputable section

namespace Cert.KernelIdeal.Hand

open Idealize.ShloMosaic Idealize.ShloMosaic.TcCoe Idealize.ShloMosaic.Tactic
open Idealize.SL Idealize.SL.Sem
open Cert.KernelIdeal Cert.KernelIdeal.Gen

variable {F : FTy → Type} [FloatOps F]

/-! ## The first loop: the fifty chunks -/

/-- The lowest chunk whose maximum is the greatest, a row at a time. -/
def pick1 (cm : FVec F S16x782 .f32) : IVec S16x1 32 :=
  shapeCast S16x1 (multiReductionI .minsi [1] S16
    (select (cmpf .oeq cm (broadcastTo S16x782 (shapeCast S16x1 (multiReduction .maximumf [1] S16 cm 0xFF800000#32
      reduces_S16x782_S16 (.inl rfl) rfl) shapeCasts_S16_S16x1) broadcasts_S16x1_S16x782))
      (iota .tc S16x782 32 [1] iota_S16x782_d1_w32) (broadcast S16x782 1073741824#32))
    2147483647#32 reduces_S16x782_S16 rfl) shapeCasts_S16_S16x1

/-- The chunk's row of zeros and a one. -/
def hot1 (cm : FVec F S16x782 .f32) : FVec F S16x1x782 .f32 :=
  shapeCast S16x1x782 (shapeCast S16x1x782 (sitofp .f32 (extui 32 (cmpi .eq (iota .tc S16x782 32 [1] iota_S16x782_d1_w32)
    (broadcastTo S16x782 (pick1 cm) broadcasts_S16x1_S16x782)) natLt_1_32)) shapeCasts_S16x782_S16x1x782) shapeCasts_S16x1x782_S16x1x782

/-- The positions of the chunk's lanes. -/
def pos1 (cm : FVec F S16x782 .f32) : IVec S16x1x128 32 :=
  shapeCast S16x1x128 (addi (broadcastTo S16x1x128 (muli (shapeCast S16x1x1 (pick1 cm) shapeCasts_S16x1_S16x1x1)
    (broadcast S16x1x1 128#32)) broadcasts_S16x1x1_S16x1x128) (iota .tc S16x1x128 32 [2] iota_S16x1x128_d2_w32))
    shapeCasts_S16x1x128_S16x1x128

/-- The chunk maxima with the chunk taken out. -/
def drop1 (cm : FVec F S16x782 .f32) : FVec F S16x782 .f32 :=
  select (cmpi .eq (iota .tc S16x782 32 [1] iota_S16x782_d1_w32) (broadcastTo S16x782 (pick1 cm) broadcasts_S16x1_S16x782))
    (broadcast S16x782 (Scalar.ofBits .f32 0xFF800000#32)) cm

/-- The chunk maxima before trip `t`. -/
def maxes (cm : FVec F S16x782 .f32) : ℕ → FVec F S16x782 .f32
  | 0 => cm
  | t + 1 => drop1 (maxes cm t)

theorem inb_hot (t : ℕ) (h : t < 50) (a : Fin 3) : ![0, t, 0] a + S16x1x782.size a ≤ S16x50x782.size a := by
  fin_cases a <;> simp [S16x1x782, S16x50x782] <;> omega
theorem inb_pos (t : ℕ) (h : t < 50) (a : Fin 3) : ![0, t, 0] a + S16x1x128.size a ≤ S16x50x128.size a := by
  fin_cases a <;> simp [S16x1x128, S16x50x128] <;> omega

/-- The first `n` rows of ones and zeros, as pieces. -/
def hots (cm : FVec F S16x782 .f32) : (n : ℕ) → n ≤ 50 → List (View.Piece (Elt F) S16x50x782 .f32)
  | 0, _ => []
  | t + 1, h => ⟨Rect.unit ![0, t, 0] S16x1x782.size (inb_hot t h), hot1 (maxes cm t)⟩ :: hots cm t (Nat.le_of_succ_le h)
/-- The first `n` rows of positions, as pieces. -/
def poss (cm : FVec F S16x782 .f32) : (n : ℕ) → n ≤ 50 → List (View.Piece (Elt F) S16x50x128 .i32)
  | 0, _ => []
  | t + 1, h => ⟨Rect.unit ![0, t, 0] S16x1x128.size (inb_pos t h), pos1 (maxes cm t)⟩ :: poss cm t (Nat.le_of_succ_le h)

variable (c : Dev nD) (arg1 : Memref sig .tc .vmem S4x4x99968 .f32) (harg1 : arg1.IsWhole) (arg2 : Memref sig .tc .vmem S4x4x128 .f32) (harg2 : arg2.IsWhole)
  (x0 : Vec F S4x4x99968 .f32) (x1 : Vec F S4x4x128 .f32)

/-- The two blocks as the body reads them. -/
abbrev rd0 : Vec F S4x4x99968 .f32 := View.readAt (Elt F) arg1.view (Rect.unit ![0, 0, 0] S4x4x99968.size inb_S4x4x99968_S4x4x99968_0_0_0).toLoadRect (harg1.unread x0)
abbrev rd1 : Vec F S4x4x128 .f32 := View.readAt (Elt F) arg2.view (Rect.unit ![0, 0, 0] S4x4x128.size inb_S4x4x128_S4x4x128_0_0_0).toLoadRect (harg2.unread x1)

theorem hots_eq : bodyRun.sl.H6_50 c arg1 harg1 arg2 harg2 x0 x1 = hots (k0_pay6 (rd0 arg1 harg1 x0) (rd1 arg2 harg2 x1)) 50 le_rfl := by
  sl_kernel_rfl
theorem poss_eq : bodyRun.sl.H8_50 c arg1 harg1 arg2 harg2 x0 x1 = poss (k0_pay6 (rd0 arg1 harg1 x0) (rd1 arg2 harg2 x1)) 50 le_rfl := by
  sl_kernel_rfl

end Cert.KernelIdeal.Hand

end
-- ==== Proof.KOut.lean ====
module

public import proofs.«01_k».proof.Proof.KStep

/-! The candidates the body gathers, its second loop as an iterated step, and the values it leaves in its two outputs. -/

@[expose] public section

set_option maxRecDepth 65536

noncomputable section

namespace Cert.KernelIdeal.Hand

open Idealize.ShloMosaic Idealize.ShloMosaic.TcCoe Idealize.ShloMosaic.Tactic
open Idealize.SL Idealize.SL.Sem
open Cert.KernelIdeal Cert.KernelIdeal.Gen

variable {F : FTy → Type} [FloatOps F]

/-! ## The candidates, a row at a time -/

theorem slices_main (r : ℕ) (h : r < 16) : S16x781x128.Slices ![r, 0, 0] S1x781x128 :=
  ⟨rfl, fun a => by fin_cases a <;> simp [S1x781x128, S16x781x128] <;> omega⟩
theorem slices_tail (r : ℕ) (h : r < 16) : S16x128.Slices ![r, 0] S1x128 :=
  ⟨rfl, fun a => by fin_cases a <;> simp [S1x128, S16x128] <;> omega⟩
theorem inb_hotMain (r : ℕ) (h : r < 16) (a : Fin 3) : ![r, 0, 0] a + S1x50x781.size a ≤ S16x50x782.size a := by
  fin_cases a <;> simp [S1x50x781, S16x50x782] <;> omega
theorem inb_hotTail (r : ℕ) (h : r < 16) (a : Fin 3) : ![r, 0, 781] a + S1x50x1.size a ≤ S16x50x782.size a := by
  fin_cases a <;> simp [S1x50x1, S16x50x782] <;> omega
theorem inb_row (r : ℕ) (h : r < 16) (a : Fin 3) : ![r, 0, 0] a + S1x50x128.size a ≤ S16x50x128.size a := by
  fin_cases a <;> simp [S1x50x128, S16x50x128] <;> omega

/-- The candidates of row `r`: its rows of ones and zeros times its chunks, the last chunk apart. -/
def candRow (xm : FVec F S16x781x128 .f32) (xt : FVec F S16x128 .f32) (r : ℕ) (h : r < 16) (u : Vec F S1x50x781 .f32) (w : Vec F S1x50x1 .f32) :
    FVec F S1x50x128 .f32 :=
  shapeCast S1x50x128 (addf
    (matmul dot_S50x781_S781x128_S50x128_1_0_0_1_n_n (some .fp32) (shapeCast S50x781 u shapeCasts_S1x50x781_S50x781)
      (shapeCast S781x128 (extractStridedSlice S1x781x128 ![r, 0, 0] xm (slices_main r h)) shapeCasts_S1x781x128_S781x128)
      (constant S50x128 .f32 0x00000000#32))
    (mulf (broadcastTo S50x128 (shapeCast S50x1 w shapeCasts_S1x50x1_S50x1) broadcasts_S50x1_S50x128)
      (broadcastTo S50x128 (shapeCast S1x128 (shapeCast S128 (extractStridedSlice S1x128 ![r, 0] xt (slices_tail r h))
        shapeCasts_S1x128_S128) shapeCasts_S128_S1x128) broadcasts_S1x128_S50x128)))
    shapeCasts_S50x128_S1x50x128

/-- The first `n` rows of candidates, as pieces. -/
def rows (v : View sig .tc .vmem S16x50x782 .f32) (H : List (View.Piece (Elt F) S16x50x782 .f32)) (xm : FVec F S16x781x128 .f32)
    (xt : FVec F S16x128 .f32) : (n : ℕ) → n ≤ 16 → List (View.Piece (Elt F) S16x50x128 .f32)
  | 0, _ => []
  | r + 1, h => ⟨Rect.unit ![r, 0, 0] S1x50x128.size (inb_row r h), candRow xm xt r h
      (v.readCov H (Rect.unit (s := S16x50x782) ![r, 0, 0] S1x50x781.size (inb_hotMain r h)).toLoadRect)
      (v.readCov H (Rect.unit (s := S16x50x782) ![r, 0, 781] S1x50x1.size (inb_hotTail r h)).toLoadRect)⟩ :: rows v H xm xt r (Nat.le_of_succ_le h)

/-! ## The second loop: the fifty candidates -/

/-- The candidates before trip `t`. -/
def cands (cand : FVec F S16x50x128 .f32) (gidx : IVec S16x50x128 32) : ℕ → FVec F S16x50x128 .f32
  | 0 => cand
  | t + 1 => k0_pay271 (cands cand gidx t) gidx

theorem inb_col (t : ℕ) (h : t < 50) (a : Fin 2) : ![0, t] a + S16x1.size a ≤ S16x64.size a := by
  fin_cases a <;> simp [S16x1, S16x64] <;> omega

/-- The values of the first `n` trips, as pieces over the buffer's fill. -/
def vals (cand : FVec F S16x50x128 .f32) (gidx : IVec S16x50x128 32) : (n : ℕ) → n ≤ 50 → List (View.Piece (Elt F) S16x64 .f32)
  | 0, _ => [⟨Rect.unit ![0, 0] S16x64.size inb_S16x64_S16x64_0_0, k0_pay265⟩]
  | t + 1, h => ⟨Rect.unit ![0, t] S16x1.size (inb_col t h), k0_pay269 (cands cand gidx t)⟩ :: vals cand gidx t (Nat.le_of_succ_le h)
/-- The positions of the first `n` trips, as pieces over the buffer's fill. -/
def idxs (cand : FVec F S16x50x128 .f32) (gidx : IVec S16x50x128 32) : (n : ℕ) → n ≤ 50 → List (View.Piece (Elt F) S16x64 .i32)
  | 0, _ => [⟨Rect.unit ![0, 0] S16x64.size inb_S16x64_S16x64_0_0, k0_pay266⟩]
  | t + 1, h => ⟨Rect.unit ![0, t] S16x1.size (inb_col t h), k0_pay270 (cands cand gidx t) gidx⟩ :: idxs cand gidx t (Nat.le_of_succ_le h)

variable (c : Dev nD) (arg1 : Memref sig .tc .vmem S4x4x99968 .f32) (harg1 : arg1.IsWhole) (arg2 : Memref sig .tc .vmem S4x4x128 .f32) (harg2 : arg2.IsWhole)
  (arg7 : Memref sig .tc .vmem S16x50x782 .f32) (arg8 : Memref sig .tc .vmem S16x50x128 .f32) (arg9 : Memref sig .tc .vmem S16x50x128 .i32)
  (x0 : Vec F S4x4x99968 .f32) (x1 : Vec F S4x4x128 .f32)

theorem rows_eq : bodyRun.sl.H7_16 c arg1 harg1 arg2 harg2 arg7 x0 x1
    = rows arg7.view (hots (k0_pay6 (rd0 arg1 harg1 x0) (rd1 arg2 harg2 x1)) 50 le_rfl) (k0_pay4 (rd0 arg1 harg1 x0)) (k0_pay5 (rd1 arg2 harg2 x1)) 16 le_rfl := by
  rw [← hots_eq c]; sl_kernel_rfl
theorem vals_eq : bodyRun.sl.H9_51 c arg1 harg1 arg2 harg2 arg7 arg8 arg9 x0 x1
    = vals (bodyRun.sl.v1685 c arg1 harg1 arg2 harg2 arg7 arg8 x0 x1) (bodyRun.sl.v1686 c arg1 harg1 arg2 harg2 arg9 x0 x1) 50 le_rfl := by
  sl_kernel_rfl
theorem idxs_eq : bodyRun.sl.H10_51 c arg1 harg1 arg2 harg2 arg7 arg8 arg9 x0 x1
    = idxs (bodyRun.sl.v1685 c arg1 harg1 arg2 harg2 arg7 arg8 x0 x1) (bodyRun.sl.v1686 c arg1 harg1 arg2 harg2 arg9 x0 x1) 50 le_rfl := by
  sl_kernel_rfl

end Cert.KernelIdeal.Hand

end
-- ==== Proof.KVal.lean ====
module

public import proofs.«01_k».proof.Proof.KOut
public import Idealize.ShloMosaic.Lib.Pointwise

/-! What the body leaves in its two outputs, as functions of its four blocks, and the piece lists read at an index. -/

@[expose] public section

set_option maxRecDepth 65536

noncomputable section

namespace Cert.KernelIdeal.Hand

open Idealize.ShloMosaic Idealize.ShloMosaic.TcCoe Idealize.ShloMosaic.Tactic
open Idealize.SL Idealize.SL.Sem
open Cert.KernelIdeal Cert.KernelIdeal.Gen

variable {F : FTy → Type} [FloatOps F]

/-! ## The outputs -/

/-- The chunk maxima: the whole chunks', and the last chunk's. -/
def cmax (xm : FVec F S16x781x128 .f32) (xt : FVec F S16x128 .f32) : FVec F S16x782 .f32 :=
  concatenate S16x782 1 [⟨S16x781, multiReduction .maximumf [2] S16x781 xm 0xFF800000#32 reduces_S16x781x128_S16x781 (.inl rfl) rfl⟩,
    ⟨S16x1, shapeCast S16x1 (multiReduction .maximumf [1] S16 xt 0xFF800000#32 reduces_S16x128_S16 (.inl rfl) rfl) shapeCasts_S16_S16x1⟩]
    concatenates_S16x781_S16x1_S16x782_d1

/-- The rows of candidates as pieces, the ones and zeros read where they were written. -/
def rowsC (H : List (View.Piece (Elt F) S16x50x782 .f32)) (xm : FVec F S16x781x128 .f32)
    (xt : FVec F S16x128 .f32) : (n : ℕ) → n ≤ 16 → List (View.Piece (Elt F) S16x50x128 .f32)
  | 0, _ => []
  | r + 1, h => ⟨Rect.unit ![r, 0, 0] S1x50x128.size (inb_row r h), candRow xm xt r h
      (fun j => View.canon H ((Rect.unit (s := S16x50x782) ![r, 0, 0] S1x50x781.size (inb_hotMain r h)).toLoadRect.idx j))
      (fun j => View.canon H ((Rect.unit (s := S16x50x782) ![r, 0, 781] S1x50x1.size (inb_hotTail r h)).toLoadRect.idx j))⟩ :: rowsC H xm xt r (Nat.le_of_succ_le h)

theorem rows_eq_rowsC (v : View sig .tc .vmem S16x50x782 .f32) (H : List (View.Piece (Elt F) S16x50x782 .f32)) (xm : FVec F S16x781x128 .f32)
    (xt : FVec F S16x128 .f32) : ∀ (n : ℕ) (h : n ≤ 16), rows v H xm xt n h = rowsC H xm xt n h
  | 0, _ => rfl
  | r + 1, h => by
    unfold rows rowsC
    rw [rows_eq_rowsC v H xm xt r, View.readCov_eq_canon', View.readCov_eq_canon']
    rfl

/-- The candidates, -/
def cand (xm : FVec F S16x781x128 .f32) (xt : FVec F S16x128 .f32) : FVec F S16x50x128 .f32 :=
  View.canon (rowsC (hots (cmax xm xt) 50 le_rfl) xm xt 16 le_rfl)
/-- their positions, -/
def gidx (xm : FVec F S16x781x128 .f32) (xt : FVec F S16x128 .f32) : IVec S16x50x128 32 :=
  View.canon (Val := Elt F) (e := .i32) (poss (cmax xm xt) 50 le_rfl)
/-- the fifty greatest, -/
def resv (xm : FVec F S16x781x128 .f32) (xt : FVec F S16x128 .f32) : FVec F S16x64 .f32 :=
  View.canon (vals (cand xm xt) (gidx xm xt) 50 le_rfl)
/-- and their positions. -/
def resi (xm : FVec F S16x781x128 .f32) (xt : FVec F S16x128 .f32) : IVec S16x64 32 :=
  View.canon (Val := Elt F) (e := .i32) (idxs (cand xm xt) (gidx xm xt) 50 le_rfl)

/-- The two outputs of the body from its four blocks. -/
def outF (x0 : Vec F S4x4x99968 .f32) (x1 : Vec F S4x4x128 .f32) (x2 : Vec F S4x4x64 .f32) (x3 : Vec F S4x4x1 .f32) : Vec F S4x4x1 .f32 :=
  k0_pay2 (iota .tc S16x64 32 [1] iota_S16x64_d1_w32) (k0_pay530 (resv (k0_pay4 x0) (k0_pay5 x1)) x2) (resv (k0_pay4 x0) (k0_pay5 x1)) x3
def outI (x0 : Vec F S4x4x99968 .f32) (x1 : Vec F S4x4x128 .f32) (x2 : Vec F S4x4x64 .f32) : Vec F S4x4x1 .i32 :=
  k0_pay3 (F := F) (iota .tc S16x64 32 [1] iota_S16x64_d1_w32) (k0_pay530 (resv (k0_pay4 x0) (k0_pay5 x1)) x2) (resi (k0_pay4 x0) (k0_pay5 x1))

/-- They use of the last chunk's block only the lanes inside the array. -/
theorem outF_tail (x0 : Vec F S4x4x99968 .f32) (x1 x1' : Vec F S4x4x128 .f32) (x2 : Vec F S4x4x64 .f32) (x3 : Vec F S4x4x1 .f32)
    (h : k0_pay5 x1 = k0_pay5 x1') : outF x0 x1 x2 x3 = outF x0 x1' x2 x3 := by unfold outF; rw [h]
theorem outI_tail (x0 : Vec F S4x4x99968 .f32) (x1 x1' : Vec F S4x4x128 .f32) (x2 : Vec F S4x4x64 .f32)
    (h : k0_pay5 x1 = k0_pay5 x1') : outI x0 x1 x2 = outI x0 x1' x2 := by unfold outI; rw [h]

/-! ## A whole block read back -/

theorem emb_full {S : Shape} {off : Fin S.rank → ℕ} (inb : ∀ a, off a + S.size a ≤ S.size a) (j : (Rect.unit off S.size inb).shape.Idx) :
    (Rect.unit off S.size inb).emb j = j :=
  funext fun a => Fin.ext (by show off a + 1 * (j a).val = (j a).val; have := inb a; omega)

theorem readCov_whole {S : Shape} {e : EltTy} (v : View sig .tc .vmem S e) (L : List (View.Piece (Elt F) S e)) {off : Fin S.rank → ℕ}
    (inb : ∀ a, off a + S.size a ≤ S.size a) : v.readCov L (Rect.unit off S.size inb).toLoadRect = View.canon L := by
  rw [View.readCov_eq_canon']
  funext j
  exact congrArg (View.canon L) (emb_full inb j)

theorem readAt_whole {S : Shape} {e : EltTy} (a : Memref sig .tc .vmem S e) (ha : a.IsWhole) (x : Vec F S e) {off : Fin S.rank → ℕ}
    (inb : ∀ a, off a + S.size a ≤ S.size a) : View.readAt (Elt F) a.view (Rect.unit off S.size inb).toLoadRect (ha.unread x) = x := by
  have h : a.view.read (Elt F) (ha.unread x) = x := ha.read_unread x
  funext j
  rw [View.readAt_apply, h]
  exact congrArg x (emb_full inb j)

theorem canon_whole {S : Shape} {e : EltTy} {off : Fin S.rank → ℕ} (inb : ∀ a, off a + S.size a ≤ S.size a) (w : S.Idx → Elt F e)
    (L : List (View.Piece (Elt F) S e)) : View.canon ((⟨Rect.unit off S.size inb, w⟩ : View.Piece (Elt F) S e) :: L) = w := by
  funext j
  exact (congrArg (View.canon _) (emb_full inb j).symm).trans (View.canon_cons_emb (Rect.unit off S.size inb) w L j)

theorem cmax_eq (x0 : Vec F S4x4x99968 .f32) (x1 : Vec F S4x4x128 .f32) : k0_pay6 x0 x1 = cmax (k0_pay4 x0) (k0_pay5 x1) := rfl

theorem read_whole {S : Shape} {e : EltTy} {off : Fin S.rank → ℕ} (v : View sig .tc .vmem S e) (f : v.ty.Contents (Elt F)) (inb : ∀ a, off a + S.size a ≤ S.size a)
    (w : S.Idx → Elt F e) (L : List (View.Piece (Elt F) S e)) : v.read (Elt F) (v.writes (Elt F) f ((⟨Rect.unit off S.size inb, w⟩ : View.Piece (Elt F) S e) :: L)) = w := by
  funext j
  exact (congrArg (v.read (Elt F) _) (emb_full inb j).symm).trans (View.read_writes_cons_emb v f (Rect.unit off S.size inb) w L j)

section Body
variable (c : Dev nD) (i : grid0.Coords) (arg1 : Memref sig .tc .vmem S4x4x99968 .f32) (harg1 : arg1.IsWhole) (arg2 : Memref sig .tc .vmem S4x4x128 .f32) (harg2 : arg2.IsWhole)
  (arg3 : Memref sig .tc .vmem S4x4x64 .f32) (harg3 : arg3.IsWhole) (arg4 : Memref sig .tc .vmem S4x4x1 .f32) (harg4 : arg4.IsWhole)
  (arg5 : Memref sig .tc .vmem S4x4x1 .f32) (harg5 : arg5.IsWhole) (arg6 : Memref sig .tc .vmem S4x4x1 .i32) (harg6 : arg6.IsWhole)
  (arg7 : Memref sig .tc .vmem S16x50x782 .f32) (harg7 : arg7.IsWhole) (arg8 : Memref sig .tc .vmem S16x50x128 .f32) (harg8 : arg8.IsWhole)
  (arg9 : Memref sig .tc .vmem S16x50x128 .i32) (harg9 : arg9.IsWhole) (arg10 : Memref sig .tc .vmem S16x64 .f32) (harg10 : arg10.IsWhole)
  (arg11 : Memref sig .tc .vmem S16x64 .i32) (harg11 : arg11.IsWhole)
  (x0 : Vec F S4x4x99968 .f32) (x1 : Vec F S4x4x128 .f32) (x2 : Vec F S4x4x64 .f32) (x3 : Vec F S4x4x1 .f32)

theorem cand_read : bodyRun.sl.v1685 c arg1 harg1 arg2 harg2 arg7 arg8 x0 x1 = cand (k0_pay4 x0) (k0_pay5 x1) := by
  unfold bodyRun.sl.v1685
  rw [rows_eq, rows_eq_rowsC, cmax_eq]
  unfold rd0 rd1
  rw [readAt_whole, readAt_whole]
  exact readCov_whole _ _ _
theorem gidx_read : bodyRun.sl.v1686 c arg1 harg1 arg2 harg2 arg9 x0 x1 = gidx (k0_pay4 x0) (k0_pay5 x1) := by
  unfold bodyRun.sl.v1686
  rw [poss_eq, cmax_eq]
  unfold rd0 rd1
  rw [readAt_whole, readAt_whole]
  exact readCov_whole _ _ _
theorem resv_read : bodyRun.sl.v2791 c arg1 harg1 arg2 harg2 arg7 arg8 arg9 arg10 x0 x1 = resv (k0_pay4 x0) (k0_pay5 x1) := by
  unfold bodyRun.sl.v2791
  rw [vals_eq, cand_read, gidx_read]
  exact readCov_whole _ _ _
theorem resi_read : bodyRun.sl.v2811 c arg1 harg1 arg2 harg2 arg7 arg8 arg9 arg11 x0 x1 = resi (k0_pay4 x0) (k0_pay5 x1) := by
  unfold bodyRun.sl.v2811
  rw [idxs_eq, cand_read, gidx_read]
  exact readCov_whole _ _ _
theorem pick_read : bodyRun.sl.r_167 c arg1 harg1 arg2 harg2 arg3 harg3 arg7 arg8 arg9 arg10 x0 x1 x2 = k0_pay530 (resv (k0_pay4 x0) (k0_pay5 x1)) x2 := by
  unfold bodyRun.sl.r_167
  rw [resv_read, readAt_whole]

/-- What the body leaves in the first output, -/
theorem read_outF (v : View sig .tc .vmem S4x4x1 .f32) (f : v.ty.Contents (Elt F)) : v.read (Elt F) (v.writes (Elt F) f (bodyRun c i arg1 harg1 arg2 harg2 arg3 harg3 arg4 harg4 arg5 harg5 arg6 harg6 arg7 harg7 arg8 harg8 arg9 harg9 arg10 harg10 arg11 harg11 x0 x1 x2 x3).1) = outF x0 x1 x2 x3 := by
  have h : (bodyRun c i arg1 harg1 arg2 harg2 arg3 harg3 arg4 harg4 arg5 harg5 arg6 harg6 arg7 harg7 arg8 harg8 arg9 harg9 arg10 harg10 arg11 harg11 x0 x1 x2 x3).1
    = [⟨Rect.unit ![0, 0, 0] S4x4x1.size inb_S4x4x1_S4x4x1_0_0_0, k0_pay2 bodyRun.sl.v2790 (bodyRun.sl.r_167 c arg1 harg1 arg2 harg2 arg3 harg3 arg7 arg8 arg9 arg10 x0 x1 x2)
        (bodyRun.sl.v2791 c arg1 harg1 arg2 harg2 arg7 arg8 arg9 arg10 x0 x1)
        (View.readAt (Elt F) arg4.view (Rect.unit ![0, 0, 0] S4x4x1.size inb_S4x4x1_S4x4x1_0_0_0).toLoadRect (harg4.unread x3))⟩] := rfl
  rw [h, pick_read, resv_read, readAt_whole]
  exact read_whole _ _ _ _ _
/-- and in the second. -/
theorem read_outI (v : View sig .tc .vmem S4x4x1 .i32) (f : v.ty.Contents (Elt F)) : v.read (Elt F) (v.writes (Elt F) f (bodyRun c i arg1 harg1 arg2 harg2 arg3 harg3 arg4 harg4 arg5 harg5 arg6 harg6 arg7 harg7 arg8 harg8 arg9 harg9 arg10 harg10 arg11 harg11 x0 x1 x2 x3).2.1) = outI x0 x1 x2 := by
  have h : (bodyRun c i arg1 harg1 arg2 harg2 arg3 harg3 arg4 harg4 arg5 harg5 arg6 harg6 arg7 harg7 arg8 harg8 arg9 harg9 arg10 harg10 arg11 harg11 x0 x1 x2 x3).2.1
    = [⟨Rect.unit ![0, 0, 0] S4x4x1.size inb_S4x4x1_S4x4x1_0_0_0, k0_pay3 (F := F) bodyRun.sl.v2790 (bodyRun.sl.r_167 c arg1 harg1 arg2 harg2 arg3 harg3 arg7 arg8 arg9 arg10 x0 x1 x2)
        (bodyRun.sl.v2811 c arg1 harg1 arg2 harg2 arg7 arg8 arg9 arg11 x0 x1)⟩] := rfl
  rw [h, pick_read, resi_read]
  exact read_whole _ _ _ _ _
end Body

end Cert.KernelIdeal.Hand

end
-- ==== Proof.KPt.lean ====
module

public import proofs.«01_k».proof.Proof.KVal
public import Idealize.ShloMosaic.Lib.Pointwise
public import Idealize.ShloMosaic.Lib.WordCmp

/-! The body's operations read at an index. -/

@[expose] public section

set_option maxRecDepth 65536

noncomputable section

namespace Cert.KernelIdeal.Hand

open Idealize.ShloMosaic Idealize.ShloMosaic.TcCoe Idealize.ShloMosaic.Tactic
open Idealize.SL Idealize.SL.Sem
open Cert.KernelIdeal Cert.KernelIdeal.Gen

variable {F : FTy → Type} [FloatOps F]

/-- A row of a block is a batch and a beam of it. -/
def hi (r : Fin 16) : Fin 4 := ⟨r.val / 4, by omega⟩
def lo (r : Fin 16) : Fin 4 := ⟨r.val % 4, by omega⟩
def row (a b : Fin 4) : Fin 16 := ⟨a.val * 4 + b.val, by omega⟩

theorem bot_bits : Ideal.ofBits .f32 0xFF800000#32 = (⊥ : EReal) := by simp [Ideal.ofBits, Ideal.ieee]
theorem sel_eq {α : Type} (a b : BitVec 32) (x y : α) : Scalar.select (IntOp.cmpi .eq a b) x y = if a = b then x else y := by
  rw [WordCmp.cmpi_eq_eq, WordCmp.select_ofBool]; simp
theorem sel_slt {α : Type} {a b : ℕ} (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat ha hb, WordCmp.select_ofBool]; simp
theorem hot_eq (a b : BitVec 32) : (FloatOps.sitofp .f32 (BitVec.setWidth 32 (IntOp.cmpi .eq a b)) : Ideal .f32) = if a = b then (1 : EReal) else 0 := by
  rw [WordCmp.cmpi_eq_eq]
  by_cases h : a = b <;> simp [h, FloatOps.sitofp]

/-- The last chunk's row: its lanes inside the array, and below all else the others. -/
theorem tail_at (x : Vec F S4x4x128 .f32) (j : S16x128.Idx) :
    k0_pay5 x j = if (j 1).val < 32 then x (ix3 (hi (j 0)) (lo (j 0)) (j 1)) else Scalar.ofBits .f32 0xF149F2CA#32 := by
  unfold k0_pay5
  pointwise
  have := (j 1).isLt
  exact sel_slt (lt_trans (j 1).isLt (by decide)) (by decide) _ _

/-- The whole chunks' rows. -/
theorem main_at (x : Vec F S4x4x99968 .f32) (r : Fin 16) (k : Fin 781) (l : Fin 128) :
    k0_pay4 x (ix3 r k l) = x (ix3 (hi r) (lo r) (⟨k.val * 128 + l.val, by omega⟩ : Fin 99968)) := by
  unfold k0_pay4
  pointwise
  rfl

/-- The maxima: of each whole chunk, and of the last one. -/
theorem cmax_at (xm : FVec Ideal S16x781x128 .f32) (xt : FVec Ideal S16x128 .f32) (r : Fin 16) (k : Fin 782) :
    cmax xm xt (ix2 r k) = if h : k.val < 781 then Finset.univ.fold max ⊥ (fun l : Fin 128 => xm (ix3 r (⟨k.val, h⟩ : Fin 781) l))
      else Finset.univ.fold max ⊥ (fun l : Fin 128 => xt (ix2 r l)) := by
  unfold cmax
  pointwise
  simp only [bot_bits]
theorem pick1_at (cm : FVec Ideal S16x782 .f32) (r : Fin 16) :
    pick1 cm (ix2 r (0 : Fin 1)) = Finset.univ.fold IntOp.minsi 2147483647#32 (fun k : Fin 782 =>
      if cm (ix2 r k) = Finset.univ.fold max ⊥ (fun k' : Fin 782 => cm (ix2 r k')) then BitVec.ofNat 32 k.val else 1073741824#32) := by
  unfold pick1
  pointwise
  simp only [bot_bits]
theorem hot1_at (cm : FVec Ideal S16x782 .f32) (r : Fin 16) (k : Fin 782) :
    hot1 cm (ix3 r (0 : Fin 1) k) = if BitVec.ofNat 32 k.val = pick1 cm (ix2 r (0 : Fin 1)) then 1 else 0 := by
  unfold hot1
  pointwise
  exact hot_eq _ _
theorem pos1_at (cm : FVec Ideal S16x782 .f32) (r : Fin 16) (l : Fin 128) :
    pos1 cm (ix3 r (0 : Fin 1) l) = pick1 cm (ix2 r (0 : Fin 1)) * 128#32 + BitVec.ofNat 32 l.val := by
  unfold pos1
  pointwise
  rfl
theorem drop1_at (cm : FVec Ideal S16x782 .f32) (r : Fin 16) (k : Fin 782) :
    drop1 cm (ix2 r k) = if BitVec.ofNat 32 k.val = pick1 cm (ix2 r (0 : Fin 1)) then ⊥ else cm (ix2 r k) := by
  unfold drop1
  pointwise
  rw [sel_eq, bot_bits]

/-- A row of candidates: the sum over the whole chunks of the ones and zeros times the chunk's lane, and the last chunk's. -/
theorem candRow_at (xm : FVec Ideal S16x781x128 .f32) (xt : FVec Ideal S16x128 .f32) (r : ℕ) (h : r < 16) (u : Vec Ideal S1x50x781 .f32)
    (w : Vec Ideal S1x50x1 .f32) (t : Fin 50) (l : Fin 128) :
    candRow xm xt r h u w (ix3 (0 : Fin 1) t l)
      = (∑ k : Fin 781, u (ix3 (0 : Fin 1) t k) * xm (ix3 (⟨r, h⟩ : Fin 16) k l)) + w (ix3 (0 : Fin 1) t (0 : Fin 1)) * xt (ix2 (⟨r, h⟩ : Fin 16) l) := by
  unfold candRow
  pointwise
theorem max2_at (cd : Vec Ideal S16x50x128 .f32) (r : Fin 16) :
    k0_pay269 cd (ix2 r (0 : Fin 1)) = Finset.univ.fold max ⊥ (fun t : Fin 50 => Finset.univ.fold max ⊥ (fun l : Fin 128 => cd (ix3 r t l))) := by
  unfold k0_pay269 k0_pay267
  pointwise
  simp only [bot_bits]
theorem idx2_at (cd : Vec Ideal S16x50x128 .f32) (g : Vec Ideal S16x50x128 .i32) (r : Fin 16) :
    k0_pay270 (F := Ideal) cd g (ix2 r (0 : Fin 1)) = Finset.univ.fold IntOp.minsi 2147483647#32 (fun t : Fin 50 => Finset.univ.fold IntOp.minsi 2147483647#32 (fun l : Fin 128 =>
      if cd (ix3 r t l) = k0_pay269 cd (ix2 r (0 : Fin 1)) then g (ix3 r t l) else 1073741824#32)) := by
  unfold k0_pay270 k0_pay268 k0_pay269
  pointwise
theorem drop2_at (cd : Vec Ideal S16x50x128 .f32) (g : Vec Ideal S16x50x128 .i32) (r : Fin 16) (t : Fin 50) (l : Fin 128) :
    k0_pay271 cd g (ix3 r t l) = if g (ix3 r t l) = k0_pay270 (F := Ideal) cd g (ix2 r (0 : Fin 1)) then ⊥ else cd (ix3 r t l) := by
  unfold k0_pay271 k0_pay270
  pointwise
  rw [sel_eq, bot_bits]
/-- The lowest lane at which a row plus its noise is greatest. -/
theorem pick_at (v : Vec Ideal S16x64 .f32) (g : Vec Ideal S4x4x64 .f32) (r : Fin 16) :
    k0_pay530 v g (ix1 r) = Finset.univ.fold IntOp.minsi 2147483647#32 (fun j : Fin 64 =>
      if v (ix2 r j) + g (ix3 (hi r) (lo r) j)
        = Finset.univ.fold max ⊥ (fun j' : Fin 64 => v (ix2 r j') + g (ix3 (hi r) (lo r) j'))
      then BitVec.ofNat 32 j.val else 1073741824#32) := by
  unfold k0_pay530
  pointwise
  simp only [bot_bits]
  rfl
theorem outF_at (x0 : Vec Ideal S4x4x99968 .f32) (x1 : Vec Ideal S4x4x128 .f32) (x2 : Vec Ideal S4x4x64 .f32) (x3 : Vec Ideal S4x4x1 .f32) (a b : Fin 4) :
    outF x0 x1 x2 x3 (ix3 a b (0 : Fin 1)) = (∑ j : Fin 64, if BitVec.ofNat 32 j.val = k0_pay530 (resv (k0_pay4 x0) (k0_pay5 x1)) x2 (ix1 (row a b))
      then resv (k0_pay4 x0) (k0_pay5 x1) (ix2 (row a b) j) else 0) + x3 (ix3 a b (0 : Fin 1)) := by
  unfold outF k0_pay2 k0_pay1
  pointwise
  simp only [sel_eq]
  rfl
theorem outI_at (x0 : Vec Ideal S4x4x99968 .f32) (x1 : Vec Ideal S4x4x128 .f32) (x2 : Vec Ideal S4x4x64 .f32) (a b : Fin 4) :
    outI (F := Ideal) x0 x1 x2 (ix3 a b (0 : Fin 1)) = Finset.univ.fold IntOp.addi 0#32 (fun j : Fin 64 => if BitVec.ofNat 32 j.val = k0_pay530 (resv (k0_pay4 x0) (k0_pay5 x1)) x2 (ix1 (row a b))
      then resi (F := Ideal) (k0_pay4 x0) (k0_pay5 x1) (ix2 (row a b) j) else 0#32) := by
  unfold outI k0_pay3 k0_pay1
  pointwise
  simp only [sel_eq]
  rfl

end Cert.KernelIdeal.Hand

end
-- ==== Proof.KOutRun.lean ====
module

public import proofs.«01_k».proof.Proof.Gen.KernelIdeal.Frame
public import proofs.«01_k».proof.Proof.KFrame
public import proofs.«01_k».proof.Proof.KPt
public import Idealize.ShloMosaic.Lib.Claim

/-! The launch of the kernel with its two outputs named: what they hold at the end, over the blocks of every point. -/

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationLoose cellOf)
open Cert.KernelIdeal Cert.KernelIdeal.Gen
open Cert.KernelIdeal.Hand hiding dats A_eq after_0 after_1 after_2 after_3 before_0 before_1 before_2 before_3 bodyPre bodyPost sound_body body_obligation run_main

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the launch: as before, with each output's buffer left at what the body makes of the blocks. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => tailFill m c t anyTail
    | ⟨2, _⟩ => iblk m c 2 t
    | ⟨3, _⟩ => iblk m c 3 t
    | ⟨4, _⟩ => outF (X0_0 m c t) (tailFill m c t anyTail) (iblk m c 2 t) (iblk m c 3 t)
    | ⟨5, _⟩ => outI (X0_0 m c t) (tailFill m c t anyTail) (iblk m c 2 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = X0_0 m c t := by dsimp only [dats]
theorem after_1 (c : Dev nD) (t : Fin cfg0.N) : (dats m 0 c).after 1 t = tailFill m c t anyTail := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = tailFill m c t d := by
  rw [Pipeline.Dat.before_fetched _ 1 t (fetch0_1 t)]
  unfold Dat.fetched tailFill Dat.blockOf iblk; rw [A_eq]
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

theorem after_4 (c : Dev nD) (t : Fin cfg0.N) : (dats m 0 c).after 4 t = outF (X0_0 m c t) (tailFill m c t anyTail) (iblk m c 2 t) (iblk m c 3 t) := by dsimp only [dats]
theorem after_5 (c : Dev nD) (t : Fin cfg0.N) : (dats m 0 c).after 5 t = outI (X0_0 m c t) (tailFill m c t anyTail) (iblk m c 2 t) := by dsimp only [dats]

/-- A fetch of the last chunk moves its first thirty-two lanes. -/
theorem xsize0_1 : ∀ t : Fin cfg0.N, ∀ a, (cfg0.win 1).xsize (cfg0.grid.coords t) a = (![4, 4, 32] : Fin 3 → ℕ) a := by decide +kernel

/-- The lanes of the last chunk that the body keeps do not depend on what the buffer held before the fetch. -/
theorem tail_kept (c : Dev nD) (t : Fin cfg0.N) (d d' : (cfg0.win 1).block.Idx → Elt F (cfg0.win 1).elt) :
    k0_pay5 (tailFill m c t d) = k0_pay5 (tailFill m c t d') := by
  funext j
  rw [Hand.tail_at, Hand.tail_at]
  split
  · rename_i h
    unfold tailFill Pipeline.Window.fill
    have hm : (cfg0.win 1).moved (cfg0.grid.coords t) (ix3 (hi (j 0)) (lo (j 0)) (j 1)) = true :=
      ((cfg0.win 1).moved_iff _ _).mpr fun a => by
        rw [xsize0_1 t a]
        fin_cases a
        · exact (hi (j 0)).isLt
        · exact (lo (j 0)).isLt
        · exact h
    rw [dif_pos hm, dif_pos hm]
  · rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, phi_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
  iapply ((bodyRun c (grid0.coords t) _ _ _ _ _ _ _ _ _ _ _ _ _ _ _ _ _ _ _ _ _ _ (X0_0 m c t) (tailFill m c t d1) (iblk m c 2 t) (iblk m c 3 t)).2.2.2.2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  isplitl [HS2]; · iexact HS2
  isplitl [HS3]; · iexact HS3
  isplitl [HS4]; · iexact HS4
  iintro ⟨H0, H1, H2, H3, ⟨%e4, H4⟩, ⟨%e5, H5⟩, ⟨%fT0, HS0⟩, ⟨%fT1, HS1⟩, ⟨%fT2, HS2⟩, ⟨%fT3, HS3⟩, ⟨%fT4, HS4⟩⟩
  isplitl [HS0 HS1 HS2 HS3 HS4 Hg]
  · isplitl [HS0 HS1 HS2 HS3 HS4]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      iexists _; unfold owns; iexists _; isplitr
      swap; · iexact HS4
      ipureintro; rfl
    iexact Hg
  isplitl [Ho]; · iexact Ho
  isplitl [H0]; · iexists d0; rw [left_0]; iexact H0
  isplitl [H1]; · iexists d1; rw [left_1]; iexact H1
  isplitl [H2]; · iexact H2
  isplitl [H3]; · iexact H3
  isplitl [H4]
  · unfold owns; iexists _; isplitr
    swap; · iexact H4
    ipureintro; exact (read_outF c _ _ _ _ _ _ _ _ _ _ _ _ _ _ _ _ _ _ _ _ _ _ _ _ _ _ _ _ _).trans (outF_tail _ _ _ _ _ (tail_kept m c t d1 anyTail))
  unfold owns; iexists _; isplitr
  swap; · iexact H5
  ipureintro; exact (read_outI c _ _ _ _ _ _ _ _ _ _ _ _ _ _ _ _ _ _ _ _ _ _ _ _ _ _ _ _ _).trans (outI_tail _ _ _ _ (tail_kept m c t d1 anyTail))

theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The program ends with its two output arrays assembled from the points' blocks and its last lines run on them. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_shared cfgs (dats m) (0 : Fin 1) launch₀0 defs₀ Variants.none m ρ main
    (hbody := body_obligation m) (hq := fun _ _ _ => rfl) (howed := fun _ _ => rfl) (V₀ := V0 m) (opss := [hostOps1])
    (hsub := sfx_sub) (hfresh := sfx_fresh) (hkeep := sfx_keeps)
    (hmain := hmain m Variants.none) (hA := A_eq m) (hΦ := fun _ _ => rfl) (Q' := _) (hQ' := fun _ h => h)

end Cert.KernelIdeal.Val

end
-- ==== Proof.KArr.lean ====
module

public import proofs.«01_k».proof.Proof.KOutRun
public import Idealize.ShloMosaic.Lib.Pipeline.ValueKit.Geometry

/-! The launch's two output arrays and the blocks its grid points read, at one index. -/

@[expose] public section

noncomputable section

namespace Cert.KernelIdeal.Val

open Idealize.ShloMosaic Idealize.ShloMosaic.TcCoe Idealize.ShloMosaic.Pipeline Idealize.SL Idealize.SL.Sem
open Cert.KernelIdeal Cert.KernelIdeal.Gen Cert.KernelIdeal.Hand

variable {F : FTy → Type} [FloatOps F] (m : (ℓ : Loc nD τ sig) → Buf (Elt F) ℓ)

/-- The grid point whose block holds row `r`, and the row within it. -/
abbrev pt (r : Fin 64) : Fin cfg0.N := ⟨r.val / 4, by have : cfg0.N = 16 := by decide +kernel
                                                      omega⟩
abbrev sub (r : Fin 64) : Fin 4 := ⟨r.val % 4, by omega⟩

theorem i0 : ∀ t : Fin cfg0.N, win0_0.index t = ![t.val, 0, 0] := by decide +kernel
theorem i1 : ∀ t : Fin cfg0.N, win0_1.index t = ![t.val, 0, 781] := by decide +kernel
theorem i2 : ∀ t : Fin cfg0.N, win0_2.index t = ![t.val, 0, 0] := by decide +kernel
theorem i3 : ∀ t : Fin cfg0.N, win0_3.index t = ![t.val, 0, 0] := by decide +kernel
theorem i4 : ∀ t : Fin cfg0.N, win0_4.index t = ![t.val, 0, 0] := by decide +kernel
theorem i5 : ∀ t : Fin cfg0.N, win0_5.index t = ![t.val, 0, 0] := by decide +kernel

theorem final_4 (c : Dev nD) (r : Fin 64) (b : Fin 4) :
    ((dats m 0 c).arrAt 4 cfg0.N : S64x4x1.Idx → _) (ix3 r b 0) = outF (X0_0 m c (pt r)) (tailFill m c (pt r) anyTail) (iblk m c 2 (pt r)) (iblk m c 3 (pt r)) (ix3 (sub r) b 0) := by
  have hN : (dats m 0 c).arrAt 4 cfg0.N = fun i : S64x4x1.Idx =>
      outF (X0_0 m c (pt (i 0))) (tailFill m c (pt (i 0)) anyTail) (iblk m c 2 (pt (i 0))) (iblk m c 3 (pt (i 0))) (ix3 (sub (i 0)) (i 1) (i 2)) := by
    refine (dats m 0 c).arrAt_eq_of_covers 4 _ (by decide +kernel) fun t hf y => ?_
    blk_simp
    rw [after_4]
    idx_bounds y
    have h0 : ((win0_4.blk t).view.emb y 0).val = 4 * t.val + (y 0).val := by
      blk_simp [i4]
      simp
      omega
    have h1 : ((win0_4.blk t).view.emb y 1).val = (y 1).val := by
      blk_simp [i4]
    have h2 : ((win0_4.blk t).view.emb y 2).val = (y 2).val := by
      blk_simp [i4]
    have hp : pt ((win0_4.blk t).view.emb y 0) = t := Fin.ext (by
      show ((win0_4.blk t).view.emb y 0).val / 4 = t.val
      omega)
    rw [hp]
    refine congrArg _ (funext fun a => Fin.ext ?_)
    fin_cases a
    · show (y 0).val = _ % 4
      omega
    · exact h1.symm
    · exact h2.symm
  exact congrFun hN (ix3 r b 0)

theorem final_5 (c : Dev nD) (r : Fin 64) (b : Fin 4) :
    ((dats m 0 c).arrAt 5 cfg0.N : S64x4x1.Idx → _) (ix3 r b 0) = outI (X0_0 m c (pt r)) (tailFill m c (pt r) anyTail) (iblk m c 2 (pt r)) (ix3 (sub r) b 0) := by
  have hN : (dats m 0 c).arrAt 5 cfg0.N = fun i : S64x4x1.Idx =>
      outI (X0_0 m c (pt (i 0))) (tailFill m c (pt (i 0)) anyTail) (iblk m c 2 (pt (i 0))) (ix3 (sub (i 0)) (i 1) (i 2)) := by
    refine (dats m 0 c).arrAt_eq_of_covers 5 _ (by decide +kernel) fun t hf y => ?_
    blk_simp
    rw [after_5]
    idx_bounds y
    have h0 : ((win0_5.blk t).view.emb y 0).val = 4 * t.val + (y 0).val := by
      blk_simp [i5]
      simp
      omega
    have h1 : ((win0_5.blk t).view.emb y 1).val = (y 1).val := by
      blk_simp [i5]
    have h2 : ((win0_5.blk t).view.emb y 2).val = (y 2).val := by
      blk_simp [i5]
    have hp : pt ((win0_5.blk t).view.emb y 0) = t := Fin.ext (by
      show ((win0_5.blk t).view.emb y 0).val / 4 = t.val
      omega)
    rw [hp]
    refine congrArg _ (funext fun a => Fin.ext ?_)
    fin_cases a
    · show (y 0).val = _ % 4
      omega
    · exact h1.symm
    · exact h2.symm
  exact congrFun hN (ix3 r b 0)

theorem read_2 (c : Dev nD) (r : Fin 64) (b : Fin 4) (l : Fin 64) :
    (iblk m c 2 (pt r) : S4x4x64.Idx → Elt F .f32) (ix3 (sub r) b l) = (V m c main_v16 : S64x4x64.Idx → Elt F .f32) (ix3 r b l) := by
  blk_simp [iblk]
  refine congrArg _ ?_
  blk_ext [i2]

theorem read_3 (c : Dev nD) (r : Fin 64) (b : Fin 4) :
    (iblk m c 3 (pt r) : S4x4x1.Idx → Elt F .f32) (ix3 (sub r) b 0) = (V m c main_v24 : S64x4x1.Idx → Elt F .f32) (ix3 r b 0) := by
  blk_simp [iblk]
  refine congrArg _ ?_
  blk_ext [i3]

theorem at_place {sg : RefSig} {κ : Kind} {sp : Space} {s : Shape} {e : EltTy} (v : View sg κ sp s e) (f : v.ty.Contents (Elt F)) {x : s.Idx}
    {i : v.ty.shape.Idx} (h : v.emb x = i) : v.read (Elt F) f x = _root_.cast (congrArg (Elt F) v.elt_eq) (f i) := by
  rw [View.read_apply, h]

/-- What a block index of a window onto the scores reads, whichever of the two windows it is. -/
theorem blk_0 (c : Dev nD) (t : Fin cfg0.N) (y : ((cfg0.win 0).xblock (cfg0.grid.coords t)).Idx) (i : S64x4x100000.Idx)
    (h0 : (i 0).val = 4 * t.val + (y 0).val) (h1 : (i 1).val = (y 1).val) (h2 : (i 2).val = (y 2).val) :
    iblk m c 0 t y = (V m c main_v0 : S64x4x100000.Idx → Elt F .f32) i := by
  have e0 : ((win0_0.blk t).view.emb y 0).val = 4 * t.val + (y 0).val := by
    blk_simp [i0]
    simp
    omega
  have e1 : ((win0_0.blk t).view.emb y 1).val = (y 1).val := by
    blk_simp [i0]
  have e2 : ((win0_0.blk t).view.emb y 2).val = (y 2).val := by
    show ((win0_0.rect t).emb y 2).val = (y 2).val
    rw [Window.rect_emb_val win0_0 t y 2 rfl, congrFun (i0 t) 2]
    exact (congrArg (· + (y 2).val) (Nat.zero_mul _)).trans (Nat.zero_add _)
  have e : (win0_0.blk t).view.emb y = i := funext fun a => Fin.ext (by
    fin_cases a
    · exact e0.trans h0.symm
    · exact e1.trans h1.symm
    · exact e2.trans h2.symm)
  unfold iblk
  exact (at_place _ _ e).trans (cast_eq _ _)

theorem blk_1 (c : Dev nD) (t : Fin cfg0.N) (y : ((cfg0.win 1).xblock (cfg0.grid.coords t)).Idx) (i : S64x4x100000.Idx)
    (h0 : (i 0).val = 4 * t.val + (y 0).val) (h1 : (i 1).val = (y 1).val) (h2 : (i 2).val = 99968 + (y 2).val) :
    iblk m c 1 t y = (V m c main_v0 : S64x4x100000.Idx → Elt F .f32) i := by
  have e0 : ((win0_1.blk t).view.emb y 0).val = 4 * t.val + (y 0).val := by
    blk_simp [i1]
    simp
    omega
  have e1 : ((win0_1.blk t).view.emb y 1).val = (y 1).val := by
    blk_simp [i1]
  have e2 : ((win0_1.blk t).view.emb y 2).val = 99968 + (y 2).val := by
    show ((win0_1.rect t).emb y 2).val = 99968 + (y 2).val
    rw [Window.rect_emb_val win0_1 t y 2 rfl, congrFun (i1 t) 2]
    exact congrArg (· + (y 2).val) (show 781 * win0_1.size 2 = 99968 from rfl)
  have e : (win0_1.blk t).view.emb y = i := funext fun a => Fin.ext (by
    fin_cases a
    · exact e0.trans h0.symm
    · exact e1.trans h1.symm
    · exact e2.trans h2.symm)
  unfold iblk
  exact (at_place _ _ e).trans (cast_eq _ _)

theorem row_split (r : Fin 64) : r.val = 4 * (pt r).val + (sub r).val := by
  show r.val = 4 * (r.val / 4) + r.val % 4
  omega

theorem read_0 (c : Dev nD) (r : Fin 64) (b : Fin 4) (n : Fin 99968) (h : n.val < 100000) :
    (X0_0 m c (pt r) : S4x4x99968.Idx → Elt F .f32) (ix3 (sub r) b n) = (V m c main_v0 : S64x4x100000.Idx → Elt F .f32) (ix3 r b ⟨n.val, h⟩) := by
  unfold X0_0 Pipeline.Window.fill
  refine (dif_pos (moved0_0 (pt r) (ix3 (sub r) b n))).trans (blk_0 m c (pt r) _ (ix3 r b ⟨n.val, h⟩) ?_ ?_ ?_)
  · exact row_split r
  · exact Eq.refl b.val
  · exact Eq.refl n.val

theorem read_1 (c : Dev nD) (r : Fin 64) (b : Fin 4) (l : Fin 128) (hl : l.val < 32) (h : 99968 + l.val < 100000) :
    (tailFill m c (pt r) anyTail : S4x4x128.Idx → Elt F .f32) (ix3 (sub r) b l)
      = (V m c main_v0 : S64x4x100000.Idx → Elt F .f32) (ix3 r b ⟨99968 + l.val, h⟩) := by
  unfold tailFill Pipeline.Window.fill
  have hm : (cfg0.win 1).moved (cfg0.grid.coords (pt r)) (ix3 (sub r) b l) = true :=
    ((cfg0.win 1).moved_iff _ _).mpr fun a => by
      rw [xsize0_1 (pt r) a]
      fin_cases a
      · exact (sub r).isLt
      · exact b.isLt
      · exact hl
  refine (dif_pos hm).trans (blk_1 m c (pt r) _ (ix3 r b ⟨99968 + l.val, h⟩) ?_ ?_ ?_)
  · exact row_split r
  · exact Eq.refl b.val
  · exact Eq.refl (99968 + l.val)

end Cert.KernelIdeal.Val
-- ==== Proof.KLine.lean ====
module

public import proofs.«01_k».proof.Proof.Line
public import proofs.«01_k».proof.Proof.Gen.KernelIdeal

/-! KernelIdeal's host functions as straight lines. -/

@[expose] public section

set_option maxHeartbeats 4000000
set_option maxRecDepth 8192

noncomputable section

namespace Cert.KernelIdeal.Hand

open Idealize.ShloMosaic Idealize.ShloMosaic.StableHlo Idealize.SL.Sem Cert.Line

variable {F : FTy → Type} [FloatOps F]

def fn_threefry2x32_line_part0 (arg0 : TRef sig ⟨S_, .i32⟩) (arg1 : TRef sig ⟨S_, .i32⟩) (arg2 : TRef sig ⟨S1, .i32⟩) (arg3 : TRef sig ⟨S1, .i32⟩) (φ : fn_threefry2x32.Bufs) : Lines (fn_threefry2x32.body_part0 (F := F) arg0 arg1 arg2 arg3 φ) := by
  delta fn_threefry2x32.body_part0
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)

def fn_threefry2x32_line_part1 (arg0 : TRef sig ⟨S_, .i32⟩) (arg1 : TRef sig ⟨S_, .i32⟩) (arg2 : TRef sig ⟨S1, .i32⟩) (arg3 : TRef sig ⟨S1, .i32⟩) (φ : fn_threefry2x32.Bufs) : Lines (fn_threefry2x32.body_part1 (F := F) arg0 arg1 arg2 arg3 φ) := by
  delta fn_threefry2x32.body_part1
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)

def fn_threefry2x32_line_part2 (arg0 : TRef sig ⟨S_, .i32⟩) (arg1 : TRef sig ⟨S_, .i32⟩) (arg2 : TRef sig ⟨S1, .i32⟩) (arg3 : TRef sig ⟨S1, .i32⟩) (φ : fn_threefry2x32.Bufs) : Lines (fn_threefry2x32.body_part2 (F := F) arg0 arg1 arg2 arg3 φ) := by
  delta fn_threefry2x32.body_part2
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)

def fn_threefry2x32_line_part3 (arg0 : TRef sig ⟨S_, .i32⟩) (arg1 : TRef sig ⟨S_, .i32⟩) (arg2 : TRef sig ⟨S1, .i32⟩) (arg3 : TRef sig ⟨S1, .i32⟩) (φ : fn_threefry2x32.Bufs) : Lines (fn_threefry2x32.body_part3 (F := F) arg0 arg1 arg2 arg3 φ) := by
  delta fn_threefry2x32.body_part3
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)

def fn_threefry2x32_line (arg0 : TRef sig ⟨S_, .i32⟩) (arg1 : TRef sig ⟨S_, .i32⟩) (arg2 : TRef sig ⟨S1, .i32⟩) (arg3 : TRef sig ⟨S1, .i32⟩) (φ : fn_threefry2x32.Bufs) : Lines (fn_threefry2x32.body (F := F) arg0 arg1 arg2 arg3 φ) := by
  delta fn_threefry2x32.body
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)
    | exact fn_threefry2x32_line_part0 ..
    | refine Lines.call (fn_threefry2x32_line_part0 ..) ?_
    | exact fn_threefry2x32_line_part1 ..
    | refine Lines.call (fn_threefry2x32_line_part1 ..) ?_
    | exact fn_threefry2x32_line_part2 ..
    | refine Lines.call (fn_threefry2x32_line_part2 ..) ?_
    | exact fn_threefry2x32_line_part3 ..
    | refine Lines.call (fn_threefry2x32_line_part3 ..) ?_

def fn_threefry_fold_in_line (arg0 : TRef sig ⟨S2, .i32⟩) (arg1 : TRef sig ⟨S_, .i32⟩) (φ : fn_threefry_fold_in.Bufs) : Lines (fn_threefry_fold_in.body (F := F) arg0 arg1 φ) := by
  delta fn_threefry_fold_in.body
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)
    | exact fn_threefry2x32_line ..
    | refine Lines.call (fn_threefry2x32_line ..) ?_

def fn_threefry2x32_0_line_part0 (arg0 : TRef sig ⟨S_, .i32⟩) (arg1 : TRef sig ⟨S_, .i32⟩) (arg2 : TRef sig ⟨S128x50, .i32⟩) (arg3 : TRef sig ⟨S128x50, .i32⟩) (φ : fn_threefry2x32_0.Bufs) : Lines (fn_threefry2x32_0.body_part0 (F := F) arg0 arg1 arg2 arg3 φ) := by
  delta fn_threefry2x32_0.body_part0
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)

def fn_threefry2x32_0_line_part1 (arg0 : TRef sig ⟨S_, .i32⟩) (arg1 : TRef sig ⟨S_, .i32⟩) (arg2 : TRef sig ⟨S128x50, .i32⟩) (arg3 : TRef sig ⟨S128x50, .i32⟩) (φ : fn_threefry2x32_0.Bufs) : Lines (fn_threefry2x32_0.body_part1 (F := F) arg0 arg1 arg2 arg3 φ) := by
  delta fn_threefry2x32_0.body_part1
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)

def fn_threefry2x32_0_line_part2 (arg0 : TRef sig ⟨S_, .i32⟩) (arg1 : TRef sig ⟨S_, .i32⟩) (arg2 : TRef sig ⟨S128x50, .i32⟩) (arg3 : TRef sig ⟨S128x50, .i32⟩) (φ : fn_threefry2x32_0.Bufs) : Lines (fn_threefry2x32_0.body_part2 (F := F) arg0 arg1 arg2 arg3 φ) := by
  delta fn_threefry2x32_0.body_part2
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)

def fn_threefry2x32_0_line_part3 (arg0 : TRef sig ⟨S_, .i32⟩) (arg1 : TRef sig ⟨S_, .i32⟩) (arg2 : TRef sig ⟨S128x50, .i32⟩) (arg3 : TRef sig ⟨S128x50, .i32⟩) (φ : fn_threefry2x32_0.Bufs) : Lines (fn_threefry2x32_0.body_part3 (F := F) arg0 arg1 arg2 arg3 φ) := by
  delta fn_threefry2x32_0.body_part3
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)

def fn_threefry2x32_0_line (arg0 : TRef sig ⟨S_, .i32⟩) (arg1 : TRef sig ⟨S_, .i32⟩) (arg2 : TRef sig ⟨S128x50, .i32⟩) (arg3 : TRef sig ⟨S128x50, .i32⟩) (φ : fn_threefry2x32_0.Bufs) : Lines (fn_threefry2x32_0.body (F := F) arg0 arg1 arg2 arg3 φ) := by
  delta fn_threefry2x32_0.body
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)
    | exact fn_threefry2x32_0_line_part0 ..
    | refine Lines.call (fn_threefry2x32_0_line_part0 ..) ?_
    | exact fn_threefry2x32_0_line_part1 ..
    | refine Lines.call (fn_threefry2x32_0_line_part1 ..) ?_
    | exact fn_threefry2x32_0_line_part2 ..
    | refine Lines.call (fn_threefry2x32_0_line_part2 ..) ?_
    | exact fn_threefry2x32_0_line_part3 ..
    | refine Lines.call (fn_threefry2x32_0_line_part3 ..) ?_

def fn_uniform_line (arg0 : TRef sig ⟨S2, .i32⟩) (arg1 : TRef sig ⟨S_, .f32⟩) (arg2 : TRef sig ⟨S_, .f32⟩) (φ : fn_uniform.Bufs) : Lines (fn_uniform.body (F := F) arg0 arg1 arg2 φ) := by
  delta fn_uniform.body
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)
    | exact fn_threefry2x32_0_line ..
    | refine Lines.call (fn_threefry2x32_0_line ..) ?_

def fn_gumbel_line (arg0 : TRef sig ⟨S2, .i32⟩) (φ : fn_gumbel.Bufs) : Lines (fn_gumbel.body (F := F) arg0 φ) := by
  delta fn_gumbel.body
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)
    | exact fn_uniform_line ..
    | refine Lines.call (fn_uniform_line ..) ?_

def fn_pad_line (arg0 : TRef sig ⟨S2x128x50, .f32⟩) (arg1 : TRef sig ⟨S_, .i32⟩) (φ : fn_pad.Bufs) : Lines (fn_pad.body (F := F) arg0 arg1 φ) := by
  delta fn_pad.body
  repeat' with_reducible first
    | refine Lines.cons (Op1.nullary ..) ?_
    | refine Lines.cons (Op1.unary ..) ?_
    | refine Lines.cons (Op1.binary ..) ?_
    | refine Lines.cons (Op1.ternary ..) ?_
    | refine Lines.cons (Op1.reshape ..) ?_
    | refine Lines.cons (Op1.quaternary ..) ?_
    | refine Lines.cons (Op1.unaryIndexed ..) ?_
    | exact Lines.nil
    | exact Lines.one (Op1.nullary ..)
    | exact Lines.one (Op1.unary ..)
    | exact Lines.one (Op1.unaryIndexed ..)
    | exact Lines.one (Op1.binary ..)

end Cert.KernelIdeal.Hand

end
-- ==== Proof.Eqn.lean ====
module

public import proofs.«01_k».proof.Proof.Line

/-! The equations of a straight line, one operation at a time. -/

@[expose] public section

noncomputable section

namespace Cert.Line

open Idealize.ShloMosaic Idealize.ShloMosaic.StableHlo Idealize.SL.Sem

section
variable {nD : Nat} {τ : Topo} {sig : RefSig} {Val : EltTy → Type} {Λ : Labels} {W : Valuation τ sig Val}
  {p q : Prog (TpuEff nD τ sig Val Λ .tc) PUnit} {L : Lines p} {M : Lines q} {ops : List (HloOp τ sig Val)}

theorem eqCall (h : Eqs (L.call M).ops W) : Eqs L.ops W ∧ Eqs M.ops W := h.append

/-! A called function's operations, through typed references. -/

theorem tN {T : BufTy} {y : TRef sig T} {v : T.Contents Val} {ho}
    (h : Eqs (Lines.cons (op := TRef.nullary y v) (y := y.ref) (xs := []) ho L).ops W) : val W y = v ∧ Eqs L.ops W :=
  ⟨val_nullary h.cons.1, h.cons.2⟩
theorem tU {T U : BufTy} {x : TRef sig T} {y : TRef sig U} {f : T.Contents Val → U.Contents Val} {ho}
    (h : Eqs (Lines.cons (op := TRef.unary x y f) (y := y.ref) (xs := [x.ref]) ho L).ops W) : val W y = f (val W x) ∧ Eqs L.ops W :=
  ⟨val_unary h.cons.1, h.cons.2⟩
theorem tB {T T₁ U : BufTy} {x : TRef sig T} {z : TRef sig T₁} {y : TRef sig U} {f : T.Contents Val → T₁.Contents Val → U.Contents Val} {ho}
    (h : Eqs (Lines.cons (op := TRef.binary x z y f) (y := y.ref) (xs := [x.ref, z.ref]) ho L).ops W) : val W y = f (val W x) (val W z) ∧ Eqs L.ops W :=
  ⟨val_binary h.cons.1, h.cons.2⟩
theorem tT {T T₁ T₂ U : BufTy} {w : TRef sig T₂} {x : TRef sig T} {z : TRef sig T₁} {y : TRef sig U}
    {f : T₂.Contents Val → T.Contents Val → T₁.Contents Val → U.Contents Val} {ho}
    (h : Eqs (Lines.cons (op := TRef.ternary w x z y f) (y := y.ref) (xs := [w.ref, x.ref, z.ref]) ho L).ops W) :
    val W y = f (val W w) (val W x) (val W z) ∧ Eqs L.ops W :=
  ⟨val_ternary h.cons.1, h.cons.2⟩
theorem tQ {T T₁ T₂ T₃ U : BufTy} {u : TRef sig T₃} {w : TRef sig T₂} {x : TRef sig T} {z : TRef sig T₁} {y : TRef sig U}
    {f : T₃.Contents Val → T₂.Contents Val → T.Contents Val → T₁.Contents Val → U.Contents Val} {ho}
    (h : Eqs (Lines.cons (op := TRef.quaternary u w x z y f) (y := y.ref) (xs := [u.ref, w.ref, x.ref, z.ref]) ho L).ops W) :
    val W y = f (val W u) (val W w) (val W x) (val W z) ∧ Eqs L.ops W :=
  ⟨val_quaternary h.cons.1, h.cons.2⟩
theorem tR {T U : BufTy} {x : TRef sig T} {y : TRef sig U} {he : T.elt = U.elt} {hn : T.shape.ShapeCasts U.shape} {ho}
    (h : Eqs (Lines.cons (op := TRef.reshape x y he hn) (y := y.ref) (xs := [x.ref]) ho L).ops W) :
    val W y = (fun i => he ▸ shapeCast U.shape (val W x) hn i) ∧ Eqs L.ops W :=
  ⟨val_reshape h.cons.1, h.cons.2⟩

/-! An operation on whole buffers, at the head of a list. -/

theorem eqN {y : Ref sig .tc} {v : y.ty.Contents Val} {hy} (h : Eqs (StableHlo.nullary (τ := τ) y v hy :: ops) W) :
    W (Proc.devRef .tc y) = v ∧ Eqs ops W :=
  ⟨(h.cons.1 _ (Finset.mem_singleton_self _)).trans (nullary_result ..), h.cons.2⟩
theorem eqU {x y : Ref sig .tc} {f : x.ty.Contents Val → y.ty.Contents Val} {hx hy}
    (h : Eqs (StableHlo.unary (τ := τ) x y f hx hy :: ops) W) : W (Proc.devRef .tc y) = f (W (Proc.devRef .tc x)) ∧ Eqs ops W :=
  ⟨(h.cons.1 _ (Finset.mem_singleton_self _)).trans (unary_result ..), h.cons.2⟩
theorem eqB {x z y : Ref sig .tc} {f : x.ty.Contents Val → z.ty.Contents Val → y.ty.Contents Val} {hx hz hy}
    (h : Eqs (StableHlo.binary (τ := τ) x z y f hx hz hy :: ops) W) :
    W (Proc.devRef .tc y) = f (W (Proc.devRef .tc x)) (W (Proc.devRef .tc z)) ∧ Eqs ops W :=
  ⟨(h.cons.1 _ (Finset.mem_singleton_self _)).trans (binary_result ..), h.cons.2⟩
theorem eqT {w x z y : Ref sig .tc} {f : w.ty.Contents Val → x.ty.Contents Val → z.ty.Contents Val → y.ty.Contents Val} {hw hx hz hy}
    (h : Eqs (StableHlo.ternary (τ := τ) w x z y f hw hx hz hy :: ops) W) :
    W (Proc.devRef .tc y) = f (W (Proc.devRef .tc w)) (W (Proc.devRef .tc x)) (W (Proc.devRef .tc z)) ∧ Eqs ops W :=
  ⟨(h.cons.1 _ (Finset.mem_singleton_self _)).trans (ternary_result ..), h.cons.2⟩
theorem eqR {x y : Ref sig .tc} {he hn hx hy} (h : Eqs (StableHlo.reshape (τ := τ) (Val := Val) x y he hn hx hy :: ops) W) :
    W (Proc.devRef .tc y) = (fun i => he ▸ shapeCast y.ty.shape (W (Proc.devRef .tc x)) hn i) ∧ Eqs ops W :=
  ⟨(h.cons.1 _ (Finset.mem_singleton_self _)).trans (reshape_result ..), h.cons.2⟩
theorem eqX {a : Ref sig .tc} {n : Nat} {ix : Fin n → Ref sig .tc} {T : BufTy} {y : Ref sig .tc}
    {f : a.ty.Contents Val → (Fin n → T.Contents Val) → y.ty.Contents Val} {hT ha hix hy}
    (h : Eqs (StableHlo.unaryIndexed (τ := τ) a ix T y f hT ha hix hy :: ops) W) :
    W (Proc.devRef .tc y) = (StableHlo.unaryIndexed (τ := τ) a ix T y f hT ha hix hy).result W (Proc.devRef .tc y) ∧ Eqs ops W :=
  ⟨h.cons.1 _ (Finset.mem_singleton_self _), h.cons.2⟩

end

end Cert.Line

end
-- ==== Proof.KHost.lean ====
module

public import proofs.«01_k».proof.Proof.Gen.KernelIdeal.Frame
public import proofs.«01_k».proof.Proof.KLine
public import proofs.«01_k».proof.Proof.Eqn

/-! What the host operations before the launch leave in each buffer. -/

@[expose] public section

set_option maxRecDepth 65536
set_option maxHeartbeats 4000000

noncomputable section

namespace Cert.Line

open Idealize.ShloMosaic Idealize.ShloMosaic.StableHlo Idealize.SL.Sem

section
variable {nD : Nat} {τ : Topo} {sig : RefSig} {Val : EltTy → Type} {Λ : Labels}

/-- A list of operations with what each writes and reads. -/
structure Listed (ops : List (HloOp τ sig Val)) where
  io : List (Ref sig .tc × List (Ref sig .tc))
  ok : Ok ops io

namespace Listed

def nil : Listed ([] : List (HloOp τ sig Val)) := ⟨[], .nil⟩
def cons {op : HloOp τ sig Val} {y : Ref sig .tc} {xs : List (Ref sig .tc)} {ops : List (HloOp τ sig Val)} (h : Op1 op y xs) (l : Listed ops) :
    Listed (op :: ops) := ⟨(y, xs) :: l.io, .cons h l.ok⟩
def app {ops ops' : List (HloOp τ sig Val)} (l : Listed ops) (l' : Listed ops') : Listed (ops ++ ops') := ⟨l.io ++ l'.io, List.rel_append l.ok l'.ok⟩
def line {p : Idealize.SL.Sem.Prog (TpuEff nD τ sig Val Λ .tc) PUnit} (L : Lines p) : Listed L.ops := ⟨L.io, L.ok⟩

end Listed
end

end Cert.Line

namespace Cert.KernelIdeal.Val

open Idealize.ShloMosaic Idealize.ShloMosaic.TcCoe Idealize.ShloMosaic.StableHlo
open Cert.KernelIdeal Cert.KernelIdeal.Gen Cert.KernelIdeal.Hand Cert.Line

variable {F : FTy → Type} [FloatOps F]

def listed0 : Listed (hostOps0 (F := F)) := by
  delta hostOps0
  repeat' with_reducible first
    | refine Listed.cons (Op1.nullary ..) ?_
    | refine Listed.cons (Op1.unary ..) ?_
    | refine Listed.cons (Op1.binary ..) ?_
    | refine Listed.cons (Op1.reshape ..) ?_
    | exact Listed.nil

def listed3 : Listed (hostOps0_3 (F := F)) := Listed.cons (Op1.nullary ..) Listed.nil

def listed6 : Listed (hostOps0_6 (F := F)) := Listed.cons (Op1.unary ..) (Listed.cons (Op1.unary ..) (Listed.cons (Op1.binary ..) (Listed.cons (Op1.nullary ..) Listed.nil)))

def listed8 : Listed (hostOps0_8 (F := F)) := by
  delta hostOps0_8
  repeat' with_reducible first
    | refine Listed.cons (Op1.nullary ..) ?_
    | refine Listed.cons (Op1.unary ..) ?_
    | refine Listed.cons (Op1.binary ..) ?_
    | refine Listed.cons (Op1.ternary ..) ?_
    | refine Listed.cons (Op1.reshape ..) ?_
    | refine Listed.cons (Op1.unaryIndexed ..) ?_
    | exact Listed.nil

def listedT : Listed (hostOps1 (F := F)) := by
  delta hostOps1
  repeat' with_reducible first
    | refine Listed.cons (Op1.nullary ..) ?_
    | refine Listed.cons (Op1.unary ..) ?_
    | refine Listed.cons (Op1.reshape ..) ?_
    | exact Listed.nil

def fold0 := fn_threefry_fold_in_line (F := F) (.of main_v7) (.of main_c_2) main_call0
def noise0 := fn_gumbel_line (F := F) (.of main_v8) main_call1
def fold1 := fn_threefry_fold_in_line (F := F) (.of main_v7) (.of main_c_3) main_call2
def noise1 := fn_gumbel_line (F := F) (.of main_v10) main_call3
def padding := fn_pad_line (F := F) (.of main_v14) (.of main_c_4) main_call4

/-- The operations before the launch, by the functions they come from. -/
def pre : List (HloOp τ sig (Elt F)) :=
  hostOps0 ++ (fold0.ops ++ (noise0.ops ++ (hostOps0_3 ++ (fold1.ops ++ (noise1.ops ++ (hostOps0_6 ++ (padding.ops ++ hostOps0_8)))))))

def preListed : Listed (pre (F := F)) :=
  listed0.app ((Listed.line fold0).app ((Listed.line noise0).app (listed3.app ((Listed.line fold1).app ((Listed.line noise1).app
    (listed6.app ((Listed.line padding).app listed8)))))))

theorem pre_ordered : ordered 3 (keys (preListed (F := F)).io) = true := by sl_kernel_rfl

theorem tail_ordered : ordered 3 (keys (listedT (F := F)).io) = true := by sl_kernel_rfl

theorem pre_flat : List.flatten [hostOps0 (F := F), hostOps0_1, hostOps0_2, hostOps0_3, hostOps0_4, hostOps0_5, hostOps0_6, hostOps0_7, hostOps0_8] = pre := by
  sl_kernel_rfl

variable (m : (ℓ : Loc nD τ sig) → Buf (Elt F) ℓ)

theorem pre_eqs (c : Dev nD) : Eqs (pre (F := F)) (V0 m c) := by
  have h := eqs_after preListed.ok 3 pre_ordered (fun b => m (c, b))
  rw [← pre_flat] at h ⊢
  exact h

theorem tail_eqs (W : Valuation τ sig (Elt F)) : Eqs (hostOps1 (F := F)) (after hostOps1 W) := eqs_after listedT.ok 3 tail_ordered W

end Cert.KernelIdeal.Val
-- ==== Proof.Eqn2.lean ====
module

public import proofs.«01_k».proof.Proof.Eqn

/-! The equation of an operation between typed references whose function is any at all. -/

@[expose] public section

noncomputable section

namespace Cert.Line

open Idealize.ShloMosaic Idealize.ShloMosaic.StableHlo Idealize.SL.Sem

section
variable {nD : Nat} {τ : Topo} {sig : RefSig} {Val : EltTy → Type} {Λ : Labels} {W : Valuation τ sig Val}
  {p : Prog (TpuEff nD τ sig Val Λ .tc) PUnit} {L : Lines p}
  {T T₁ T₂ T₃ U : BufTy} {x : TRef sig T} {z : TRef sig T₁} {w : TRef sig T₂} {u : TRef sig T₃} {y : TRef sig U}

theorem toBuf_val (x : TRef sig T) : x.toBuf (val W x) = W (Proc.devRef .tc x.ref) := by simp [val, TRef.ofBuf, TRef.toBuf]

theorem valGU {g : x.ref.ty.Contents Val → y.ref.ty.Contents Val} {hx hy}
    (h : ∀ b ∈ (StableHlo.unary (τ := τ) x.ref y.ref g hx hy).writes, W b = (StableHlo.unary (τ := τ) x.ref y.ref g hx hy).result W b) :
    val W y = y.ofBuf (g (x.toBuf (val W x))) := by
  have := h _ (Finset.mem_singleton_self _)
  rw [toBuf_val, val, this, unary_result]

theorem valGB {g : x.ref.ty.Contents Val → z.ref.ty.Contents Val → y.ref.ty.Contents Val} {hx hz hy}
    (h : ∀ b ∈ (StableHlo.binary (τ := τ) x.ref z.ref y.ref g hx hz hy).writes, W b = (StableHlo.binary (τ := τ) x.ref z.ref y.ref g hx hz hy).result W b) :
    val W y = y.ofBuf (g (x.toBuf (val W x)) (z.toBuf (val W z))) := by
  have := h _ (Finset.mem_singleton_self _)
  rw [toBuf_val, toBuf_val, val, this, binary_result]

theorem valGT {g : w.ref.ty.Contents Val → x.ref.ty.Contents Val → z.ref.ty.Contents Val → y.ref.ty.Contents Val} {hw hx hz hy}
    (h : ∀ b ∈ (StableHlo.ternary (τ := τ) w.ref x.ref z.ref y.ref g hw hx hz hy).writes,
      W b = (StableHlo.ternary (τ := τ) w.ref x.ref z.ref y.ref g hw hx hz hy).result W b) :
    val W y = y.ofBuf (g (w.toBuf (val W w)) (x.toBuf (val W x)) (z.toBuf (val W z))) := by
  have := h _ (Finset.mem_singleton_self _)
  rw [toBuf_val, toBuf_val, toBuf_val, val, this, ternary_result]

theorem valGQ {g : u.ref.ty.Contents Val → w.ref.ty.Contents Val → x.ref.ty.Contents Val → z.ref.ty.Contents Val → y.ref.ty.Contents Val} {hu hw hx hz hy}
    (h : ∀ b ∈ (StableHlo.quaternary (τ := τ) u.ref w.ref x.ref z.ref y.ref g hu hw hx hz hy).writes,
      W b = (StableHlo.quaternary (τ := τ) u.ref w.ref x.ref z.ref y.ref g hu hw hx hz hy).result W b) :
    val W y = y.ofBuf (g (u.toBuf (val W u)) (w.toBuf (val W w)) (x.toBuf (val W x)) (z.toBuf (val W z))) := by
  have := h _ (Finset.mem_singleton_self _)
  rw [toBuf_val, toBuf_val, toBuf_val, toBuf_val, val, this, quaternary_result]

theorem gU {g : x.ref.ty.Contents Val → y.ref.ty.Contents Val} {hx hy ho}
    (h : Eqs (Lines.cons (op := StableHlo.unary x.ref y.ref g hx hy) (y := y.ref) (xs := [x.ref]) ho L).ops W) :
    val W y = y.ofBuf (g (x.toBuf (val W x))) ∧ Eqs L.ops W := ⟨valGU h.cons.1, h.cons.2⟩
theorem gB {g : x.ref.ty.Contents Val → z.ref.ty.Contents Val → y.ref.ty.Contents Val} {hx hz hy ho}
    (h : Eqs (Lines.cons (op := StableHlo.binary x.ref z.ref y.ref g hx hz hy) (y := y.ref) (xs := [x.ref, z.ref]) ho L).ops W) :
    val W y = y.ofBuf (g (x.toBuf (val W x)) (z.toBuf (val W z))) ∧ Eqs L.ops W := ⟨valGB h.cons.1, h.cons.2⟩
theorem gT {g : w.ref.ty.Contents Val → x.ref.ty.Contents Val → z.ref.ty.Contents Val → y.ref.ty.Contents Val} {hw hx hz hy ho}
    (h : Eqs (Lines.cons (op := StableHlo.ternary w.ref x.ref z.ref y.ref g hw hx hz hy) (y := y.ref) (xs := [w.ref, x.ref, z.ref]) ho L).ops W) :
    val W y = y.ofBuf (g (w.toBuf (val W w)) (x.toBuf (val W x)) (z.toBuf (val W z))) ∧ Eqs L.ops W := ⟨valGT h.cons.1, h.cons.2⟩
theorem gQ {g : u.ref.ty.Contents Val → w.ref.ty.Contents Val → x.ref.ty.Contents Val → z.ref.ty.Contents Val → y.ref.ty.Contents Val} {hu hw hx hz hy ho}
    (h : Eqs (Lines.cons (op := StableHlo.quaternary u.ref w.ref x.ref z.ref y.ref g hu hw hx hz hy) (y := y.ref) (xs := [u.ref, w.ref, x.ref, z.ref]) ho L).ops W) :
    val W y = y.ofBuf (g (u.toBuf (val W u)) (w.toBuf (val W w)) (x.toBuf (val W x)) (z.toBuf (val W z))) ∧ Eqs L.ops W := ⟨valGQ h.cons.1, h.cons.2⟩
end

end Cert.Line
-- ==== Proof.Slice.lean ====
module

public import Idealize.ShloMosaic.Lib.Pointwise

/-! The array of earlier scores cut at a step, read at one index. -/

@[expose] public section

noncomputable section

namespace Cert.Step

open Idealize.ShloMosaic

abbrev Scores : Shape := ⟨4, ![32, 4, 5, 2]⟩
abbrev One : Shape := ⟨0, ![]⟩

/-- A signed word held to the five steps. -/
def step (z : Int) : Fin 5 := ⟨(min (max z 0) 4).toNat, by omega⟩
/-- A signed word held to the two channels. -/
def channel (z : Int) : Fin 2 := ⟨(min (max z 0) 1).toNat, by omega⟩

/-- The step before the one given, counted from the end when that is negative. -/
def before (z : IVec One 32) : IVec One 32 :=
  select (cmpi .slt (subi z (constantI One 32 1#32)) (constantI One 32 0#32)) (addi (subi z (constantI One 32 1#32)) (constantI One 32 5#32))
    (subi z (constantI One 32 1#32))

/-- The same as a step. -/
def row (z : IVec One 32) : Fin 5 := step (before z (Shape.Idx.first (by decide))).toInt

theorem slice_one {α : Type} (x : Scores.Idx → α) (st : Fin 4 → Int) (h : Scores.Slices (fun _ => 0) ⟨4, ![32, 4, 1, 1]⟩) (s : Fin 32) (b : Fin 4) :
    Host.dynamicSlice ⟨4, ![32, 4, 1, 1]⟩ x st h (ix4 s b 0 0) = x (ix4 s b (step (st 2)) (channel (st 3))) := by
  unfold Host.dynamicSlice extractStridedSlice
  refine congrArg x ?_
  funext a
  refine Fin.ext ?_
  match a with
  | ⟨0, _⟩ => show (min (max (st 0) 0) ((32 - 32 : Nat) : Int)).toNat + s.val = s.val; omega
  | ⟨1, _⟩ => show (min (max (st 1) 0) ((4 - 4 : Nat) : Int)).toNat + b.val = b.val; omega
  | ⟨2, _⟩ => show (min (max (st 2) 0) ((5 - 1 : Nat) : Int)).toNat + 0 = (min (max (st 2) 0) 4).toNat; omega
  | ⟨3, _⟩ => show (min (max (st 3) 0) ((2 - 1 : Nat) : Int)).toNat + 0 = (min (max (st 3) 0) 1).toNat; omega

theorem slice_two {α : Type} (x : Scores.Idx → α) (st : Fin 4 → Int) (h : Scores.Slices (fun _ => 0) ⟨4, ![32, 4, 1, 2]⟩) (s : Fin 32) (b : Fin 4)
    (c : Fin 2) : Host.dynamicSlice ⟨4, ![32, 4, 1, 2]⟩ x st h (ix4 s b 0 c) = x (ix4 s b (step (st 2)) c) := by
  unfold Host.dynamicSlice extractStridedSlice
  refine congrArg x ?_
  funext a
  refine Fin.ext ?_
  match a with
  | ⟨0, _⟩ => show (min (max (st 0) 0) ((32 - 32 : Nat) : Int)).toNat + s.val = s.val; omega
  | ⟨1, _⟩ => show (min (max (st 1) 0) ((4 - 4 : Nat) : Int)).toNat + b.val = b.val; omega
  | ⟨2, _⟩ => show (min (max (st 2) 0) ((5 - 1 : Nat) : Int)).toNat + 0 = (min (max (st 2) 0) 4).toNat; omega
  | ⟨3, _⟩ => show (min (max (st 3) 0) ((2 - 2 : Nat) : Int)).toNat + c.val = c.val; omega

end Cert.Step
-- ==== Proof.KVals.lean ====
module

public import proofs.«01_k».proof.Proof.KHost
public import proofs.«01_k».proof.Proof.Eqn2
public import proofs.«01_k».proof.Proof.Slice
public import Idealize.ShloMosaic.Lib.Pointwise

/-! What the kernel's host code leaves before the launch, read at one index, and what it makes of the launch's outputs. -/

@[expose] public section

noncomputable section

namespace Cert.KernelIdeal.Val

open Idealize.ShloMosaic Idealize.ShloMosaic.TcCoe Idealize.ShloMosaic.StableHlo
open Cert.KernelIdeal Cert.KernelIdeal.Gen Cert.KernelIdeal.Hand Cert.Line Cert.Step

variable {W : Valuation τ sig (Elt Ideal)}

/-- The row of channel `k` and sentence `s`. -/
abbrev rowOf (k : Fin 2) (s : Fin 32) : Fin 64 := ⟨32 * k.val + s.val, by omega⟩
/-- Beam `b` of sentence `s` among the hundred and twenty-eight. -/
abbrev flat (s : Fin 32) (b : Fin 4) : Fin 128 := ⟨4 * s.val + b.val, by omega⟩

theorem pre0 (h : Eqs (hostOps0 (F := Ideal)) W) :
    W (Proc.devRef .tc main_c_2) = constantI S_ 32 0#32
    ∧ W (Proc.devRef .tc main_v7) = concatenate S2 0 [⟨S1, fun _ => Host.shrui (constantI S_ 32 42#32) (constantI S_ 32 32#32) (Shape.Idx.first (by decide))⟩,
        ⟨S1, fun _ => andi (constantI S_ 32 42#32) (constantI S_ 32 4294967295#32) (Shape.Idx.first (by decide))⟩] (by decide)
    ∧ ∀ k s b n, (W (Proc.devRef .tc main_v0) : FVec Ideal S64x4x100000 .f32) (ix3 (rowOf k s) b n)
        = (W (Proc.devRef .tc main_arg0) : FVec Ideal S2x32x4x100000 .f32) (ix4 k s b n) := by
  obtain ⟨e_v0, h⟩ := eqR h
  obtain ⟨e_c, h⟩ := eqN h
  obtain ⟨e_c_0, h⟩ := eqN h
  obtain ⟨e_v1, h⟩ := eqB h
  obtain ⟨e_v2, h⟩ := eqU h
  obtain ⟨e_v3, h⟩ := eqU h
  obtain ⟨e_c_1, h⟩ := eqN h
  obtain ⟨e_v4, h⟩ := eqB h
  obtain ⟨e_v5, h⟩ := eqU h
  obtain ⟨e_v6, h⟩ := eqU h
  obtain ⟨e_v7, h⟩ := eqB h
  obtain ⟨e_c_2, h⟩ := eqN h

  refine ⟨e_c_2, ?_, ?_⟩
  · rw [e_v7, e_v6, e_v5, e_v4, e_c_1, e_v3, e_v2, e_v1, e_c, e_c_0]
    rfl
  · intro k s b n
    rw [e_v0]
    pointwise
    exact congrArg₂ (fun k s => (W (Proc.devRef .tc main_arg0) : FVec Ideal S2x32x4x100000 .f32) (ix4 k s b n)) (Fin.ext (by show (32 * k.val + s.val) / 32 = k.val; omega)) (Fin.ext (by show (32 * k.val + s.val) % 32 = s.val; omega))

theorem pre8 (h : Eqs (hostOps0_8 (F := Ideal)) W) :
    (∀ k s b n, (W (Proc.devRef .tc main_v16) : FVec Ideal S64x4x64 .f32) (ix3 (rowOf k s) b n)
        = (W (Proc.devRef .tc main_v15) : FVec Ideal S2x128x64 .f32) (ix3 k (flat s b) n))
    ∧ ∀ k s b, (W (Proc.devRef .tc main_v24) : FVec Ideal S64x4x1 .f32) (ix3 (rowOf k s) b 0)
        = (W (Proc.devRef .tc main_arg1) : FVec Ideal S32x4x5x2 .f32) (ix4 s b (row (W (Proc.devRef .tc main_arg2))) k) := by
  obtain ⟨e_v16, h⟩ := eqR h
  obtain ⟨e_c_5, h⟩ := eqN h
  obtain ⟨e_v17, h⟩ := eqB h
  obtain ⟨e_c_6, h⟩ := eqN h
  obtain ⟨e_v18, h⟩ := eqB h
  obtain ⟨e_c_7, h⟩ := eqN h
  obtain ⟨e_v19, h⟩ := eqB h
  obtain ⟨e_v20, h⟩ := eqT h
  obtain ⟨e_c_8, h⟩ := eqN h
  obtain ⟨e_c_9, h⟩ := eqN h
  obtain ⟨e_c_10, h⟩ := eqN h
  obtain ⟨e_v21, h⟩ := eqX h
  obtain ⟨e_v22, h⟩ := eqR h
  obtain ⟨e_v23, h⟩ := eqU h
  obtain ⟨e_v24, h⟩ := eqR h

  refine ⟨?_, ?_⟩
  · intro k s b n
    rw [e_v16]
    pointwise
    exact congrArg₂ (fun k s => (W (Proc.devRef .tc main_v15) : FVec Ideal S2x128x64 .f32) (ix3 k s n)) (Fin.ext (by show (32 * k.val + s.val) / 32 = k.val; omega)) (Fin.ext (by show (32 * k.val + s.val) % 32 * 4 + b.val = 4 * s.val + b.val; omega))
  · intro k s b
    have h20 : W (Proc.devRef .tc main_v20) = before (W (Proc.devRef .tc main_arg2)) := by
      rw [e_v20, e_v19, e_v18, e_v17, e_c_5, e_c_6, e_c_7]
      rfl
    have h21 : (W (Proc.devRef .tc main_v21) : FVec Ideal S32x4x1x2 .f32) (ix4 s b 0 k)
        = (W (Proc.devRef .tc main_arg1) : FVec Ideal S32x4x5x2 .f32) (ix4 s b (row (W (Proc.devRef .tc main_arg2))) k) := by
      rw [e_v21, unaryIndexed_result]
      refine (slice_two _ _ _ s b k).trans ?_
      refine congrArg (fun r => (W (Proc.devRef .tc main_arg1) : FVec Ideal S32x4x5x2 .f32) (ix4 s b r k)) ?_
      show step ((W (Proc.devRef .tc main_v20) : IVec S_ 32) (Shape.Idx.first (by decide))).toInt = _
      rw [h20]; rfl
    rw [← h21, e_v24, e_v23, e_v22]
    pointwise
    exact congrArg₂ (fun k s => (W (Proc.devRef .tc main_v21) : FVec Ideal S32x4x1x2 .f32) (ix4 s b 0 k)) (Fin.ext (by show (32 * k.val + s.val) / 32 = k.val; omega)) (Fin.ext (by show (32 * k.val + s.val) % 32 = s.val; omega))

theorem pre67 (h : Eqs (hostOps0_6 (F := Ideal)) W) (hp : Eqs (padding (F := Ideal)).ops W) (r : Fin 128) (l : Fin 50) :
    (W (Proc.devRef .tc main_v15) : FVec Ideal S2x128x64 .f32) (ix3 0 r (l.castLE (by omega)))
        = (W (Proc.devRef .tc main_v9) : FVec Ideal S128x50 .f32) (ix2 r l)
    ∧ (W (Proc.devRef .tc main_v15) : FVec Ideal S2x128x64 .f32) (ix3 1 r (l.castLE (by omega)))
        = (W (Proc.devRef .tc main_v11) : FVec Ideal S128x50 .f32) (ix2 r l) := by
  obtain ⟨e_v12, h⟩ := eqU h
  obtain ⟨e_v13, h⟩ := eqU h
  obtain ⟨e_v14, h⟩ := eqB h
  obtain ⟨e_c_4, h⟩ := eqN h

  delta padding fn_pad_line at hp
  obtain ⟨p_v0, hp⟩ := gU hp
  obtain ⟨p_v1, hp⟩ := gB hp
  have h15 : ∀ k : Fin 2, (W (Proc.devRef .tc main_v15) : FVec Ideal S2x128x64 .f32) (ix3 k r (l.castLE (by omega)))
      = (W (Proc.devRef .tc main_v14) : FVec Ideal S2x128x50 .f32) (ix3 k r l) := by
    intro k
    refine (congrFun p_v1 _).trans ?_
    repeat rw [TRef.ofBuf_toBuf]
    pointwise
    exact dif_pos l.isLt
  rw [h15, h15, e_v14, e_v12, e_v13]
  constructor <;> pointwise

theorem post (h : Eqs (hostOps1 (F := Ideal)) W) (s : Fin 32) (b : Fin 4) :
    (∀ k, (W (Proc.devRef .tc main_v28) : FVec Ideal S32x4x2 .f32) (ix3 s b k)
        = (W (Proc.devRef .tc main_v25_0) : FVec Ideal S64x4x1 .f32) (ix3 (rowOf k s) b 0))
    ∧ (∀ k, (W (Proc.devRef .tc main_v29) : IVec S32x4x2 32) (ix3 s b k)
        = (W (Proc.devRef .tc main_v25_1) : IVec S64x4x1 32) (ix3 (rowOf k s) b 0))
    ∧ (W (Proc.devRef .tc main_v34) : IVec S32x4 32) (ix2 s b) = BitVec.ofNat 32 b.val := by
  obtain ⟨e_v26, h⟩ := eqR h
  obtain ⟨e_v27, h⟩ := eqR h
  obtain ⟨e_v28, h⟩ := eqU h
  obtain ⟨e_v29, h⟩ := eqU h
  obtain ⟨e_v30, h⟩ := eqN h
  obtain ⟨e_v31, h⟩ := eqU h
  obtain ⟨e_v32, h⟩ := eqR h
  obtain ⟨e_v33, h⟩ := eqU h
  obtain ⟨e_v34, h⟩ := eqR h

  refine ⟨fun k => ?_, fun k => ?_, ?_⟩
  · rw [e_v28, e_v26]
    pointwise
    exact congrArg (fun r => (W (Proc.devRef .tc main_v25_0) : FVec Ideal S64x4x1 .f32) (ix3 r b 0)) (Fin.ext (by show k.val * 32 + s.val = 32 * k.val + s.val; omega))
  · rw [e_v29, e_v27]
    pointwise
    exact congrArg (fun r => (W (Proc.devRef .tc main_v25_1) : IVec S64x4x1 32) (ix3 r b 0)) (Fin.ext (by show k.val * 32 + s.val = 32 * k.val + s.val; omega))
  · rw [e_v34, e_v33, e_v32, e_v31, e_v30]
    pointwise

end Cert.KernelIdeal.Val
-- ==== Proof.KRead.lean ====
module

public import proofs.«01_k».proof.Proof.KPt

/-! The piece lists of the two loops read at an index: the trip that wrote it. -/

@[expose] public section

set_option maxRecDepth 65536

noncomputable section

namespace Cert.KernelIdeal.Hand

open Idealize.ShloMosaic Idealize.ShloMosaic.TcCoe Idealize.ShloMosaic.Tactic
open Idealize.SL Idealize.SL.Sem
open Cert.KernelIdeal Cert.KernelIdeal.Gen

variable {F : FTy → Type} [FloatOps F]

theorem canon_hit {S : Shape} {e : EltTy} {off size : Fin S.rank → ℕ} (inb : ∀ a, off a + size a ≤ S.size a) (w : (Rect.unit off size inb).shape.Idx → Elt F e)
    (L : List (View.Piece (Elt F) S e)) (y : S.Idx) (x : (Rect.unit off size inb).shape.Idx) (h : ∀ a, off a + (x a).val = (y a).val) :
    View.canon ((⟨Rect.unit off size inb, w⟩ : View.Piece (Elt F) S e) :: L) y = w x := by
  have hx : (Rect.unit off size inb).emb x = y := funext fun a => Fin.ext (by rw [Rect.emb_apply]; show off a + 1 * (x a).val = _; rw [Nat.one_mul]; exact h a)
  rw [← hx]
  exact View.canon_cons_emb (Rect.unit off size inb) w L x

theorem canon_miss {S : Shape} {e : EltTy} {off size : Fin S.rank → ℕ} (inb : ∀ a, off a + size a ≤ S.size a) (w : (Rect.unit off size inb).shape.Idx → Elt F e)
    (L : List (View.Piece (Elt F) S e)) (y : S.Idx) (a : Fin S.rank) (h : (y a).val < off a ∨ off a + size a ≤ (y a).val) :
    View.canon ((⟨Rect.unit off size inb, w⟩ : View.Piece (Elt F) S e) :: L) y = View.canon L y :=
  View.canon_cons_of_not_mem _ L fun hm => by
    have := (Rect.mem_set_unit (inb := inb)).1 hm a
    omega

theorem hots_at (cm : FVec F S16x782 .f32) (r : Fin 16) (t : Fin 50) (k : Fin 782) : ∀ (n : ℕ) (h : n ≤ 50), t.val < n →
    View.canon (hots cm n h) (ix3 r t k) = hot1 (maxes cm t.val) (ix3 r (0 : Fin 1) k)
  | 0, _, ht => absurd ht (Nat.not_lt_zero _)
  | n + 1, h, ht => by
    rw [hots]
    by_cases e : t.val = n
    · subst e
      exact canon_hit (S := S16x50x782) _ _ _ (ix3 r t k) (ix3 r (0 : Fin 1) k) (fun a => by fin_cases a <;> simp [ix3])
    · rw [canon_miss (S := S16x50x782) _ _ _ (ix3 r t k) 1 (by left; show t.val < n; omega)]
      exact hots_at cm r t k n _ (by omega)

theorem poss_at (cm : FVec F S16x782 .f32) (r : Fin 16) (t : Fin 50) (l : Fin 128) : ∀ (n : ℕ) (h : n ≤ 50), t.val < n →
    View.canon (Val := Elt F) (e := .i32) (poss cm n h) (ix3 r t l) = pos1 (maxes cm t.val) (ix3 r (0 : Fin 1) l)
  | 0, _, ht => absurd ht (Nat.not_lt_zero _)
  | n + 1, h, ht => by
    rw [poss]
    by_cases e : t.val = n
    · subst e
      exact canon_hit (S := S16x50x128) _ _ _ (ix3 r t l) (ix3 r (0 : Fin 1) l) (fun a => by fin_cases a <;> simp [ix3])
    · rw [canon_miss (S := S16x50x128) _ _ _ (ix3 r t l) 1 (by left; show t.val < n; omega)]
      exact poss_at cm r t l n _ (by omega)

theorem rowsC_at (H : List (View.Piece (Elt F) S16x50x782 .f32)) (xm : FVec F S16x781x128 .f32) (xt : FVec F S16x128 .f32)
    (r : Fin 16) (t : Fin 50) (l : Fin 128) : ∀ (n : ℕ) (h : n ≤ 16), r.val < n →
    View.canon (rowsC H xm xt n h) (ix3 r t l) = candRow xm xt r.val r.isLt
      (fun j => View.canon H ((Rect.unit (s := S16x50x782) ![r.val, 0, 0] S1x50x781.size (inb_hotMain r.val r.isLt)).toLoadRect.idx j))
      (fun j => View.canon H ((Rect.unit (s := S16x50x782) ![r.val, 0, 781] S1x50x1.size (inb_hotTail r.val r.isLt)).toLoadRect.idx j)) (ix3 (0 : Fin 1) t l)
  | 0, _, ht => absurd ht (Nat.not_lt_zero _)
  | n + 1, h, ht => by
    rw [rowsC]
    by_cases e : r.val = n
    · subst e
      exact canon_hit (S := S16x50x128) _ _ _ (ix3 r t l) (ix3 (0 : Fin 1) t l) (fun a => by fin_cases a <;> simp [ix3])
    · rw [canon_miss (S := S16x50x128) _ _ _ (ix3 r t l) 0 (by left; show r.val < n; omega)]
      exact rowsC_at H xm xt r t l n _ (by omega)

theorem vals_at (cd : FVec F S16x50x128 .f32) (g : IVec S16x50x128 32) (r : Fin 16) (j : Fin 64) : ∀ (n : ℕ) (h : n ≤ 50),
    View.canon (vals cd g n h) (ix2 r j) = if j.val < n then k0_pay269 (cands cd g j.val) (ix2 r (0 : Fin 1)) else Scalar.ofBits .f32 0xFF800000#32
  | 0, _ => by rw [vals, canon_whole]; rfl
  | n + 1, h => by
    rw [vals]
    by_cases e : j.val = n
    · subst e
      rw [if_pos (Nat.lt_succ_self _)]
      exact canon_hit (S := S16x64) _ _ _ (ix2 r j) (ix2 r (0 : Fin 1)) (fun a => by fin_cases a <;> simp [ix2])
    · rw [canon_miss (S := S16x64) _ _ _ (ix2 r j) 1 (by show j.val < n ∨ n + 1 ≤ j.val; omega), vals_at cd g r j n]
      simp only [show (j.val < n + 1) = (j.val < n) from propext (by omega)]

theorem idxs_at (cd : FVec F S16x50x128 .f32) (g : IVec S16x50x128 32) (r : Fin 16) (j : Fin 64) : ∀ (n : ℕ) (h : n ≤ 50),
    View.canon (Val := Elt F) (e := .i32) (idxs cd g n h) (ix2 r j) = if j.val < n then k0_pay270 (cands cd g j.val) g (ix2 r (0 : Fin 1)) else 0#32
  | 0, _ => by rw [idxs, canon_whole]; rfl
  | n + 1, h => by
    rw [idxs]
    by_cases e : j.val = n
    · subst e
      rw [if_pos (Nat.lt_succ_self _)]
      exact canon_hit (S := S16x64) _ _ _ (ix2 r j) (ix2 r (0 : Fin 1)) (fun a => by fin_cases a <;> simp [ix2])
    · rw [canon_miss (S := S16x64) _ _ _ (ix2 r j) 1 (by show j.val < n ∨ n + 1 ≤ j.val; omega), idxs_at cd g r j n]
      simp only [show (j.val < n + 1) = (j.val < n) from propext (by omega)]

/-- A candidate: the chunk picked, read through its row of ones and zeros. -/
theorem cand_at (xm : FVec Ideal S16x781x128 .f32) (xt : FVec Ideal S16x128 .f32) (r : Fin 16) (t : Fin 50) (l : Fin 128) :
    cand xm xt (ix3 r t l) = (∑ k : Fin 781, hot1 (maxes (cmax xm xt) t.val) (ix3 r (0 : Fin 1) (k.castLE (by decide) : Fin 782)) * xm (ix3 r k l))
      + hot1 (maxes (cmax xm xt) t.val) (ix3 r (0 : Fin 1) (781 : Fin 782)) * xt (ix2 r l) := by
  unfold cand
  rw [rowsC_at _ _ _ r t l 16 le_rfl r.isLt, candRow_at]
  have h0 : ∀ k : Fin 781, (Rect.unit (s := S16x50x782) ![r.val, 0, 0] S1x50x781.size (inb_hotMain r.val r.isLt)).toLoadRect.idx (ix3 (0 : Fin 1) t k)
      = ix3 r t (k.castLE (by decide) : Fin 782) := fun k => funext fun a => Fin.ext (by fin_cases a <;> simp [ix3])
  have h1 : (Rect.unit (s := S16x50x782) ![r.val, 0, 781] S1x50x1.size (inb_hotTail r.val r.isLt)).toLoadRect.idx (ix3 (0 : Fin 1) t (0 : Fin 1))
      = ix3 r t (781 : Fin 782) := funext fun a => Fin.ext (by fin_cases a <;> simp [ix3])
  simp only [h0, h1, hots_at _ r t _ 50 le_rfl t.isLt]
theorem gidx_at (xm : FVec Ideal S16x781x128 .f32) (xt : FVec Ideal S16x128 .f32) (r : Fin 16) (t : Fin 50) (l : Fin 128) :
    gidx (F := Ideal) xm xt (ix3 r t l) = pick1 (maxes (cmax xm xt) t.val) (ix2 r (0 : Fin 1)) * 128#32 + BitVec.ofNat 32 l.val := by
  unfold gidx
  rw [poss_at _ r t l 50 le_rfl t.isLt, pos1_at]
theorem resv_at (xm : FVec Ideal S16x781x128 .f32) (xt : FVec Ideal S16x128 .f32) (r : Fin 16) (j : Fin 64) :
    resv xm xt (ix2 r j) = if j.val < 50 then k0_pay269 (cands (cand xm xt) (gidx (F := Ideal) xm xt) j.val) (ix2 r (0 : Fin 1)) else ⊥ := by
  unfold resv
  rw [vals_at]
  simp only [show Scalar.ofBits (F := Ideal) .f32 0xFF800000#32 = (⊥ : EReal) from bot_bits]
theorem resi_at (xm : FVec Ideal S16x781x128 .f32) (xt : FVec Ideal S16x128 .f32) (r : Fin 16) (j : Fin 64) :
    resi (F := Ideal) xm xt (ix2 r j) = if j.val < 50 then k0_pay270 (cands (cand xm xt) (gidx (F := Ideal) xm xt) j.val) (gidx (F := Ideal) xm xt) (ix2 r (0 : Fin 1)) else 0#32 := by
  unfold resi
  rw [idxs_at]

end Cert.KernelIdeal.Hand

end
-- ==== Proof.Pick.lean ====
module

public import Idealize.ShloMosaic.Lib.SortPrefix
public import Idealize.ShloMosaic.Lib.SortFacts
public import Idealize.ShloMosaic.Lib.SortNet.Extract
public import Idealize.ShloMosaic.PureOps.Ideal.Laws

/-! Picking the greatest of a family again and again, the lesser position first among equals: what a masking loop picks, why
picking chunks by their maxima first loses nothing, and why the picks are a stable descending sort's first places. -/

@[expose] public section

noncomputable section

namespace Cert.Pick

open Idealize.ShloMosaic

variable {ι : Type}

/-- `i` comes before `j`: the greater value first, among equal values the lesser position. -/
def Before (f : ι → EReal) (κ : ι → ℕ) (i j : ι) : Prop := f j < f i ∨ (f j = f i ∧ κ i < κ j)

theorem Before.trans {f : ι → EReal} {κ : ι → ℕ} {a b c : ι} (h : Before f κ a b) (h' : Before f κ b c) : Before f κ a c := by
  rcases h with h | ⟨h, k⟩ <;> rcases h' with h' | ⟨h', k'⟩
  · exact Or.inl (h'.trans h)
  · exact Or.inl (h' ▸ h)
  · exact Or.inl (h ▸ h')
  · exact Or.inr ⟨h'.trans h, k.trans k'⟩

theorem Before.irrefl {f : ι → EReal} {κ : ι → ℕ} {a : ι} (h : Before f κ a a) : False := by
  rcases h with h | ⟨_, h⟩ <;> exact lt_irrefl _ h

/-- `σ 0, σ 1, …, σ (k-1)`: each comes before everything not picked earlier. -/
def Greedy (f : ι → EReal) (κ : ι → ℕ) (k : ℕ) (σ : ℕ → ι) : Prop :=
  ∀ t, t < k → (∀ s, s < t → σ s ≠ σ t) ∧ ∀ j, (∀ s, s < t → σ s ≠ j) → j = σ t ∨ Before f κ (σ t) j

namespace Greedy

variable {f : ι → EReal} {κ : ι → ℕ} {k : ℕ} {σ : ℕ → ι}

theorem inj (h : Greedy f κ k σ) {s t : ℕ} (hs : s < k) (ht : t < k) (e : σ s = σ t) : s = t := by
  rcases lt_trichotomy s t with l | l | l
  · exact absurd e ((h t ht).1 s l)
  · exact l
  · exact absurd e.symm ((h s hs).1 t l)

theorem ordered (h : Greedy f κ k σ) {s t : ℕ} (hst : s < t) (ht : t < k) : Before f κ (σ s) (σ t) := by
  rcases (h s (hst.trans ht)).2 (σ t) (fun r hr e => (h t ht).1 r (hr.trans hst) e) with e | b
  · exact absurd e.symm ((h t ht).1 s hst)
  · exact b

theorem dominates (h : Greedy f κ k σ) {t : ℕ} (ht : t < k) {j : ι} (hj : ∀ s, s < k → σ s ≠ j) : Before f κ (σ t) j := by
  rcases (h t ht).2 j (fun s hs => hj s (hs.trans ht)) with e | b
  · exact absurd e.symm (hj t ht)
  · exact b

end Greedy

/-- `v` is the greatest value of `g`. -/
def IsMax (v : EReal) (g : ι → EReal) : Prop := (∀ i, g i ≤ v) ∧ ∃ i, g i = v

/-- `x` is the least word of `h`, as signed integers. -/
def IsMin (x : BitVec 32) (h : ι → BitVec 32) : Prop := (∀ i, x.toInt ≤ (h i).toInt) ∧ ∃ i, h i = x

theorem isMax_fold [Fintype ι] [Nonempty ι] (g : ι → EReal) : IsMax ((Finset.univ : Finset ι).fold max ⊥ g) g := by
  refine ⟨fun i => Finset.le_fold_max _ |>.mpr (Or.inr ⟨i, Finset.mem_univ i, le_rfl⟩), ?_⟩
  obtain ⟨i, -, hi⟩ := Finset.exists_max_image (Finset.univ : Finset ι) g Finset.univ_nonempty
  refine ⟨i, le_antisymm (Finset.le_fold_max _ |>.mpr (Or.inr ⟨i, Finset.mem_univ i, le_rfl⟩)) ?_⟩
  exact Finset.fold_max_le _ |>.mpr ⟨bot_le, fun j hj => hi j hj⟩

theorem isMax_fold₂ {κ : Type} [Fintype ι] [Nonempty ι] [Fintype κ] [Nonempty κ] (g : ι × κ → EReal) :
    IsMax ((Finset.univ : Finset ι).fold max ⊥ fun t => (Finset.univ : Finset κ).fold max ⊥ fun l => g (t, l)) g := by
  obtain ⟨h, i, hi⟩ := isMax_fold fun t => (Finset.univ : Finset κ).fold max ⊥ fun l => g (t, l)
  obtain ⟨h', l, hl⟩ := isMax_fold fun l => g (i, l)
  refine ⟨fun p => ?_, (i, l), hl.trans hi⟩
  obtain ⟨h'', -⟩ := isMax_fold fun l => g (p.1, l)
  exact (h'' p.2).trans (h p.1)

theorem toInt_fold_minsi [Fintype ι] (h : ι → BitVec 32) (b : BitVec 32) :
    ((Finset.univ : Finset ι).fold IntOp.minsi b h).toInt = (Finset.univ : Finset ι).fold min b.toInt fun i => (h i).toInt :=
  (Finset.fold_hom (op := IntOp.minsi) (op' := min) (m := BitVec.toInt) fun x y => SortNet.toInt_minsi x y).symm

theorem isMin_fold [Fintype ι] [Nonempty ι] (h : ι → BitVec 32) :
    IsMin ((Finset.univ : Finset ι).fold IntOp.minsi 2147483647#32 h) h := by
  have top : ∀ y : BitVec 32, y.toInt ≤ (2147483647#32 : BitVec 32).toInt := fun y => by
    have := BitVec.toInt_lt (x := y); simp at this ⊢; omega
  refine ⟨fun i => ?_, ?_⟩
  · rw [toInt_fold_minsi]
    exact Finset.fold_min_le _ |>.mpr (Or.inr ⟨i, Finset.mem_univ i, le_rfl⟩)
  · obtain ⟨i, -, hi⟩ := Finset.exists_min_image (Finset.univ : Finset ι) (fun i => (h i).toInt) Finset.univ_nonempty
    refine ⟨i, BitVec.eq_of_toInt_eq ?_⟩
    rw [toInt_fold_minsi]
    refine le_antisymm (Finset.le_fold_min _ |>.mpr ⟨top _, fun j hj => hi j hj⟩) ?_
    exact Finset.fold_min_le _ |>.mpr (Or.inr ⟨i, Finset.mem_univ i, le_rfl⟩)

theorem isMin_fold₂ {κ : Type} [Fintype ι] [Nonempty ι] [Fintype κ] [Nonempty κ] (h : ι × κ → BitVec 32) :
    IsMin ((Finset.univ : Finset ι).fold IntOp.minsi 2147483647#32
      fun t => (Finset.univ : Finset κ).fold IntOp.minsi 2147483647#32 fun l => h (t, l)) h := by
  obtain ⟨a, i, hi⟩ := isMin_fold fun t => (Finset.univ : Finset κ).fold IntOp.minsi 2147483647#32 fun l => h (t, l)
  obtain ⟨-, l, hl⟩ := isMin_fold fun l => h (i, l)
  refine ⟨fun p => ?_, (i, l), hl.trans hi⟩
  exact (a p.1).trans ((isMin_fold fun l => h (p.1, l)).1 p.2)

/-- The first place of the greatest value: the least position word among the places that hold it. -/
theorem exists_first {g : ι → EReal} {κ : ι → ℕ} {w : ι → BitVec 32} (hw : ∀ i, (w i).toInt = κ i) (hκ : ∀ i, κ i < 1073741824)
    (hinj : Function.Injective κ) {v : EReal} (hv : IsMax v g) {x : BitVec 32}
    (hx : IsMin x fun i => if g i = v then w i else 1073741824#32) :
    ∃ p, g p = v ∧ x = w p ∧ ∀ j, j = p ∨ Before g κ p j := by
  obtain ⟨i, hi⟩ := hv.2
  have hlt : x.toInt < 1073741824 := by
    have h := hx.1 i
    dsimp only at h
    rw [if_pos hi, hw] at h
    have := hκ i
    omega
  obtain ⟨p, hp⟩ := hx.2
  dsimp only at hp
  have hgp : g p = v := by
    by_contra hne
    rw [if_neg hne] at hp
    rw [← hp] at hlt
    exact absurd hlt (by decide)
  rw [if_pos hgp] at hp
  refine ⟨p, hgp, hp.symm, fun j => ?_⟩
  rcases eq_or_ne j p with e | ne
  · exact Or.inl e
  refine Or.inr ?_
  rcases lt_or_eq_of_le (hv.1 j) with l | e
  · exact Or.inl (hgp ▸ l)
  · refine Or.inr ⟨e.trans hgp.symm, ?_⟩
    have h := hx.1 j
    dsimp only at h
    rw [if_pos e, ← hp, hw, hw] at h
    rcases lt_or_eq_of_le (Int.ofNat_le.mp h) with l | e'
    · exact l
    · exact absurd (hinj e').symm ne

/-- A loop that takes the greatest value, its first place, and overwrites that place with −∞, over a family above −∞ with at
    least `k` members, picks greedily for `k` rounds. -/
theorem greedy_of_loop [Fintype ι] [Nonempty ι] {f : ι → EReal} {κ : ι → ℕ} {w : ι → BitVec 32} (hf : ∀ i, ⊥ < f i)
    (hw : ∀ i, (w i).toInt = κ i) (hκ : ∀ i, κ i < 1073741824) (hinj : Function.Injective κ) {k : ℕ} (hk : k ≤ Fintype.card ι)
    {g : ℕ → ι → EReal} {v : ℕ → EReal} {x : ℕ → BitVec 32} (g0 : ∀ i, g 0 i = f i) (hv : ∀ t, t < k → IsMax (v t) (g t))
    (hx : ∀ t, t < k → IsMin (x t) fun i => if g t i = v t then w i else 1073741824#32)
    (hg : ∀ t, t < k → ∀ i, g (t + 1) i = if w i = x t then ⊥ else g t i) :
    ∃ σ : ℕ → ι, Greedy f κ k σ ∧ ∀ t, t < k → x t = w (σ t) ∧ v t = f (σ t) := by
  classical
  have hwinj : Function.Injective w := fun a b e => hinj (by have := congrArg BitVec.toInt e; rw [hw, hw] at this; exact Int.ofNat_inj.mp this)
  have first : ∀ t, ∃ p : ι, t < k → g t p = v t ∧ x t = w p ∧ ∀ j, j = p ∨ Before (g t) κ p j := fun t => by
    by_cases ht : t < k
    · obtain ⟨p, hp⟩ := exists_first hw hκ hinj (hv t ht) (hx t ht)
      exact ⟨p, fun _ => hp⟩
    · exact ⟨Classical.arbitrary ι, fun h => absurd h ht⟩
  choose σ hσ using first
  have masked : ∀ t, t ≤ k → ∀ i, g t i = if ∃ s, s < t ∧ σ s = i then ⊥ else f i := by
    intro t
    induction t with
    | zero => intro _ i; simp [g0]
    | succ t ih =>
      intro ht i
      rw [hg t ht i, ih (by omega) i, (hσ t ht).2.1]
      by_cases e : i = σ t
      · rw [if_pos (congrArg w e), if_pos ⟨t, Nat.lt_succ_self t, e.symm⟩]
      · rw [if_neg (fun h => e (hwinj h))]
        congr 1
        refine propext ⟨fun ⟨s, hs, h⟩ => ⟨s, by omega, h⟩, fun ⟨s, hs, h⟩ => ⟨s, ?_, h⟩⟩
        rcases Nat.lt_succ_iff_lt_or_eq.mp hs with l | l
        · exact l
        · exact absurd (l ▸ h).symm e
  have left : ∀ t, t < k → ∃ i, ∀ s, s < t → σ s ≠ i := fun t ht => by
    by_contra hno
    push Not at hno
    have hsub : (Finset.univ : Finset ι) ⊆ (Finset.range t).image σ := fun i _ => by
      obtain ⟨s, hs, e⟩ := hno i
      exact Finset.mem_image.mpr ⟨s, Finset.mem_range.mpr hs, e⟩
    have h1 := Finset.card_le_card hsub
    have h2 := Finset.card_image_le (s := Finset.range t) (f := σ)
    rw [Finset.card_univ] at h1
    rw [Finset.card_range] at h2
    omega
  have unpicked : ∀ t, t < k → ∀ s, s < t → σ s ≠ σ t := fun t ht s hs e => by
    obtain ⟨i, hi⟩ := left t ht
    have hgi : g t i = f i := by
      rw [masked t ht.le, if_neg]
      rintro ⟨r, hr, h⟩
      exact hi r hr h
    have h1 := (hv t ht).1 i
    rw [hgi, ← (hσ t ht).1, masked t ht.le, if_pos ⟨s, hs, e⟩] at h1
    exact absurd (hf i) (not_lt.mpr h1)
  have at_pick : ∀ t, t < k → g t (σ t) = f (σ t) := fun t ht => by
    rw [masked t ht.le, if_neg]
    rintro ⟨s, hs, e⟩
    exact unpicked t ht s hs e
  refine ⟨σ, fun t ht => ⟨unpicked t ht, fun j hj => ?_⟩, fun t ht => ⟨(hσ t ht).2.1, ?_⟩⟩
  · rcases (hσ t ht).2.2 j with e | b
    · exact Or.inl e
    · refine Or.inr ?_
      have hgj : g t j = f j := by
        rw [masked t ht.le, if_neg]
        rintro ⟨s, hs, e⟩
        exact hj s hs e
      unfold Before at b ⊢
      rwa [hgj, at_pick t ht] at b
  · rw [← (hσ t ht).1, at_pick t ht]

theorem exists_unpicked {κ : Type} [Fintype κ] {k : ℕ} (hk : k ≤ Fintype.card κ) (σ : ℕ → ι) {e : κ → ι}
    (he : Function.Injective e) {t : ℕ} (ht : t < k) : ∃ i, ∀ s, s < t → σ s ≠ e i := by
  classical
  by_contra hno
  push Not at hno
  have hsub : (Finset.univ : Finset κ).image e ⊆ (Finset.range t).image σ := fun i hi => by
    obtain ⟨j, -, rfl⟩ := Finset.mem_image.mp hi
    obtain ⟨s, hs, h⟩ := hno j
    exact Finset.mem_image.mpr ⟨s, Finset.mem_range.mpr hs, h⟩
  have h1 := Finset.card_le_card hsub
  rw [Finset.card_image_of_injective _ he, Finset.card_univ] at h1
  have h2 := Finset.card_image_le (s := Finset.range t) (f := σ)
  rw [Finset.card_range] at h2
  omega

/-- Picking among all the cells is picking among the cells of the rows whose maxima were picked. -/
theorem greedy_two_level {C L k : ℕ} {F : Fin C × Fin L → EReal} {cm : Fin C → EReal}
    (hcm : ∀ c, IsMax (cm c) fun l => F (c, l)) {cs : ℕ → Fin C} (hc : Greedy cm (fun c => c.val) k cs)
    {ρ : ℕ → Fin k × Fin L}
    (hρ : Greedy (fun p => F (cs p.1, p.2)) (fun p => (cs p.1).val * L + p.2.val) k ρ) :
    Greedy F (fun p => p.1.val * L + p.2.val) k fun t => (cs (ρ t).1, (ρ t).2) := by
  have hinj : Function.Injective fun p : Fin k × Fin L => (cs p.1, p.2) := fun p q e => by
    obtain ⟨e1, e2⟩ := Prod.mk.inj e
    exact Prod.ext (Fin.ext (hc.inj p.1.isLt q.1.isLt e1)) e2
  intro t ht
  refine ⟨fun s hs e => (hρ t ht).1 s hs (hinj e), fun j hj => ?_⟩
  obtain ⟨c, l⟩ := j
  by_cases hin : ∃ s : Fin k, cs s = c
  · obtain ⟨s, rfl⟩ := hin
    rcases (hρ t ht).2 (s, l) (fun r hr e => hj r hr (by show (cs (ρ r).1, (ρ r).2) = _; rw [e])) with e | b
    · exact Or.inl (by show _ = (cs (ρ t).1, (ρ t).2); rw [← e])
    · exact Or.inr b
  · have hnot : ∀ s, s < k → cs s ≠ c := fun s hs e => hin ⟨⟨s, hs⟩, e⟩
    obtain ⟨s, hs⟩ := exists_unpicked (κ := Fin k) (k := k) (by simp) (fun r => (ρ r).1) (e := id) Function.injective_id ht
    obtain ⟨m, hm⟩ := (hcm (cs s)).2
    change F (cs s, m) = cm (cs s) at hm
    have hb : Before cm (fun c => c.val) (cs s) c := hc.dominates s.isLt hnot
    have step : Before F (fun p => p.1.val * L + p.2.val) (cs s, m) (c, l) := by
      have h1 := (hcm c).1 l
      rcases hb with h | ⟨h, h'⟩
      · exact Or.inl (lt_of_le_of_lt h1 (lt_of_lt_of_eq h hm.symm))
      · rcases lt_or_eq_of_le h1 with h2 | h2
        · exact Or.inl (lt_of_lt_of_eq h2 (h.trans hm.symm))
        · refine Or.inr ⟨h2.trans (h.trans hm.symm), ?_⟩
          have h3 : (cs s).val * L + L ≤ c.val * L := by
            have := Nat.mul_le_mul_right L (Nat.succ_le_of_lt h')
            rwa [Nat.succ_mul] at this
          have := m.isLt
          show (cs s).val * L + m.val < c.val * L + l.val
          omega
    refine Or.inr ?_
    rcases (hρ t ht).2 (s, m) (fun r hr e => hs r hr (by rw [e]; rfl)) with e | b
    · show Before F _ (cs (ρ t).1, (ρ t).2) _
      rw [← e]; exact step
    · exact Before.trans (show Before F _ (cs (ρ t).1, (ρ t).2) (cs s, m) from b) step

/-- When everything outside `e`'s range is below everything inside, the picks are picks of `e`'s domain. -/
theorem greedy_restrict {N k : ℕ} (hN : 0 < N) (hk : k ≤ N) {F : ι → EReal} {κ : ι → ℕ} {e : Fin N → ι} (hκ : ∀ n, κ (e n) = n.val)
    (hlow : ∀ i, (∀ n, e n ≠ i) → ∀ n, F i < F (e n)) {σ : ℕ → ι} (h : Greedy F κ k σ) :
    ∃ τ : ℕ → Fin N, Greedy (fun n => F (e n)) (fun n => n.val) k τ ∧ ∀ t, t < k → e (τ t) = σ t := by
  have he : Function.Injective e := fun a b h => Fin.ext (by rw [← hκ a, ← hκ b, h])
  have hin : ∀ t, ∃ n : Fin N, t < k → e n = σ t := fun t => by
    by_cases ht : t < k
    · by_contra hno
      push Not at hno
      have hout : ∀ n, e n ≠ σ t := fun n => (hno n).2
      obtain ⟨n, hn⟩ := exists_unpicked (κ := Fin N) (k := k) (by simpa using hk) σ he ht
      have hlt := hlow (σ t) hout n
      rcases (h t ht).2 (e n) hn with q | b
      · exact hout n q
      · rcases b with b | ⟨b, -⟩
        · exact lt_asymm b hlt
        · exact absurd b hlt.ne'
    · exact ⟨⟨0, hN⟩, fun h => absurd h ht⟩
  choose τ hτ using hin
  refine ⟨τ, fun t ht => ⟨fun s hs q => (h t ht).1 s hs ?_, fun j hj => ?_⟩, hτ⟩
  · rw [← hτ s (hs.trans ht), ← hτ t ht, q]
  · rcases (h t ht).2 (e j) (fun s hs q => hj s hs (he ((hτ s (hs.trans ht)).trans q))) with q | b
    · exact Or.inl (he (q.trans (hτ t ht).symm))
    · refine Or.inr ?_
      rw [← hτ t ht] at b
      unfold Before at b ⊢
      rwa [hκ, hκ] at b

theorem insertBefore_congr_of {ι : Type} {B B' : ι → ι → Bool} (a : ι) (l : List ι) (h : ∀ b ∈ l, B b a = B' b a) :
    insertBefore B a l = insertBefore B' a l := by
  induction l with
  | nil => rfl
  | cons b l ih =>
    unfold insertBefore
    rw [h b (by simp), ih fun c hc => h c (by simp [hc])]

/-- Two comparators that agree on asking whether a later element goes before an earlier one sort alike. -/
theorem stableSort_congr_of {ι : Type} {B B' : ι → ι → Bool} (l : List ι)
    (h : l.Pairwise fun a b => B b a = B' b a) : stableSort B l = stableSort B' l := by
  induction l with
  | nil => rfl
  | cons a l ih =>
    rw [List.pairwise_cons] at h
    unfold stableSort
    rw [ih h.2]
    exact insertBefore_congr_of a _ fun b hb => h.1 b ((perm_stableSort B' l).mem_iff.mp hb)

theorem sortedFrom_congr_positions {n : Nat} {B B' : Fin n → Fin n → Bool} (e : sortPositions n B = sortPositions n B')
    (p : Fin n) : sortedFrom B p = sortedFrom B' p := by
  unfold sortedFrom
  exact List.get_of_eq e _

/-- A stable descending sort's first places are the greedy picks. -/
theorem sortedFrom_of_greedy {N k : ℕ} (hk : k ≤ N) {f : Fin N → EReal} {τ : ℕ → Fin N}
    (h : Greedy f (fun n => n.val) k τ) (B : Fin N → Fin N → Bool) (hB : ∀ a b, B a b = decide (f b < f a)) (i : Fin k) :
    sortedFrom B (i.castLE hk) = τ i.val := by
  classical
  have hT : StrictTotalBefore fun a b : Fin N => decide (f b < f a) || (decide (f a = f b) && decide (a < b)) :=
    StrictTotalBefore.of_key_then_position (fun x y : EReal => decide (y < x)) f (fun a => by simp)
      (fun a b c => by simpa using fun h h' => lt_trans h' h) (fun a b => by
        rcases lt_trichotomy a b with h | h | h <;> simp [h])
  have hsort : sortedFrom B = sortedFrom fun a b : Fin N => decide (f b < f a) || (decide (f a = f b) && decide (a < b)) := by
    have e : sortPositions N B
        = sortPositions N fun a b : Fin N => decide (f b < f a) || (decide (f a = f b) && decide (a < b)) := by
      unfold sortPositions
      refine stableSort_congr_of _ ((List.pairwise_lt_finRange N).imp fun {a b} hab => ?_)
      rw [hB]
      simp [not_lt.mpr hab.le]
    funext p
    exact sortedFrom_congr_positions e p
  have key : ∀ a b, Before f (fun n => n.val) a b →
      (decide (f a < f b) || (decide (f b = f a) && decide (b < a))) = false := fun a b hb => by
    rcases hb with hb | ⟨hb, hl⟩
    · simp [not_lt.mpr hb.le, hb.ne]
    · simp [hb, not_lt.mpr (Fin.le_def.mpr hl.le)]
  rw [hsort]
  refine hT.sortedFrom_eq_of_prefix hk (fun j : Fin k => τ j.val) (fun a b e => Fin.ext (h.inj a.isLt b.isLt e)) ?_ ?_ i
  · exact fun a b hab => key _ _ (h.ordered hab b.isLt)
  · exact fun a p hp => key _ _ (h.dominates a.isLt fun s hs => hp ⟨s, hs⟩)

end Cert.Pick

end
-- ==== Proof.KTop.lean ====
module

public import proofs.«01_k».proof.Proof.KRead
public import proofs.«01_k».proof.Proof.Pick

/-! A row of the body's result: the fifty greatest of the row, by the two loops. -/

@[expose] public section

set_option maxRecDepth 65536

noncomputable section

namespace Cert.KernelIdeal.Hand

open Idealize.ShloMosaic Idealize.ShloMosaic.TcCoe Idealize.ShloMosaic.Tactic
open Cert.KernelIdeal Cert.KernelIdeal.Gen Cert.Pick

/-- The value the lanes past the array's end hold. -/
abbrev low : EReal := Ideal.ofBits .f32 0xF149F2CA#32

/-- A row laid out in chunks of 128 lanes, the lanes past its end at the low value. -/
def chunked (x : Fin 100000 → EReal) (p : Fin 782 × Fin 128) : EReal :=
  if h : p.1.val * 128 + p.2.val < 100000 then x ⟨p.1.val * 128 + p.2.val, h⟩ else low

theorem toInt_word {n : ℕ} (h : n < 2 ^ 31) : (BitVec.ofNat 32 n).toInt = n := by
  rw [BitVec.toInt_eq_toNat_of_lt] <;> simp only [BitVec.toNat_ofNat] <;> rw [Nat.mod_eq_of_lt] <;> omega

theorem word_inj {a b : ℕ} (ha : a < 2 ^ 31) (hb : b < 2 ^ 31) : (BitVec.ofNat 32 a = BitVec.ofNat 32 b) ↔ a = b :=
  ⟨fun h => by have := congrArg BitVec.toInt h; rw [toInt_word ha, toInt_word hb] at this; exact_mod_cast this, fun h => h ▸ rfl⟩

section Row
variable {xm : FVec Ideal S16x781x128 .f32} {xt : FVec Ideal S16x128 .f32} {r : Fin 16} {x : Fin 100000 → EReal}
  (hm : ∀ (k : Fin 781) (l : Fin 128), xm (ix3 r k l) = x ⟨k.val * 128 + l.val, by omega⟩)
  (ht : ∀ l : Fin 128, xt (ix2 r l) = if h : l.val < 32 then x ⟨781 * 128 + l.val, by omega⟩ else low)
  (hlow : ⊥ < low) (hx : ∀ n, low < x n)

include hm in
theorem chunked_main (k : Fin 781) (l : Fin 128) : xm (ix3 r k l) = chunked x (k.castLE (by decide), l) := by
  unfold chunked
  rw [hm, dif_pos (show (k.castLE (by decide : 781 ≤ 782)).val * 128 + l.val < 100000 by simp; omega)]
  rfl
include ht in
theorem chunked_tail (l : Fin 128) : xt (ix2 r l) = chunked x ((781 : Fin 782), l) := by
  unfold chunked
  rw [ht]
  by_cases h : l.val < 32
  · rw [dif_pos h, dif_pos (show (781 : Fin 782).val * 128 + l.val < 100000 by show 781 * 128 + l.val < 100000; omega)]; rfl
  · rw [dif_neg h, dif_neg (show ¬(781 : Fin 782).val * 128 + l.val < 100000 by show ¬781 * 128 + l.val < 100000; omega)]

include hlow hx in
theorem chunked_pos (p : Fin 782 × Fin 128) : ⊥ < chunked x p := by
  unfold chunked
  split
  · exact lt_trans hlow (hx _)
  · exact hlow

include hm ht in
theorem cmax_isMax (k : Fin 782) : IsMax (cmax xm xt (ix2 r k)) fun l : Fin 128 => chunked x (k, l) := by
  rw [cmax_at]
  by_cases h : k.val < 781
  · rw [dif_pos h, show (fun l : Fin 128 => xm (ix3 r (⟨k.val, h⟩ : Fin 781) l)) = fun l => chunked x (k, l) from funext fun l => chunked_main hm ⟨k.val, h⟩ l]
    exact isMax_fold _
  · obtain rfl : k = 781 := Fin.ext (by show k.val = 781; omega)
    rw [dif_neg h, show (fun l : Fin 128 => xt (ix2 r l)) = fun l => chunked x (781, l) from funext fun l => chunked_tail ht l]
    exact isMax_fold _

include hm ht hlow hx in
/-- The first loop picks chunks greedily by their maxima. -/
theorem chunks_greedy : ∃ cs : ℕ → Fin 782, Greedy (fun k => cmax xm xt (ix2 r k)) (fun k => k.val) 50 cs
    ∧ ∀ t, t < 50 → pick1 (maxes (cmax xm xt) t) (ix2 r (0 : Fin 1)) = BitVec.ofNat 32 (cs t).val := by
  obtain ⟨cs, hg, hc⟩ := greedy_of_loop (k := 50) (f := fun k : Fin 782 => cmax xm xt (ix2 r k)) (κ := fun k => k.val) (w := fun k => BitVec.ofNat 32 k.val)
    (g := fun t k => maxes (cmax xm xt) t (ix2 r k)) (v := fun t => Finset.univ.fold max ⊥ fun k : Fin 782 => maxes (cmax xm xt) t (ix2 r k))
    (x := fun t => pick1 (maxes (cmax xm xt) t) (ix2 r (0 : Fin 1)))
    (fun k => by obtain ⟨l, hl⟩ := (cmax_isMax hm ht k).2; exact hl ▸ chunked_pos hlow hx _)
    (fun k => toInt_word (by omega)) (fun k => by omega) (fun a b h => Fin.ext h) (by simp) (fun _ => rfl) (fun t _ => isMax_fold _)
    (fun t _ => by rw [pick1_at]; exact isMin_fold _)
    (fun t _ k => by show drop1 _ (ix2 r k) = _; rw [drop1_at])
  exact ⟨cs, hg, fun t h => (hc t h).1⟩

theorem sum_hot (n : ℕ) (a : ℕ) (f : Fin n → EReal) : (∑ k : Fin n, (if k.val = a then (1 : EReal) else 0) * f k) = if h : a < n then f ⟨a, h⟩ else 0 := by
  by_cases h : a < n
  · rw [dif_pos h, Finset.sum_eq_single (⟨a, h⟩ : Fin n)]
    · simp
    · intro b _ hb
      rw [if_neg (fun e => hb (Fin.ext e)), zero_mul]
    · simp
  · rw [dif_neg h]
    exact Finset.sum_eq_zero fun k _ => by rw [if_neg (by omega), zero_mul]

include hm ht in
theorem cand_eq {cs : ℕ → Fin 782} (hc : ∀ t, t < 50 → pick1 (maxes (cmax xm xt) t) (ix2 r (0 : Fin 1)) = BitVec.ofNat 32 (cs t).val)
    (t : Fin 50) (l : Fin 128) : cand xm xt (ix3 r t l) = chunked x (cs t.val, l) := by
  have hh : ∀ k : Fin 782, hot1 (maxes (cmax xm xt) t.val) (ix3 r (0 : Fin 1) k) = if k.val = (cs t.val).val then (1 : EReal) else 0 := fun k => by
    rw [hot1_at, hc t.val t.isLt]
    simp only [word_inj (show k.val < 2 ^ 31 by omega) (show (cs t.val).val < 2 ^ 31 by omega)]
  rw [cand_at]
  simp only [hh]
  have := sum_hot 781 (cs t.val).val fun k => xm (ix3 r k l)
  rw [show (∑ k : Fin 781, (if (k.castLE (by decide : 781 ≤ 782)).val = (cs t.val).val then (1 : EReal) else 0) * xm (ix3 r k l)) = _ from this]
  by_cases h : (cs t.val).val < 781
  · rw [dif_pos h, if_neg (show ¬(781 : Fin 782).val = (cs t.val).val by show ¬781 = _; omega), zero_mul, add_zero]
    exact chunked_main hm ⟨_, h⟩ l
  · have e : (781 : Fin 782) = cs t.val := Fin.ext (by show 781 = _; omega)
    rw [dif_neg h, if_pos (congrArg Fin.val e), one_mul, zero_add, chunked_tail ht, e]

theorem gidx_eq {cs : ℕ → Fin 782} (hc : ∀ t, t < 50 → pick1 (maxes (cmax xm xt) t) (ix2 r (0 : Fin 1)) = BitVec.ofNat 32 (cs t).val)
    (t : Fin 50) (l : Fin 128) : gidx (F := Ideal) xm xt (ix3 r t l) = BitVec.ofNat 32 ((cs t.val).val * 128 + l.val) := by
  rw [gidx_at, hc t.val t.isLt, ← BitVec.ofNat_mul, ← BitVec.ofNat_add]

include hm ht hlow hx in
/-- A row's fifty values and positions are its greedy picks. -/
theorem row_top : ∃ τ : ℕ → Fin 100000, Greedy x (fun n => n.val) 50 τ
    ∧ ∀ j : Fin 64, j.val < 50 → resv xm xt (ix2 r j) = x (τ j.val) ∧ resi (F := Ideal) xm xt (ix2 r j) = BitVec.ofNat 32 (τ j.val).val := by
  obtain ⟨cs, hg, hc⟩ := chunks_greedy hm ht hlow hx
  obtain ⟨ρ, hr, hv⟩ := greedy_of_loop (k := 50) (f := fun p : Fin 50 × Fin 128 => chunked x (cs p.1.val, p.2)) (κ := fun p => (cs p.1.val).val * 128 + p.2.val)
    (w := fun p => BitVec.ofNat 32 ((cs p.1.val).val * 128 + p.2.val))
    (g := fun t p => cands (cand xm xt) (gidx (F := Ideal) xm xt) t (ix3 r p.1 p.2))
    (v := fun t => k0_pay269 (cands (cand xm xt) (gidx (F := Ideal) xm xt) t) (ix2 r (0 : Fin 1)))
    (x := fun t => k0_pay270 (F := Ideal) (cands (cand xm xt) (gidx (F := Ideal) xm xt) t) (gidx (F := Ideal) xm xt) (ix2 r (0 : Fin 1)))
    (fun p => chunked_pos hlow hx _) (fun p => toInt_word (by omega)) (fun p => by omega)
    (fun a b h => by
      have h' : (cs a.1.val).val * 128 + a.2.val = (cs b.1.val).val * 128 + b.2.val := h
      have h1 : cs a.1.val = cs b.1.val := Fin.ext (by omega)
      have h2 := hg.inj a.1.isLt b.1.isLt h1
      exact Prod.ext (Fin.ext h2) (Fin.ext (by rw [h1] at h'; omega)))
    (by simp) (fun p => cand_eq hm ht hc p.1 p.2)
    (fun t _ => by rw [max2_at]; exact isMax_fold₂ fun p : Fin 50 × Fin 128 => cands (cand xm xt) (gidx (F := Ideal) xm xt) t (ix3 r p.1 p.2))
    (fun t _ => by
      have := isMin_fold₂ fun p : Fin 50 × Fin 128 => if cands (cand xm xt) (gidx (F := Ideal) xm xt) t (ix3 r p.1 p.2)
        = k0_pay269 (cands (cand xm xt) (gidx (F := Ideal) xm xt) t) (ix2 r (0 : Fin 1)) then gidx (F := Ideal) xm xt (ix3 r p.1 p.2) else 1073741824#32
      simp only [← gidx_eq hc]
      rw [idx2_at]
      exact this)
    (fun t _ p => by
      show k0_pay271 _ _ (ix3 r p.1 p.2) = _
      rw [drop2_at, gidx_eq hc])
  have h2 := greedy_two_level (F := chunked x) (cmax_isMax hm ht) hg hr
  obtain ⟨τ, hτ, he⟩ := greedy_restrict (N := 100000) (by decide) (by decide) (F := chunked x)
    (e := fun n => ((⟨n.val / 128, by omega⟩ : Fin 782), (⟨n.val % 128, by omega⟩ : Fin 128)))
    (κ := fun p => p.1.val * 128 + p.2.val) (fun n => by show n.val / 128 * 128 + n.val % 128 = n.val; omega)
    (fun i hi n => by
      have hn : chunked x ((⟨n.val / 128, by omega⟩ : Fin 782), (⟨n.val % 128, by omega⟩ : Fin 128)) = x n := by
        unfold chunked
        rw [dif_pos (show n.val / 128 * 128 + n.val % 128 < 100000 by omega)]
        exact congrArg x (Fin.ext (by show n.val / 128 * 128 + n.val % 128 = n.val; omega))
      have hi' : ¬ i.1.val * 128 + i.2.val < 100000 := fun h => hi ⟨_, h⟩ (Prod.ext (Fin.ext (by show (i.1.val * 128 + i.2.val) / 128 = _; omega)) (Fin.ext (by show (i.1.val * 128 + i.2.val) % 128 = _; omega)))
      rw [hn]
      unfold chunked
      rw [dif_neg hi']
      exact hx n) h2
  have hn : ∀ n : Fin 100000, chunked x ((⟨n.val / 128, by omega⟩ : Fin 782), (⟨n.val % 128, by omega⟩ : Fin 128)) = x n := fun n => by
    unfold chunked
    rw [dif_pos (show n.val / 128 * 128 + n.val % 128 < 100000 by omega)]
    exact congrArg x (Fin.ext (by show n.val / 128 * 128 + n.val % 128 = n.val; omega))
  refine ⟨τ, by simpa only [hn] using hτ, fun j hj => ?_⟩
  have hj' := he j.val hj
  rw [resv_at, resi_at, if_pos hj, if_pos hj]
  refine ⟨((hv j.val hj).2).trans ?_, ((hv j.val hj).1).trans ?_⟩
  · rw [← hn (τ j.val), hj']
  · have e1 := congrArg (fun p => p.1.val * 128 + p.2.val) hj'
    simp only at e1
    rw [← e1]
    congr 1
    omega

end Row

/-- The same with the bounds of the places as hypotheses. -/
theorem row_top_of {xm : FVec Ideal S16x781x128 .f32} {xt : FVec Ideal S16x128 .f32} {r : Fin 16} {x : Fin 100000 → EReal}
    (hm : ∀ (k : Fin 781) (l : Fin 128) (h : k.val * 128 + l.val < 100000), xm (ix3 r k l) = x ⟨k.val * 128 + l.val, h⟩)
    (ht : ∀ (l : Fin 128) (_ : l.val < 32) (h : 99968 + l.val < 100000), xt (ix2 r l) = x ⟨99968 + l.val, h⟩)
    (ht' : ∀ l : Fin 128, ¬ l.val < 32 → xt (ix2 r l) = low)
    (hlow : ⊥ < low) (hx : ∀ n, low < x n) : ∃ τ : ℕ → Fin 100000, Greedy x (fun n => n.val) 50 τ
    ∧ ∀ j : Fin 64, j.val < 50 → resv xm xt (ix2 r j) = x (τ j.val) ∧ resi (F := Ideal) xm xt (ix2 r j) = BitVec.ofNat 32 (τ j.val).val :=
  row_top (fun k l => hm k l _) (fun l => by
    by_cases h : l.val < 32
    · rw [dif_pos h]; exact ht l h _
    · rw [dif_neg h]; exact ht' l h) hlow hx

end Cert.KernelIdeal.Hand

end
-- ==== Proof.KBest.lean ====
module

public import proofs.«01_k».proof.Proof.KTop

/-! A row of the body's two results: the place the noise picks among the fifty greatest. -/

@[expose] public section

set_option maxHeartbeats 4000000
set_option maxRecDepth 8192

noncomputable section

namespace Cert.Pick

/-- `p` is the first place of the greatest of `z`. -/
def First {n : ℕ} (z : Fin n → EReal) (p : Fin n) : Prop := ∀ j, j = p ∨ Before z (fun i => i.val) p j

theorem First.unique {n : ℕ} {z : Fin n → EReal} {p q : Fin n} (h : First z p) (h' : First z q) : p = q := by
  rcases h q with h | h
  · exact h.symm
  rcases h' p with h' | h'
  · exact h'
  rcases h with h | ⟨h, k⟩ <;> rcases h' with h' | ⟨h', k'⟩
  · exact absurd (h.trans h') (lt_irrefl _)
  · exact absurd (h' ▸ h) (lt_irrefl _)
  · exact absurd (h ▸ h') (lt_irrefl _)
  · omega

end Cert.Pick

namespace Cert.KernelIdeal.Hand

open Idealize.ShloMosaic Idealize.ShloMosaic.TcCoe Idealize.ShloMosaic.Tactic
open Cert.KernelIdeal Cert.KernelIdeal.Gen Cert.Pick

theorem fold_add_single (n : ℕ) (p : Fin n) (f : Fin n → BitVec 32) (h : ∀ j, j ≠ p → f j = 0#32) :
    Finset.univ.fold IntOp.addi 0#32 f = f p := by
  classical
  have hu : (Finset.univ : Finset (Fin n)) = insert p (Finset.univ.erase p) := (Finset.insert_erase (Finset.mem_univ p)).symm
  rw [hu, Finset.fold_insert (Finset.notMem_erase p _), Finset.fold_congr (g := fun _ => 0#32) fun j hj => h j (Finset.ne_of_mem_erase hj)]
  have : ∀ s : Finset (Fin n), s.fold IntOp.addi 0#32 (fun _ => 0#32) = 0#32 := fun s => by
    induction s using Finset.induction_on with
    | empty => rfl
    | insert a s ha ih => rw [Finset.fold_insert ha, ih]; rfl
  rw [this]
  exact BitVec.add_zero _

theorem hi_row (a b : Fin 4) : hi (row a b) = a := by
  revert a b; decide
theorem lo_row (a b : Fin 4) : lo (row a b) = b := by
  revert a b; decide

section
variable {x0 : Vec Ideal S4x4x99968 .f32} {x1 : Vec Ideal S4x4x128 .f32} {x2 : Vec Ideal S4x4x64 .f32} {x3 : Vec Ideal S4x4x1 .f32}
  {a b : Fin 4} {x : Fin 100000 → EReal}

/-- One row of the results: `τ` lists the fifty greatest in order, `p` the place the noise picks. -/
theorem row_outs (h0 : ∀ n : Fin 99968, (h : n.val < 100000) → x0 (ix3 a b n) = x ⟨n.val, h⟩)
    (h1 : ∀ l : Fin 128, l.val < 32 → (h : 99968 + l.val < 100000) → x1 (ix3 a b l) = x ⟨99968 + l.val, h⟩)
    (hlow : ⊥ < low) (hx : ∀ n, low < x n) :
    ∃ (τ : ℕ → Fin 100000) (p : Fin 50), Greedy x (fun n => n.val) 50 τ
      ∧ First (fun j : Fin 50 => x (τ j.val) + x2 (ix3 a b (j.castLE (by decide)))) p
      ∧ outF x0 x1 x2 x3 (ix3 a b (0 : Fin 1)) = x (τ p.val) + x3 (ix3 a b (0 : Fin 1))
      ∧ outI (F := Ideal) x0 x1 x2 (ix3 a b (0 : Fin 1)) = BitVec.ofNat 32 (τ p.val).val := by
  obtain ⟨τ, hg, hτ⟩ := row_top_of (xm := k0_pay4 x0) (xt := k0_pay5 x1) (r := row a b) (x := x)
    (fun k l h => by rw [main_at, hi_row, lo_row]; exact h0 _ _)
    (fun l hl h => by
      rw [tail_at]
      refine (if_pos hl).trans ?_
      show x1 (ix3 (hi (row a b)) (lo (row a b)) l) = _
      rw [hi_row, lo_row]; exact h1 l hl _)
    (fun l hl => by
      rw [tail_at]
      exact if_neg hl) hlow hx
  obtain ⟨p, hp, hpw, hfirst⟩ := exists_first (g := fun j : Fin 64 => resv (k0_pay4 x0) (k0_pay5 x1) (ix2 (row a b) j) + x2 (ix3 (hi (row a b)) (lo (row a b)) j))
    (κ := fun j => j.val) (w := fun j => BitVec.ofNat 32 j.val) (fun j => toInt_word (by omega)) (fun j => by omega)
    (fun i j h => Fin.ext h) (isMax_fold _) (isMin_fold _)
  rw [← pick_at] at hpw
  have hbot : ∀ j : Fin 64, ¬ j.val < 50 → resv (k0_pay4 x0) (k0_pay5 x1) (ix2 (row a b) j) + x2 (ix3 (hi (row a b)) (lo (row a b)) j) = ⊥ := fun j hj => by
    rw [resv_at, if_neg hj, EReal.bot_add]
  have hp50 : p.val < 50 := by
    by_contra hn
    rcases hfirst (⟨0, by decide⟩ : Fin 64) with h | h | ⟨h, k⟩
    · rw [← h] at hn; exact hn (by decide)
    · exact absurd (lt_of_lt_of_eq h (hbot p hn)) not_lt_bot
    · exact absurd k (by simp)
  refine ⟨τ, ⟨p.val, hp50⟩, hg, fun j => ?_, ?_, ?_⟩
  · have hj := (hτ (j.castLE (by decide)) j.isLt).1
    have hpv := (hτ p hp50).1
    rcases hfirst (j.castLE (by decide)) with h | h
    · exact Or.inl (Fin.ext (show j.val = p.val from congrArg Fin.val h))
    · refine Or.inr ?_
      simp only [Before] at h ⊢
      rw [hi_row, lo_row, hj, hpv] at h
      exact h
  · rw [outF_at, hpw, Finset.sum_eq_single p (fun j _ hj => if_neg fun h => hj (Fin.ext ((word_inj (by omega) (by omega)).1 h))) (fun hp => absurd (Finset.mem_univ p) hp),
      if_pos rfl, (hτ p hp50).1]
  · rw [outI_at, hpw, fold_add_single _ p _ (fun j hj => if_neg fun h => hj (Fin.ext ((word_inj (by omega) (by omega)).1 h))), if_pos rfl, (hτ p hp50).2]

end

end Cert.KernelIdeal.Hand

end
-- ==== Proof.KEnd.lean ====
module

public import proofs.«01_k».proof.Proof.KArr
public import proofs.«01_k».proof.Proof.KVals
public import proofs.«01_k».proof.Proof.KHost
public import proofs.«01_k».proof.Proof.KBest

/-! The optimised program's three results, at coordinates. -/

@[expose] public section

noncomputable section

namespace Cert.KernelIdeal.Val

open Idealize.ShloMosaic Idealize.ShloMosaic.TcCoe Idealize.ShloMosaic.Pipeline Idealize.ShloMosaic.StableHlo Idealize.SL Idealize.SL.Sem
open Cert.KernelIdeal Cert.KernelIdeal.Gen Cert.KernelIdeal.Hand Cert.Pick Cert.Line Cert.Step

/-- The sum of two scores. -/
abbrev plus (a b : EReal) : EReal := a + b

/-- One place of the results: `t` lists the fifty best tokens of the beam, `p` the place the noise picks. -/
def Spot (x : FVec Ideal S2x32x4x100000 .f32) (y : FVec Ideal S32x4x5x2 .f32) (z : IVec S_ 32) (g : FVec Ideal S128x50 .f32)
    (k : Fin 2) (s : Fin 32) (b : Fin 4) (sc : EReal) (tok : BitVec 32) : Prop :=
  ∃ (t : ℕ → Fin 100000) (p : Fin 50), Greedy (fun n : Fin 100000 => x (ix4 k s b n)) (·.val) 50 t
    ∧ First (fun j : Fin 50 => x (ix4 k s b (t j.val)) + g (ix2 (flat s b) j)) p
    ∧ sc = plus (x (ix4 k s b (t p.val))) (y (ix4 s b (row z) k)) ∧ tok = BitVec.ofNat 32 (t p.val).val

variable (m : (ℓ : Loc nD τ sig) → Buf (Elt Ideal) ℓ) (c : Dev nD)

theorem row_final (r : Fin 64) (b : Fin 4) {x : Fin 100000 → EReal} (h0 : ∀ n, (V m c main_v0 : FVec Ideal S64x4x100000 .f32) (ix3 r b n) = x n)
    (hlow : ⊥ < low) (hx : ∀ n, low < x n) :
    ∃ (t : ℕ → Fin 100000) (p : Fin 50), Greedy x (·.val) 50 t
      ∧ First (fun j : Fin 50 => x (t j.val) + (V m c main_v16 : FVec Ideal S64x4x64 .f32) (ix3 r b (j.castLE (by decide)))) p
      ∧ ((dats m 0 c).arrAt 4 cfg0.N : FVec Ideal S64x4x1 .f32) (ix3 r b 0) = plus (x (t p.val)) ((V m c main_v24 : FVec Ideal S64x4x1 .f32) (ix3 r b 0))
      ∧ ((dats m 0 c).arrAt 5 cfg0.N : IVec S64x4x1 32) (ix3 r b 0) = BitVec.ofNat 32 (t p.val).val := by
  obtain ⟨t, p, hg, hf, h4, h5⟩ := row_outs (a := sub r) (b := b) (x0 := X0_0 m c (pt r)) (x1 := tailFill m c (pt r) anyTail)
    (x2 := iblk m c 2 (pt r)) (x3 := iblk m c 3 (pt r)) (x := x)
    (fun n h => (read_0 m c r b n h).trans (h0 _)) (fun l hl h => (read_1 m c r b l hl h).trans (h0 _)) hlow hx
  refine ⟨t, p, hg, ?_, ?_, ?_⟩
  · rw [show (fun j : Fin 50 => x (t j.val) + (V m c main_v16 : FVec Ideal S64x4x64 .f32) (ix3 r b (j.castLE (by decide)))) = _ from
      funext fun j => congrArg (x (t j.val) + ·) (read_2 m c r b (j.castLE (by decide))).symm]
    exact hf
  · exact (final_4 m c r b).trans (h4.trans (congrArg (plus (x (t p.val))) (read_3 m c r b)))
  · exact (final_5 m c r b).trans h5

theorem spots (hlow : ⊥ < low) (hx : ∀ k s b n, low < (m ((c : Thread nD τ).loc main_arg0) : FVec Ideal S2x32x4x100000 .f32) (ix4 k s b n))
    (s : Fin 32) (b : Fin 4) :
    Spot (m ((c : Thread nD τ).loc main_arg0)) (m ((c : Thread nD τ).loc main_arg1)) (m ((c : Thread nD τ).loc main_arg2)) (V m c main_v9) 0 s b
      (((dats m 0 c).arrAt 4 cfg0.N : FVec Ideal S64x4x1 .f32) (ix3 (rowOf 0 s) b 0)) (((dats m 0 c).arrAt 5 cfg0.N : IVec S64x4x1 32) (ix3 (rowOf 0 s) b 0))
    ∧ Spot (m ((c : Thread nD τ).loc main_arg0)) (m ((c : Thread nD τ).loc main_arg1)) (m ((c : Thread nD τ).loc main_arg2)) (V m c main_v11) 1 s b
      (((dats m 0 c).arrAt 4 cfg0.N : FVec Ideal S64x4x1 .f32) (ix3 (rowOf 1 s) b 0)) (((dats m 0 c).arrAt 5 cfg0.N : IVec S64x4x1 32) (ix3 (rowOf 1 s) b 0)) := by
  have e := pre_eqs m c
  have e0 := pre0 e.append.1
  have e' := e.append.2.append.2.append.2.append.2.append.2.append.2
  have e6 := pre67 e'.append.1 e'.append.2.append.1
  have e8 := pre8 e'.append.2.append.2
  have x0 : ∀ k n, (V m c main_v0 : FVec Ideal S64x4x100000 .f32) (ix3 (rowOf k s) b n)
      = (m ((c : Thread nD τ).loc main_arg0) : FVec Ideal S2x32x4x100000 .f32) (ix4 k s b n) := fun k n =>
    (e0.2.2 k s b n).trans (congrFun (V_main_arg0 m c) _)
  have y0 : ∀ k, (V m c main_v24 : FVec Ideal S64x4x1 .f32) (ix3 (rowOf k s) b 0)
      = (m ((c : Thread nD τ).loc main_arg1) : FVec Ideal S32x4x5x2 .f32) (ix4 s b (row (m ((c : Thread nD τ).loc main_arg2))) k) := fun k => by
    refine (e8.2 k s b).trans ?_
    rw [← V_main_arg1 m c, ← V_main_arg2 m c]
  constructor
  · obtain ⟨t, p, hg, hf, h4, h5⟩ := row_final m c (rowOf 0 s) b (x0 0) hlow (hx 0 s b)
    refine ⟨t, p, hg, ?_, ?_, h5⟩
    · rw [show (fun j : Fin 50 => plus ((m ((c : Thread nD τ).loc main_arg0) : FVec Ideal S2x32x4x100000 .f32) (ix4 0 s b (t j.val)))
          ((V m c main_v9 : FVec Ideal S128x50 .f32) (ix2 (flat s b) j))) = _ from
        funext fun j => congrArg (plus _) ((e8.1 0 s b (j.castLE (by decide))).trans (e6 (flat s b) j).1).symm]
      exact hf
    · rw [h4, y0]
  · obtain ⟨t, p, hg, hf, h4, h5⟩ := row_final m c (rowOf 1 s) b (x0 1) hlow (hx 1 s b)
    refine ⟨t, p, hg, ?_, ?_, h5⟩
    · rw [show (fun j : Fin 50 => plus ((m ((c : Thread nD τ).loc main_arg0) : FVec Ideal S2x32x4x100000 .f32) (ix4 1 s b (t j.val)))
          ((V m c main_v11 : FVec Ideal S128x50 .f32) (ix2 (flat s b) j))) = _ from
        funext fun j => congrArg (plus _) ((e8.1 1 s b (j.castLE (by decide))).trans (e6 (flat s b) j).2).symm]
      exact hf
    · rw [h4, y0]

theorem tail_late : ordered main_v26.idx.val (keys (listedT (F := Ideal)).io) = true := by sl_kernel_rfl

/-- The two arrays as the operations after the launch find them. -/
abbrev left : Valuation τ sig (Elt Ideal) := withArrays spec0 c (V0 m c) fun w => (dats m 0 c).arrAt w cfg0.N

theorem left_arr (w : Fin cfg0.W) : left m c (Proc.devRef .tc (Pipeline.arrRef spec0 w)) = (dats m 0 c).arrAt w cfg0.N :=
  Dat.withArrays_arrAt (dats m 0 c) (by decide) (V0 m c) (A_eq m c) w

theorem ends (s : Fin 32) (b : Fin 4) :
    (∀ k, (Pipeline.afterTail₀ cfgs (dats m) 0 (V0 m) [hostOps1] c main_v28 : FVec Ideal S32x4x2 .f32) (ix3 s b k)
        = ((dats m 0 c).arrAt 4 cfg0.N : FVec Ideal S64x4x1 .f32) (ix3 (rowOf k s) b 0))
    ∧ (∀ k, (Pipeline.afterTail₀ cfgs (dats m) 0 (V0 m) [hostOps1] c main_v29 : IVec S32x4x2 32) (ix3 s b k)
        = ((dats m 0 c).arrAt 5 cfg0.N : IVec S64x4x1 32) (ix3 (rowOf k s) b 0))
    ∧ (Pipeline.afterTail₀ cfgs (dats m) 0 (V0 m) [hostOps1] c main_v34 : IVec S32x4 32) (ix2 s b) = BitVec.ofNat 32 b.val := by
  have h := post (tail_eqs (left m c)) s b
  have k4 : StableHlo.after hostOps1 (left m c) (Proc.devRef .tc main_v25_0) = (dats m 0 c).arrAt 4 cfg0.N :=
    (after_kept listedT.ok main_v26.idx.val tail_late main_v25_0 (by decide) (left m c)).trans (left_arr m c 4)
  have k5 : StableHlo.after hostOps1 (left m c) (Proc.devRef .tc main_v25_1) = (dats m 0 c).arrAt 5 cfg0.N :=
    (after_kept listedT.ok main_v26.idx.val tail_late main_v25_1 (by decide) (left m c)).trans (left_arr m c 5)
  have hA : ∀ b, Pipeline.afterTail₀ cfgs (dats m) 0 (V0 m) [hostOps1] c b = StableHlo.after hostOps1 (left m c) (Proc.devRef .tc b) := fun b => by
    unfold Pipeline.afterTail₀
    rfl
  rw [hA, hA, hA]
  refine ⟨fun k => (h.1 k).trans (congrFun k4 _), fun k => (h.2.1 k).trans (congrFun k5 _), h.2.2⟩

end Cert.KernelIdeal.Val
-- ==== Proof.RAt.lean ====
module

public import proofs.«01_k».proof.Proof.Pick
public import proofs.«01_k».proof.Proof.KBest
public import proofs.«01_k».proof.Proof.RLine
public import Idealize.ShloMosaic.Lib.Pointwise

/-! The reference's operations read at one index: the gather along the last axis, the conjunction over
a size-one axis, the top fifty, and the first greatest of a row. -/

@[expose] public section

noncomputable section

namespace Cert.ReferenceIdeal.Hand

open Idealize.ShloMosaic Idealize.ShloMosaic.StableHlo Cert.Pick

/-- A conjunction of ones, from one, is one. -/
theorem all_ones {s t u : Shape} {axes : List (Fin s.rank)} {x : IVec s 1} {v : IVec u 1} {h : s.ReducesTo axes t} {hu : 0 < u.numel}
    (hx : ∀ i, x i = 1#1) (hv : v (Shape.Idx.first hu) = 1#1) (j : t.Idx) : Host.reduce IntOp.andi x v h hu j = 1#1 := by
  unfold Host.reduce
  rw [hv]
  generalize List.filter _ _ = l
  induction l with
  | nil => rfl
  | cons a l ih => rw [List.foldl_cons, hx]; exact ih

theorem gather3 {α : Type} (x : S32x4x50.Idx → α) (i : IVec S32x4x1x1 32) (s : Fin 32) (b : Fin 4) :
    Host.gather gather_S32x4x50_S32x4x1x1_S32x4x1_n_2_01_01_2_3_111 x i (ix3 s b 0)
      = x (ix3 s b ⟨min (i (ix4 s b 0 0)).toInt.toNat 49, by omega⟩) := by
  unfold Host.gather
  congr 1
  funext a
  refine Fin.ext ?_
  change GatherDims.start _ _ i a + GatherDims.batchCoord _ _ a + GatherDims.offCoord _ _ a = _
  have hk : a ∉ gather_S32x4x50_S32x4x1x1_S32x4x1_n_2_01_01_2_3_111.sKept := by revert a; decide
  rw [GatherDims.offCoord_eq_zero _ _ _ hk]
  match a with
  | ⟨0, _⟩ => rw [GatherDims.start_batching _ _ _ _ (show (0 : Fin 3) ∈ _ by decide)]; simp only [Nat.zero_add, Nat.add_zero]; rfl
  | ⟨1, _⟩ => rw [GatherDims.start_batching _ _ _ _ (show (1 : Fin 3) ∈ _ by decide)]; simp only [Nat.zero_add, Nat.add_zero]; rfl
  | ⟨2, _⟩ =>
    rw [GatherDims.batchCoord_eq_zero _ _ _ (show (2 : Fin 3) ∉ _ by decide)]
    simp only [Nat.add_zero]
    unfold GatherDims.start
    rw [dif_pos (show (⟨2, by decide⟩ : Fin 3) ∈ gather_S32x4x50_S32x4x1x1_S32x4x1_n_2_01_01_2_3_111.startIndexMap by decide)]
    have hs : ∀ c, gather_S32x4x50_S32x4x1x1_S32x4x1_n_2_01_01_2_3_111.siIdx (ix3 s b 0) c = ix4 s b 0 0 := by
      intro c; funext d; refine Fin.ext ?_
      match d with
      | ⟨0, _⟩ => rfl
      | ⟨1, _⟩ => rfl
      | ⟨2, _⟩ => rfl
      | ⟨3, _⟩ => have : c.val < 1 := c.isLt
                  show c.val = 0
                  omega
    rw [hs]; rfl

theorem gather2 {α : Type} (x : S32x4.Idx → α) (i : IVec S32x4x1 32) (s : Fin 32) (b : Fin 4) :
    Host.gather gather_S32x4_S32x4x1_S32x4_n_1_0_0_1_2_11 x i (ix2 s b) = x (ix2 s ⟨min (i (ix3 s b 0)).toInt.toNat 3, by omega⟩) := by
  unfold Host.gather
  congr 1
  funext a
  refine Fin.ext ?_
  change GatherDims.start _ _ i a + GatherDims.batchCoord _ _ a + GatherDims.offCoord _ _ a = _
  have hk : a ∉ gather_S32x4_S32x4x1_S32x4_n_1_0_0_1_2_11.sKept := by revert a; decide
  rw [GatherDims.offCoord_eq_zero _ _ _ hk]
  match a with
  | ⟨0, _⟩ => rw [GatherDims.start_batching _ _ _ _ (show (0 : Fin 2) ∈ _ by decide)]; simp only [Nat.zero_add, Nat.add_zero]; rfl
  | ⟨1, _⟩ =>
    rw [GatherDims.batchCoord_eq_zero _ _ _ (show (1 : Fin 2) ∉ _ by decide)]
    simp only [Nat.add_zero]
    unfold GatherDims.start
    rw [dif_pos (show (⟨1, by decide⟩ : Fin 2) ∈ gather_S32x4_S32x4x1_S32x4_n_1_0_0_1_2_11.startIndexMap by decide)]
    have hs : ∀ c, gather_S32x4_S32x4x1_S32x4_n_1_0_0_1_2_11.siIdx (ix2 s b) c = ix3 s b 0 := by
      intro c; funext d; refine Fin.ext ?_
      match d with
      | ⟨0, _⟩ => rfl
      | ⟨1, _⟩ => rfl
      | ⟨2, _⟩ => have : c.val < 1 := c.isLt
                  show c.val = 0
                  omega
    rw [hs]; rfl

/-- The words 0 … n of an index, read signed. -/
theorem word_toInt {n : ℕ} (h : n < 2147483648) : (BitVec.ofNat 32 n).toInt = n := by
  rw [BitVec.toInt_eq_toNat_of_lt] <;> rw [BitVec.toNat_ofNat, Nat.mod_eq_of_lt] <;> omega

/-- The fifty greatest of a row, as the greedy order lists them. -/
theorem topK_vals (x : FVec Ideal S32x4x100000 .f32) (s : Fin 32) (b : Fin 4) {τ : ℕ → Fin 100000} (hf : S32x4x100000.Slices (fun _ => 0) S32x4x50)
    (h : Greedy (fun n : Fin 100000 => x (ix3 s b n)) (·.val) 50 τ) (j : Fin 50) :
    (Host.topK S32x4x50 2 (FloatOps.cmpfTotal .gt) x hf).1 (ix3 s b j) = x (ix3 s b (τ j.val))
    ∧ (Host.topK S32x4x50 2 (FloatOps.cmpfTotal .gt) x hf).2 (ix3 s b j) = BitVec.ofNat 32 (τ j.val).val := by
  have hj : 50 ≤ 100000 := by omega
  have key := sortedFrom_of_greedy (k := 50) (N := 100000) hj h
    (fun k k' => FloatOps.cmpfTotal (F := Ideal) (φ := .f32) .gt (x (ix3 s b k)) (x (ix3 s b k')) == 1#1)
    (fun k k' => by
      show (Ideal.cmp .ogt (x (ix3 s b k)) (x (ix3 s b k')) == 1#1) = _
      by_cases hc : x (ix3 s b k') < x (ix3 s b k) <;> simp [Ideal.cmp, hc]) j
  have al : ∀ k : Fin 100000, (ix3 s b (j.castLE hj) : S32x4x100000.Idx).along 2 k = ix3 s b k := by
    intro k; funext a
    match a with
    | ⟨0, _⟩ => rfl
    | ⟨1, _⟩ => rfl
    | ⟨2, _⟩ => rfl
  have sl : extractStridedSlice (s := S32x4x100000) S32x4x50 (fun _ => 0) (fun i => i) hf (ix3 s b j) = ix3 s b (j.castLE hj) := by
    funext a
    match a with
    | ⟨0, _⟩ => exact Fin.ext (Nat.zero_add _)
    | ⟨1, _⟩ => exact Fin.ext (Nat.zero_add _)
    | ⟨2, _⟩ => exact Fin.ext (Nat.zero_add _)
  have slx : ∀ {α : Type} (y : S32x4x100000.Idx → α),
      extractStridedSlice S32x4x50 (fun _ => 0) y hf (ix3 s b j) = y (ix3 s b (j.castLE hj)) := fun y => congrArg y sl
  have hi : (fun i : S32x4x100000.Idx => if hd : 2 < S32x4x100000.rank then iotaInDim S32x4x100000 32 ⟨2, hd⟩ i else 0#32)
      = iotaInDim S32x4x100000 32 2 := funext fun i => dif_pos (by decide)
  unfold Host.topK
  simp only [slx]
  rw [hi]
  unfold Host.sort2
  rw [dif_pos (by decide)]
  have hπ : sortedFrom (n := 100000) (fun k k' : Fin 100000 => FloatOps.cmpfTotal (F := Ideal) (φ := .f32) .gt
        (x ((ix3 s b (j.castLE hj) : S32x4x100000.Idx).along 2 k)) (x ((ix3 s b (j.castLE hj) : S32x4x100000.Idx).along 2 k')) == 1#1)
      (j.castLE hj) = τ j.val := by
    rw [← key]
    refine congrArg (fun B => sortedFrom (n := 100000) B (j.castLE hj)) ?_
    funext k k'
    rw [al, al]
  have hπ' := (congrArg (fun k => (ix3 s b (j.castLE hj) : S32x4x100000.Idx).along 2 k) hπ).trans (al _)
  refine ⟨congrArg x hπ', ?_⟩
  have io : ∀ i : S32x4x100000.Idx, iotaInDim S32x4x100000 32 2 i = BitVec.ofNat 32 (i 2).val := fun i => rfl
  refine Eq.trans (io _) ?_
  exact congrArg (fun i : S32x4x100000.Idx => BitVec.ofNat 32 (i 2).val) hπ'

/-- Of two pairs of a value and an index, the first stands before the second. -/
def Better (a b : EReal × BitVec 32) : Prop := b.1 < a.1 ∨ (a.1 = b.1 ∧ a.2.slt b.2 = true)

theorem Better.trans {a b c : EReal × BitVec 32} (h : Better a b) (k : Better b c) : Better a c := by
  unfold Better at *
  rw [BitVec.slt_iff_toInt_lt] at *
  rcases h with h | ⟨h, h'⟩ <;> rcases k with k | ⟨k, k'⟩
  · exact .inl (k.trans h)
  · exact .inl (k ▸ h)
  · exact .inl (h ▸ k)
  · exact .inr ⟨h.trans k, h'.trans k'⟩

theorem Better.total (a b : EReal × BitVec 32) : a = b ∨ Better a b ∨ Better b a := by
  unfold Better
  rw [BitVec.slt_iff_toInt_lt, BitVec.slt_iff_toInt_lt]
  rcases lt_trichotomy a.1 b.1 with h | h | h
  · exact .inr (.inr (.inl h))
  · rcases lt_trichotomy a.2.toInt b.2.toInt with k | k | k
    · exact .inr (.inl (.inr ⟨h, k⟩))
    · exact .inl (Prod.ext h (BitVec.eq_of_toInt_eq k))
    · exact .inr (.inr (.inr ⟨h.symm, k⟩))
  · exact .inr (.inl (.inl h))

theorem reducer_eq (a b : Ideal .f32 × BitVec 32) :
    (Better a b → reducer_argmax_f32_i32 (F := Ideal) a b = a) ∧ (¬ Better a b → reducer_argmax_f32_i32 (F := Ideal) a b = b) := by
  obtain ⟨a1, a2⟩ := a
  obtain ⟨b1, b2⟩ := b
  have e1 : FloatOps.cmpf (F := Ideal) (φ := .f32) .ogt a1 b1 = BitVec.ofBool (decide ((b1 : EReal) < a1)) := rfl
  have e2 : FloatOps.cmpf (F := Ideal) (φ := .f32) .une a1 a1 = BitVec.ofBool (decide ((a1 : EReal) ≠ a1)) := rfl
  have e3 : FloatOps.cmpf (F := Ideal) (φ := .f32) .oeq a1 b1 = BitVec.ofBool (decide ((a1 : EReal) = b1)) := rfl
  have e4 : IntOp.cmpi .slt a2 b2 = BitVec.ofBool (a2.slt b2) := rfl
  unfold Better reducer_argmax_f32_i32
  simp only [e1, e2, e3, e4]
  by_cases h1 : (b1 : EReal) < a1
  · have one : ∀ y : BitVec 1, 1#1 ||| y = 1#1 := by decide
    simp [h1, IntOp.ori, IntOp.andi, Scalar.select, one]
  by_cases h2 : (a1 : EReal) = b1
  · subst h2
    cases h3 : a2.slt b2 <;> simp [IntOp.ori, IntOp.andi, Scalar.select]
  · simp [h1, h2, IntOp.ori, IntOp.andi, Scalar.select]

theorem fold_best (l : List (Ideal .f32 × BitVec 32)) (i : Ideal .f32 × BitVec 32) :
    l.foldl (reducer_argmax_f32_i32 (F := Ideal)) i ∈ i :: l
    ∧ ∀ q ∈ i :: l, q = l.foldl (reducer_argmax_f32_i32 (F := Ideal)) i ∨ Better (l.foldl (reducer_argmax_f32_i32 (F := Ideal)) i) q := by
  induction l generalizing i with
  | nil => simp
  | cons a l ih =>
    rw [List.foldl_cons]
    obtain ⟨h1, h2⟩ := ih (reducer_argmax_f32_i32 (F := Ideal) i a)
    set r := l.foldl (reducer_argmax_f32_i32 (F := Ideal)) (reducer_argmax_f32_i32 (F := Ideal) i a)
    have hs := h2 _ List.mem_cons_self
    by_cases hb : Better i a
    · rw [(reducer_eq i a).1 hb] at h1 h2 hs
      refine ⟨by rcases List.mem_cons.1 h1 with h | h <;> simp [h], fun q hq => ?_⟩
      rcases List.mem_cons.1 hq with rfl | hq
      · exact hs
      rcases List.mem_cons.1 hq with rfl | hq
      · rcases hs with hs | hs
        · exact .inr (hs ▸ hb)
        · exact .inr (hs.trans hb)
      · exact h2 q (List.mem_cons_of_mem _ hq)
    · rw [(reducer_eq i a).2 hb] at h1 h2 hs
      refine ⟨List.mem_cons_of_mem _ h1, fun q hq => ?_⟩
      rcases List.mem_cons.1 hq with rfl | hq
      · rcases Better.total q a with h | h | h
        · exact h ▸ hs
        · exact absurd h hb
        · rcases hs with hs | hs
          · exact .inr (hs ▸ h)
          · exact .inr (hs.trans h)
      · exact h2 q hq

/-- The index of the first greatest entry of a row. -/
theorem argmax_row (x : FVec Ideal S128x50 .f32) (r : Fin 128) (hr : S128x50.ReducesTo [1] S128) (hu : 0 < S_.numel) {p : Fin 50} (hp : First (fun l : Fin 50 => x (ix2 r l)) p) :
    (Host.argReduce (reducer_argmax_f32_i32 (F := Ideal)) x (iotaInDim S128x50 32 1) (constant S_ .f32 0xFF800000#32) (constantI S_ 32 0#32)
      hr hu (ix1 r)).2 = BitVec.ofNat 32 p.val := by
  rw [Host.argReduce_eq_reduce2_of_une_irrefl (fun v => by show Ideal.cmp .une v v ≠ 1#1; simp [Ideal.cmp]), Host.reduce2_eq_foldl_fiber]
  have hm : ∀ q : Ideal .f32 × BitVec 32, q ∈ Host.argReduceFiber x (iotaInDim S128x50 32 1) hr (ix1 r)
      ↔ ∃ l : Fin 50, q = (x (ix2 r l), BitVec.ofNat 32 l.val) := by
    intro q
    simp only [Host.argReduceFiber, List.mem_map, List.mem_filter, List.mem_finRange, true_and, decide_eq_true_eq]
    have hd : ∀ i : S128x50.Idx, hr.drop i = ix1 r ↔ i 0 = r := by
      intro i
      constructor
      · intro h
        have := congrFun h 0
        exact Fin.ext (congrArg Fin.val this)
      · rintro rfl
        funext a
        obtain rfl : a = 0 := Subsingleton.elim _ _
        exact Fin.ext rfl
    constructor
    · rintro ⟨n, hn, rfl⟩
      have h0 := (hd _).1 hn
      refine ⟨S128x50.rowMajor.symm n 1, ?_⟩
      have : S128x50.rowMajor.symm n = ix2 r (S128x50.rowMajor.symm n 1) := by
        funext a
        match a with
        | ⟨0, _⟩ => exact h0
        | ⟨1, _⟩ => rfl
      exact Prod.ext (congrArg x this) rfl
    · rintro ⟨l, rfl⟩
      refine ⟨S128x50.rowMajor (ix2 r l), ?_, ?_⟩
      · rw [Equiv.symm_apply_apply]; exact (hd _).2 rfl
      · rw [Equiv.symm_apply_apply]; rfl
  obtain ⟨h1, h2⟩ := fold_best (Host.argReduceFiber x (iotaInDim S128x50 32 1) hr (ix1 r))
    ((constant S_ .f32 0xFF800000#32 : FVec Ideal S_ .f32) (Shape.Idx.first hu), (constantI S_ 32 0#32) (Shape.Idx.first hu))
  generalize List.foldl _ _ _ = z at h1 h2 ⊢
  have hb : (constant S_ .f32 0xFF800000#32 : FVec Ideal S_ .f32) (Shape.Idx.first hu) = (⊥ : EReal) := Cert.KernelIdeal.Hand.bot_bits
  obtain ⟨l, hl⟩ : ∃ l : Fin 50, z = (x (ix2 r l), BitVec.ofNat 32 l.val) := by
    rcases List.mem_cons.1 h1 with h | h
    · refine ⟨0, ?_⟩
      rcases h2 _ (List.mem_cons_of_mem _ ((hm _).2 ⟨0, rfl⟩)) with k | k
      · exact k.symm
      · exfalso
        rw [h] at k
        rcases k with k | ⟨_, k⟩
        · exact absurd (lt_of_lt_of_eq k hb) not_lt_bot
        · exact absurd (show (0#32 : BitVec 32).slt 0#32 = true from k) (by decide)
    · exact (hm _).1 h
  have hz : First (fun l : Fin 50 => x (ix2 r l)) l := by
    intro j
    rcases h2 _ (List.mem_cons_of_mem _ ((hm _).2 ⟨j, rfl⟩)) with k | k
    · left
      have := congrArg BitVec.toNat (congrArg Prod.snd (k.trans hl))
      simp only [BitVec.toNat_ofNat] at this
      omega
    · right
      rw [hl] at k
      rcases k with k | ⟨k, k'⟩
      · exact .inl k
      · refine .inr ⟨k.symm, ?_⟩
        rw [BitVec.slt_iff_toInt_lt, word_toInt (by omega), word_toInt (by omega)] at k'
        exact_mod_cast k'
  rw [hl, hp.unique hz]

end Cert.ReferenceIdeal.Hand
-- ==== Proof.RCall.lean ====
module

public import proofs.«01_k».proof.Proof.Eqn2
public import proofs.«01_k».proof.Proof.RFrame
public import proofs.«01_k».proof.Proof.RAt

/-! The reference's called functions' results, read at one index. -/

@[expose] public section

noncomputable section

namespace Cert.ReferenceIdeal.Hand

open Idealize.ShloMosaic Idealize.ShloMosaic.StableHlo Idealize.SL.Sem Cert.Line Cert.Pick

variable {W : Valuation τ sig (Elt Ideal)}

/-- A non-negative index is not wrapped. -/
theorem wrap_small {n : ℕ} (h : n < 2147483648) {i : BitVec 32} (hi : i = BitVec.ofNat 32 n) (z : BitVec 32) :
    Scalar.select (IntOp.cmpi .slt i 0#32) z i = BitVec.ofNat 32 n := by
  subst hi
  have : IntOp.cmpi .slt (BitVec.ofNat 32 n) 0#32 = 0#1 := by
    show BitVec.ofBool ((BitVec.ofNat 32 n).slt 0#32) = _
    have : (BitVec.ofNat 32 n).slt 0#32 = false := by
      rw [← Bool.not_eq_true, BitVec.slt_iff_toInt_lt, word_toInt h]; simp
    rw [this]; rfl
  rw [this]; rfl

/-- An index between the bounds passes both tests. -/
theorem in_range {n m : ℕ} (h : n < 2147483648) (hm : m < 2147483648) (hn : n ≤ m) {i : BitVec 32} (hi : i = BitVec.ofNat 32 n) :
    IntOp.andi (IntOp.cmpi .sge i 0#32) (IntOp.cmpi .sle i (BitVec.ofNat 32 m)) = 1#1 := by
  subst hi
  have h1 : IntOp.cmpi .sge (BitVec.ofNat 32 n) 0#32 = 1#1 := by
    show BitVec.ofBool ((0#32 : BitVec 32).sle (BitVec.ofNat 32 n)) = _
    have : (0#32 : BitVec 32).sle (BitVec.ofNat 32 n) = true := by
      rw [BitVec.sle_iff_toInt_le, word_toInt h]; simp
    rw [this]; rfl
  have h2 : IntOp.cmpi .sle (BitVec.ofNat 32 n) (BitVec.ofNat 32 m) = 1#1 := by
    show BitVec.ofBool ((BitVec.ofNat 32 n).sle (BitVec.ofNat 32 m)) = _
    have : (BitVec.ofNat 32 n).sle (BitVec.ofNat 32 m) = true := by
      rw [BitVec.sle_iff_toInt_le, word_toInt h, word_toInt hm]; exact_mod_cast hn
    rw [this]; rfl
  rw [h1, h2]; rfl

theorem select_one {s : Shape} {α : Type} {c : IVec s 1} {x y : s.Idx → α} {i : s.Idx} (h : c i = 1#1) : select c x y i = x i := by
  show Scalar.select (c i) (x i) (y i) = _
  rw [h]; rfl

theorem argmax_val {a0 : TRef sig ⟨S128x50, .f32⟩} {φ : fn_argmax.Bufs} (h : Eqs (fn_argmax_line a0 φ).ops W) (r : Fin 128) {p : Fin 50}
    (hp : First (fun l : Fin 50 => (val W a0 : FVec Ideal S128x50 .f32) (ix2 r l)) p) :
    (val W φ.v1_1 : IVec S128 32) (ix1 r) = BitVec.ofNat 32 p.val := by
  delta fn_argmax_line at h
  obtain ⟨e_v0, h⟩ := tN h
  obtain ⟨e_cst, h⟩ := tN h
  obtain ⟨e_c, h⟩ := tN h
  obtain ⟨e_v1_0, h⟩ := gQ h
  obtain ⟨e_v1_1, h⟩ := gQ h

  rw [e_v1_1]
  repeat rw [TRef.ofBuf_toBuf]
  rw [e_v0, e_cst, e_c]
  exact argmax_row _ r _ _ hp

theorem take_val {a0 : TRef sig ⟨S32x4x50, .f32⟩} {a1 : TRef sig ⟨S32x4x1, .i32⟩} {φ : fn_take_along_axis.Bufs}
    (h : Eqs (fn_take_along_axis_line a0 a1 φ).ops W) (P : Fin 32 → Fin 4 → Fin 50)
    (hP : ∀ s b, (val W a1 : IVec S32x4x1 32) (ix3 s b 0) = BitVec.ofNat 32 (P s b).val) (s : Fin 32) (b : Fin 4) :
    (val W φ.v15 : FVec Ideal S32x4x1 .f32) (ix3 s b 0) = (val W a0 : FVec Ideal S32x4x50 .f32) (ix3 s b (P s b)) := by
  delta fn_take_along_axis_line at h
  obtain ⟨e_c, h⟩ := tN h
  obtain ⟨e_v0, h⟩ := gU h
  obtain ⟨e_v1, h⟩ := gB h
  obtain ⟨e_c_0, h⟩ := tN h
  obtain ⟨e_v2, h⟩ := gU h
  obtain ⟨e_v3, h⟩ := gB h
  obtain ⟨e_v4, h⟩ := gT h
  obtain ⟨e_v5, h⟩ := tR h
  obtain ⟨e_c_1, h⟩ := tN h
  obtain ⟨e_c_2, h⟩ := tN h
  obtain ⟨e_v6, h⟩ := gU h
  obtain ⟨e_v7, h⟩ := gB h
  obtain ⟨e_v8, h⟩ := gU h
  obtain ⟨e_v9, h⟩ := gU h
  obtain ⟨e_v10, h⟩ := gB h
  obtain ⟨e_v11, h⟩ := gB h
  obtain ⟨e_c_3, h⟩ := tN h
  obtain ⟨e_v12, h⟩ := gB h
  obtain ⟨e_v13, h⟩ := gB h
  obtain ⟨e_cst, h⟩ := tN h
  obtain ⟨e_v14, h⟩ := gU h
  obtain ⟨e_v15, h⟩ := gT h

  have hv4 : ∀ s b, (val W φ.v4 : IVec S32x4x1 32) (ix3 s b 0) = BitVec.ofNat 32 (P s b).val := by
    intro s b
    rw [e_v4]
    repeat rw [TRef.ofBuf_toBuf]
    rw [e_v1]
    repeat rw [TRef.ofBuf_toBuf]
    rw [e_v0]
    repeat rw [TRef.ofBuf_toBuf]
    rw [e_c]
    exact (wrap_small (by omega) (hP s b) _)
  have hv5 : ∀ s b, (val W φ.v5 : IVec S32x4x1x1 32) (ix4 s b 0 0) = BitVec.ofNat 32 (P s b).val := by
    intro s b
    rw [e_v5, ← hv4 s b]
    pointwise
  have hv12 : ∀ i, (val W φ.v12 : IVec S32x4x1 1) i = 1#1 := by
    rw [e_v12]
    repeat rw [TRef.ofBuf_toBuf]
    rw [e_c_3]
    refine all_ones (fun i => ?_) rfl
    rw [e_v11]
    repeat rw [TRef.ofBuf_toBuf]
    rw [e_v7, e_v10]
    repeat rw [TRef.ofBuf_toBuf]
    rw [e_v6, e_v9]
    repeat rw [TRef.ofBuf_toBuf]
    rw [e_v8]
    repeat rw [TRef.ofBuf_toBuf]
    rw [e_c_1, e_c_2]
    have hi : i = ix4 (i 0) (i 1) 0 0 := by
      funext a
      match a with
      | ⟨0, _⟩ => rfl
      | ⟨1, _⟩ => rfl
      | ⟨2, _⟩ => exact Subsingleton.elim (α := Fin 1) _ _
      | ⟨3, _⟩ => exact Subsingleton.elim (α := Fin 1) _ _
    exact in_range (n := (P (i 0) (i 1)).val) (m := 49) (by omega) (by omega) (by omega) (hi ▸ hv5 (i 0) (i 1))
  rw [e_v15]
  repeat rw [TRef.ofBuf_toBuf]
  refine (select_one (hv12 _)).trans ?_
  rw [e_v13]
  repeat rw [TRef.ofBuf_toBuf]
  rw [gather3]
  refine congrArg _ (congrArg (ix3 s b) (Fin.ext ?_))
  show min ((val W φ.v5 : IVec S32x4x1x1 32) (ix4 s b 0 0)).toInt.toNat 49 = _
  rw [hv5, word_toInt (by omega)]
  omega

theorem take_1_val {a0 : TRef sig ⟨S32x4x50, .i32⟩} {a1 : TRef sig ⟨S32x4x1, .i32⟩} {φ : fn_take_along_axis_1.Bufs}
    (h : Eqs (fn_take_along_axis_1_line a0 a1 φ).ops W) (P : Fin 32 → Fin 4 → Fin 50)
    (hP : ∀ s b, (val W a1 : IVec S32x4x1 32) (ix3 s b 0) = BitVec.ofNat 32 (P s b).val) (s : Fin 32) (b : Fin 4) :
    (val W φ.v15 : IVec S32x4x1 32) (ix3 s b 0) = (val W a0 : IVec S32x4x50 32) (ix3 s b (P s b)) := by
  delta fn_take_along_axis_1_line at h
  obtain ⟨e_c, h⟩ := tN h
  obtain ⟨e_v0, h⟩ := gU h
  obtain ⟨e_v1, h⟩ := gB h
  obtain ⟨e_c_0, h⟩ := tN h
  obtain ⟨e_v2, h⟩ := gU h
  obtain ⟨e_v3, h⟩ := gB h
  obtain ⟨e_v4, h⟩ := gT h
  obtain ⟨e_v5, h⟩ := tR h
  obtain ⟨e_c_1, h⟩ := tN h
  obtain ⟨e_c_2, h⟩ := tN h
  obtain ⟨e_v6, h⟩ := gU h
  obtain ⟨e_v7, h⟩ := gB h
  obtain ⟨e_v8, h⟩ := gU h
  obtain ⟨e_v9, h⟩ := gU h
  obtain ⟨e_v10, h⟩ := gB h
  obtain ⟨e_v11, h⟩ := gB h
  obtain ⟨e_c_3, h⟩ := tN h
  obtain ⟨e_v12, h⟩ := gB h
  obtain ⟨e_v13, h⟩ := gB h
  obtain ⟨e_c_4, h⟩ := tN h
  obtain ⟨e_v14, h⟩ := gU h
  obtain ⟨e_v15, h⟩ := gT h

  have hv4 : ∀ s b, (val W φ.v4 : IVec S32x4x1 32) (ix3 s b 0) = BitVec.ofNat 32 (P s b).val := by
    intro s b
    rw [e_v4]
    repeat rw [TRef.ofBuf_toBuf]
    rw [e_v1]
    repeat rw [TRef.ofBuf_toBuf]
    rw [e_v0]
    repeat rw [TRef.ofBuf_toBuf]
    rw [e_c]
    exact (wrap_small (by omega) (hP s b) _)
  have hv5 : ∀ s b, (val W φ.v5 : IVec S32x4x1x1 32) (ix4 s b 0 0) = BitVec.ofNat 32 (P s b).val := by
    intro s b
    rw [e_v5, ← hv4 s b]
    pointwise
  have hv12 : ∀ i, (val W φ.v12 : IVec S32x4x1 1) i = 1#1 := by
    rw [e_v12]
    repeat rw [TRef.ofBuf_toBuf]
    rw [e_c_3]
    refine all_ones (fun i => ?_) rfl
    rw [e_v11]
    repeat rw [TRef.ofBuf_toBuf]
    rw [e_v7, e_v10]
    repeat rw [TRef.ofBuf_toBuf]
    rw [e_v6, e_v9]
    repeat rw [TRef.ofBuf_toBuf]
    rw [e_v8]
    repeat rw [TRef.ofBuf_toBuf]
    rw [e_c_1, e_c_2]
    have hi : i = ix4 (i 0) (i 1) 0 0 := by
      funext a
      match a with
      | ⟨0, _⟩ => rfl
      | ⟨1, _⟩ => rfl
      | ⟨2, _⟩ => exact Subsingleton.elim (α := Fin 1) _ _
      | ⟨3, _⟩ => exact Subsingleton.elim (α := Fin 1) _ _
    exact in_range (n := (P (i 0) (i 1)).val) (m := 49) (by omega) (by omega) (by omega) (hi ▸ hv5 (i 0) (i 1))
  rw [e_v15]
  repeat rw [TRef.ofBuf_toBuf]
  refine (select_one (hv12 _)).trans ?_
  rw [e_v13]
  repeat rw [TRef.ofBuf_toBuf]
  rw [gather3]
  refine congrArg _ (congrArg (ix3 s b) (Fin.ext ?_))
  show min ((val W φ.v5 : IVec S32x4x1x1 32) (ix4 s b 0 0)).toInt.toNat 49 = _
  rw [hv5, word_toInt (by omega)]
  omega

theorem take_2_val {a0 : TRef sig ⟨S32x4, .f32⟩} {a1 : TRef sig ⟨S32x4, .i32⟩} {φ : fn_take_along_axis_2.Bufs}
    (h : Eqs (fn_take_along_axis_2_line a0 a1 φ).ops W) (P : Fin 32 → Fin 4 → Fin 4)
    (hP : ∀ s b, (val W a1 : IVec S32x4 32) (ix2 s b) = BitVec.ofNat 32 (P s b).val) (s : Fin 32) (b : Fin 4) :
    (val W φ.v15 : FVec Ideal S32x4 .f32) (ix2 s b) = (val W a0 : FVec Ideal S32x4 .f32) (ix2 s (P s b)) := by
  delta fn_take_along_axis_2_line at h
  obtain ⟨e_c, h⟩ := tN h
  obtain ⟨e_v0, h⟩ := gU h
  obtain ⟨e_v1, h⟩ := gB h
  obtain ⟨e_c_0, h⟩ := tN h
  obtain ⟨e_v2, h⟩ := gU h
  obtain ⟨e_v3, h⟩ := gB h
  obtain ⟨e_v4, h⟩ := gT h
  obtain ⟨e_v5, h⟩ := tR h
  obtain ⟨e_c_1, h⟩ := tN h
  obtain ⟨e_c_2, h⟩ := tN h
  obtain ⟨e_v6, h⟩ := gU h
  obtain ⟨e_v7, h⟩ := gB h
  obtain ⟨e_v8, h⟩ := gU h
  obtain ⟨e_v9, h⟩ := gU h
  obtain ⟨e_v10, h⟩ := gB h
  obtain ⟨e_v11, h⟩ := gB h
  obtain ⟨e_c_3, h⟩ := tN h
  obtain ⟨e_v12, h⟩ := gB h
  obtain ⟨e_v13, h⟩ := gB h
  obtain ⟨e_cst, h⟩ := tN h
  obtain ⟨e_v14, h⟩ := gU h
  obtain ⟨e_v15, h⟩ := gT h

  have hv4 : ∀ s b, (val W φ.v4 : IVec S32x4 32) (ix2 s b) = BitVec.ofNat 32 (P s b).val := by
    intro s b
    rw [e_v4]
    repeat rw [TRef.ofBuf_toBuf]
    rw [e_v1]
    repeat rw [TRef.ofBuf_toBuf]
    rw [e_v0]
    repeat rw [TRef.ofBuf_toBuf]
    rw [e_c]
    exact (wrap_small (by omega) (hP s b) _)
  have hv5 : ∀ s b, (val W φ.v5 : IVec S32x4x1 32) (ix3 s b 0) = BitVec.ofNat 32 (P s b).val := by
    intro s b
    rw [e_v5, ← hv4 s b]
    pointwise
  have hv12 : ∀ i, (val W φ.v12 : IVec S32x4 1) i = 1#1 := by
    rw [e_v12]
    repeat rw [TRef.ofBuf_toBuf]
    rw [e_c_3]
    refine all_ones (fun i => ?_) rfl
    rw [e_v11]
    repeat rw [TRef.ofBuf_toBuf]
    rw [e_v7, e_v10]
    repeat rw [TRef.ofBuf_toBuf]
    rw [e_v6, e_v9]
    repeat rw [TRef.ofBuf_toBuf]
    rw [e_v8]
    repeat rw [TRef.ofBuf_toBuf]
    rw [e_c_1, e_c_2]
    have hi : i = ix3 (i 0) (i 1) 0 := by
      funext a
      match a with
      | ⟨0, _⟩ => rfl
      | ⟨1, _⟩ => rfl
      | ⟨2, _⟩ => exact Subsingleton.elim (α := Fin 1) _ _
    exact in_range (n := (P (i 0) (i 1)).val) (m := 3) (by omega) (by omega) (by omega) (hi ▸ hv5 (i 0) (i 1))
  rw [e_v15]
  repeat rw [TRef.ofBuf_toBuf]
  refine (select_one (hv12 _)).trans ?_
  rw [e_v13]
  repeat rw [TRef.ofBuf_toBuf]
  rw [gather2]
  refine congrArg _ (congrArg (ix2 s) (Fin.ext ?_))
  show min ((val W φ.v5 : IVec S32x4x1 32) (ix3 s b 0)).toInt.toNat 3 = _
  rw [hv5, word_toInt (by omega)]
  omega

end Cert.ReferenceIdeal.Hand
-- ==== Proof.RChan.lean ====
module

public import proofs.«01_k».proof.Proof.RCall
public import proofs.«01_k».proof.Proof.Slice

/-! One channel of the reference, from its own arrays: the score and the token it picks. -/

@[expose] public section

noncomputable section

namespace Cert.ReferenceIdeal.Hand

open Idealize.ShloMosaic Idealize.ShloMosaic.StableHlo Cert.Pick

theorem log_exp (x : EReal) : Ideal.log (Ideal.exp x) = x := by
  induction x with
  | bot => rw [Ideal.exp_bot, ← EReal.coe_zero, Ideal.log_coe, if_pos le_rfl]
  | top => simp
  | coe r => rw [Ideal.exp_coe, Ideal.log_coe, if_neg (not_le.2 (Real.exp_pos r)), Real.log_exp]

/-- Row `(s, b)` of the thirty-two by four. -/
abbrev flat (s : Fin 32) (b : Fin 4) : Fin 128 := ⟨4 * s.val + b.val, by omega⟩

theorem channel_at {x : FVec Ideal S32x4x100000 .f32} {vals e : FVec Ideal S32x4x50 .f32} {inds : IVec S32x4x50 32}
    {g vf sm : FVec Ideal S128x50 .f32} {am : IVec S128 32} {bw : IVec S32x4 32} {b1 b2 : IVec S32x4x1 32} {t l : FVec Ideal S32x4x1 .f32}
    {sc : FVec Ideal S32x4 .f32} {ti : IVec S32x4x1 32} {tok : IVec S32x4 32} {hf c1 c2 c3 c4 d1 d2}
    (hvals : vals = (Host.topK S32x4x50 2 (FloatOps.cmpfTotal .gt) x hf).1)
    (hinds : inds = (Host.topK S32x4x50 2 (FloatOps.cmpfTotal .gt) x hf).2)
    (he : e = Host.exp vals) (hvf : vf = shapeCast S128x50 vals c1) (hsm : sm = addf g vf)
    (ham : ∀ r (p : Fin 50), First (fun l : Fin 50 => sm (ix2 r l)) p → am (ix1 r) = BitVec.ofNat 32 p.val)
    (hbw : bw = shapeCast S32x4 am c2) (hb1 : b1 = broadcastInDim S32x4x1 ![0, 1] d1 bw)
    (ht : ∀ P : Fin 32 → Fin 4 → Fin 50, (∀ s b, b1 (ix3 s b 0) = BitVec.ofNat 32 (P s b).val) → ∀ s b, t (ix3 s b 0) = e (ix3 s b (P s b)))
    (hl : l = Host.log t) (hsc : sc = shapeCast S32x4 l c3) (hb2 : b2 = broadcastInDim S32x4x1 ![0, 1] d2 bw)
    (hti : ∀ P : Fin 32 → Fin 4 → Fin 50, (∀ s b, b2 (ix3 s b 0) = BitVec.ofNat 32 (P s b).val) → ∀ s b, ti (ix3 s b 0) = inds (ix3 s b (P s b)))
    (htok : tok = shapeCast S32x4 ti c4)
    (τ : Fin 32 → Fin 4 → ℕ → Fin 100000) (P : Fin 32 → Fin 4 → Fin 50)
    (hτ : ∀ s b, Greedy (fun n : Fin 100000 => x (ix3 s b n)) (·.val) 50 (τ s b))
    (hP : ∀ s b, First (fun j : Fin 50 => x (ix3 s b (τ s b j.val)) + g (ix2 (flat s b) j)) (P s b)) (s : Fin 32) (b : Fin 4) :
    sc (ix2 s b) = x (ix3 s b (τ s b (P s b).val)) ∧ tok (ix2 s b) = BitVec.ofNat 32 (τ s b (P s b).val).val := by
  have hv : ∀ s b j, vals (ix3 s b j) = x (ix3 s b (τ s b j.val)) := fun s b j => hvals ▸ (topK_vals x s b hf (hτ s b) j).1
  have hi : ∀ s b j, inds (ix3 s b j) = BitVec.ofNat 32 (τ s b j.val).val := fun s b j => hinds ▸ (topK_vals x s b hf (hτ s b) j).2
  have hvf' : ∀ s b j, vf (ix2 (flat s b) j) = x (ix3 s b (τ s b j.val)) := by
    intro s b j
    rw [← hv, hvf]
    pointwise
    exact congrArg vals (congrArg₂ (fun s b => ix3 s b j) (Fin.ext (by show (4 * s.val + b.val) / 4 = s.val; omega)) (Fin.ext (by show (4 * s.val + b.val) % 4 = b.val; omega)))
  have hbw' : ∀ s b, bw (ix2 s b) = BitVec.ofNat 32 (P s b).val := by
    intro s b
    have hz : (fun l : Fin 50 => sm (ix2 (flat s b) l)) = fun j : Fin 50 => x (ix3 s b (τ s b j.val)) + g (ix2 (flat s b) j) := by
      funext j
      rw [hsm]
      show g _ + vf _ = _
      rw [hvf', add_comm]
    rw [← ham (flat s b) (P s b) (hz ▸ hP s b), hbw]
    pointwise
    exact congrArg (fun r => am (ix1 r)) (Fin.ext (by show s.val * 4 + b.val = 4 * s.val + b.val; omega))
  have hb1' : ∀ s b, b1 (ix3 s b 0) = BitVec.ofNat 32 (P s b).val := by
    intro s b; rw [← hbw', hb1]; pointwise
  have hb2' : ∀ s b, b2 (ix3 s b 0) = BitVec.ofNat 32 (P s b).val := by
    intro s b; rw [← hbw', hb2]; pointwise
  constructor
  · rw [← hv]
    refine Eq.trans ?_ (log_exp _)
    have : sc (ix2 s b) = l (ix3 s b 0) := by rw [hsc]; pointwise
    rw [this, hl]
    show Ideal.log _ = _
    rw [ht P hb1', he]
    rfl
  · have : tok (ix2 s b) = ti (ix3 s b 0) := by rw [htok]; pointwise
    rw [this, hti P hb2', hi]

end Cert.ReferenceIdeal.Hand
-- ==== Proof.RMain.lean ====
module

public import proofs.«01_k».proof.Proof.RChan

/-! The reference's own operations, part by part: what each part leaves, in terms of its arguments and of the two
noise calls' results. -/

@[expose] public section

noncomputable section

namespace Cert.ReferenceIdeal.Hand

open Idealize.ShloMosaic Idealize.ShloMosaic.StableHlo Idealize.SL.Sem Cert.Line Cert.Pick Cert.Step

variable {W : Valuation τ sig (Elt Ideal)} {c : Dev nD}

/-- The sum of two scores. -/
abbrev plus (a b : EReal) : EReal := a + b

/-- The picks of one channel from its scores and its noise. -/
def Picks (x : FVec Ideal S32x4x100000 .f32) (g : FVec Ideal S128x50 .f32) (sc : FVec Ideal S32x4 .f32) (tok : IVec S32x4 32) : Prop :=
  ∀ (t : Fin 32 → Fin 4 → ℕ → Fin 100000) (P : Fin 32 → Fin 4 → Fin 50),
    (∀ s b, Greedy (fun n : Fin 100000 => x (ix3 s b n)) (·.val) 50 (t s b)) →
    (∀ s b, First (fun j : Fin 50 => x (ix3 s b (t s b j.val)) + g (ix2 (flat s b) j)) (P s b)) →
    ∀ s b, sc (ix2 s b) = x (ix3 s b (t s b (P s b).val)) ∧ tok (ix2 s b) = BitVec.ofNat 32 (t s b (P s b).val).val

theorem part0 (h : Eqs (main_part0_line (F := Ideal) c).ops W) :
    Eqs (fn_threefry_fold_in_line (F := Ideal) (.of main_v6) (.of main_c_2) main_call0).ops W
    ∧ Eqs (fn_gumbel_line (F := Ideal) (.of main_v15) main_call1).ops W
    ∧ W (Proc.devRef .tc main_c_2) = constantI S_ 32 0#32
    ∧ (∀ s b, (W (Proc.devRef .tc main_v11) : IVec S32x4 32) (ix2 s b) = BitVec.ofNat 32 b.val)
    ∧ Picks (W (Proc.devRef .tc main_v13)) (W (Proc.devRef .tc main_v17)) (W (Proc.devRef .tc main_v24)) (W (Proc.devRef .tc main_v27))
    ∧ (∀ s b n, (W (Proc.devRef .tc main_v13) : FVec Ideal S32x4x100000 .f32) (ix3 s b n)
        = (W (Proc.devRef .tc main_arg0) : FVec Ideal S2x32x4x100000 .f32) (ix4 0 s b n))
    ∧ W (Proc.devRef .tc main_v37) = before (W (Proc.devRef .tc main_arg2))
    ∧ W (Proc.devRef .tc main_v38) = cmpi .slt (constantI S_ 32 0#32) (constantI S_ 32 0#32)
    ∧ W (Proc.devRef .tc main_v6) = concatenate S2 0 [⟨S1, fun _ => Host.shrui (constantI S_ 32 42#32) (constantI S_ 32 32#32) (Shape.Idx.first (by decide))⟩,
        ⟨S1, fun _ => andi (constantI S_ 32 42#32) (constantI S_ 32 4294967295#32) (Shape.Idx.first (by decide))⟩] (by decide) := by
  delta main_part0_line at h
  obtain ⟨e_c, h⟩ := eqN h
  obtain ⟨e_c_0, h⟩ := eqN h
  obtain ⟨e_v0, h⟩ := eqB h
  obtain ⟨e_v1, h⟩ := eqU h
  obtain ⟨e_v2, h⟩ := eqU h
  obtain ⟨e_c_1, h⟩ := eqN h
  obtain ⟨e_v3, h⟩ := eqB h
  obtain ⟨e_v4, h⟩ := eqU h
  obtain ⟨e_v5, h⟩ := eqU h
  obtain ⟨e_v6, h⟩ := eqB h
  obtain ⟨e_v7, h⟩ := eqN h
  obtain ⟨e_v8, h⟩ := eqU h
  obtain ⟨e_v9, h⟩ := eqR h
  obtain ⟨e_v10, h⟩ := eqU h
  obtain ⟨e_v11, h⟩ := eqR h
  obtain ⟨e_v12, h⟩ := eqU h
  obtain ⟨e_v13, h⟩ := eqR h
  obtain ⟨e_values, h⟩ := eqU h
  obtain ⟨e_indices, h⟩ := eqU h
  obtain ⟨e_v14, h⟩ := eqU h
  obtain ⟨e_c_2, h⟩ := eqN h
  obtain ⟨k_call0, h⟩ := eqCall h
  obtain ⟨e_v16, h⟩ := eqR h
  obtain ⟨k_call1, h⟩ := eqCall h
  obtain ⟨e_v18, h⟩ := eqB h
  obtain ⟨k_call2, h⟩ := eqCall h
  obtain ⟨e_v20, h⟩ := eqR h
  obtain ⟨e_v21, h⟩ := eqU h
  obtain ⟨k_call3, h⟩ := eqCall h
  obtain ⟨e_v23, h⟩ := eqU h
  obtain ⟨e_v24, h⟩ := eqR h
  obtain ⟨e_v25, h⟩ := eqU h
  obtain ⟨k_call4, h⟩ := eqCall h
  obtain ⟨e_v27, h⟩ := eqR h
  obtain ⟨e_c_3, h⟩ := eqN h
  obtain ⟨e_v28, h⟩ := eqB h
  obtain ⟨e_c_4, h⟩ := eqN h
  obtain ⟨e_c_5, h⟩ := eqN h
  obtain ⟨e_v29, h⟩ := eqB h
  obtain ⟨e_c_6, h⟩ := eqN h
  obtain ⟨e_c_7, h⟩ := eqN h
  obtain ⟨e_v30, h⟩ := eqB h
  obtain ⟨e_c_8, h⟩ := eqN h
  obtain ⟨e_v31, h⟩ := eqT h
  obtain ⟨e_c_9, h⟩ := eqN h
  obtain ⟨e_c_10, h⟩ := eqN h
  obtain ⟨e_v32, h⟩ := eqB h
  obtain ⟨e_c_11, h⟩ := eqN h
  obtain ⟨e_c_12, h⟩ := eqN h
  obtain ⟨e_v33, h⟩ := eqB h
  obtain ⟨e_c_13, h⟩ := eqN h
  obtain ⟨e_v34, h⟩ := eqT h
  obtain ⟨e_c_14, h⟩ := eqN h
  obtain ⟨e_v35, h⟩ := eqB h
  obtain ⟨e_c_15, h⟩ := eqN h
  obtain ⟨e_v36, h⟩ := eqB h
  obtain ⟨e_v37, h⟩ := eqT h
  obtain ⟨e_c_16, h⟩ := eqN h
  obtain ⟨e_c_17, h⟩ := eqN h
  obtain ⟨e_v38, h⟩ := eqB h

  refine ⟨k_call0, k_call1, e_c_2, ?_, ?_, ?_, ?_, ?_, ?_⟩
  · intro s b
    rw [e_v11, e_v10, e_v9, e_v8, e_v7]
    pointwise
  · exact fun t P => channel_at e_values e_indices e_v14 e_v16 e_v18 (fun r _ hp => argmax_val k_call2 r hp) e_v20 e_v21 (fun P hP => take_val k_call3 P hP) e_v23 e_v24 e_v25 (fun P hP => take_1_val k_call4 P hP) e_v27 t P
  · intro s b n
    rw [e_v13, e_v12]
    pointwise
  · rw [e_v37, e_v36, e_v35, e_v28, e_c_3, e_c_14, e_c_15]
    rfl
  · rw [e_v38, e_c_16, e_c_17]
  · rw [e_v6, e_v5, e_v4, e_v3, e_c_1, e_v2, e_v1, e_v0, e_c, e_c_0]
    rfl

theorem part1 (h : Eqs (main_part1_line (F := Ideal) c).ops W)
    (hb : ∀ s b, (W (Proc.devRef .tc main_v11) : IVec S32x4 32) (ix2 s b) = BitVec.ofNat 32 b.val)
    (h37 : W (Proc.devRef .tc main_v37) = before (W (Proc.devRef .tc main_arg2)))
    (h38 : W (Proc.devRef .tc main_v38) = cmpi .slt (constantI S_ 32 0#32) (constantI S_ 32 0#32)) :
    Eqs (fn_threefry_fold_in_line (F := Ideal) (.of main_v6) (.of main_c_23) main_call6).ops W
    ∧ Eqs (fn_gumbel_line (F := Ideal) (.of main_v48) main_call7).ops W
    ∧ W (Proc.devRef .tc main_c_23) = constantI S_ 32 1#32
    ∧ Picks (W (Proc.devRef .tc main_v46)) (W (Proc.devRef .tc main_v50)) (W (Proc.devRef .tc main_v57)) (W (Proc.devRef .tc main_v60))
    ∧ (∀ s b n, (W (Proc.devRef .tc main_v46) : FVec Ideal S32x4x100000 .f32) (ix3 s b n)
        = (W (Proc.devRef .tc main_arg0) : FVec Ideal S2x32x4x100000 .f32) (ix4 1 s b n))
    ∧ (∀ s b, (W (Proc.devRef .tc main_v44) : FVec Ideal S32x4 .f32) (ix2 s b) = plus ((W (Proc.devRef .tc main_v24) : FVec Ideal S32x4 .f32) (ix2 s b))
        ((W (Proc.devRef .tc main_arg1) : FVec Ideal S32x4x5x2 .f32) (ix4 s b (row (W (Proc.devRef .tc main_arg2))) 0)))
    ∧ (∀ s b, (W (Proc.devRef .tc main_v74) : FVec Ideal S32x4x1x1 .f32) (ix4 s b 0 0)
        = (W (Proc.devRef .tc main_arg1) : FVec Ideal S32x4x5x2 .f32) (ix4 s b (row (W (Proc.devRef .tc main_arg2))) 1)) := by
  delta main_part1_line at h
  obtain ⟨e_c_18, h⟩ := eqN h
  obtain ⟨e_c_19, h⟩ := eqN h
  obtain ⟨e_v39, h⟩ := eqB h
  obtain ⟨e_c_20, h⟩ := eqN h
  obtain ⟨e_v40, h⟩ := eqT h
  obtain ⟨e_v41, h⟩ := eqX h
  obtain ⟨e_v42, h⟩ := eqR h
  obtain ⟨k_call5, h⟩ := eqCall h
  obtain ⟨e_v44, h⟩ := eqB h
  obtain ⟨e_v45, h⟩ := eqU h
  obtain ⟨e_v46, h⟩ := eqR h
  obtain ⟨e_values_21, h⟩ := eqU h
  obtain ⟨e_indices_22, h⟩ := eqU h
  obtain ⟨e_v47, h⟩ := eqU h
  obtain ⟨e_c_23, h⟩ := eqN h
  obtain ⟨k_call6, h⟩ := eqCall h
  obtain ⟨e_v49, h⟩ := eqR h
  obtain ⟨k_call7, h⟩ := eqCall h
  obtain ⟨e_v51, h⟩ := eqB h
  obtain ⟨k_call8, h⟩ := eqCall h
  obtain ⟨e_v53, h⟩ := eqR h
  obtain ⟨e_v54, h⟩ := eqU h
  obtain ⟨k_call9, h⟩ := eqCall h
  obtain ⟨e_v56, h⟩ := eqU h
  obtain ⟨e_v57, h⟩ := eqR h
  obtain ⟨e_v58, h⟩ := eqU h
  obtain ⟨k_call10, h⟩ := eqCall h
  obtain ⟨e_v60, h⟩ := eqR h
  obtain ⟨e_c_24, h⟩ := eqN h
  obtain ⟨e_v61, h⟩ := eqB h
  obtain ⟨e_c_25, h⟩ := eqN h
  obtain ⟨e_c_26, h⟩ := eqN h
  obtain ⟨e_v62, h⟩ := eqB h
  obtain ⟨e_c_27, h⟩ := eqN h
  obtain ⟨e_c_28, h⟩ := eqN h
  obtain ⟨e_v63, h⟩ := eqB h
  obtain ⟨e_c_29, h⟩ := eqN h
  obtain ⟨e_v64, h⟩ := eqT h
  obtain ⟨e_c_30, h⟩ := eqN h
  obtain ⟨e_c_31, h⟩ := eqN h
  obtain ⟨e_v65, h⟩ := eqB h
  obtain ⟨e_c_32, h⟩ := eqN h
  obtain ⟨e_c_33, h⟩ := eqN h
  obtain ⟨e_v66, h⟩ := eqB h
  obtain ⟨e_c_34, h⟩ := eqN h
  obtain ⟨e_v67, h⟩ := eqT h
  obtain ⟨e_c_35, h⟩ := eqN h
  obtain ⟨e_v68, h⟩ := eqB h
  obtain ⟨e_c_36, h⟩ := eqN h
  obtain ⟨e_v69, h⟩ := eqB h
  obtain ⟨e_v70, h⟩ := eqT h
  obtain ⟨e_c_37, h⟩ := eqN h
  obtain ⟨e_c_38, h⟩ := eqN h
  obtain ⟨e_v71, h⟩ := eqB h
  obtain ⟨e_c_39, h⟩ := eqN h
  obtain ⟨e_c_40, h⟩ := eqN h
  obtain ⟨e_v72, h⟩ := eqB h
  obtain ⟨e_c_41, h⟩ := eqN h
  obtain ⟨e_v73, h⟩ := eqT h
  obtain ⟨e_v74, h⟩ := eqX h

  refine ⟨k_call6, k_call7, e_c_23, ?_, ?_, ?_, ?_⟩
  · exact fun t P => channel_at e_values_21 e_indices_22 e_v47 e_v49 e_v51 (fun r _ hp => argmax_val k_call8 r hp) e_v53 e_v54 (fun P hP => take_val k_call9 P hP) e_v56 e_v57 e_v58 (fun P hP => take_1_val k_call10 P hP) e_v60 t P
  · intro s b n
    rw [e_v46, e_v45]
    pointwise
  · intro s b
    have h40 : W (Proc.devRef .tc main_v40) = constantI S_ 32 0#32 := by
      rw [e_v40, h38, e_v39, e_c_18, e_c_19, e_c_20]
      funext i; rfl
    have h42 : (W (Proc.devRef .tc main_v42) : FVec Ideal S32x4 .f32) (ix2 s b)
        = (W (Proc.devRef .tc main_arg1) : FVec Ideal S32x4x5x2 .f32) (ix4 s b (row (W (Proc.devRef .tc main_arg2))) 0) := by
      have h41 : (W (Proc.devRef .tc main_v41) : FVec Ideal S32x4x1x1 .f32) (ix4 s b 0 0)
          = (W (Proc.devRef .tc main_arg1) : FVec Ideal S32x4x5x2 .f32) (ix4 s b (row (W (Proc.devRef .tc main_arg2))) 0) := by
        rw [e_v41, unaryIndexed_result]
        refine (slice_one _ _ _ s b).trans ?_
        refine congrArg₂ (fun r k => (W (Proc.devRef .tc main_arg1) : FVec Ideal S32x4x5x2 .f32) (ix4 s b r k)) ?_ ?_
        · show step ((W (Proc.devRef .tc main_v37) : IVec S_ 32) (Shape.Idx.first (by decide))).toInt = _
          rw [h37]; rfl
        · show channel ((W (Proc.devRef .tc main_v40) : IVec S_ 32) (Shape.Idx.first (by decide))).toInt = _
          rw [h40]; rfl
      rw [← h41, e_v42]
      pointwise
    rw [e_v44]
    refine congrArg₂ plus rfl ((take_2_val k_call5 (fun _ b => b) hb s b).trans h42)
  · intro s b
    have h70 : W (Proc.devRef .tc main_v70) = before (W (Proc.devRef .tc main_arg2)) := by
      rw [e_v70, e_v69, e_v68, e_v61, e_c_24, e_c_35, e_c_36]
      rfl
    have h73 : W (Proc.devRef .tc main_v73) = constantI S_ 32 1#32 := by
      rw [e_v73, e_v72, e_v71, e_c_37, e_c_38, e_c_39, e_c_40, e_c_41]
      funext i; rfl
    rw [e_v74, unaryIndexed_result]
    refine (slice_one _ _ _ s b).trans ?_
    refine congrArg₂ (fun r k => (W (Proc.devRef .tc main_arg1) : FVec Ideal S32x4x5x2 .f32) (ix4 s b r k)) ?_ ?_
    · show step ((W (Proc.devRef .tc main_v70) : IVec S_ 32) (Shape.Idx.first (by decide))).toInt = _
      rw [h70]; rfl
    · show channel ((W (Proc.devRef .tc main_v73) : IVec S_ 32) (Shape.Idx.first (by decide))).toInt = _
      rw [h73]; rfl

theorem part2 (h : Eqs (main_part2_line (F := Ideal) c).ops W)
    (hb : ∀ s b, (W (Proc.devRef .tc main_v11) : IVec S32x4 32) (ix2 s b) = BitVec.ofNat 32 b.val) (s : Fin 32) (b : Fin 4) :
    (W (Proc.devRef .tc main_v80) : FVec Ideal S32x4x2 .f32) (ix3 s b 0) = (W (Proc.devRef .tc main_v44) : FVec Ideal S32x4 .f32) (ix2 s b)
    ∧ (W (Proc.devRef .tc main_v80) : FVec Ideal S32x4x2 .f32) (ix3 s b 1) = plus ((W (Proc.devRef .tc main_v57) : FVec Ideal S32x4 .f32) (ix2 s b))
        ((W (Proc.devRef .tc main_v74) : FVec Ideal S32x4x1x1 .f32) (ix4 s b 0 0))
    ∧ (W (Proc.devRef .tc main_v83) : IVec S32x4x2 32) (ix3 s b 0) = (W (Proc.devRef .tc main_v27) : IVec S32x4 32) (ix2 s b)
    ∧ (W (Proc.devRef .tc main_v83) : IVec S32x4x2 32) (ix3 s b 1) = (W (Proc.devRef .tc main_v60) : IVec S32x4 32) (ix2 s b) := by
  delta main_part2_line at h
  obtain ⟨e_v75, h⟩ := eqR h
  obtain ⟨k_call11, h⟩ := eqCall h
  obtain ⟨e_v77, h⟩ := eqB h
  obtain ⟨e_v78, h⟩ := eqU h
  obtain ⟨e_v79, h⟩ := eqU h
  obtain ⟨e_v80, h⟩ := eqB h
  obtain ⟨e_v81, h⟩ := eqU h
  obtain ⟨e_v82, h⟩ := eqU h
  obtain ⟨e_v83, h⟩ := eqB h

  refine ⟨?_, ?_, ?_, ?_⟩
  · rw [e_v80, e_v78]
    pointwise
  · have : (W (Proc.devRef .tc main_v75) : FVec Ideal S32x4 .f32) (ix2 s b) = (W (Proc.devRef .tc main_v74) : FVec Ideal S32x4x1x1 .f32) (ix4 s b 0 0) := by
      rw [e_v75]; pointwise
    refine Eq.trans ?_ (congrArg (plus _) ((take_2_val k_call11 (fun _ b => b) hb s b).trans this))
    rw [e_v80, e_v79, e_v77]
    pointwise
    rfl
  · rw [e_v83, e_v81]
    pointwise
  · rw [e_v83, e_v82]
    pointwise

end Cert.ReferenceIdeal.Hand
-- ==== Proof.Noise.lean ====
module

public import proofs.«01_k».proof.Proof.KLine
public import proofs.«01_k».proof.Proof.Eqn2
public import proofs.«01_k».proof.Proof.RLine

/-! The two programs draw the same noise: their generators are the same line of operations. -/

@[expose] public section

set_option maxHeartbeats 4000000
set_option maxRecDepth 8192

noncomputable section

namespace Cert.Line.Same

open Idealize.ShloMosaic Idealize.ShloMosaic.StableHlo Idealize.SL.Sem Cert.Line

section
variable {nD nD' : Nat} {τ τ' : Topo} {sig sig' : RefSig} {Val : EltTy → Type} {Λ Λ' : Labels}
  {W : Valuation τ sig Val} {W' : Valuation τ' sig' Val} {P Q Q₁ : List (Pair sig sig')}
  {p q : Prog (TpuEff nD τ sig Val Λ .tc) PUnit} {p' q' : Prog (TpuEff nD' τ' sig' Val Λ' .tc) PUnit}
  {L : Lines p} {L' : Lines p'} {M : Lines q} {M' : Lines q'}

theorem ends : Same W W' (Lines.nil (nD := nD) (τ := τ) (sig := sig) (Val := Val) (Λ := Λ)).ops (Lines.nil (nD := nD') (τ := τ') (sig := sig') (Val := Val) (Λ := Λ')).ops P P := fun _ _ h => h

theorem ids (h : Same W W' L.ops L'.ops P Q) : Same W W' (id L).ops (id L').ops P Q := h

theorem thenCall (h₁ : Same W W' L.ops L'.ops P Q₁) (h₂ : Same W W' M.ops M'.ops Q₁ Q) : Same W W' (L.call M).ops (L'.call M').ops P Q :=
  fun e e' a => h₂ e.append.2 e'.append.2 (h₁ e.append.1 e'.append.1 a)

theorem only (h : Same W W' L.ops L'.ops P Q₁) (hQ : ∀ q ∈ Q, q ∈ Q₁) : Same W W' L.ops L'.ops P Q := fun e e' a q hq => h e e' a q (hQ q hq)

theorem doCall {P₁ : List (Pair sig sig')} (h₁ : Same W W' L.ops L'.ops P₁ Q₁) (hP : ∀ p ∈ P₁, p ∈ P) (h : Same W W' M.ops M'.ops (Q₁ ++ P) Q) :
    Same W W' (L.call M).ops (L'.call M').ops P Q := call h₁ hP h

theorem consN {T : BufTy} {y : TRef sig T} {y' : TRef sig' T} {v : T.Contents Val} {ho ho'}
    (h : Same W W' L.ops L'.ops (⟨T, y, y'⟩ :: P) Q) :
    Same W W' (Lines.cons (op := TRef.nullary y v) (y := y.ref) (xs := []) ho L).ops (Lines.cons (op := TRef.nullary y' v) (y := y'.ref) (xs := []) ho' L').ops P Q := nullary h

theorem consU {T U : BufTy} {x : TRef sig T} {x' : TRef sig' T} {y : TRef sig U} {y' : TRef sig' U} {f : T.Contents Val → U.Contents Val} {ho ho'}
    (h : Same W W' L.ops L'.ops (⟨U, y, y'⟩ :: P) Q) (hx : ⟨T, x, x'⟩ ∈ P) :
    Same W W' (Lines.cons (op := TRef.unary x y f) (y := y.ref) (xs := [x.ref]) ho L).ops (Lines.cons (op := TRef.unary x' y' f) (y := y'.ref) (xs := [x'.ref]) ho' L').ops P Q := unary hx h

theorem consR {T U : BufTy} {x : TRef sig T} {x' : TRef sig' T} {y : TRef sig U} {y' : TRef sig' U} {he : T.elt = U.elt} {hn : T.shape.ShapeCasts U.shape} {ho ho'}
    (h : Same W W' L.ops L'.ops (⟨U, y, y'⟩ :: P) Q) (hx : ⟨T, x, x'⟩ ∈ P) :
    Same W W' (Lines.cons (op := TRef.reshape x y he hn) (y := y.ref) (xs := [x.ref]) ho L).ops (Lines.cons (op := TRef.reshape x' y' he hn) (y := y'.ref) (xs := [x'.ref]) ho' L').ops P Q := reshape hx h

theorem consB {T T₁ U : BufTy} {x : TRef sig T} {x' : TRef sig' T} {z : TRef sig T₁} {z' : TRef sig' T₁} {y : TRef sig U} {y' : TRef sig' U}
    {f : T.Contents Val → T₁.Contents Val → U.Contents Val} {ho ho'}
    (h : Same W W' L.ops L'.ops (⟨U, y, y'⟩ :: P) Q) (hx : ⟨T, x, x'⟩ ∈ P) (hz : ⟨T₁, z, z'⟩ ∈ P) :
    Same W W' (Lines.cons (op := TRef.binary x z y f) (y := y.ref) (xs := [x.ref, z.ref]) ho L).ops
      (Lines.cons (op := TRef.binary x' z' y' f) (y := y'.ref) (xs := [x'.ref, z'.ref]) ho' L').ops P Q := binary hx hz h
theorem consGU {T U : BufTy} {x : TRef sig T} {x' : TRef sig' T} {y : TRef sig U} {y' : TRef sig' U}
    {g : x.ref.ty.Contents Val → y.ref.ty.Contents Val} {g' : x'.ref.ty.Contents Val → y'.ref.ty.Contents Val} {hx hy hx' hy' ho ho'}
    (h : Same W W' L.ops L'.ops (⟨U, y, y'⟩ :: P) Q) (hg : ∀ a : T.Contents Val, y.ofBuf (g (x.toBuf a)) = y'.ofBuf (g' (x'.toBuf a)))
    (mx : ⟨T, x, x'⟩ ∈ P) :
    Same W W' (Lines.cons (op := StableHlo.unary x.ref y.ref g hx hy) (y := y.ref) (xs := [x.ref]) ho L).ops
      (Lines.cons (op := StableHlo.unary x'.ref y'.ref g' hx' hy') (y := y'.ref) (xs := [x'.ref]) ho' L').ops P Q :=
  fun e e' a => h e.cons.2 e'.cons.2 (a.cons (by rw [valGU e.cons.1, valGU e'.cons.1, a _ mx]; exact hg _))

theorem consGB {T T₁ U : BufTy} {x : TRef sig T} {x' : TRef sig' T} {z : TRef sig T₁} {z' : TRef sig' T₁} {y : TRef sig U} {y' : TRef sig' U}
    {g : x.ref.ty.Contents Val → z.ref.ty.Contents Val → y.ref.ty.Contents Val}
    {g' : x'.ref.ty.Contents Val → z'.ref.ty.Contents Val → y'.ref.ty.Contents Val} {hx hz hy hx' hz' hy' ho ho'}
    (h : Same W W' L.ops L'.ops (⟨U, y, y'⟩ :: P) Q)
    (hg : ∀ (a : T.Contents Val) (b : T₁.Contents Val), y.ofBuf (g (x.toBuf a) (z.toBuf b)) = y'.ofBuf (g' (x'.toBuf a) (z'.toBuf b)))
    (mx : ⟨T, x, x'⟩ ∈ P) (mz : ⟨T₁, z, z'⟩ ∈ P) :
    Same W W' (Lines.cons (op := StableHlo.binary x.ref z.ref y.ref g hx hz hy) (y := y.ref) (xs := [x.ref, z.ref]) ho L).ops
      (Lines.cons (op := StableHlo.binary x'.ref z'.ref y'.ref g' hx' hz' hy') (y := y'.ref) (xs := [x'.ref, z'.ref]) ho' L').ops P Q :=
  fun e e' a => h e.cons.2 e'.cons.2 (a.cons (by rw [valGB e.cons.1, valGB e'.cons.1, a _ mx, a _ mz]; exact hg _ _))
theorem oneN {T : BufTy} {y : TRef sig T} {y' : TRef sig' T} {v : T.Contents Val} {ho ho'} :
    Same W W' (Lines.one (nD := nD) (Λ := Λ) (op := TRef.nullary y v) (y := y.ref) (xs := []) ho).ops
      (Lines.one (nD := nD') (Λ := Λ') (op := TRef.nullary y' v) (y := y'.ref) (xs := []) ho').ops P (⟨T, y, y'⟩ :: P) := nullary fun _ _ h => h
theorem oneU {T U : BufTy} {x : TRef sig T} {x' : TRef sig' T} {y : TRef sig U} {y' : TRef sig' U} {f : T.Contents Val → U.Contents Val} {ho ho'}
    (hx : ⟨T, x, x'⟩ ∈ P) :
    Same W W' (Lines.one (nD := nD) (Λ := Λ) (op := TRef.unary x y f) (y := y.ref) (xs := [x.ref]) ho).ops
      (Lines.one (nD := nD') (Λ := Λ') (op := TRef.unary x' y' f) (y := y'.ref) (xs := [x'.ref]) ho').ops P (⟨U, y, y'⟩ :: P) := unary hx fun _ _ h => h
theorem oneB {T T₁ U : BufTy} {x : TRef sig T} {x' : TRef sig' T} {z : TRef sig T₁} {z' : TRef sig' T₁} {y : TRef sig U} {y' : TRef sig' U}
    {f : T.Contents Val → T₁.Contents Val → U.Contents Val} {ho ho'} (hx : ⟨T, x, x'⟩ ∈ P) (hz : ⟨T₁, z, z'⟩ ∈ P) :
    Same W W' (Lines.one (nD := nD) (Λ := Λ) (op := TRef.binary x z y f) (y := y.ref) (xs := [x.ref, z.ref]) ho).ops
      (Lines.one (nD := nD') (Λ := Λ') (op := TRef.binary x' z' y' f) (y := y'.ref) (xs := [x'.ref, z'.ref]) ho').ops P (⟨U, y, y'⟩ :: P) :=
  binary hx hz fun _ _ h => h
theorem call42 {p₁ p₂ p₃ p₄ q₁ q₂ : Pair sig sig'} (h₁ : Same W W' L.ops L'.ops [p₁, p₂, p₃, p₄] [q₁, q₂]) (h : Same W W' M.ops M'.ops (q₁ :: q₂ :: P) Q)
    (m₁ : p₁ ∈ P) (m₂ : p₂ ∈ P) (m₃ : p₃ ∈ P) (m₄ : p₄ ∈ P) : Same W W' (L.call M).ops (L'.call M').ops P Q :=
  call h₁ (by simp [m₁, m₂, m₃, m₄]) h

theorem call31 {p₁ p₂ p₃ q₁ : Pair sig sig'} (h₁ : Same W W' L.ops L'.ops [p₁, p₂, p₃] [q₁]) (h : Same W W' M.ops M'.ops (q₁ :: P) Q)
    (m₁ : p₁ ∈ P) (m₂ : p₂ ∈ P) (m₃ : p₃ ∈ P) : Same W W' (L.call M).ops (L'.call M').ops P Q :=
  call h₁ (by simp [m₁, m₂, m₃]) h

theorem consT {T T₁ T₂ U : BufTy} {w : TRef sig T₂} {w' : TRef sig' T₂} {x : TRef sig T} {x' : TRef sig' T} {z : TRef sig T₁} {z' : TRef sig' T₁}
    {y : TRef sig U} {y' : TRef sig' U} {f : T₂.Contents Val → T.Contents Val → T₁.Contents Val → U.Contents Val} {ho ho'}
    (h : Same W W' L.ops L'.ops (⟨U, y, y'⟩ :: P) Q) (hw : ⟨T₂, w, w'⟩ ∈ P) (hx : ⟨T, x, x'⟩ ∈ P) (hz : ⟨T₁, z, z'⟩ ∈ P) :
    Same W W' (Lines.cons (op := TRef.ternary w x z y f) (y := y.ref) (xs := [w.ref, x.ref, z.ref]) ho L).ops
      (Lines.cons (op := TRef.ternary w' x' z' y' f) (y := y'.ref) (xs := [w'.ref, x'.ref, z'.ref]) ho' L').ops P Q := ternary hw hx hz h

end

end Cert.Line.Same

namespace Cert.Noise

open Idealize.ShloMosaic Idealize.ShloMosaic.StableHlo Cert.Line

variable {F : FTy → Type} [FloatOps F]

variable (W : Valuation Cert.KernelIdeal.τ Cert.KernelIdeal.sig (Elt F)) (W' : Valuation Cert.ReferenceIdeal.τ Cert.ReferenceIdeal.sig (Elt F))

theorem same_threefry2x32 {a0 a1 a2 a3 b0 b1 b2 b3} (φ : Cert.KernelIdeal.fn_threefry2x32.Bufs) (φ' : Cert.ReferenceIdeal.fn_threefry2x32.Bufs) :
    Same W W' (Cert.KernelIdeal.Hand.fn_threefry2x32_line a0 a1 a2 a3 φ).ops (Cert.ReferenceIdeal.Hand.fn_threefry2x32_line b0 b1 b2 b3 φ').ops
      [⟨_, a0, b0⟩, ⟨_, a1, b1⟩, ⟨_, a2, b2⟩, ⟨_, a3, b3⟩] [⟨_, φ.v171, φ'.v171⟩, ⟨_, φ.v175, φ'.v175⟩] := by
  delta Cert.KernelIdeal.Hand.fn_threefry2x32_line Cert.ReferenceIdeal.Hand.fn_threefry2x32_line
  apply Same.ids
  apply Same.thenCall
  · delta Cert.KernelIdeal.Hand.fn_threefry2x32_line_part0 Cert.ReferenceIdeal.Hand.fn_threefry2x32_line_part0
    apply Same.ids
    repeat' with_reducible first
      | exact Same.ends
      | apply Same.oneN
      | apply Same.oneU
      | apply Same.oneB
      | apply Same.consN
      | apply Same.consU
      | apply Same.consB
      | apply Same.consR
      | exact List.mem_cons_self
      | refine List.mem_cons_of_mem _ ?_
  apply Same.thenCall
  · delta Cert.KernelIdeal.Hand.fn_threefry2x32_line_part1 Cert.ReferenceIdeal.Hand.fn_threefry2x32_line_part1
    apply Same.ids
    repeat' with_reducible first
      | exact Same.ends
      | apply Same.oneN
      | apply Same.oneU
      | apply Same.oneB
      | apply Same.consN
      | apply Same.consU
      | apply Same.consB
      | apply Same.consR
      | exact List.mem_cons_self
      | refine List.mem_cons_of_mem _ ?_
  apply Same.thenCall
  · delta Cert.KernelIdeal.Hand.fn_threefry2x32_line_part2 Cert.ReferenceIdeal.Hand.fn_threefry2x32_line_part2
    apply Same.ids
    repeat' with_reducible first
      | exact Same.ends
      | apply Same.oneN
      | apply Same.oneU
      | apply Same.oneB
      | apply Same.consN
      | apply Same.consU
      | apply Same.consB
      | apply Same.consR
      | exact List.mem_cons_self
      | refine List.mem_cons_of_mem _ ?_
  · apply Same.only
    · delta Cert.KernelIdeal.Hand.fn_threefry2x32_line_part3 Cert.ReferenceIdeal.Hand.fn_threefry2x32_line_part3
      apply Same.ids
      repeat' with_reducible first
        | exact Same.ends
        | apply Same.oneN
        | apply Same.oneU
        | apply Same.oneB
        | apply Same.consN
        | apply Same.consU
        | apply Same.consB
        | apply Same.consR
        | exact List.mem_cons_self
        | refine List.mem_cons_of_mem _ ?_
    · intro q hq
      fin_cases hq
      all_goals
        repeat' with_reducible first
          | exact List.mem_cons_self
          | refine List.mem_cons_of_mem _ ?_

theorem same_threefry2x32_0 {a0 a1 a2 a3 b0 b1 b2 b3} (φ : Cert.KernelIdeal.fn_threefry2x32_0.Bufs) (φ' : Cert.ReferenceIdeal.fn_threefry2x32_0.Bufs) :
    Same W W' (Cert.KernelIdeal.Hand.fn_threefry2x32_0_line a0 a1 a2 a3 φ).ops (Cert.ReferenceIdeal.Hand.fn_threefry2x32_0_line b0 b1 b2 b3 φ').ops
      [⟨_, a0, b0⟩, ⟨_, a1, b1⟩, ⟨_, a2, b2⟩, ⟨_, a3, b3⟩] [⟨_, φ.v171, φ'.v171⟩, ⟨_, φ.v175, φ'.v175⟩] := by
  delta Cert.KernelIdeal.Hand.fn_threefry2x32_0_line Cert.ReferenceIdeal.Hand.fn_threefry2x32_0_line
  apply Same.ids
  apply Same.thenCall
  · delta Cert.KernelIdeal.Hand.fn_threefry2x32_0_line_part0 Cert.ReferenceIdeal.Hand.fn_threefry2x32_0_line_part0
    apply Same.ids
    repeat' with_reducible first
      | exact Same.ends
      | apply Same.oneN
      | apply Same.oneU
      | apply Same.oneB
      | apply Same.consN
      | apply Same.consU
      | apply Same.consB
      | apply Same.consR
      | exact List.mem_cons_self
      | refine List.mem_cons_of_mem _ ?_
  apply Same.thenCall
  · delta Cert.KernelIdeal.Hand.fn_threefry2x32_0_line_part1 Cert.ReferenceIdeal.Hand.fn_threefry2x32_0_line_part1
    apply Same.ids
    repeat' with_reducible first
      | exact Same.ends
      | apply Same.oneN
      | apply Same.oneU
      | apply Same.oneB
      | apply Same.consN
      | apply Same.consU
      | apply Same.consB
      | apply Same.consR
      | exact List.mem_cons_self
      | refine List.mem_cons_of_mem _ ?_
  apply Same.thenCall
  · delta Cert.KernelIdeal.Hand.fn_threefry2x32_0_line_part2 Cert.ReferenceIdeal.Hand.fn_threefry2x32_0_line_part2
    apply Same.ids
    repeat' with_reducible first
      | exact Same.ends
      | apply Same.oneN
      | apply Same.oneU
      | apply Same.oneB
      | apply Same.consN
      | apply Same.consU
      | apply Same.consB
      | apply Same.consR
      | exact List.mem_cons_self
      | refine List.mem_cons_of_mem _ ?_
  · apply Same.only
    · delta Cert.KernelIdeal.Hand.fn_threefry2x32_0_line_part3 Cert.ReferenceIdeal.Hand.fn_threefry2x32_0_line_part3
      apply Same.ids
      repeat' with_reducible first
        | exact Same.ends
        | apply Same.oneN
        | apply Same.oneU
        | apply Same.oneB
        | apply Same.consN
        | apply Same.consU
        | apply Same.consB
        | apply Same.consR
        | exact List.mem_cons_self
        | refine List.mem_cons_of_mem _ ?_
    · intro q hq
      fin_cases hq
      all_goals
        repeat' with_reducible first
          | exact List.mem_cons_self
          | refine List.mem_cons_of_mem _ ?_

theorem same_fold_in {a0 a1 b0 b1} (φ : Cert.KernelIdeal.fn_threefry_fold_in.Bufs) (φ' : Cert.ReferenceIdeal.fn_threefry_fold_in.Bufs) :
    Same W W' (Cert.KernelIdeal.Hand.fn_threefry_fold_in_line a0 a1 φ).ops (Cert.ReferenceIdeal.Hand.fn_threefry_fold_in_line b0 b1 φ').ops
      [⟨_, a0, b0⟩, ⟨_, a1, b1⟩] [⟨_, φ.v12, φ'.v12⟩] := by
  delta Cert.KernelIdeal.Hand.fn_threefry_fold_in_line Cert.ReferenceIdeal.Hand.fn_threefry_fold_in_line
  apply Same.ids
  apply Same.only
  · repeat' first
      | with_reducible exact Same.ends
      | with_reducible apply Same.oneN
      | with_reducible apply Same.oneU
      | with_reducible apply Same.oneB
      | with_reducible apply Same.consN
      | with_reducible apply Same.consU
      | with_reducible apply Same.consB
      | with_reducible apply Same.consR
      | with_reducible apply Same.consT
      | apply Same.call42 (same_threefry2x32 W W' _ _)
      | with_reducible exact List.mem_cons_self
      | with_reducible refine List.mem_cons_of_mem _ ?_
      | with_reducible apply Same.consGB
      | with_reducible apply Same.consGU
      | (intros; repeat rw [TRef.ofBuf_toBuf])
      | (intros; (repeat rw [TRef.ofBuf_toBuf]); rfl)
  · intro q hq
    fin_cases hq
    all_goals
      repeat' with_reducible first
        | exact List.mem_cons_self
        | refine List.mem_cons_of_mem _ ?_

theorem same_uniform {a0 a1 a2 b0 b1 b2} (φ : Cert.KernelIdeal.fn_uniform.Bufs) (φ' : Cert.ReferenceIdeal.fn_uniform.Bufs) :
    Same W W' (Cert.KernelIdeal.Hand.fn_uniform_line a0 a1 a2 φ).ops (Cert.ReferenceIdeal.Hand.fn_uniform_line b0 b1 b2 φ').ops
      [⟨_, a0, b0⟩, ⟨_, a1, b1⟩, ⟨_, a2, b2⟩] [⟨_, φ.v33, φ'.v33⟩] := by
  delta Cert.KernelIdeal.Hand.fn_uniform_line Cert.ReferenceIdeal.Hand.fn_uniform_line
  apply Same.ids
  apply Same.only
  · repeat' first
      | with_reducible exact Same.ends
      | with_reducible apply Same.oneN
      | with_reducible apply Same.oneU
      | with_reducible apply Same.oneB
      | with_reducible apply Same.consN
      | with_reducible apply Same.consU
      | with_reducible apply Same.consB
      | with_reducible apply Same.consR
      | with_reducible apply Same.consT
      | apply Same.call42 (same_threefry2x32_0 W W' _ _)
      | with_reducible exact List.mem_cons_self
      | with_reducible refine List.mem_cons_of_mem _ ?_
      | with_reducible apply Same.consGB
      | with_reducible apply Same.consGU
      | (intros; repeat rw [TRef.ofBuf_toBuf])
      | (intros; (repeat rw [TRef.ofBuf_toBuf]); rfl)
  · intro q hq
    fin_cases hq
    all_goals
      repeat' with_reducible first
        | exact List.mem_cons_self
        | refine List.mem_cons_of_mem _ ?_

theorem same_gumbel {a0 b0} (φ : Cert.KernelIdeal.fn_gumbel.Bufs) (φ' : Cert.ReferenceIdeal.fn_gumbel.Bufs) :
    Same W W' (Cert.KernelIdeal.Hand.fn_gumbel_line a0 φ).ops (Cert.ReferenceIdeal.Hand.fn_gumbel_line b0 φ').ops
      [⟨_, a0, b0⟩] [⟨_, φ.v4, φ'.v4⟩] := by
  delta Cert.KernelIdeal.Hand.fn_gumbel_line Cert.ReferenceIdeal.Hand.fn_gumbel_line
  apply Same.ids
  apply Same.only
  · repeat' first
      | with_reducible exact Same.ends
      | with_reducible apply Same.oneN
      | with_reducible apply Same.oneU
      | with_reducible apply Same.oneB
      | with_reducible apply Same.consN
      | with_reducible apply Same.consU
      | with_reducible apply Same.consB
      | with_reducible apply Same.consR
      | with_reducible apply Same.consT
      | apply Same.call31 (same_uniform W W' _ _)
      | with_reducible exact List.mem_cons_self
      | with_reducible refine List.mem_cons_of_mem _ ?_
      | with_reducible apply Same.consGB
      | with_reducible apply Same.consGU
      | (intros; repeat rw [TRef.ofBuf_toBuf])
      | (intros; (repeat rw [TRef.ofBuf_toBuf]); rfl)
  · intro q hq
    fin_cases hq
    all_goals
      repeat' with_reducible first
        | exact List.mem_cons_self
        | refine List.mem_cons_of_mem _ ?_

end Cert.Noise

end
-- ==== Proof.Meet.lean ====
module

public import proofs.«01_k».proof.Proof.KEnd
public import proofs.«01_k».proof.Proof.RMain
public import proofs.«01_k».proof.Proof.RFrame
public import proofs.«01_k».proof.Proof.Noise

/-! The two programs' noise and results are equal. -/

@[expose] public section

noncomputable section

namespace Cert.Meet

open Idealize.ShloMosaic Idealize.ShloMosaic.TcCoe Idealize.ShloMosaic.StableHlo Idealize.SL.Sem
open Cert.Line Cert.Pick Cert.Step Cert.Noise
open Cert.KernelIdeal.Val (Spot plus flat)

theorem ext3 {α : Type} {a b c : Nat} {f g : Shape.Idx ⟨3, ![a, b, c]⟩ → α} (h : ∀ i j k, f (ix3 i j k) = g (ix3 i j k)) : f = g := funext fun x => by
  have e : x = ix3 (x 0) (x 1) (x 2) := funext fun d => by fin_cases d <;> rfl
  rw [e]; exact h _ _ _

theorem ext2 {α : Type} {a b : Nat} {f g : Shape.Idx ⟨2, ![a, b]⟩ → α} (h : ∀ i j, f (ix2 i j) = g (ix2 i j)) : f = g := funext fun x => by
  have e : x = ix2 (x 0) (x 1) := funext fun d => by fin_cases d <;> rfl
  rw [e]; exact h _ _

/-- What the reference picks in one channel is what a `Spot` says. -/
theorem spot_picks {x : FVec Ideal Cert.ReferenceIdeal.S2x32x4x100000 .f32} {y : FVec Ideal Cert.ReferenceIdeal.S32x4x5x2 .f32} {z : IVec Cert.ReferenceIdeal.S_ 32}
    {g : FVec Ideal Cert.ReferenceIdeal.S128x50 .f32} {k : Fin 2} {sc : Fin 32 → Fin 4 → EReal} {tok : Fin 32 → Fin 4 → BitVec 32}
    (h : ∀ s b, Spot x y z g k s b (sc s b) (tok s b)) {xr : FVec Ideal Cert.ReferenceIdeal.S32x4x100000 .f32}
    {scr : FVec Ideal Cert.ReferenceIdeal.S32x4 .f32} {tokr : IVec Cert.ReferenceIdeal.S32x4 32}
    (hx : ∀ s b n, xr (ix3 s b n) = x (ix4 k s b n)) (hp : Cert.ReferenceIdeal.Hand.Picks xr g scr tokr) (s : Fin 32) (b : Fin 4) :
    plus (scr (ix2 s b)) (y (ix4 s b (row z) k)) = sc s b ∧ tokr (ix2 s b) = tok s b := by
  choose t p hg hf h4 h5 using h
  have hq := hp t p (fun s b => by
    rw [show (fun n : Fin 100000 => xr (ix3 s b n)) = fun n => x (ix4 k s b n) from funext fun n => hx s b n]
    exact hg s b) (fun s b => by
    rw [show (fun j : Fin 50 => xr (ix3 s b (t s b j.val)) + g (ix2 (Cert.ReferenceIdeal.Hand.flat s b) j)) = fun j => x (ix4 k s b (t s b j.val)) + g (ix2 (flat s b) j) from
      funext fun j => congrArg (· + g (ix2 (flat s b) j)) (hx s b _)]
    exact hf s b) s b
  refine ⟨?_, hq.2.trans (h5 s b).symm⟩
  rw [hq.1, hx, h4]

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD) (c' : Dev Cert.ReferenceIdeal.nD)

/-- One channel's noise from equal keys and equal channel numbers. -/
theorem noise_eq {W : Valuation Cert.KernelIdeal.τ Cert.KernelIdeal.sig (Elt Ideal)} {W' : Valuation Cert.ReferenceIdeal.τ Cert.ReferenceIdeal.sig (Elt Ideal)}
    {a0 a1 b0 b1 a2 b2} {φ : Cert.KernelIdeal.fn_threefry_fold_in.Bufs} {φ' : Cert.ReferenceIdeal.fn_threefry_fold_in.Bufs}
    {ψ : Cert.KernelIdeal.fn_gumbel.Bufs} {ψ' : Cert.ReferenceIdeal.fn_gumbel.Bufs}
    (e1 : Eqs (Cert.KernelIdeal.Hand.fn_threefry_fold_in_line (F := Ideal) a0 a1 φ).ops W)
    (e1' : Eqs (Cert.ReferenceIdeal.Hand.fn_threefry_fold_in_line (F := Ideal) b0 b1 φ').ops W')
    (e2 : Eqs (Cert.KernelIdeal.Hand.fn_gumbel_line (F := Ideal) a2 ψ).ops W)
    (e2' : Eqs (Cert.ReferenceIdeal.Hand.fn_gumbel_line (F := Ideal) b2 ψ').ops W')
    (h0 : val W a0 = val W' b0) (h1 : val W a1 = val W' b1)
    (hk : val W φ.v12 = val W' φ'.v12 → val W a2 = val W' b2) :
    val W ψ.v4 = val W' ψ'.v4 := by
  have q := same_fold_in W W' φ φ' e1 e1' (Agree.cons h0 (Agree.cons h1 (fun _ h => nomatch h))) _ (List.mem_singleton_self _)
  exact same_gumbel W W' ψ ψ' e2 e2' (Agree.cons (hk q) (fun _ h => nomatch h)) _ (List.mem_singleton_self _)

theorem noise_0 {W : Valuation Cert.KernelIdeal.τ Cert.KernelIdeal.sig (Elt Ideal)} {W' : Valuation Cert.ReferenceIdeal.τ Cert.ReferenceIdeal.sig (Elt Ideal)}
    (e1 : Eqs (Cert.KernelIdeal.Val.fold0 (F := Ideal)).ops W) (e2 : Eqs (Cert.KernelIdeal.Val.noise0 (F := Ideal)).ops W)
    (e1' : Eqs (Cert.ReferenceIdeal.Hand.fn_threefry_fold_in_line (F := Ideal) (.of Cert.ReferenceIdeal.main_v6) (.of Cert.ReferenceIdeal.main_c_2) Cert.ReferenceIdeal.main_call0).ops W')
    (e2' : Eqs (Cert.ReferenceIdeal.Hand.fn_gumbel_line (F := Ideal) (.of Cert.ReferenceIdeal.main_v15) Cert.ReferenceIdeal.main_call1).ops W')
    (h0 : W (Proc.devRef .tc Cert.KernelIdeal.main_v7) = W' (Proc.devRef .tc Cert.ReferenceIdeal.main_v6))
    (h1 : W (Proc.devRef .tc Cert.KernelIdeal.main_c_2) = W' (Proc.devRef .tc Cert.ReferenceIdeal.main_c_2)) :
    W (Proc.devRef .tc Cert.KernelIdeal.main_v9) = W' (Proc.devRef .tc Cert.ReferenceIdeal.main_v17) :=
  noise_eq (a0 := .of Cert.KernelIdeal.main_v7) (a1 := .of Cert.KernelIdeal.main_c_2) (a2 := .of Cert.KernelIdeal.main_v8) (φ := Cert.KernelIdeal.main_call0) (ψ := Cert.KernelIdeal.main_call1)
    e1 e1' e2 e2' h0 h1 (fun h => h)

theorem noise_1 {W : Valuation Cert.KernelIdeal.τ Cert.KernelIdeal.sig (Elt Ideal)} {W' : Valuation Cert.ReferenceIdeal.τ Cert.ReferenceIdeal.sig (Elt Ideal)}
    (e1 : Eqs (Cert.KernelIdeal.Val.fold1 (F := Ideal)).ops W) (e2 : Eqs (Cert.KernelIdeal.Val.noise1 (F := Ideal)).ops W)
    (e1' : Eqs (Cert.ReferenceIdeal.Hand.fn_threefry_fold_in_line (F := Ideal) (.of Cert.ReferenceIdeal.main_v6) (.of Cert.ReferenceIdeal.main_c_23) Cert.ReferenceIdeal.main_call6).ops W')
    (e2' : Eqs (Cert.ReferenceIdeal.Hand.fn_gumbel_line (F := Ideal) (.of Cert.ReferenceIdeal.main_v48) Cert.ReferenceIdeal.main_call7).ops W')
    (h0 : W (Proc.devRef .tc Cert.KernelIdeal.main_v7) = W' (Proc.devRef .tc Cert.ReferenceIdeal.main_v6))
    (h1 : W (Proc.devRef .tc Cert.KernelIdeal.main_c_3) = W' (Proc.devRef .tc Cert.ReferenceIdeal.main_c_23)) :
    W (Proc.devRef .tc Cert.KernelIdeal.main_v11) = W' (Proc.devRef .tc Cert.ReferenceIdeal.main_v50) :=
  noise_eq (a0 := .of Cert.KernelIdeal.main_v7) (a1 := .of Cert.KernelIdeal.main_c_3) (a2 := .of Cert.KernelIdeal.main_v10) (φ := Cert.KernelIdeal.main_call2) (ψ := Cert.KernelIdeal.main_call3)
    e1 e1' e2 e2' h0 h1 (fun h => h)

theorem meets (hlow : ⊥ < Cert.KernelIdeal.Hand.low)
    (hx : ∀ k s b n, Cert.KernelIdeal.Hand.low < (m ((c : Thread Cert.KernelIdeal.nD Cert.KernelIdeal.τ).loc Cert.KernelIdeal.main_arg0) : FVec Ideal Cert.KernelIdeal.S2x32x4x100000 .f32) (ix4 k s b n))
    (h0 : m' ((c'.tc : Thread Cert.ReferenceIdeal.nD Cert.ReferenceIdeal.τ).loc Cert.ReferenceIdeal.main_arg0) = m ((c : Thread Cert.KernelIdeal.nD Cert.KernelIdeal.τ).loc Cert.KernelIdeal.main_arg0))
    (h1 : m' ((c'.tc : Thread Cert.ReferenceIdeal.nD Cert.ReferenceIdeal.τ).loc Cert.ReferenceIdeal.main_arg1) = m ((c : Thread Cert.KernelIdeal.nD Cert.KernelIdeal.τ).loc Cert.KernelIdeal.main_arg1))
    (h2 : m' ((c'.tc : Thread Cert.ReferenceIdeal.nD Cert.ReferenceIdeal.τ).loc Cert.ReferenceIdeal.main_arg2) = m ((c : Thread Cert.KernelIdeal.nD Cert.KernelIdeal.τ).loc Cert.KernelIdeal.main_arg2)) :
    Cert.ReferenceIdeal.Hand.fin m' c' (Proc.devRef .tc Cert.ReferenceIdeal.main_v80)
        = Pipeline.afterTail₀ Cert.KernelIdeal.cfgs (Cert.KernelIdeal.Val.dats m) 0 (Cert.KernelIdeal.Gen.V0 m) [Cert.KernelIdeal.Gen.hostOps1] c Cert.KernelIdeal.main_v28
    ∧ Cert.ReferenceIdeal.Hand.fin m' c' (Proc.devRef .tc Cert.ReferenceIdeal.main_v83)
        = Pipeline.afterTail₀ Cert.KernelIdeal.cfgs (Cert.KernelIdeal.Val.dats m) 0 (Cert.KernelIdeal.Gen.V0 m) [Cert.KernelIdeal.Gen.hostOps1] c Cert.KernelIdeal.main_v29
    ∧ Cert.ReferenceIdeal.Hand.fin m' c' (Proc.devRef .tc Cert.ReferenceIdeal.main_v11)
        = Pipeline.afterTail₀ Cert.KernelIdeal.cfgs (Cert.KernelIdeal.Val.dats m) 0 (Cert.KernelIdeal.Gen.V0 m) [Cert.KernelIdeal.Gen.hostOps1] c Cert.KernelIdeal.main_v34 := by
  have a0 := (Cert.ReferenceIdeal.Hand.fin_arg m' c' Cert.ReferenceIdeal.main_arg0 (by decide)).trans h0
  have a1 := (Cert.ReferenceIdeal.Hand.fin_arg m' c' Cert.ReferenceIdeal.main_arg1 (by decide)).trans h1
  have a2 := (Cert.ReferenceIdeal.Hand.fin_arg m' c' Cert.ReferenceIdeal.main_arg2 (by decide)).trans h2
  have e : Eqs (Lines.call (Cert.ReferenceIdeal.Hand.main_part0_line (F := Ideal) c') (Lines.call (Cert.ReferenceIdeal.Hand.main_part1_line (F := Ideal) c')
    (Lines.call (Cert.ReferenceIdeal.Hand.main_part2_line (F := Ideal) c') Lines.nil))).ops (Cert.ReferenceIdeal.Hand.fin m' c') := Cert.ReferenceIdeal.Hand.fin_eqs m' c'
  obtain ⟨p0, e⟩ := eqCall e
  obtain ⟨p1, e⟩ := eqCall e
  obtain ⟨p2, e⟩ := eqCall e
  obtain ⟨rf0, rn0, rc0, rb, rp0, rx0, r37, r38, rk⟩ := Cert.ReferenceIdeal.Hand.part0 p0
  obtain ⟨rf1, rn1, rc1, rp1, rx1, r44, r74⟩ := Cert.ReferenceIdeal.Hand.part1 p1 rb r37 r38
  have r2 := Cert.ReferenceIdeal.Hand.part2 p2 rb
  have k := Cert.KernelIdeal.Val.pre_eqs m c
  have k0 := Cert.KernelIdeal.Val.pre0 k.append.1
  have k3 := (eqN k.append.2.append.2.append.2.append.1).1
  have key : Cert.KernelIdeal.Gen.V0 m c (Proc.devRef .tc Cert.KernelIdeal.main_v7) = Cert.ReferenceIdeal.Hand.fin m' c' (Proc.devRef .tc Cert.ReferenceIdeal.main_v6) := by
    rw [k0.2.1, rk]
  have n0 : Cert.KernelIdeal.Gen.V m c Cert.KernelIdeal.main_v9 = Cert.ReferenceIdeal.Hand.fin m' c' (Proc.devRef .tc Cert.ReferenceIdeal.main_v17) :=
    noise_0 k.append.2.append.1 k.append.2.append.2.append.1 rf0 rn0 key (k0.1.trans rc0.symm)
  have n1 : Cert.KernelIdeal.Gen.V m c Cert.KernelIdeal.main_v11 = Cert.ReferenceIdeal.Hand.fin m' c' (Proc.devRef .tc Cert.ReferenceIdeal.main_v50) :=
    noise_1 k.append.2.append.2.append.2.append.2.append.1 k.append.2.append.2.append.2.append.2.append.2.append.1 rf1 rn1 key (k3.trans rc1.symm)
  have sp := Cert.KernelIdeal.Val.spots m c hlow hx
  rw [n0, n1] at sp
  rw [a0] at rx0 rx1
  rw [a1, a2] at r44 r74
  have q0 := spot_picks (fun s b => (sp s b).1) rx0 rp0
  have q1 := spot_picks (fun s b => (sp s b).2) rx1 rp1
  have ke := Cert.KernelIdeal.Val.ends m c
  refine ⟨?_, ?_, ?_⟩
  · refine ext3 fun s b k => ?_
    refine Eq.trans ?_ ((ke s b).1 k).symm
    fin_cases k
    · exact ((r2 s b).1.trans (r44 s b)).trans (q0 s b).1
    · exact ((r2 s b).2.1.trans (congrArg (plus _) (r74 s b))).trans (q1 s b).1
  · refine ext3 fun s b k => ?_
    refine Eq.trans ?_ ((ke s b).2.1 k).symm
    fin_cases k
    · exact (r2 s b).2.2.1.trans (q0 s b).2
    · exact (r2 s b).2.2.2.trans (q1 s b).2
  · exact ext2 fun s b => (rb s b).trans (ke s b).2.2.symm

end Cert.Meet
-- ==== Proof.Value.lean ====
module

public import proofs.«01_k».proof.Defs
public import proofs.«01_k».proof.Proof.Meet
public import Idealize.ShloMosaic.Lib.ReduceAll
public import Idealize.ShloMosaic.Adequacy
public import Idealize.ShloMosaic.Init

/-! The claim about values, from the runs of the two programs. -/

@[expose] public section

noncomputable section

namespace Cert.Value

open Idealize.ShloMosaic Idealize.ShloMosaic.TcCoe Idealize.SL.Sem

instance rangeFacts : Cert.Pre_in_range.Facts where
  bcast_S_S2x32x4x100000 := by decide
  reducesTo_S2x32x4x100000_S_d0_1_2_3 := by decide
  h_S_ := by decide

theorem low_real : ⊥ < Cert.KernelIdeal.Hand.low := by
  simp only [Cert.KernelIdeal.Hand.low, Ideal.ofBits, Ideal.ieee]
  rw [if_neg (by decide), if_neg (by decide)]
  exact EReal.bot_lt_coe _

/-- The precondition, entry by entry. -/
theorem above {x : FVec Ideal Cert.Pre_in_range.S2x32x4x100000 .f32} {y : FVec Ideal Cert.Pre_in_range.S32x4x5x2 .f32} {z : IVec Cert.Pre_in_range.S_ 32}
    (h : Cert.Pre_in_range.fn (F := Ideal) x y z = fun _ => 1#1) (i : Cert.Pre_in_range.S2x32x4x100000.Idx) : Cert.KernelIdeal.Hand.low < x i := by
  haveI : Subsingleton Cert.Pre_in_range.S_.Idx := ⟨fun a b => funext fun d => d.elim0⟩
  have e := Host.reduce_andi_all _ _ _ _ (Shape.Idx.first (by decide)) (congrFun h (Shape.Idx.first (by decide))) i
  exact (Ideal.cmp_ogt_eq_one _ _).mp e

theorem claim : Cert.algebraic_KernelIdeal_ReferenceIdeal_pre_in_range := by
  intro m g m' g' hm ha
  refine ⟨fun c => Pipeline.afterTail₀ Cert.KernelIdeal.cfgs (Cert.KernelIdeal.Val.dats m) 0 (Cert.KernelIdeal.Gen.V0 m) [Cert.KernelIdeal.Gen.hostOps1] c Cert.KernelIdeal.main_v28,
    fun c => Pipeline.afterTail₀ Cert.KernelIdeal.cfgs (Cert.KernelIdeal.Val.dats m) 0 (Cert.KernelIdeal.Gen.V0 m) [Cert.KernelIdeal.Gen.hostOps1] c Cert.KernelIdeal.main_v29,
    fun c => Pipeline.afterTail₀ Cert.KernelIdeal.cfgs (Cert.KernelIdeal.Val.dats m) 0 (Cert.KernelIdeal.Gen.V0 m) [Cert.KernelIdeal.Gen.hostOps1] c Cert.KernelIdeal.main_v34, ?_, ?_⟩
  · refine (θ_run _ _ _).mono (fun r h c => ?_) (Cert.KernelIdeal.Val.run_main m g)
    refine ⟨h.1.rest_eq c Cert.KernelIdeal.main_v28 (by decide), h.1.rest_eq c Cert.KernelIdeal.main_v29 (by decide), h.1.rest_eq c Cert.KernelIdeal.main_v34 (by decide),
      (h.1.rest_eq c Cert.KernelIdeal.main_arg0 (by decide)).trans (Cert.KernelIdeal.Gen.W_main_arg0 m _ c),
      (h.1.rest_eq c Cert.KernelIdeal.main_arg1 (by decide)).trans (Cert.KernelIdeal.Gen.W_main_arg1 m _ c),
      (h.1.rest_eq c Cert.KernelIdeal.main_arg2 (by decide)).trans (Cert.KernelIdeal.Gen.W_main_arg2 m _ c)⟩
  · refine (θ_run _ _ _).mono (fun r h c => ?_) (Cert.ReferenceIdeal.Hand.run_main m' g')
    have e := Cert.Meet.meets m m' c c low_real (fun k s b n => above (hm c) _) (ha c).1 (ha c).2.1 (ha c).2.2
    exact ⟨(h c Cert.ReferenceIdeal.main_v80).trans e.1, (h c Cert.ReferenceIdeal.main_v83).trans e.2.1, (h c Cert.ReferenceIdeal.main_v11).trans e.2.2,
      (h c Cert.ReferenceIdeal.main_arg0).trans (Cert.ReferenceIdeal.Hand.fin_arg m' c Cert.ReferenceIdeal.main_arg0 (by decide)),
      (h c Cert.ReferenceIdeal.main_arg1).trans (Cert.ReferenceIdeal.Hand.fin_arg m' c Cert.ReferenceIdeal.main_arg1 (by decide)),
      (h c Cert.ReferenceIdeal.main_arg2).trans (Cert.ReferenceIdeal.Hand.fin_arg m' c Cert.ReferenceIdeal.main_arg2 (by decide))⟩

end Cert.Value
-- ==== Proof.lean ====
module

public import proofs.«01_k».proof.Defs
public import proofs.«01_k».proof.Proof.BFrame
public import proofs.«01_k».proof.Proof.KFrame
public import proofs.«01_k».proof.Proof.RFrame
public import proofs.«01_k».proof.Proof.Value
public import Idealize.ShloMosaic.Adequacy
public import Idealize.ShloMosaic.Init

/-! The claims, put together. -/

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Value.rangeFacts,
  fun m ρ _ => Cert.Kernel.Hand.frame m ρ, fun m ρ _ => Cert.KernelIdeal.Hand.frame m ρ, fun m ρ _ => Cert.KernelIdeal.Hand.frame m ρ,
  fun m ρ _ => Cert.ReferenceIdeal.Hand.frame m ρ, fun m ρ _ => Cert.ReferenceIdeal.Hand.frame m ρ, trivial, Cert.Value.claim⟩

end Cert.Proof

end
